-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvReferenceIdeal (m : (ℓ : Loc Cert.QkvReferenceIdeal.nD Cert.QkvReferenceIdeal.τ Cert.QkvReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6)
      ∧ r.2.mem ((c.tc : Thread Cert.OutProj.nD Cert.OutProj.τ).loc Cert.OutProj.main_arg7) = m ((c.tc : Thread Cert.OutProj.nD Cert.OutProj.τ).loc Cert.OutProj.main_arg7))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
      ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1)
      ∧ r.2.mem ((c.tc : Thread Cert.OutProjReferenceIdeal.nD Cert.OutProjReferenceIdeal.τ).loc Cert.OutProjReferenceIdeal.main_arg2) = m ((c.tc : Thread Cert.OutProjReferenceIdeal.nD Cert.OutProjReferenceIdeal.τ).loc Cert.OutProjReferenceIdeal.main_arg2)
      ∧ r.2.mem ((c.tc : Thread Cert.OutProjReferenceIdeal.nD Cert.OutProjReferenceIdeal.τ).loc Cert.OutProjReferenceIdeal.main_arg3) = m ((c.tc : Thread Cert.OutProjReferenceIdeal.nD Cert.OutProjReferenceIdeal.τ).loc Cert.OutProjReferenceIdeal.main_arg3)
      ∧ r.2.mem ((c.tc : Thread Cert.OutProjReferenceIdeal.nD Cert.OutProjReferenceIdeal.τ).loc Cert.OutProjReferenceIdeal.main_arg4) = m ((c.tc : Thread Cert.OutProjReferenceIdeal.nD Cert.OutProjReferenceIdeal.τ).loc Cert.OutProjReferenceIdeal.main_arg4)
      ∧ r.2.mem ((c.tc : Thread Cert.OutProjReferenceIdeal.nD Cert.OutProjReferenceIdeal.τ).loc Cert.OutProjReferenceIdeal.main_arg5) = m ((c.tc : Thread Cert.OutProjReferenceIdeal.nD Cert.OutProjReferenceIdeal.τ).loc Cert.OutProjReferenceIdeal.main_arg5)
      ∧ r.2.mem ((c.tc : Thread Cert.OutProjReferenceIdeal.nD Cert.OutProjReferenceIdeal.τ).loc Cert.OutProjReferenceIdeal.main_arg6) = m ((c.tc : Thread Cert.OutProjReferenceIdeal.nD Cert.OutProjReferenceIdeal.τ).loc Cert.OutProjReferenceIdeal.main_arg6)
      ∧ r.2.mem ((c.tc : Thread Cert.OutProjReferenceIdeal.nD Cert.OutProjReferenceIdeal.τ).loc Cert.OutProjReferenceIdeal.main_arg7) = m ((c.tc : Thread Cert.OutProjReferenceIdeal.nD Cert.OutProjReferenceIdeal.τ).loc Cert.OutProjReferenceIdeal.main_arg7))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6)
      ∧ r.2.mem ((c.tc : Thread Cert.Qkv.nD Cert.Qkv.τ).loc Cert.Qkv.main_arg7) = m ((c.tc : Thread Cert.Qkv.nD Cert.Qkv.τ).loc Cert.Qkv.main_arg7))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
      ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7))
      ∧ r.2.sem = fun _ => 0)

def quiescent_QkvReferenceIdeal [hQkvReferenceIdeal : Cert.QkvReferenceIdeal.Facts] : Prop :=
  ∀ (m : (ℓ : Loc Cert.QkvReferenceIdeal.nD Cert.QkvReferenceIdeal.τ Cert.QkvReferenceIdeal.sig) → Buf (Elt Ideal) ℓ) (g : Dev Cert.QkvReferenceIdeal.nD → PrngReg), Pre_QkvReferenceIdeal m →
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1)
      ∧ r.2.mem ((c.tc : Thread Cert.QkvReferenceIdeal.nD Cert.QkvReferenceIdeal.τ).loc Cert.QkvReferenceIdeal.main_arg2) = m ((c.tc : Thread Cert.QkvReferenceIdeal.nD Cert.QkvReferenceIdeal.τ).loc Cert.QkvReferenceIdeal.main_arg2)
      ∧ r.2.mem ((c.tc : Thread Cert.QkvReferenceIdeal.nD Cert.QkvReferenceIdeal.τ).loc Cert.QkvReferenceIdeal.main_arg3) = m ((c.tc : Thread Cert.QkvReferenceIdeal.nD Cert.QkvReferenceIdeal.τ).loc Cert.QkvReferenceIdeal.main_arg3)
      ∧ r.2.mem ((c.tc : Thread Cert.QkvReferenceIdeal.nD Cert.QkvReferenceIdeal.τ).loc Cert.QkvReferenceIdeal.main_arg4) = m ((c.tc : Thread Cert.QkvReferenceIdeal.nD Cert.QkvReferenceIdeal.τ).loc Cert.QkvReferenceIdeal.main_arg4)
      ∧ r.2.mem ((c.tc : Thread Cert.QkvReferenceIdeal.nD Cert.QkvReferenceIdeal.τ).loc Cert.QkvReferenceIdeal.main_arg5) = m ((c.tc : Thread Cert.QkvReferenceIdeal.nD Cert.QkvReferenceIdeal.τ).loc Cert.QkvReferenceIdeal.main_arg5)
      ∧ r.2.mem ((c.tc : Thread Cert.QkvReferenceIdeal.nD Cert.QkvReferenceIdeal.τ).loc Cert.QkvReferenceIdeal.main_arg6) = m ((c.tc : Thread Cert.QkvReferenceIdeal.nD Cert.QkvReferenceIdeal.τ).loc Cert.QkvReferenceIdeal.main_arg6)
      ∧ r.2.mem ((c.tc : Thread Cert.QkvReferenceIdeal.nD Cert.QkvReferenceIdeal.τ).loc Cert.QkvReferenceIdeal.main_arg7) = m ((c.tc : Thread Cert.QkvReferenceIdeal.nD Cert.QkvReferenceIdeal.τ).loc Cert.QkvReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)
      ∧ m' ((c.tc : Thread Cert.OutProjReferenceIdeal.nD Cert.OutProjReferenceIdeal.τ).loc Cert.OutProjReferenceIdeal.main_arg2) = m ((c.tc : Thread Cert.OutProjIdeal.nD Cert.OutProjIdeal.τ).loc Cert.OutProjIdeal.main_arg2)
      ∧ m' ((c.tc : Thread Cert.OutProjReferenceIdeal.nD Cert.OutProjReferenceIdeal.τ).loc Cert.OutProjReferenceIdeal.main_arg3) = m ((c.tc : Thread Cert.OutProjIdeal.nD Cert.OutProjIdeal.τ).loc Cert.OutProjIdeal.main_arg3)
      ∧ m' ((c.tc : Thread Cert.OutProjReferenceIdeal.nD Cert.OutProjReferenceIdeal.τ).loc Cert.OutProjReferenceIdeal.main_arg4) = m ((c.tc : Thread Cert.OutProjIdeal.nD Cert.OutProjIdeal.τ).loc Cert.OutProjIdeal.main_arg4)
      ∧ m' ((c.tc : Thread Cert.OutProjReferenceIdeal.nD Cert.OutProjReferenceIdeal.τ).loc Cert.OutProjReferenceIdeal.main_arg5) = m ((c.tc : Thread Cert.OutProjIdeal.nD Cert.OutProjIdeal.τ).loc Cert.OutProjIdeal.main_arg5)
      ∧ m' ((c.tc : Thread Cert.OutProjReferenceIdeal.nD Cert.OutProjReferenceIdeal.τ).loc Cert.OutProjReferenceIdeal.main_arg6) = m ((c.tc : Thread Cert.OutProjIdeal.nD Cert.OutProjIdeal.τ).loc Cert.OutProjIdeal.main_arg6)
      ∧ m' ((c.tc : Thread Cert.OutProjReferenceIdeal.nD Cert.OutProjReferenceIdeal.τ).loc Cert.OutProjReferenceIdeal.main_arg7) = m ((c.tc : Thread Cert.OutProjIdeal.nD Cert.OutProjIdeal.τ).loc Cert.OutProjIdeal.main_arg7)) →
    ∃ (v0 : (c : Dev Cert.OutProjIdeal.nD) → Buf (Elt Ideal) ((c.tc : Thread Cert.OutProjIdeal.nD Cert.OutProjIdeal.τ).loc Cert.OutProjIdeal.main_v4_0)) (v1 : (c : Dev Cert.OutProjIdeal.nD) → Buf (Elt Ideal) ((c.tc : Thread Cert.OutProjIdeal.nD Cert.OutProjIdeal.τ).loc Cert.OutProjIdeal.main_v4_1)) (v2 : (c : Dev Cert.OutProjIdeal.nD) → Buf (Elt Ideal) ((c.tc : Thread Cert.OutProjIdeal.nD Cert.OutProjIdeal.τ).loc Cert.OutProjIdeal.main_v4_2)) (v3 : (c : Dev Cert.OutProjIdeal.nD) → Buf (Elt Ideal) ((c.tc : Thread Cert.OutProjIdeal.nD Cert.OutProjIdeal.τ).loc Cert.OutProjIdeal.main_v4_3)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v4_0) = v0 c
          ∧ r.2.mem ((c.tc : Thread Cert.OutProjIdeal.nD Cert.OutProjIdeal.τ).loc Cert.OutProjIdeal.main_v4_1) = v1 c
          ∧ r.2.mem ((c.tc : Thread Cert.OutProjIdeal.nD Cert.OutProjIdeal.τ).loc Cert.OutProjIdeal.main_v4_2) = v2 c
          ∧ r.2.mem ((c.tc : Thread Cert.OutProjIdeal.nD Cert.OutProjIdeal.τ).loc Cert.OutProjIdeal.main_v4_3) = v3 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
          ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v2_0) = v0 c
          ∧ r.2.mem ((c.tc : Thread Cert.OutProjReferenceIdeal.nD Cert.OutProjReferenceIdeal.τ).loc Cert.OutProjReferenceIdeal.main_v2_1) = v1 c
          ∧ r.2.mem ((c.tc : Thread Cert.OutProjReferenceIdeal.nD Cert.OutProjReferenceIdeal.τ).loc Cert.OutProjReferenceIdeal.main_v2_2) = v2 c
          ∧ r.2.mem ((c.tc : Thread Cert.OutProjReferenceIdeal.nD Cert.OutProjReferenceIdeal.τ).loc Cert.OutProjReferenceIdeal.main_v2_3) = v3 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1)
          ∧ r.2.mem ((c.tc : Thread Cert.OutProjReferenceIdeal.nD Cert.OutProjReferenceIdeal.τ).loc Cert.OutProjReferenceIdeal.main_arg2) = m' ((c.tc : Thread Cert.OutProjReferenceIdeal.nD Cert.OutProjReferenceIdeal.τ).loc Cert.OutProjReferenceIdeal.main_arg2)
          ∧ r.2.mem ((c.tc : Thread Cert.OutProjReferenceIdeal.nD Cert.OutProjReferenceIdeal.τ).loc Cert.OutProjReferenceIdeal.main_arg3) = m' ((c.tc : Thread Cert.OutProjReferenceIdeal.nD Cert.OutProjReferenceIdeal.τ).loc Cert.OutProjReferenceIdeal.main_arg3)
          ∧ r.2.mem ((c.tc : Thread Cert.OutProjReferenceIdeal.nD Cert.OutProjReferenceIdeal.τ).loc Cert.OutProjReferenceIdeal.main_arg4) = m' ((c.tc : Thread Cert.OutProjReferenceIdeal.nD Cert.OutProjReferenceIdeal.τ).loc Cert.OutProjReferenceIdeal.main_arg4)
          ∧ r.2.mem ((c.tc : Thread Cert.OutProjReferenceIdeal.nD Cert.OutProjReferenceIdeal.τ).loc Cert.OutProjReferenceIdeal.main_arg5) = m' ((c.tc : Thread Cert.OutProjReferenceIdeal.nD Cert.OutProjReferenceIdeal.τ).loc Cert.OutProjReferenceIdeal.main_arg5)
          ∧ r.2.mem ((c.tc : Thread Cert.OutProjReferenceIdeal.nD Cert.OutProjReferenceIdeal.τ).loc Cert.OutProjReferenceIdeal.main_arg6) = m' ((c.tc : Thread Cert.OutProjReferenceIdeal.nD Cert.OutProjReferenceIdeal.τ).loc Cert.OutProjReferenceIdeal.main_arg6)
          ∧ r.2.mem ((c.tc : Thread Cert.OutProjReferenceIdeal.nD Cert.OutProjReferenceIdeal.τ).loc Cert.OutProjReferenceIdeal.main_arg7) = m' ((c.tc : Thread Cert.OutProjReferenceIdeal.nD Cert.OutProjReferenceIdeal.τ).loc Cert.OutProjReferenceIdeal.main_arg7))

def preserves_Qkv_QkvIdeal : Prop :=
  True

def algebraic_QkvIdeal_QkvReferenceIdeal [hQkvIdeal : Cert.QkvIdeal.Facts] [hQkvReferenceIdeal : Cert.QkvReferenceIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvReferenceIdeal.nD Cert.QkvReferenceIdeal.τ Cert.QkvReferenceIdeal.sig) → Buf (Elt Ideal) ℓ) (g' : Dev Cert.QkvReferenceIdeal.nD → PrngReg), Pre_QkvIdeal m →
    (∀ c : Dev Cert.QkvIdeal.nD,
      m' ((c.tc : Thread Cert.QkvReferenceIdeal.nD Cert.QkvReferenceIdeal.τ).loc Cert.QkvReferenceIdeal.main_arg0) = m ((c.tc : Thread Cert.QkvIdeal.nD Cert.QkvIdeal.τ).loc Cert.QkvIdeal.main_arg0)
      ∧ m' ((c.tc : Thread Cert.QkvReferenceIdeal.nD Cert.QkvReferenceIdeal.τ).loc Cert.QkvReferenceIdeal.main_arg1) = m ((c.tc : Thread Cert.QkvIdeal.nD Cert.QkvIdeal.τ).loc Cert.QkvIdeal.main_arg1)
      ∧ m' ((c.tc : Thread Cert.QkvReferenceIdeal.nD Cert.QkvReferenceIdeal.τ).loc Cert.QkvReferenceIdeal.main_arg2) = m ((c.tc : Thread Cert.QkvIdeal.nD Cert.QkvIdeal.τ).loc Cert.QkvIdeal.main_arg2)
      ∧ m' ((c.tc : Thread Cert.QkvReferenceIdeal.nD Cert.QkvReferenceIdeal.τ).loc Cert.QkvReferenceIdeal.main_arg3) = m ((c.tc : Thread Cert.QkvIdeal.nD Cert.QkvIdeal.τ).loc Cert.QkvIdeal.main_arg3)
      ∧ m' ((c.tc : Thread Cert.QkvReferenceIdeal.nD Cert.QkvReferenceIdeal.τ).loc Cert.QkvReferenceIdeal.main_arg4) = m ((c.tc : Thread Cert.QkvIdeal.nD Cert.QkvIdeal.τ).loc Cert.QkvIdeal.main_arg4)
      ∧ m' ((c.tc : Thread Cert.QkvReferenceIdeal.nD Cert.QkvReferenceIdeal.τ).loc Cert.QkvReferenceIdeal.main_arg5) = m ((c.tc : Thread Cert.QkvIdeal.nD Cert.QkvIdeal.τ).loc Cert.QkvIdeal.main_arg5)
      ∧ m' ((c.tc : Thread Cert.QkvReferenceIdeal.nD Cert.QkvReferenceIdeal.τ).loc Cert.QkvReferenceIdeal.main_arg6) = m ((c.tc : Thread Cert.QkvIdeal.nD Cert.QkvIdeal.τ).loc Cert.QkvIdeal.main_arg6)
      ∧ m' ((c.tc : Thread Cert.QkvReferenceIdeal.nD Cert.QkvReferenceIdeal.τ).loc Cert.QkvReferenceIdeal.main_arg7) = m ((c.tc : Thread Cert.QkvIdeal.nD Cert.QkvIdeal.τ).loc Cert.QkvIdeal.main_arg7)) →
    ∃ (v0 : (c : Dev Cert.QkvIdeal.nD) → Buf (Elt Ideal) ((c.tc : Thread Cert.QkvIdeal.nD Cert.QkvIdeal.τ).loc Cert.QkvIdeal.main_v7_0)) (v1 : (c : Dev Cert.QkvIdeal.nD) → Buf (Elt Ideal) ((c.tc : Thread Cert.QkvIdeal.nD Cert.QkvIdeal.τ).loc Cert.QkvIdeal.main_v7_1)) (v2 : (c : Dev Cert.QkvIdeal.nD) → Buf (Elt Ideal) ((c.tc : Thread Cert.QkvIdeal.nD Cert.QkvIdeal.τ).loc Cert.QkvIdeal.main_v7_2)) (v3 : (c : Dev Cert.QkvIdeal.nD) → Buf (Elt Ideal) ((c.tc : Thread Cert.QkvIdeal.nD Cert.QkvIdeal.τ).loc Cert.QkvIdeal.main_v7_3)) (v4 : (c : Dev Cert.QkvIdeal.nD) → Buf (Elt Ideal) ((c.tc : Thread Cert.QkvIdeal.nD Cert.QkvIdeal.τ).loc Cert.QkvIdeal.main_v7_4)) (v5 : (c : Dev Cert.QkvIdeal.nD) → Buf (Elt Ideal) ((c.tc : Thread Cert.QkvIdeal.nD Cert.QkvIdeal.τ).loc Cert.QkvIdeal.main_v7_5)) (v6 : (c : Dev Cert.QkvIdeal.nD) → Buf (Elt Ideal) ((c.tc : Thread Cert.QkvIdeal.nD Cert.QkvIdeal.τ).loc Cert.QkvIdeal.main_v7_6)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v7_0) = v0 c
          ∧ r.2.mem ((c.tc : Thread Cert.QkvIdeal.nD Cert.QkvIdeal.τ).loc Cert.QkvIdeal.main_v7_1) = v1 c
          ∧ r.2.mem ((c.tc : Thread Cert.QkvIdeal.nD Cert.QkvIdeal.τ).loc Cert.QkvIdeal.main_v7_2) = v2 c
          ∧ r.2.mem ((c.tc : Thread Cert.QkvIdeal.nD Cert.QkvIdeal.τ).loc Cert.QkvIdeal.main_v7_3) = v3 c
          ∧ r.2.mem ((c.tc : Thread Cert.QkvIdeal.nD Cert.QkvIdeal.τ).loc Cert.QkvIdeal.main_v7_4) = v4 c
          ∧ r.2.mem ((c.tc : Thread Cert.QkvIdeal.nD Cert.QkvIdeal.τ).loc Cert.QkvIdeal.main_v7_5) = v5 c
          ∧ r.2.mem ((c.tc : Thread Cert.QkvIdeal.nD Cert.QkvIdeal.τ).loc Cert.QkvIdeal.main_v7_6) = v6 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
          ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
          ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7))
      ∧ θ_run (Cert.QkvReferenceIdeal.defs (F := Ideal)) (onTc (τ := Cert.QkvReferenceIdeal.τ) (Cert.QkvReferenceIdeal.main (F := Ideal))) ⟨m', fun _ => 0, g'⟩ (fun r => ∀ c : Dev Cert.QkvReferenceIdeal.nD,
          r.2.mem ((c.tc : Thread Cert.QkvReferenceIdeal.nD Cert.QkvReferenceIdeal.τ).loc Cert.QkvReferenceIdeal.main_v3_0) = v0 c
          ∧ r.2.mem ((c.tc : Thread Cert.QkvReferenceIdeal.nD Cert.QkvReferenceIdeal.τ).loc Cert.QkvReferenceIdeal.main_v3_1) = v1 c
          ∧ r.2.mem ((c.tc : Thread Cert.QkvReferenceIdeal.nD Cert.QkvReferenceIdeal.τ).loc Cert.QkvReferenceIdeal.main_v3_2) = v2 c
          ∧ r.2.mem ((c.tc : Thread Cert.QkvReferenceIdeal.nD Cert.QkvReferenceIdeal.τ).loc Cert.QkvReferenceIdeal.main_v3_3) = v3 c
          ∧ r.2.mem ((c.tc : Thread Cert.QkvReferenceIdeal.nD Cert.QkvReferenceIdeal.τ).loc Cert.QkvReferenceIdeal.main_v3_4) = v4 c
          ∧ r.2.mem ((c.tc : Thread Cert.QkvReferenceIdeal.nD Cert.QkvReferenceIdeal.τ).loc Cert.QkvReferenceIdeal.main_v3_5) = v5 c
          ∧ r.2.mem ((c.tc : Thread Cert.QkvReferenceIdeal.nD Cert.QkvReferenceIdeal.τ).loc Cert.QkvReferenceIdeal.main_v3_6) = v6 c
          ∧ r.2.mem ((c.tc : Thread Cert.QkvReferenceIdeal.nD Cert.QkvReferenceIdeal.τ).loc Cert.QkvReferenceIdeal.main_arg0) = m' ((c.tc : Thread Cert.QkvReferenceIdeal.nD Cert.QkvReferenceIdeal.τ).loc Cert.QkvReferenceIdeal.main_arg0)
          ∧ r.2.mem ((c.tc : Thread Cert.QkvReferenceIdeal.nD Cert.QkvReferenceIdeal.τ).loc Cert.QkvReferenceIdeal.main_arg1) = m' ((c.tc : Thread Cert.QkvReferenceIdeal.nD Cert.QkvReferenceIdeal.τ).loc Cert.QkvReferenceIdeal.main_arg1)
          ∧ r.2.mem ((c.tc : Thread Cert.QkvReferenceIdeal.nD Cert.QkvReferenceIdeal.τ).loc Cert.QkvReferenceIdeal.main_arg2) = m' ((c.tc : Thread Cert.QkvReferenceIdeal.nD Cert.QkvReferenceIdeal.τ).loc Cert.QkvReferenceIdeal.main_arg2)
          ∧ r.2.mem ((c.tc : Thread Cert.QkvReferenceIdeal.nD Cert.QkvReferenceIdeal.τ).loc Cert.QkvReferenceIdeal.main_arg3) = m' ((c.tc : Thread Cert.QkvReferenceIdeal.nD Cert.QkvReferenceIdeal.τ).loc Cert.QkvReferenceIdeal.main_arg3)
          ∧ r.2.mem ((c.tc : Thread Cert.QkvReferenceIdeal.nD Cert.QkvReferenceIdeal.τ).loc Cert.QkvReferenceIdeal.main_arg4) = m' ((c.tc : Thread Cert.QkvReferenceIdeal.nD Cert.QkvReferenceIdeal.τ).loc Cert.QkvReferenceIdeal.main_arg4)
          ∧ r.2.mem ((c.tc : Thread Cert.QkvReferenceIdeal.nD Cert.QkvReferenceIdeal.τ).loc Cert.QkvReferenceIdeal.main_arg5) = m' ((c.tc : Thread Cert.QkvReferenceIdeal.nD Cert.QkvReferenceIdeal.τ).loc Cert.QkvReferenceIdeal.main_arg5)
          ∧ r.2.mem ((c.tc : Thread Cert.QkvReferenceIdeal.nD Cert.QkvReferenceIdeal.τ).loc Cert.QkvReferenceIdeal.main_arg6) = m' ((c.tc : Thread Cert.QkvReferenceIdeal.nD Cert.QkvReferenceIdeal.τ).loc Cert.QkvReferenceIdeal.main_arg6)
          ∧ r.2.mem ((c.tc : Thread Cert.QkvReferenceIdeal.nD Cert.QkvReferenceIdeal.τ).loc Cert.QkvReferenceIdeal.main_arg7) = m' ((c.tc : Thread Cert.QkvReferenceIdeal.nD Cert.QkvReferenceIdeal.τ).loc Cert.QkvReferenceIdeal.main_arg7))

def Claim : Prop :=
  ∃ (hKernel : Cert.Kernel.Facts) (hKernelIdeal : Cert.KernelIdeal.Facts) (hReferenceIdeal : Cert.ReferenceIdeal.Facts) (hOutProj : Cert.OutProj.Facts) (hOutProjIdeal : Cert.OutProjIdeal.Facts) (hOutProjReferenceIdeal : Cert.OutProjReferenceIdeal.Facts) (hQkv : Cert.Qkv.Facts) (hQkvIdeal : Cert.QkvIdeal.Facts) (hQkvReferenceIdeal : Cert.QkvReferenceIdeal.Facts),
    quiescent_Kernel (hKernel := hKernel)
    ∧ quiescent_KernelIdeal (hKernelIdeal := hKernelIdeal)
    ∧ quiescent_ReferenceIdeal (hReferenceIdeal := hReferenceIdeal)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ quiescent_Qkv (hQkv := hQkv)
    ∧ quiescent_QkvIdeal (hQkvIdeal := hQkvIdeal)
    ∧ quiescent_QkvReferenceIdeal (hQkvReferenceIdeal := hQkvReferenceIdeal)
    ∧ preserves_Kernel_KernelIdeal
    ∧ algebraic_KernelIdeal_ReferenceIdeal (hKernelIdeal := hKernelIdeal) (hReferenceIdeal := hReferenceIdeal)
    ∧ preserves_OutProj_OutProjIdeal
    ∧ algebraic_OutProjIdeal_OutProjReferenceIdeal (hOutProjIdeal := hOutProjIdeal) (hOutProjReferenceIdeal := hOutProjReferenceIdeal)
    ∧ preserves_Qkv_QkvIdeal
    ∧ algebraic_QkvIdeal_QkvReferenceIdeal (hQkvIdeal := hQkvIdeal) (hQkvReferenceIdeal := hQkvReferenceIdeal)
-- ==== Kernel.lean ====
abbrev S1792x3072 : Shape := ⟨2, ![1792, 3072]⟩
abbrev S1792x128 : Shape := ⟨2, ![1792, 128]⟩
abbrev S3072x6144 : Shape := ⟨2, ![3072, 6144]⟩
abbrev S6144 : Shape := ⟨1, ![6144]⟩
abbrev S6144x3072 : Shape := ⟨2, ![6144, 3072]⟩
abbrev S3072 : Shape := ⟨1, ![3072]⟩
abbrev S1x6144 : Shape := ⟨2, ![1, 6144]⟩
abbrev S1x3072 : Shape := ⟨2, ![1, 3072]⟩
abbrev S1792x6144 : Shape := ⟨2, ![1792, 6144]⟩
abbrev S2x896 : Shape := ⟨2, ![2, 896]⟩
abbrev S448x3072 : Shape := ⟨2, ![448, 3072]⟩
abbrev S448x128 : Shape := ⟨2, ![448, 128]⟩
abbrev S448x512 : Shape := ⟨2, ![448, 512]⟩
abbrev S3072x1024 : Shape := ⟨2, ![3072, 1024]⟩
abbrev S1x1024 : Shape := ⟨2, ![1, 1024]⟩
abbrev S6144x512 : Shape := ⟨2, ![6144, 512]⟩
abbrev S1x512 : Shape := ⟨2, ![1, 512]⟩
abbrev S448x6144 : Shape := ⟨2, ![448, 6144]⟩
abbrev S448x1 : Shape := ⟨2, ![448, 1]⟩
abbrev S3072x256 : Shape := ⟨2, ![3072, 256]⟩
abbrev S448x256 : Shape := ⟨2, ![448, 256]⟩
abbrev S1x256 : Shape := ⟨2, ![1, 256]⟩
abbrev S448 : Shape := ⟨1, ![448]⟩
abbrev S128x448 : Shape := ⟨2, ![128, 448]⟩
abbrev S1x448 : Shape := ⟨2, ![1, 448]⟩
abbrev S6144x256 : Shape := ⟨2, ![6144, 256]⟩

abbrev nBuf : Space → Nat
  | .hbm => 16
  | .vmem => 27
  | .smem => 0
  | _ => 0

abbrev bufTy : (tb : Table) → Fin (tcTables nBuf tb) → BufTy
  | .hbm, ⟨0, _⟩ => ⟨S1792x3072, .i8⟩
  | .hbm, ⟨1, _⟩ => ⟨S1792x128, .f32⟩
  | .hbm, ⟨2, _⟩ => ⟨S1792x3072, .f32⟩
  | .hbm, ⟨3, _⟩ => ⟨S3072x6144, .i8⟩
  | .hbm, ⟨4, _⟩ => ⟨S6144, .f32⟩
  | .hbm, ⟨5, _⟩ => ⟨S6144, .f32⟩
  | .hbm, ⟨6, _⟩ => ⟨S6144x3072, .i8⟩
  | .hbm, ⟨7, _⟩ => ⟨S3072, .f32⟩
  | .hbm, ⟨8, _⟩ => ⟨S3072, .f32⟩
  | .hbm, ⟨9, _⟩ => ⟨S1x6144, .f32⟩
  | .hbm, ⟨10, _⟩ => ⟨S1x6144, .f32⟩
  | .hbm, ⟨11, _⟩ => ⟨S1x3072, .f32⟩
  | .hbm, ⟨12, _⟩ => ⟨S1x3072, .f32⟩
  | .hbm, ⟨13, _⟩ => ⟨S1792x3072, .bf16⟩
  | .hbm, ⟨14, _⟩ => ⟨S1792x6144, .i8⟩
  | .hbm, ⟨15, _⟩ => ⟨S2x896, .f32⟩
  | .local _ .vmem, ⟨0, _⟩ => ⟨S448x3072, .i8⟩
  | .local _ .vmem, ⟨1, _⟩ => ⟨S448x3072, .i8⟩
  | .local _ .vmem, ⟨2, _⟩ => ⟨S448x128, .f32⟩
  | .local _ .vmem, ⟨3, _⟩ => ⟨S448x128, .f32⟩
  | .local _ .vmem, ⟨4, _⟩ => ⟨S448x512, .f32⟩
  | .local _ .vmem, ⟨5, _⟩ => ⟨S448x512, .f32⟩
  | .local _ .vmem, ⟨6, _⟩ => ⟨S3072x1024, .i8⟩
  | .local _ .vmem, ⟨7, _⟩ => ⟨S3072x1024, .i8⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S6144x512, .i8⟩
  | .local _ .vmem, ⟨13, _⟩ => ⟨S6144x512, .i8⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S448x512, .bf16⟩
  | .local _ .vmem, ⟨19, _⟩ => ⟨S448x512, .bf16⟩
  | .local _ .vmem, ⟨20, _⟩ => ⟨S448x6144, .i8⟩
  | .local _ .vmem, ⟨21, _⟩ => ⟨S448x6144, .i8⟩
  | .local _ .vmem, ⟨22, _⟩ => ⟨S2x896, .f32⟩
  | .local _ .vmem, ⟨23, _⟩ => ⟨S448x3072, .bf16⟩
  | .local _ .vmem, ⟨24, _⟩ => ⟨S448x6144, .f32⟩
  | .local _ .vmem, ⟨25, _⟩ => ⟨S448x6144, .bf16⟩
  | .local _ .vmem, ⟨26, _⟩ => ⟨S448x128, .f32⟩
  | _, _ => ⟨S1792x3072, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22

abbrev nD : Nat := 1
abbrev τ : Topo := Topo.v7x

variable {F : FTy → Type} [FloatOps F]

abbrev grid0 : Pipeline.Grid := ⟨2, ![4, 12], ![false, false]⟩

def k0_cond2 (i : grid0.Coords) : BitVec 1 :=
  let arg1 : BitVec 32 := BitVec.ofNat 32 (i 1).val
  let c6_i32 : BitVec 32 := 6#32
  let v3 : BitVec 1 := Scalar.cmpi .slt arg1 c6_i32
  let v4 : BitVec 32 := Scalar.extui v3
  let c0_i32_1 : BitVec 32 := 0#32
  let v5 : BitVec 1 := Scalar.cmpi .ne v4 c0_i32_1
  v5

def k0_mult1 (i : grid0.Coords) : BitVec 32 :=
  let arg1 : BitVec 32 := BitVec.ofNat 32 (i 1).val
  let c1024_i32 : BitVec 32 := 1024#32
  let v41 : BitVec 32 := Scalar.muli arg1 c1024_i32
  let c0_i32_21 : BitVec 32 := 0#32
  let v42 : BitVec 32 := Scalar.addi v41 c0_i32_21
  v42
def k0_off1 (i : grid0.Coords) (c0_i32_21 : BitVec 32) : Fin 2 → Nat :=
  let c0_22 : Index := 0#32
  let arg1 : BitVec 32 := BitVec.ofNat 32 (i 1).val
  let c1024_i32 : BitVec 32 := 1024#32
  let v41 : BitVec 32 := Scalar.muli arg1 c1024_i32
  let v42 : BitVec 32 := Scalar.addi v41 c0_i32_21
  let v43 : BitVec 32 := v42
  let v44 : Index := Scalar.indexCast v43
  ![0, v44.toNat]
def k0_mult2 (i : grid0.Coords) : BitVec 32 :=
  let arg1 : BitVec 32 := BitVec.ofNat 32 (i 1).val
  let c1024_i32_35 : BitVec 32 := 1024#32
  let v80 : BitVec 32 := Scalar.muli arg1 c1024_i32_35
  let c256_i32 : BitVec 32 := 256#32
  let v81 : BitVec 32 := Scalar.addi v80 c256_i32
  v81
def k0_mult3 (i : grid0.Coords) : BitVec 32 :=
  let arg1 : BitVec 32 := BitVec.ofNat 32 (i 1).val
  let c1024_i32_49 : BitVec 32 := 1024#32
  let v119 : BitVec 32 := Scalar.muli arg1 c1024_i32_49
  let c512_i32 : BitVec 32 := 512#32
  let v120 : BitVec 32 := Scalar.addi v119 c512_i32
  v120
def k0_mult4 (i : grid0.Coords) : BitVec 32 :=
  let arg1 : BitVec 32 := BitVec.ofNat 32 (i 1).val
  let c1024_i32_63 : BitVec 32 := 1024#32
  let v158 : BitVec 32 := Scalar.muli arg1 c1024_i32_63
  let c768_i32 : BitVec 32 := 768#32
  let v159 : BitVec 32 := Scalar.addi v158 c768_i32
  v159
def k0_cond8 (i : grid0.Coords) : BitVec 1 :=
  let arg1 : BitVec 32 := BitVec.ofNat 32 (i 1).val
  let c6_i32_4 : BitVec 32 := 6#32
  let v9 : BitVec 1 := Scalar.cmpi .sge arg1 c6_i32_4
  let v10 : BitVec 32 := Scalar.extui v9
  let c0_i32_5 : BitVec 32 := 0#32
  let v11 : BitVec 1 := Scalar.cmpi .ne v10 c0_i32_5
  v11

def k0_cond3 (i : grid0.Coords) : BitVec 1 :=
  let arg1 : BitVec 32 := BitVec.ofNat 32 (i 1).val
  let c6_i32_2 : BitVec 32 := 6#32
  let v6 : BitVec 1 := Scalar.cmpi .eq arg1 c6_i32_2
  let v7 : BitVec 32 := Scalar.extui v6
  let c0_i32_3 : BitVec 32 := 0#32
  let v8 : BitVec 1 := Scalar.cmpi .ne v7 c0_i32_3
  v8

def k0_cond4 (i : grid0.Coords) : BitVec 1 :=
  let arg0 : BitVec 32 := BitVec.ofNat 32 (i 0).val
  let c0_i32_12 : BitVec 32 := 0#32
  let v30 : BitVec 1 := Scalar.cmpi .eq arg0 c0_i32_12
  let v31 : BitVec 32 := Scalar.extui v30
  let c0_i32_13 : BitVec 32 := 0#32
  let v32 : BitVec 1 := Scalar.cmpi .ne v31 c0_i32_13
  v32

def k0_cond5 (i : grid0.Coords) : BitVec 1 :=
  let arg0 : BitVec 32 := BitVec.ofNat 32 (i 0).val
  let c1_i32 : BitVec 32 := 1#32
  let v33 : BitVec 1 := Scalar.cmpi .eq arg0 c1_i32
  let v34 : BitVec 32 := Scalar.extui v33
  let c0_i32_14 : BitVec 32 := 0#32
  let v35 : BitVec 1 := Scalar.cmpi .ne v34 c0_i32_14
  v35

def k0_cond6 (i : grid0.Coords) : BitVec 1 :=
  let arg0 : BitVec 32 := BitVec.ofNat 32 (i 0).val
  let c2_i32 : BitVec 32 := 2#32
  let v36 : BitVec 1 := Scalar.cmpi .eq arg0 c2_i32
  let v37 : BitVec 32 := Scalar.extui v36
  let c0_i32_15 : BitVec 32 := 0#32
  let v38 : BitVec 1 := Scalar.cmpi .ne v37 c0_i32_15
  v38

def k0_cond7 (i : grid0.Coords) : BitVec 1 :=
  let arg0 : BitVec 32 := BitVec.ofNat 32 (i 0).val
  let c3_i32 : BitVec 32 := 3#32
  let v39 : BitVec 1 := Scalar.cmpi .eq arg0 c3_i32
  let v40 : BitVec 32 := Scalar.extui v39
  let c0_i32_16 : BitVec 32 := 0#32
  let v41 : BitVec 1 := Scalar.cmpi .ne v40 c0_i32_16
  v41

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.subi arg1 c6_i32
  let c0_i32 : BitVec 32 := 0#32
  let v1 : BitVec 32 := Scalar.maxsi v0 c0_i32
  let c0_i32_0 : BitVec 32 := 0#32
  ![arg0.toNat, v1.toNat]

def cc0_transform_3 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.minsi arg1 c5_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.minsi arg1 c5_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.minsi arg1 c5_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.subi arg1 c6_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_7 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.subi arg1 c6_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_8 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.subi arg1 c6_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_9 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.subi arg1 c6_i32
  let c0_i32 : BitVec 32 := 0#32
  let v1 : BitVec 32 := Scalar.maxsi v0 c0_i32
  let c0_i32_0 : BitVec 32 := 0#32
  ![arg0.toNat, v1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S448x3072 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S448x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S448x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3072x1024 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S6144x512 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S448x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S448x6144 .i8 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S2x896 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== ReferenceIdeal.lean ====
abbrev S1792x3072 : Shape := ⟨2, ![1792, 3072]⟩
abbrev S1792x128 : Shape := ⟨2, ![1792, 128]⟩
abbrev S3072x6144 : Shape := ⟨2, ![3072, 6144]⟩
abbrev S6144 : Shape := ⟨1, ![6144]⟩
abbrev S6144x3072 : Shape := ⟨2, ![6144, 3072]⟩
abbrev S3072 : Shape := ⟨1, ![3072]⟩
abbrev S1792x1 : Shape := ⟨2, ![1792, 1]⟩
abbrev S1792 : Shape := ⟨1, ![1792]⟩
abbrev S1792x6144 : Shape := ⟨2, ![1792, 6144]⟩
abbrev S2x896 : Shape := ⟨2, ![2, 896]⟩
abbrev S1x6144 : Shape := ⟨2, ![1, 6144]⟩
abbrev S1x3072 : Shape := ⟨2, ![1, 3072]⟩

abbrev nBuf : Space → Nat
  | .hbm => 14
  | .vmem => 12
  | .smem => 0
  | _ => 0

abbrev bufTy : (tb : Table) → Fin (tcTables nBuf tb) → BufTy
  | .hbm, ⟨0, _⟩ => ⟨S1792x3072, .i8⟩
  | .hbm, ⟨1, _⟩ => ⟨S1792x128, .f32⟩
  | .hbm, ⟨2, _⟩ => ⟨S1792x3072, .f32⟩
  | .hbm, ⟨3, _⟩ => ⟨S3072x6144, .i8⟩
  | .hbm, ⟨4, _⟩ => ⟨S6144, .f32⟩
  | .hbm, ⟨5, _⟩ => ⟨S6144, .f32⟩
  | .hbm, ⟨6, _⟩ => ⟨S6144x3072, .i8⟩
  | .hbm, ⟨7, _⟩ => ⟨S3072, .f32⟩
  | .hbm, ⟨8, _⟩ => ⟨S3072, .f32⟩
  | .hbm, ⟨9, _⟩ => ⟨S1792x1, .f32⟩
  | .hbm, ⟨10, _⟩ => ⟨S1792, .f32⟩
  | .hbm, ⟨11, _⟩ => ⟨S1792x3072, .bf16⟩
  | .hbm, ⟨12, _⟩ => ⟨S1792x6144, .i8⟩
  | .hbm, ⟨13, _⟩ => ⟨S2x896, .f32⟩
  | .local _ .vmem, ⟨0, _⟩ => ⟨S1792x3072, .i8⟩
  | .local _ .vmem, ⟨1, _⟩ => ⟨S1792, .f32⟩
  | .local _ .vmem, ⟨2, _⟩ => ⟨S1792x3072, .f32⟩
  | .local _ .vmem, ⟨3, _⟩ => ⟨S3072x6144, .i8⟩
  | .local _ .vmem, ⟨4, _⟩ => ⟨S6144, .f32⟩
  | .local _ .vmem, ⟨5, _⟩ => ⟨S6144, .f32⟩
  | .local _ .vmem, ⟨6, _⟩ => ⟨S6144x3072, .i8⟩
  | .local _ .vmem, ⟨7, _⟩ => ⟨S3072, .f32⟩
  | .local _ .vmem, ⟨8, _⟩ => ⟨S3072, .f32⟩
  | .local _ .vmem, ⟨9, _⟩ => ⟨S1792x3072, .bf16⟩
  | .local _ .vmem, ⟨10, _⟩ => ⟨S1792x6144, .i8⟩
  | .local _ .vmem, ⟨11, _⟩ => ⟨S2x896, .f32⟩
  | _, _ => ⟨S1792x3072, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev main_v2_2 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S1792x3072 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1792 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1792x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3072x6144 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6144x3072 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3072 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1792x3072 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1792x6144 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x896 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== OutProj.lean ====
abbrev S1792x1536 : Shape := ⟨2, ![1792, 1536]⟩
abbrev S1792x128 : Shape := ⟨2, ![1792, 128]⟩
abbrev S1792x3072 : Shape := ⟨2, ![1792, 3072]⟩
abbrev S1536x3072 : Shape := ⟨2, ![1536, 3072]⟩
abbrev S3072 : Shape := ⟨1, ![3072]⟩
abbrev S1x3072 : Shape := ⟨2, ![1, 3072]⟩
abbrev S2x896 : Shape := ⟨2, ![2, 896]⟩
abbrev S448x1536 : Shape := ⟨2, ![448, 1536]⟩
abbrev S448x128 : Shape := ⟨2, ![448, 128]⟩
abbrev S448x3072 : Shape := ⟨2, ![448, 3072]⟩
abbrev S448x1 : Shape := ⟨2, ![448, 1]⟩
abbrev S1536x256 : Shape := ⟨2, ![1536, 256]⟩
abbrev S448x256 : Shape := ⟨2, ![448, 256]⟩
abbrev S1x256 : Shape := ⟨2, ![1, 256]⟩
abbrev S448 : Shape := ⟨1, ![448]⟩
abbrev S128x448 : Shape := ⟨2, ![128, 448]⟩
abbrev S1x448 : Shape := ⟨2, ![1, 448]⟩

abbrev nBuf : Space → Nat
  | .hbm => 16
  | .vmem => 19
  | .smem => 0
  | _ => 0

abbrev bufTy : (tb : Table) → Fin (tcTables nBuf tb) → BufTy
  | .hbm, ⟨0, _⟩ => ⟨S1792x1536, .i8⟩
  | .hbm, ⟨1, _⟩ => ⟨S1792x128, .f32⟩
  | .hbm, ⟨2, _⟩ => ⟨S1792x3072, .bf16⟩
  | .hbm, ⟨3, _⟩ => ⟨S1536x3072, .i8⟩
  | .hbm, ⟨4, _⟩ => ⟨S3072, .f32⟩
  | .hbm, ⟨5, _⟩ => ⟨S3072, .f32⟩
  | .hbm, ⟨6, _⟩ => ⟨S3072, .f32⟩
  | .hbm, ⟨7, _⟩ => ⟨S3072, .f32⟩
  | .hbm, ⟨8, _⟩ => ⟨S1x3072, .f32⟩
  | .hbm, ⟨9, _⟩ => ⟨S1x3072, .f32⟩
  | .hbm, ⟨10, _⟩ => ⟨S1x3072, .f32⟩
  | .hbm, ⟨11, _⟩ => ⟨S1x3072, .f32⟩
  | .hbm, ⟨12, _⟩ => ⟨S1792x3072, .f32⟩
  | .hbm, ⟨13, _⟩ => ⟨S1792x3072, .i8⟩
  | .hbm, ⟨14, _⟩ => ⟨S2x896, .f32⟩
  | .hbm, ⟨15, _⟩ => ⟨S1792x128, .f32⟩
  | .local _ .vmem, ⟨0, _⟩ => ⟨S448x1536, .i8⟩
  | .local _ .vmem, ⟨1, _⟩ => ⟨S448x1536, .i8⟩
  | .local _ .vmem, ⟨2, _⟩ => ⟨S448x128, .f32⟩
  | .local _ .vmem, ⟨3, _⟩ => ⟨S448x128, .f32⟩
  | .local _ .vmem, ⟨4, _⟩ => ⟨S448x3072, .bf16⟩
  | .local _ .vmem, ⟨5, _⟩ => ⟨S448x3072, .bf16⟩
  | .local _ .vmem, ⟨6, _⟩ => ⟨S1536x3072, .i8⟩
  | .local _ .vmem, ⟨7, _⟩ => ⟨S1x3072, .f32⟩
  | .local _ .vmem, ⟨8, _⟩ => ⟨S1x3072, .f32⟩
  | .local _ .vmem, ⟨9, _⟩ => ⟨S1x3072, .f32⟩
  | .local _ .vmem, ⟨10, _⟩ => ⟨S1x3072, .f32⟩
  | .local _ .vmem, ⟨11, _⟩ => ⟨S448x3072, .f32⟩
  | .local _ .vmem, ⟨12, _⟩ => ⟨S448x3072, .f32⟩
  | .local _ .vmem, ⟨13, _⟩ => ⟨S448x3072, .i8⟩
  | .local _ .vmem, ⟨14, _⟩ => ⟨S448x3072, .i8⟩
  | .local _ .vmem, ⟨15, _⟩ => ⟨S2x896, .f32⟩
  | .local _ .vmem, ⟨16, _⟩ => ⟨S448x128, .f32⟩
  | .local _ .vmem, ⟨17, _⟩ => ⟨S448x128, .f32⟩
  | .local _ .vmem, ⟨18, _⟩ => ⟨S448x1536, .bf16⟩
  | _, _ => ⟨S1792x1536, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v272 : BitVec 1 := Scalar.cmpi .eq arg0 c0_i32
  let v273 : BitVec 32 := Scalar.extui v272
  let c0_i32_169 : BitVec 32 := 0#32
  let v274 : BitVec 1 := Scalar.cmpi .ne v273 c0_i32_169
  v274

def k0_cond2 (i : grid0.Coords) : BitVec 1 :=
  let arg0 : BitVec 32 := BitVec.ofNat 32 (i 0).val
  let c1_i32 : BitVec 32 := 1#32
  let v275 : BitVec 1 := Scalar.cmpi .eq arg0 c1_i32
  let v276 : BitVec 32 := Scalar.extui v275
  let c0_i32_170 : BitVec 32 := 0#32
  let v277 : BitVec 1 := Scalar.cmpi .ne v276 c0_i32_170
  v277

def k0_cond3 (i : grid0.Coords) : BitVec 1 :=
  let arg0 : BitVec 32 := BitVec.ofNat 32 (i 0).val
  let c2_i32 : BitVec 32 := 2#32
  let v278 : BitVec 1 := Scalar.cmpi .eq arg0 c2_i32
  let v279 : BitVec 32 := Scalar.extui v278
  let c0_i32_171 : BitVec 32 := 0#32
  let v280 : BitVec 1 := Scalar.cmpi .ne v279 c0_i32_171
  v280

def k0_cond4 (i : grid0.Coords) : BitVec 1 :=
  let arg0 : BitVec 32 := BitVec.ofNat 32 (i 0).val
  let c3_i32 : BitVec 32 := 3#32
  let v281 : BitVec 1 := Scalar.cmpi .eq arg0 c3_i32
  let v282 : BitVec 32 := Scalar.extui v281
  let c0_i32_172 : BitVec 32 := 0#32
  let v283 : BitVec 1 := Scalar.cmpi .ne v282 c0_i32_172
  v283

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S448x1536 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S448x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S448x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1536x3072 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S448x3072 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S448x3072 .i8 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S2x896 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S448x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== OutProjReferenceIdeal.lean ====
abbrev S1792x1536 : Shape := ⟨2, ![1792, 1536]⟩
abbrev S1792x128 : Shape := ⟨2, ![1792, 128]⟩
abbrev S1792x3072 : Shape := ⟨2, ![1792, 3072]⟩
abbrev S1536x3072 : Shape := ⟨2, ![1536, 3072]⟩
abbrev S3072 : Shape := ⟨1, ![3072]⟩
abbrev S1792x1 : Shape := ⟨2, ![1792, 1]⟩
abbrev S1792 : Shape := ⟨1, ![1792]⟩
abbrev S2x896 : Shape := ⟨2, ![2, 896]⟩
abbrev S1x3072 : Shape := ⟨2, ![1, 3072]⟩

abbrev nBuf : Space → Nat
  | .hbm => 14
  | .vmem => 12
  | .smem => 0
  | _ => 0

abbrev bufTy : (tb : Table) → Fin (tcTables nBuf tb) → BufTy
  | .hbm, ⟨0, _⟩ => ⟨S1792x1536, .i8⟩
  | .hbm, ⟨1, _⟩ => ⟨S1792x128, .f32⟩
  | .hbm, ⟨2, _⟩ => ⟨S1792x3072, .bf16⟩
  | .hbm, ⟨3, _⟩ => ⟨S1536x3072, .i8⟩
  | .hbm, ⟨4, _⟩ => ⟨S3072, .f32⟩
  | .hbm, ⟨5, _⟩ => ⟨S3072, .f32⟩
  | .hbm, ⟨6, _⟩ => ⟨S3072, .f32⟩
  | .hbm, ⟨7, _⟩ => ⟨S3072, .f32⟩
  | .hbm, ⟨8, _⟩ => ⟨S1792x1, .f32⟩
  | .hbm, ⟨9, _⟩ => ⟨S1792, .f32⟩
  | .hbm, ⟨10, _⟩ => ⟨S1792x3072, .f32⟩
  | .hbm, ⟨11, _⟩ => ⟨S1792x3072, .i8⟩
  | .hbm, ⟨12, _⟩ => ⟨S2x896, .f32⟩
  | .hbm, ⟨13, _⟩ => ⟨S1792x128, .f32⟩
  | .local _ .vmem, ⟨0, _⟩ => ⟨S1792x1536, .i8⟩
  | .local _ .vmem, ⟨1, _⟩ => ⟨S1792, .f32⟩
  | .local _ .vmem, ⟨2, _⟩ => ⟨S1792x3072, .bf16⟩
  | .local _ .vmem, ⟨3, _⟩ => ⟨S1536x3072, .i8⟩
  | .local _ .vmem, ⟨4, _⟩ => ⟨S3072, .f32⟩
  | .local _ .vmem, ⟨5, _⟩ => ⟨S3072, .f32⟩
  | .local _ .vmem, ⟨6, _⟩ => ⟨S3072, .f32⟩
  | .local _ .vmem, ⟨7, _⟩ => ⟨S3072, .f32⟩
  | .local _ .vmem, ⟨8, _⟩ => ⟨S1792x3072, .f32⟩
  | .local _ .vmem, ⟨9, _⟩ => ⟨S1792x3072, .i8⟩
  | .local _ .vmem, ⟨10, _⟩ => ⟨S2x896, .f32⟩
  | .local _ .vmem, ⟨11, _⟩ => ⟨S1792x128, .f32⟩
  | _, _ => ⟨S1792x1536, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_v2_3 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S1792x1536 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1792 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1792x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536x3072 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1792x3072 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1792x3072 .i8 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x896 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1792x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Qkv.lean ====
abbrev S2x896x3072 : Shape := ⟨3, ![2, 896, 3072]⟩
abbrev S2x896x64 : Shape := ⟨3, ![2, 896, 64]⟩
abbrev S3072 : Shape := ⟨1, ![3072]⟩
abbrev S3072x1792 : Shape := ⟨2, ![3072, 1792]⟩
abbrev S1792 : Shape := ⟨1, ![1792]⟩
abbrev S1792x3072 : Shape := ⟨2, ![1792, 3072]⟩
abbrev S1792x64 : Shape := ⟨2, ![1792, 64]⟩
abbrev S1x3072 : Shape := ⟨2, ![1, 3072]⟩
abbrev S1x1792 : Shape := ⟨2, ![1, 1792]⟩
abbrev S2x896 : Shape := ⟨2, ![2, 896]⟩
abbrev S1792x1536 : Shape := ⟨2, ![1792, 1536]⟩
abbrev S1792x128 : Shape := ⟨2, ![1792, 128]⟩
abbrev S448x3072 : Shape := ⟨2, ![448, 3072]⟩
abbrev S448x64 : Shape := ⟨2, ![448, 64]⟩
abbrev S448x1536 : Shape := ⟨2, ![448, 1536]⟩
abbrev S448x128 : Shape := ⟨2, ![448, 128]⟩
abbrev S448 : Shape := ⟨1, ![448]⟩
abbrev S448x1 : Shape := ⟨2, ![448, 1]⟩
abbrev S128x448 : Shape := ⟨2, ![128, 448]⟩
abbrev S1x448 : Shape := ⟨2, ![1, 448]⟩
abbrev S3072x256 : Shape := ⟨2, ![3072, 256]⟩
abbrev S448x256 : Shape := ⟨2, ![448, 256]⟩
abbrev S1x256 : Shape := ⟨2, ![1, 256]⟩

abbrev nBuf : Space → Nat
  | .hbm => 22
  | .vmem => 23
  | .smem => 0
  | _ => 0

abbrev bufTy : (tb : Table) → Fin (tcTables nBuf tb) → BufTy
  | .hbm, ⟨0, _⟩ => ⟨S2x896x3072, .bf16⟩
  | .hbm, ⟨1, _⟩ => ⟨S2x896x64, .f32⟩
  | .hbm, ⟨2, _⟩ => ⟨S2x896x64, .f32⟩
  | .hbm, ⟨3, _⟩ => ⟨S3072, .f32⟩
  | .hbm, ⟨4, _⟩ => ⟨S3072, .f32⟩
  | .hbm, ⟨5, _⟩ => ⟨S3072x1792, .i8⟩
  | .hbm, ⟨6, _⟩ => ⟨S1792, .f32⟩
  | .hbm, ⟨7, _⟩ => ⟨S1792, .f32⟩
  | .hbm, ⟨8, _⟩ => ⟨S1792x3072, .bf16⟩
  | .hbm, ⟨9, _⟩ => ⟨S1792x64, .f32⟩
  | .hbm, ⟨10, _⟩ => ⟨S1792x64, .f32⟩
  | .hbm, ⟨11, _⟩ => ⟨S1x3072, .f32⟩
  | .hbm, ⟨12, _⟩ => ⟨S1x3072, .f32⟩
  | .hbm, ⟨13, _⟩ => ⟨S1x1792, .f32⟩
  | .hbm, ⟨14, _⟩ => ⟨S1x1792, .f32⟩
  | .hbm, ⟨15, _⟩ => ⟨S1792x3072, .i8⟩
  | .hbm, ⟨16, _⟩ => ⟨S2x896, .f32⟩
  | .hbm, ⟨17, _⟩ => ⟨S1792x1536, .bf16⟩
  | .hbm, ⟨18, _⟩ => ⟨S1792x128, .i8⟩
  | .hbm, ⟨19, _⟩ => ⟨S2x896, .f32⟩
  | .hbm, ⟨20, _⟩ => ⟨S1792x128, .i8⟩
  | .hbm, ⟨21, _⟩ => ⟨S2x896, .f32⟩
  | .local _ .vmem, ⟨0, _⟩ => ⟨S448x3072, .bf16⟩
  | .local _ .vmem, ⟨1, _⟩ => ⟨S448x3072, .bf16⟩
  | .local _ .vmem, ⟨2, _⟩ => ⟨S448x64, .f32⟩
  | .local _ .vmem, ⟨3, _⟩ => ⟨S448x64, .f32⟩
  | .local _ .vmem, ⟨4, _⟩ => ⟨S448x64, .f32⟩
  | .local _ .vmem, ⟨5, _⟩ => ⟨S448x64, .f32⟩
  | .local _ .vmem, ⟨6, _⟩ => ⟨S1x3072, .f32⟩
  | .local _ .vmem, ⟨7, _⟩ => ⟨S1x3072, .f32⟩
  | .local _ .vmem, ⟨8, _⟩ => ⟨S3072x1792, .i8⟩
  | .local _ .vmem, ⟨9, _⟩ => ⟨S1x1792, .f32⟩
  | .local _ .vmem, ⟨10, _⟩ => ⟨S1x1792, .f32⟩
  | .local _ .vmem, ⟨11, _⟩ => ⟨S448x3072, .i8⟩
  | .local _ .vmem, ⟨12, _⟩ => ⟨S448x3072, .i8⟩
  | .local _ .vmem, ⟨13, _⟩ => ⟨S2x896, .f32⟩
  | .local _ .vmem, ⟨14, _⟩ => ⟨S448x1536, .bf16⟩
  | .local _ .vmem, ⟨15, _⟩ => ⟨S448x1536, .bf16⟩
  | .local _ .vmem, ⟨16, _⟩ => ⟨S448x128, .i8⟩
  | .local _ .vmem, ⟨17, _⟩ => ⟨S448x128, .i8⟩
  | .local _ .vmem, ⟨18, _⟩ => ⟨S2x896, .f32⟩
  | .local _ .vmem, ⟨19, _⟩ => ⟨S448x128, .i8⟩
  | .local _ .vmem, ⟨20, _⟩ => ⟨S448x128, .i8⟩
  | .local _ .vmem, ⟨21, _⟩ => ⟨S2x896, .f32⟩
  | .local _ .vmem, ⟨22, _⟩ => ⟨S448x3072, .bf16⟩
  | _, _ => ⟨S2x896x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev main_v7_4 : Ref sig .tc := ⟨.hbm, 19, rfl⟩
abbrev main_v7_5 : Ref sig .tc := ⟨.hbm, 20, rfl⟩
abbrev main_v7_6 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem13_0 : DmaSem sig := 19
abbrev cc0_sem13_1 : DmaSem sig := 20
abbrev cc0_sem14_0 : DmaSem sig := 21

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v55 : BitVec 1 := Scalar.cmpi .eq arg0 c0_i32
  let v56 : BitVec 32 := Scalar.extui v55
  let c0_i32_20 : BitVec 32 := 0#32
  let v57 : BitVec 1 := Scalar.cmpi .ne v56 c0_i32_20
  v57

def k0_cond2 (i : grid0.Coords) : BitVec 1 :=
  let arg0 : BitVec 32 := BitVec.ofNat 32 (i 0).val
  let c1_i32 : BitVec 32 := 1#32
  let v58 : BitVec 1 := Scalar.cmpi .eq arg0 c1_i32
  let v59 : BitVec 32 := Scalar.extui v58
  let c0_i32_21 : BitVec 32 := 0#32
  let v60 : BitVec 1 := Scalar.cmpi .ne v59 c0_i32_21
  v60

def k0_cond3 (i : grid0.Coords) : BitVec 1 :=
  let arg0 : BitVec 32 := BitVec.ofNat 32 (i 0).val
  let c2_i32 : BitVec 32 := 2#32
  let v61 : BitVec 1 := Scalar.cmpi .eq arg0 c2_i32
  let v62 : BitVec 32 := Scalar.extui v61
  let c0_i32_22 : BitVec 32 := 0#32
  let v63 : BitVec 1 := Scalar.cmpi .ne v62 c0_i32_22
  v63

def k0_cond4 (i : grid0.Coords) : BitVec 1 :=
  let arg0 : BitVec 32 := BitVec.ofNat 32 (i 0).val
  let c3_i32 : BitVec 32 := 3#32
  let v64 : BitVec 1 := Scalar.cmpi .eq arg0 c3_i32
  let v65 : BitVec 32 := Scalar.extui v64
  let c0_i32_23 : BitVec 32 := 0#32
  let v66 : BitVec 1 := Scalar.cmpi .ne v65 c0_i32_23
  v66

def k0_cond5 (i : grid0.Coords) : BitVec 1 :=
  let arg0 : BitVec 32 := BitVec.ofNat 32 (i 0).val
  let c0_i32_125 : BitVec 32 := 0#32
  let v287 : BitVec 1 := Scalar.cmpi .eq arg0 c0_i32_125
  let v288 : BitVec 32 := Scalar.extui v287
  let c0_i32_126 : BitVec 32 := 0#32
  let v289 : BitVec 1 := Scalar.cmpi .ne v288 c0_i32_126
  v289

def k0_cond6 (i : grid0.Coords) : BitVec 1 :=
  let arg0 : BitVec 32 := BitVec.ofNat 32 (i 0).val
  let c1_i32_127 : BitVec 32 := 1#32
  let v290 : BitVec 1 := Scalar.cmpi .eq arg0 c1_i32_127
  let v291 : BitVec 32 := Scalar.extui v290
  let c0_i32_128 : BitVec 32 := 0#32
  let v292 : BitVec 1 := Scalar.cmpi .ne v291 c0_i32_128
  v292

def k0_cond7 (i : grid0.Coords) : BitVec 1 :=
  let arg0 : BitVec 32 := BitVec.ofNat 32 (i 0).val
  let c2_i32_129 : BitVec 32 := 2#32
  let v293 : BitVec 1 := Scalar.cmpi .eq arg0 c2_i32_129
  let v294 : BitVec 32 := Scalar.extui v293
  let c0_i32_130 : BitVec 32 := 0#32
  let v295 : BitVec 1 := Scalar.cmpi .ne v294 c0_i32_130
  v295

def k0_cond8 (i : grid0.Coords) : BitVec 1 :=
  let arg0 : BitVec 32 := BitVec.ofNat 32 (i 0).val
  let c3_i32_131 : BitVec 32 := 3#32
  let v296 : BitVec 1 := Scalar.cmpi .eq arg0 c3_i32_131
  let v297 : BitVec 32 := Scalar.extui v296
  let c0_i32_132 : BitVec 32 := 0#32
  let v298 : BitVec 1 := Scalar.cmpi .ne v297 c0_i32_132
  v298

def k0_cond9 (i : grid0.Coords) : BitVec 1 :=
  let arg0 : BitVec 32 := BitVec.ofNat 32 (i 0).val
  let c0_i32_142 : BitVec 32 := 0#32
  let v323 : BitVec 1 := Scalar.cmpi .eq arg0 c0_i32_142
  let v324 : BitVec 32 := Scalar.extui v323
  let c0_i32_143 : BitVec 32 := 0#32
  let v325 : BitVec 1 := Scalar.cmpi .ne v324 c0_i32_143
  v325

def k0_cond10 (i : grid0.Coords) : BitVec 1 :=
  let arg0 : BitVec 32 := BitVec.ofNat 32 (i 0).val
  let c1_i32_144 : BitVec 32 := 1#32
  let v326 : BitVec 1 := Scalar.cmpi .eq arg0 c1_i32_144
  let v327 : BitVec 32 := Scalar.extui v326
  let c0_i32_145 : BitVec 32 := 0#32
  let v328 : BitVec 1 := Scalar.cmpi .ne v327 c0_i32_145
  v328

def k0_cond11 (i : grid0.Coords) : BitVec 1 :=
  let arg0 : BitVec 32 := BitVec.ofNat 32 (i 0).val
  let c2_i32_146 : BitVec 32 := 2#32
  let v329 : BitVec 1 := Scalar.cmpi .eq arg0 c2_i32_146
  let v330 : BitVec 32 := Scalar.extui v329
  let c0_i32_147 : BitVec 32 := 0#32
  let v331 : BitVec 1 := Scalar.cmpi .ne v330 c0_i32_147
  v331

def k0_cond12 (i : grid0.Coords) : BitVec 1 :=
  let arg0 : BitVec 32 := BitVec.ofNat 32 (i 0).val
  let c3_i32_148 : BitVec 32 := 3#32
  let v332 : BitVec 1 := Scalar.cmpi .eq arg0 c3_i32_148
  let v333 : BitVec 32 := Scalar.extui v332
  let c0_i32_149 : BitVec 32 := 0#32
  let v334 : BitVec 1 := Scalar.cmpi .ne v333 c0_i32_149
  v334

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S448x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S448x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S448x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3072x1792 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1792 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1792 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S448x3072 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S2x896 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S448x1536 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S448x128 .i8 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S2x896 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S448x128 .i8 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S2x896 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== QkvReferenceIdeal.lean ====
abbrev S2x896x3072 : Shape := ⟨3, ![2, 896, 3072]⟩
abbrev S2x896x64 : Shape := ⟨3, ![2, 896, 64]⟩
abbrev S3072 : Shape := ⟨1, ![3072]⟩
abbrev S3072x1792 : Shape := ⟨2, ![3072, 1792]⟩
abbrev S1792 : Shape := ⟨1, ![1792]⟩
abbrev S1792x3072 : Shape := ⟨2, ![1792, 3072]⟩
abbrev S1792x64 : Shape := ⟨2, ![1792, 64]⟩
abbrev S2x896 : Shape := ⟨2, ![2, 896]⟩
abbrev S1792x1536 : Shape := ⟨2, ![1792, 1536]⟩
abbrev S1792x128 : Shape := ⟨2, ![1792, 128]⟩
abbrev S1792x1 : Shape := ⟨2, ![1792, 1]⟩
abbrev S1x3072 : Shape := ⟨2, ![1, 3072]⟩
abbrev S1792x1792 : Shape := ⟨2, ![1792, 1792]⟩
abbrev S1x1792 : Shape := ⟨2, ![1, 1792]⟩

abbrev nBuf : Space → Nat
  | .hbm => 18
  | .vmem => 15
  | .smem => 0
  | _ => 0

abbrev bufTy : (tb : Table) → Fin (tcTables nBuf tb) → BufTy
  | .hbm, ⟨0, _⟩ => ⟨S2x896x3072, .bf16⟩
  | .hbm, ⟨1, _⟩ => ⟨S2x896x64, .f32⟩
  | .hbm, ⟨2, _⟩ => ⟨S2x896x64, .f32⟩
  | .hbm, ⟨3, _⟩ => ⟨S3072, .f32⟩
  | .hbm, ⟨4, _⟩ => ⟨S3072, .f32⟩
  | .hbm, ⟨5, _⟩ => ⟨S3072x1792, .i8⟩
  | .hbm, ⟨6, _⟩ => ⟨S1792, .f32⟩
  | .hbm, ⟨7, _⟩ => ⟨S1792, .f32⟩
  | .hbm, ⟨8, _⟩ => ⟨S1792x3072, .bf16⟩
  | .hbm, ⟨9, _⟩ => ⟨S1792x64, .f32⟩
  | .hbm, ⟨10, _⟩ => ⟨S1792x64, .f32⟩
  | .hbm, ⟨11, _⟩ => ⟨S1792x3072, .i8⟩
  | .hbm, ⟨12, _⟩ => ⟨S2x896, .f32⟩
  | .hbm, ⟨13, _⟩ => ⟨S1792x1536, .bf16⟩
  | .hbm, ⟨14, _⟩ => ⟨S1792x128, .i8⟩
  | .hbm, ⟨15, _⟩ => ⟨S2x896, .f32⟩
  | .hbm, ⟨16, _⟩ => ⟨S1792x128, .i8⟩
  | .hbm, ⟨17, _⟩ => ⟨S2x896, .f32⟩
  | .local _ .vmem, ⟨0, _⟩ => ⟨S1792x3072, .bf16⟩
  | .local _ .vmem, ⟨1, _⟩ => ⟨S1792x64, .f32⟩
  | .local _ .vmem, ⟨2, _⟩ => ⟨S1792x64, .f32⟩
  | .local _ .vmem, ⟨3, _⟩ => ⟨S3072, .f32⟩
  | .local _ .vmem, ⟨4, _⟩ => ⟨S3072, .f32⟩
  | .local _ .vmem, ⟨5, _⟩ => ⟨S3072x1792, .i8⟩
  | .local _ .vmem, ⟨6, _⟩ => ⟨S1792, .f32⟩
  | .local _ .vmem, ⟨7, _⟩ => ⟨S1792, .f32⟩
  | .local _ .vmem, ⟨8, _⟩ => ⟨S1792x3072, .i8⟩
  | .local _ .vmem, ⟨9, _⟩ => ⟨S2x896, .f32⟩
  | .local _ .vmem, ⟨10, _⟩ => ⟨S1792x1536, .bf16⟩
  | .local _ .vmem, ⟨11, _⟩ => ⟨S1792x128, .i8⟩
  | .local _ .vmem, ⟨12, _⟩ => ⟨S2x896, .f32⟩
  | .local _ .vmem, ⟨13, _⟩ => ⟨S1792x128, .i8⟩
  | .local _ .vmem, ⟨14, _⟩ => ⟨S2x896, .f32⟩
  | _, _ => ⟨S2x896x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev main_v3_4 : Ref sig .tc := ⟨.hbm, 15, rfl⟩
abbrev main_v3_5 : Ref sig .tc := ⟨.hbm, 16, rfl⟩
abbrev main_v3_6 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

abbrev stage0_0 : Fin 1 → Memref sig .tc .vmem S1792x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1792x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1792x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3072x1792 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1792 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1792 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1792x3072 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x896 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1792x1536 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1792x128 .i8 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x896 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1792x128 .i8 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2x896 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== Proof.MlpFrameRuns.lean ====
/-
  The feed-forward kernel as printed for the machine: which branch each grid point takes, and the body run on each
  kind of point with the contents of its outputs left unsaid (what the frame claim needs).
-/
module

public import proofs.«01_k».proof.Proof.Gen.Kernel.Frame
public import proofs.«01_k».proof.Proof.Gen.Kernel.Skeleton
public import proofs.«01_k».proof.Proof.Gen.Kernel.Points
public import Idealize.ShloMosaic.Lib.Pipeline.FrameBody
public import Idealize.ShloMosaic.Lib.Tactic
public import Idealize.ShloMosaic.Lib.WordCmp
public import Idealize.ShloMosaic.Lib.Claim

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's conditional 0, from the grid coordinates. -/
abbrev cond0_0 (i : grid0.Coords) : Prop := Scalar.cmpi .ne (Scalar.extui (Scalar.cmpi .eq (BitVec.ofNat 32 (i 1).val) 0#32) : BitVec 32) 0#32 = 1#1
theorem hcond0_0 : ∀ t : Fin cfg0.N, cond0_0 (grid0.coords t) ↔ t.val % 12 = 0 :=
  (fun t => by
    have ht : t.val < 48 := Nat.lt_of_lt_of_eq t.isLt N_0
    have e1 : (grid0.coords t 1).val = t.val / 1 % 12 := Pipeline.Grid.coords_val t 1 (by decide) rfl
    have e0 : (grid0.coords t 0).val = t.val / 12 % 4 := Pipeline.Grid.coords_val t 0 (by decide) rfl
    simp only [cond0_0, e0, e1]
    word_cmp
   : ∀ t : Fin grid0.N, cond0_0 (grid0.coords t) ↔ t.val % 12 = 0)
/-- The condition of the body's conditional 1, from the grid coordinates. -/
abbrev cond0_1 (i : grid0.Coords) : Prop := k0_cond2 i = 1#1
theorem hcond0_1 : ∀ t : Fin cfg0.N, cond0_1 (grid0.coords t) ↔ t.val % 12 < 6 :=
  (fun t => by
    have ht : t.val < 48 := Nat.lt_of_lt_of_eq t.isLt N_0
    have e1 : (grid0.coords t 1).val = t.val / 1 % 12 := Pipeline.Grid.coords_val t 1 (by decide) rfl
    have e0 : (grid0.coords t 0).val = t.val / 12 % 4 := Pipeline.Grid.coords_val t 0 (by decide) rfl
    simp only [cond0_1, k0_cond2, e0, e1]
    word_cmp
   : ∀ t : Fin grid0.N, cond0_1 (grid0.coords t) ↔ t.val % 12 < 6)
/-- The condition of the body's conditional 2, from the grid coordinates. -/
abbrev cond0_2 (i : grid0.Coords) : Prop := k0_cond3 i = 1#1
theorem hcond0_2 : ∀ t : Fin cfg0.N, cond0_2 (grid0.coords t) ↔ t.val % 12 = 6 :=
  (fun t => by
    have ht : t.val < 48 := Nat.lt_of_lt_of_eq t.isLt N_0
    have e1 : (grid0.coords t 1).val = t.val / 1 % 12 := Pipeline.Grid.coords_val t 1 (by decide) rfl
    have e0 : (grid0.coords t 0).val = t.val / 12 % 4 := Pipeline.Grid.coords_val t 0 (by decide) rfl
    simp only [cond0_2, k0_cond3, e0, e1]
    word_cmp
   : ∀ t : Fin grid0.N, cond0_2 (grid0.coords t) ↔ t.val % 12 = 6)
/-- The condition of the body's conditional 3, from the grid coordinates. -/
abbrev cond0_3 (i : grid0.Coords) : Prop := k0_cond4 i = 1#1
theorem hcond0_3 : ∀ t : Fin cfg0.N, cond0_3 (grid0.coords t) ↔ t.val / 12 = 0 :=
  (fun t => by
    have ht : t.val < 48 := Nat.lt_of_lt_of_eq t.isLt N_0
    have e1 : (grid0.coords t 1).val = t.val / 1 % 12 := Pipeline.Grid.coords_val t 1 (by decide) rfl
    have e0 : (grid0.coords t 0).val = t.val / 12 % 4 := Pipeline.Grid.coords_val t 0 (by decide) rfl
    simp only [cond0_3, k0_cond4, e0, e1]
    word_cmp
   : ∀ t : Fin grid0.N, cond0_3 (grid0.coords t) ↔ t.val / 12 = 0)
/-- The condition of the body's conditional 4, from the grid coordinates. -/
abbrev cond0_4 (i : grid0.Coords) : Prop := k0_cond5 i = 1#1
theorem hcond0_4 : ∀ t : Fin cfg0.N, cond0_4 (grid0.coords t) ↔ t.val / 12 = 1 :=
  (fun t => by
    have ht : t.val < 48 := Nat.lt_of_lt_of_eq t.isLt N_0
    have e1 : (grid0.coords t 1).val = t.val / 1 % 12 := Pipeline.Grid.coords_val t 1 (by decide) rfl
    have e0 : (grid0.coords t 0).val = t.val / 12 % 4 := Pipeline.Grid.coords_val t 0 (by decide) rfl
    simp only [cond0_4, k0_cond5, e0, e1]
    word_cmp
   : ∀ t : Fin grid0.N, cond0_4 (grid0.coords t) ↔ t.val / 12 = 1)
/-- The condition of the body's conditional 5, from the grid coordinates. -/
abbrev cond0_5 (i : grid0.Coords) : Prop := k0_cond6 i = 1#1
theorem hcond0_5 : ∀ t : Fin cfg0.N, cond0_5 (grid0.coords t) ↔ t.val / 12 = 2 :=
  (fun t => by
    have ht : t.val < 48 := Nat.lt_of_lt_of_eq t.isLt N_0
    have e1 : (grid0.coords t 1).val = t.val / 1 % 12 := Pipeline.Grid.coords_val t 1 (by decide) rfl
    have e0 : (grid0.coords t 0).val = t.val / 12 % 4 := Pipeline.Grid.coords_val t 0 (by decide) rfl
    simp only [cond0_5, k0_cond6, e0, e1]
    word_cmp
   : ∀ t : Fin grid0.N, cond0_5 (grid0.coords t) ↔ t.val / 12 = 2)
/-- The condition of the body's conditional 6, from the grid coordinates. -/
abbrev cond0_6 (i : grid0.Coords) : Prop := k0_cond7 i = 1#1
theorem hcond0_6 : ∀ t : Fin cfg0.N, cond0_6 (grid0.coords t) ↔ t.val / 12 = 3 :=
  (fun t => by
    have ht : t.val < 48 := Nat.lt_of_lt_of_eq t.isLt N_0
    have e1 : (grid0.coords t 1).val = t.val / 1 % 12 := Pipeline.Grid.coords_val t 1 (by decide) rfl
    have e0 : (grid0.coords t 0).val = t.val / 12 % 4 := Pipeline.Grid.coords_val t 0 (by decide) rfl
    simp only [cond0_6, k0_cond7, e0, e1]
    word_cmp
   : ∀ t : Fin grid0.N, cond0_6 (grid0.coords t) ↔ t.val / 12 = 3)
/-- The condition of the body's conditional 7, from the grid coordinates. -/
abbrev cond0_7 (i : grid0.Coords) : Prop := k0_cond8 i = 1#1
theorem hcond0_7 : ∀ t : Fin cfg0.N, cond0_7 (grid0.coords t) ↔ 6 ≤ t.val % 12 :=
  (fun t => by
    have ht : t.val < 48 := Nat.lt_of_lt_of_eq t.isLt N_0
    have e1 : (grid0.coords t 1).val = t.val / 1 % 12 := Pipeline.Grid.coords_val t 1 (by decide) rfl
    have e0 : (grid0.coords t 0).val = t.val / 12 % 4 := Pipeline.Grid.coords_val t 0 (by decide) rfl
    simp only [cond0_7, k0_cond8, e0, e1]
    word_cmp
   : ∀ t : Fin grid0.N, cond0_7 (grid0.coords t) ↔ 6 ≤ t.val % 12)
/-- What the body's frame takes of one grid point: on whole staging memrefs, the inputs at their contents and every
    output and scratch buffer at anything, the body runs and hands the inputs back as they were and the others at
    some contents. -/
def RunSpec (c : Dev nD) (i : grid0.Coords) : Prop :=
  ∀ (arg2 : Memref sig .tc .vmem S448x3072 .i8) (harg2 : arg2.IsWhole) (arg3 : Memref sig .tc .vmem S448x128 .f32) (harg3 : arg3.IsWhole) (arg4 : Memref sig .tc .vmem S448x512 .f32) (harg4 : arg4.IsWhole) (arg5 : Memref sig .tc .vmem S3072x1024 .i8) (harg5 : arg5.IsWhole) (arg6 : Memref sig .tc .vmem S1x1024 .f32) (harg6 : arg6.IsWhole) (arg7 : Memref sig .tc .vmem S1x1024 .f32) (harg7 : arg7.IsWhole) (arg8 : Memref sig .tc .vmem S6144x512 .i8) (harg8 : arg8.IsWhole) (arg9 : Memref sig .tc .vmem S1x512 .f32) (harg9 : arg9.IsWhole) (arg10 : Memref sig .tc .vmem S1x512 .f32) (harg10 : arg10.IsWhole) (arg11 : Memref sig .tc .vmem S448x512 .bf16) (harg11 : arg11.IsWhole) (arg12 : Memref sig .tc .vmem S448x6144 .i8) (harg12 : arg12.IsWhole) (arg13 : Memref sig .tc .vmem S2x896 .f32) (harg13 : arg13.IsWhole) (arg14 : Memref sig .tc .vmem S448x3072 .bf16) (harg14 : arg14.IsWhole) (arg15 : Memref sig .tc .vmem S448x6144 .f32) (harg15 : arg15.IsWhole) (arg16 : Memref sig .tc .vmem S448x6144 .bf16) (harg16 : arg16.IsWhole) (arg17 : Memref sig .tc .vmem S448x128 .f32) (harg17 : arg17.IsWhole)
    (x0 : Vec F S448x3072 .i8) (x1 : Vec F S448x128 .f32) (x2 : Vec F S448x512 .f32) (x3 : Vec F S3072x1024 .i8) (x4 : Vec F S1x1024 .f32) (x5 : Vec F S1x1024 .f32) (x6 : Vec F S6144x512 .i8) (x7 : Vec F S1x512 .f32) (x8 : Vec F S1x512 .f32) (E : Set ℕ) (K : PUnit → sProp 𝕄),
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
      ⊢ wp frame (wpE (defs₀ (F := F)) Variants.none c none) E (cc0_mlp i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K

set_option maxHeartbeats 1000000 in
/-- The first step of a row block (the codes are loaded, the first tile of the first product). -/
theorem run_A (c : Dev nD) (i : grid0.Coords) (hc0 : cond0_0 i) (hc1 : cond0_1 i) (hc2 : ¬cond0_2 i) (hc7 : ¬cond0_7 i) : RunSpec (F := F) c i := by
  unfold RunSpec
  intro arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 E K
  simp only [cc0_mlp_eq_skeleton]; unfold cc0_mlp_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
  sl_exec (disch := first | sl_exact hc0 | sl_exact hc1 | sl_exact hc2 | sl_exact hc7)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  iexists _, _; isplitr; swap; · iexact H15
  ipureintro; rfl

set_option maxHeartbeats 1000000 in
/-- A later step of the first product. -/
theorem run_B (c : Dev nD) (i : grid0.Coords) (hc0 : ¬cond0_0 i) (hc1 : cond0_1 i) (hc2 : ¬cond0_2 i) (hc7 : ¬cond0_7 i) : RunSpec (F := F) c i := by
  unfold RunSpec
  intro arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 E K
  simp only [cc0_mlp_eq_skeleton]; unfold cc0_mlp_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
  sl_exec (disch := first | sl_exact hc0 | sl_exact hc1 | sl_exact hc2 | sl_exact hc7)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  iexists _, _; isplitr; swap; · iexact H15
  ipureintro; rfl

set_option maxHeartbeats 4000000 in
/-- The quantising step of row block `q`. -/
theorem run_C (c : Dev nD) (i : grid0.Coords) (q : ℕ) (hq : q < 4) (hc0 : ¬cond0_0 i) (hc1 : ¬cond0_1 i) (hc2 : cond0_2 i) (hc3 : cond0_3 i ↔ q = 0) (hc4 : cond0_4 i ↔ q = 1) (hc5 : cond0_5 i ↔ q = 2) (hc6 : cond0_6 i ↔ q = 3) (hc7 : cond0_7 i) : RunSpec (F := F) c i := by
  obtain rfl | rfl | rfl | rfl : q = 0 ∨ q = 1 ∨ q = 2 ∨ q = 3 := by omega
  all_goals
    simp only [Nat.reduceEqDiff, iff_true, iff_false] at hc3 hc4 hc5 hc6
    unfold RunSpec
    intro arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 E K
    simp only [cc0_mlp_eq_skeleton]; unfold cc0_mlp_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | sl_exact hc0 | sl_exact hc1 | sl_exact hc2 | sl_exact hc3 | sl_exact hc4 | sl_exact hc5 | sl_exact hc6 | sl_exact hc7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    iexists _, _; isplitr; swap; · iexact H15
    ipureintro; rfl

set_option maxHeartbeats 1000000 in
/-- A later step of the second product. -/
theorem run_D (c : Dev nD) (i : grid0.Coords) (hc0 : ¬cond0_0 i) (hc1 : ¬cond0_1 i) (hc2 : ¬cond0_2 i) (hc7 : cond0_7 i) : RunSpec (F := F) c i := by
  unfold RunSpec
  intro arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 E K
  simp only [cc0_mlp_eq_skeleton]; unfold cc0_mlp_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
  sl_exec (disch := first | sl_exact hc0 | sl_exact hc1 | sl_exact hc2 | sl_exact hc7)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  iexists _, _; isplitr; swap; · iexact H15
  ipureintro; rfl

end Cert.Kernel.Hand

end
-- ==== Proof.MlpFrame.lean ====
/-
  The frame of the feed-forward kernel as printed for the machine: every run ends with the argument arrays unchanged
  and the semaphore counters at zero. The contents of the outputs are left unsaid.
-/
module

public import proofs.«01_k».proof.Proof.MlpFrameRuns

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body runs at every grid point. -/
theorem run_all (c : Dev nD) (t : Fin cfg0.N) : RunSpec (F := F) c (grid0.coords t) := by
  have hN : t.val < 48 := lt_of_lt_of_eq t.isLt (show cfg0.N = 48 from N_0)
  have g : ∀ {p : Prop} {q : Prop}, (p ↔ q) → ¬q → ¬p := fun h hq hp => hq (h.mp hp)
  by_cases h6 : t.val % 12 < 6
  · by_cases h0 : t.val % 12 = 0
    · exact run_A c _ ((hcond0_0 t).mpr h0) ((hcond0_1 t).mpr h6) (g (hcond0_2 t) (by omega)) (g (hcond0_7 t) (by omega))
    · exact run_B c _ (g (hcond0_0 t) h0) ((hcond0_1 t).mpr h6) (g (hcond0_2 t) (by omega)) (g (hcond0_7 t) (by omega))
  · have n0 := g (hcond0_0 t) (by omega : ¬t.val % 12 = 0)
    have n1 := g (hcond0_1 t) h6
    have p7 := (hcond0_7 t).mpr (by omega)
    by_cases h : t.val % 12 = 6
    · have p2 := (hcond0_2 t).mpr h
      exact run_C c _ (t.val / 12) (by omega) n0 n1 p2 (hcond0_3 t) (hcond0_4 t) (hcond0_5 t) (hcond0_6 t) p7
    · exact run_D c _ n0 n1 (g (hcond0_2 t) h) p7

/-! ## The pipeline's proof data -/

/-- The output windows, whose contents the frame does not state. -/
def forgets0 : Fin 12 → Bool := fun w => w.val == 9 || w.val == 10 || w.val == 11

/-- The proof data: the arrays as the region finds them; each input's buffer at its block; the outputs unnamed; between
    points the scratch buffers at some contents. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem leaves0_0 (c : Dev nD) (t : Fin cfg0.N) : (dats m 0 c).leavesExact 0 t = owns (c : Thread nD τ) (st0_0 t) fullShare (iblk m c 0 t) := by
  unfold Dat.leavesExact; rw [show cfg0.idle 0 (grid0.coords t) = false from rfl, after0_0]
theorem leaves0_1 (c : Dev nD) (t : Fin cfg0.N) : (dats m 0 c).leavesExact 1 t = owns (c : Thread nD τ) (st0_1 t) fullShare (iblk m c 1 t) := by
  unfold Dat.leavesExact; rw [show cfg0.idle 1 (grid0.coords t) = false from rfl, after0_1]
theorem leaves0_2 (c : Dev nD) (t : Fin cfg0.N) : (dats m 0 c).leavesExact 2 t = owns (c : Thread nD τ) (st0_2 t) fullShare (iblk m c 2 t) := by
  unfold Dat.leavesExact; rw [show cfg0.idle 2 (grid0.coords t) = false from rfl, after0_2]
theorem leaves0_3 (c : Dev nD) (t : Fin cfg0.N) : (dats m 0 c).leavesExact 3 t = owns (c : Thread nD τ) (st0_3 t) fullShare (iblk m c 3 t) := by
  unfold Dat.leavesExact; rw [show cfg0.idle 3 (grid0.coords t) = false from rfl, after0_3]
theorem leaves0_4 (c : Dev nD) (t : Fin cfg0.N) : (dats m 0 c).leavesExact 4 t = owns (c : Thread nD τ) (st0_4 t) fullShare (iblk m c 4 t) := by
  unfold Dat.leavesExact; rw [show cfg0.idle 4 (grid0.coords t) = false from rfl, after0_4]
theorem leaves0_5 (c : Dev nD) (t : Fin cfg0.N) : (dats m 0 c).leavesExact 5 t = owns (c : Thread nD τ) (st0_5 t) fullShare (iblk m c 5 t) := by
  unfold Dat.leavesExact; rw [show cfg0.idle 5 (grid0.coords t) = false from rfl, after0_5]
theorem leaves0_6 (c : Dev nD) (t : Fin cfg0.N) : (dats m 0 c).leavesExact 6 t = owns (c : Thread nD τ) (st0_6 t) fullShare (iblk m c 6 t) := by
  unfold Dat.leavesExact; rw [show cfg0.idle 6 (grid0.coords t) = false from rfl, after0_6]
theorem leaves0_7 (c : Dev nD) (t : Fin cfg0.N) : (dats m 0 c).leavesExact 7 t = owns (c : Thread nD τ) (st0_7 t) fullShare (iblk m c 7 t) := by
  unfold Dat.leavesExact; rw [show cfg0.idle 7 (grid0.coords t) = false from rfl, after0_7]
theorem leaves0_8 (c : Dev nD) (t : Fin cfg0.N) : (dats m 0 c).leavesExact 8 t = owns (c : Thread nD τ) (st0_8 t) fullShare (iblk m c 8 t) := by
  unfold Dat.leavesExact; rw [show cfg0.idle 8 (grid0.coords t) = false from rfl, after0_8]

/-- The scratch buffers between points, as memrefs at some contents. -/
theorem PhiA0_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d)) ∗ (∃ r, prngReg c r)) := by
  unfold Pipeline.ΦA; rw [scopedRest0_eq]; simp only [owns_whole]; try rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare d)
    ∗ (∃ d, owns (c : Thread nD τ) (st0_10 t) fullShare d)
    ∗ (∃ d, owns (c : Thread nD τ) (st0_11 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (∃ d, owns (c : Thread nD τ) (st0_9 t) fullShare d)
    ∗ (∃ d, owns (c : Thread nD τ) (st0_10 t) fullShare d)
    ∗ (∃ d, owns (c : Thread nD τ) (st0_11 t) fullShare d))

set_option maxHeartbeats 4800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, leaves0_0, leaves0_1, leaves0_2, leaves0_3, leaves0_4, leaves0_5, leaves0_6, leaves0_7, leaves0_8]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10, H11⟩
  iapply (run_all (F := F) c t _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS0]; · iexact HS0
  isplitl [HS1]; · iexact HS1
  isplitl [HS2]; · iexact HS2
  isplitl [HS3]; · iexact HS3
  iintro ⟨H0, H1, H2, H3, H4, H5, H6, H7, H8, H9, H10, H11, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The argument arrays end unchanged and the semaphore counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ hh => ⟨fun c => have h := hh.1; ⟨(Pipeline.RDat.FramePost.arr_in (cfg₁ := cfg0) h c (0 : Fin 12) rfl).trans ((A_eq m c 0).trans (V_main_arg0 m c)),
      (Pipeline.RDat.FramePost.arr_in (cfg₁ := cfg0) h c (1 : Fin 12) rfl).trans ((A_eq m c 1).trans (V_main_arg1 m c)),
      (Pipeline.RDat.FramePost.arr_in (cfg₁ := cfg0) h c (2 : Fin 12) rfl).trans ((A_eq m c 2).trans (V_main_arg2 m c)),
      (Pipeline.RDat.FramePost.arr_in (cfg₁ := cfg0) h c (3 : Fin 12) rfl).trans ((A_eq m c 3).trans (V_main_arg3 m c)),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      (Pipeline.RDat.FramePost.arr_in (cfg₁ := cfg0) h c (6 : Fin 12) rfl).trans ((A_eq m c 6).trans (V_main_arg6 m c)),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩, hh.2⟩) (run_main_quiescent m ρ)

end Cert.Kernel.Hand

end
-- ==== Proof.MlpMath.lean ====
/-
  The numbers of the feed-forward layer over the extended reals: one entry of a product of codes brought back to scale,
  the tanh form of gelu, the scale of a row from its largest magnitude, the code of a value.
-/
module

public import Idealize.ShloMosaic.Lib.Pointwise
public import Idealize.ShloMosaic.Lib.IdealHost

@[expose] public section

noncomputable section

namespace Cert.Mlp

open Idealize.ShloMosaic

/-- An int8 code as a number. -/
def toE (b : BitVec 8) : EReal := ((b.toInt : ℝ) : EReal)

/-- One entry of a quantised linear layer: the product of a row and a column, the row's scale, the column's scale, the
    bias. -/
def lin {K : ℕ} (a w : Fin K → EReal) (s sw b : EReal) : EReal := (∑ k, a k * w k) * s * sw + b

/-- gelu in its tanh form. -/
def gelu (f : EReal) : EReal :=
  Ideal.ofBits .f32 0x3F000000#32 * f
    * (Ideal.ofBits .f32 0x3F800000#32
        + Ideal.tanh (Ideal.ofBits .f32 0x3F4C422A#32 * (f + Ideal.ofBits .f32 0x3D372713#32 * f * f * f)))

/-- The magnitude of a number. -/
def mag (x : EReal) : EReal := max x (-x)

/-- The scale of a row whose largest magnitude is `a`. -/
def qscale (a : EReal) : EReal :=
  if 0 < a then Ideal.div a (Ideal.ofBits .f32 0x42FE0000#32) else Ideal.ofBits .f32 0x3F800000#32

/-- A number rounded to an integer and clipped to `[-127, 127]`. -/
def rclip (x : EReal) : EReal :=
  min (Ideal.ofBits .f32 0x42FE0000#32) (max (Ideal.ofBits .f32 0xC2FE0000#32) (Ideal.liftRound Ideal.roundHalfEven x))

theorem ofBits_127 : Ideal.ofBits .f32 0x42FE0000#32 = ((127 : ℝ) : EReal) := by
  simp [Ideal.ofBits, Ideal.ieee, -EReal.coe_mul]; norm_num
theorem ofBits_neg127 : Ideal.ofBits .f32 0xC2FE0000#32 = ((-127 : ℝ) : EReal) := by
  simp [Ideal.ofBits, Ideal.ieee, -EReal.coe_mul, -EReal.coe_neg]; norm_num

/-- What is clipped is an integer of magnitude at most 127, whatever it came from. -/
theorem rclip_int (x : EReal) : ∃ n : ℤ, -127 ≤ n ∧ n ≤ 127 ∧ rclip x = ((n : ℝ) : EReal) := by
  unfold rclip
  rw [ofBits_127, ofBits_neg127]
  induction x using EReal.rec with
  | bot => refine ⟨-127, by norm_num, by norm_num, ?_⟩
           simp only [Ideal.liftRound_bot, bot_le, sup_of_le_left]
           rw [min_eq_right (by exact_mod_cast (by norm_num : (-127 : ℝ) ≤ 127))]; norm_num
  | top => refine ⟨127, by norm_num, by norm_num, ?_⟩; simp
  | coe r =>
    refine ⟨min 127 (max (-127) (Ideal.roundHalfEven r)), by simp, by simp, ?_⟩
    simp only [Ideal.liftRound_coe]
    push_cast
    rfl

/-- The int8 word of a clipped number reads back as that number. -/
theorem toE_fptosi_rclip (x : EReal) : toE (Ideal.fptosi 8 (rclip x)) = rclip x := by
  obtain ⟨n, h1, h2, hn⟩ := rclip_int x
  rw [hn]
  have e : (max (-(2 ^ (8 - 1) : Nat) : ℤ) (min ((2 ^ (8 - 1) : Nat) - 1) (if (0 : ℝ) ≤ (n : ℝ) then ⌊(n : ℝ)⌋ else ⌈(n : ℝ)⌉))) = n := by
    have : (if (0 : ℝ) ≤ (n : ℝ) then ⌊(n : ℝ)⌋ else ⌈(n : ℝ)⌉) = n := by simp
    rw [this]; norm_num; omega
  have e2 : Ideal.fptosi 8 ((n : ℝ) : EReal) = BitVec.ofInt 8 n := congrArg (BitVec.ofInt 8) e
  unfold toE
  rw [e2, BitVec.toInt_ofInt, Int.bmod_eq_of_le (by norm_num; omega) (by norm_num; omega)]

/-- A scale is never zero. -/
theorem qscale_ne_zero (a : EReal) : qscale a ≠ 0 := by
  unfold qscale
  split
  · rename_i h
    rw [ofBits_127, Ideal.div_coe (by norm_num)]
    refine (EReal.mul_pos h ?_).ne'
    exact_mod_cast (by norm_num : (0:ℝ) < 1 / 127)
  · rw [Ideal.ofBits_one_f32]; exact one_ne_zero

/-- Multiplying by one over the scale is dividing by it. -/
theorem mul_recip (v s : EReal) (h : s ≠ 0) : v * Ideal.div (Ideal.ofBits .f32 0x3F800000#32) s = Ideal.div v s := by
  unfold Ideal.div
  rw [if_neg h, if_neg h, Ideal.ofBits_one_f32, one_mul]

theorem mag_nonneg (x : EReal) : 0 ≤ mag x := by
  unfold mag
  rcases le_total 0 x with h | h
  · exact le_max_of_le_left h
  · exact le_max_of_le_right (EReal.neg_nonneg.mpr h)

end Cert.Mlp

end
-- ==== Proof.MlpPay.lean ====
/-
  What the feed-forward kernel's stored values are at an index, over the extended reals: an entry of the first product
  after gelu, the running largest magnitude, the scale, the codes, an entry of the second product.
-/
module

public import proofs.«01_k».proof.Proof.MlpMath
public import proofs.«01_k».proof.Proof.Gen.KernelIdeal.Skeleton

@[expose] public section

set_option maxRecDepth 16384

noncomputable section

namespace Cert.KernelIdeal.Hand

open Cert.KernelIdeal Cert.KernelIdeal.Gen Cert.Mlp
open Idealize.ShloMosaic Idealize.ShloMosaic.Pointwise

/-- An entry of the first product after gelu, from the row's codes, the column's codes, the two scales and the bias. -/
def fcAt (a : Fin 3072 → EReal) (w : Fin 3072 → BitVec 8) (s sw b : EReal) : EReal := gelu (lin a (fun k => toE (w k)) s sw b)

/-- An entry of the second product with the residual added. -/
def prAt (a : Fin 6144 → EReal) (w : Fin 6144 → BitVec 8) (s sw b res : EReal) : EReal := res + lin a (fun k => toE (w k)) s sw b

/-- The scale of a row, from the row's largest magnitudes by lane. -/
def scaleAt (g : Fin 128 → EReal) : EReal := qscale (Finset.univ.fold max (Ideal.ofBits .f32 0xFF800000#32) g)

theorem pay1_at (v : Vec Ideal S448x3072 .i8) (r : Fin 448) (k : Fin 3072) :
    k0_pay1 (F := Ideal) v (ix2 r k) = toE (v (ix2 r k)) := by
  pointwise [k0_pay1, toE, FloatOps.sitofp]

theorem pay2_at (r : Fin 448) (l : Fin 128) : k0_pay2 (F := Ideal) (ix2 r l) = 0 := by
  pointwise [k0_pay2]

theorem pay10_at (v12 : Vec Ideal S448x1 .f32) (a : Vec Ideal S448x3072 .bf16) (w : Vec Ideal S3072x256 .i8) (s b : Vec Ideal S1x256 .f32) (r : Fin 448) (q : Fin 256) :
    k0_pay10 v12 a w s b (ix2 r q) = fcAt (fun k => a (ix2 r k)) (fun k => w (ix2 k q)) (v12 (ix2 r 0)) (s (ix2 0 q)) (b (ix2 0 q)) := by
  pointwise [k0_pay10, fcAt, gelu, lin, toE, FloatOps.sitofp]

theorem pay15_at (v12 : Vec Ideal S448x1 .f32) (a : Vec Ideal S448x3072 .bf16) (w : Vec Ideal S3072x256 .i8) (s b : Vec Ideal S1x256 .f32) (r : Fin 448) (q : Fin 256) :
    k0_pay15 v12 a w s b (ix2 r q) = fcAt (fun k => a (ix2 r k)) (fun k => w (ix2 k q)) (v12 (ix2 r 0)) (s (ix2 0 q)) (b (ix2 0 q)) := by
  pointwise [k0_pay15, fcAt, gelu, lin, toE, FloatOps.sitofp]

theorem pay18_at (v12 : Vec Ideal S448x1 .f32) (a : Vec Ideal S448x3072 .bf16) (w : Vec Ideal S3072x256 .i8) (s b : Vec Ideal S1x256 .f32) (r : Fin 448) (q : Fin 256) :
    k0_pay18 v12 a w s b (ix2 r q) = fcAt (fun k => a (ix2 r k)) (fun k => w (ix2 k q)) (v12 (ix2 r 0)) (s (ix2 0 q)) (b (ix2 0 q)) := by
  pointwise [k0_pay18, fcAt, gelu, lin, toE, FloatOps.sitofp]

theorem pay3_at (v12 : Vec Ideal S448x1 .f32) (a : Vec Ideal S448x3072 .bf16) (w : Vec Ideal S3072x256 .i8) (s b : Vec Ideal S1x256 .f32) (r : Fin 448) (q : Fin 256) :
    k0_pay3 v12 a w s b (ix2 r q) = fcAt (fun k => a (ix2 r k)) (fun k => w (ix2 k q)) (v12 (ix2 r 0)) (s (ix2 0 q)) (b (ix2 0 q)) := by
  pointwise [k0_pay3, fcAt, gelu, lin, toE, FloatOps.sitofp]

theorem pay11_at (v12 : Vec Ideal S448x1 .f32) (a : Vec Ideal S448x3072 .bf16) (w : Vec Ideal S3072x256 .i8) (s b : Vec Ideal S1x256 .f32) (r : Fin 448) (q : Fin 256) :
    k0_pay11 v12 a w s b (ix2 r q) = fcAt (fun k => a (ix2 r k)) (fun k => w (ix2 k q)) (v12 (ix2 r 0)) (s (ix2 0 q)) (b (ix2 0 q)) := by
  rw [← pay10_at]; pointwise [k0_pay11]

theorem pay16_at (v12 : Vec Ideal S448x1 .f32) (a : Vec Ideal S448x3072 .bf16) (w : Vec Ideal S3072x256 .i8) (s b : Vec Ideal S1x256 .f32) (r : Fin 448) (q : Fin 256) :
    k0_pay16 v12 a w s b (ix2 r q) = fcAt (fun k => a (ix2 r k)) (fun k => w (ix2 k q)) (v12 (ix2 r 0)) (s (ix2 0 q)) (b (ix2 0 q)) := by
  rw [← pay15_at]; pointwise [k0_pay16]

theorem pay19_at (v12 : Vec Ideal S448x1 .f32) (a : Vec Ideal S448x3072 .bf16) (w : Vec Ideal S3072x256 .i8) (s b : Vec Ideal S1x256 .f32) (r : Fin 448) (q : Fin 256) :
    k0_pay19 v12 a w s b (ix2 r q) = fcAt (fun k => a (ix2 r k)) (fun k => w (ix2 k q)) (v12 (ix2 r 0)) (s (ix2 0 q)) (b (ix2 0 q)) := by
  rw [← pay18_at]; pointwise [k0_pay19]

theorem pay4_at (v12 : Vec Ideal S448x1 .f32) (a : Vec Ideal S448x3072 .bf16) (w : Vec Ideal S3072x256 .i8) (s b : Vec Ideal S1x256 .f32) (r : Fin 448) (q : Fin 256) :
    k0_pay4 v12 a w s b (ix2 r q) = fcAt (fun k => a (ix2 r k)) (fun k => w (ix2 k q)) (v12 (ix2 r 0)) (s (ix2 0 q)) (b (ix2 0 q)) := by
  rw [← pay3_at]; pointwise [k0_pay4]

theorem pay13_at (v12 : Vec Ideal S448x1 .f32) (a : Vec Ideal S448x3072 .bf16) (w : Vec Ideal S3072x256 .i8) (s b : Vec Ideal S1x256 .f32) (r : Fin 448) (l : Fin 128) :
    k0_pay13 v12 a w s b (ix2 r l) = mag (fcAt (fun k => a (ix2 r k)) (fun k => w (ix2 k (⟨l.val, by omega⟩ : Fin 256))) (v12 (ix2 r 0)) (s (ix2 0 (⟨l.val, by omega⟩ : Fin 256))) (b (ix2 0 (⟨l.val, by omega⟩ : Fin 256)))) := by
  rw [← pay10_at]; pointwise [k0_pay13, k0_pay12, mag, FloatOps.absf]

theorem pay14_at (v12 : Vec Ideal S448x1 .f32) (a : Vec Ideal S448x3072 .bf16) (w : Vec Ideal S3072x256 .i8) (s b : Vec Ideal S1x256 .f32) (r : Fin 448) (l : Fin 128) :
    k0_pay14 v12 a w s b (ix2 r l) = mag (fcAt (fun k => a (ix2 r k)) (fun k => w (ix2 k (⟨128 + l.val, by omega⟩ : Fin 256))) (v12 (ix2 r 0)) (s (ix2 0 (⟨128 + l.val, by omega⟩ : Fin 256))) (b (ix2 0 (⟨128 + l.val, by omega⟩ : Fin 256)))) := by
  rw [← pay10_at]; pointwise [k0_pay14, k0_pay12, mag, FloatOps.absf]

theorem pay17_at (v13 v49 v50 : Vec Ideal S448x128 .f32) (v12 : Vec Ideal S448x1 .f32) (a : Vec Ideal S448x3072 .bf16) (w : Vec Ideal S3072x256 .i8) (s b : Vec Ideal S1x256 .f32) (r : Fin 448) (l : Fin 128) :
    k0_pay17 v12 v13 v49 v50 a w s b (ix2 r l)
      = max (max (v13 (ix2 r l)) (max (v49 (ix2 r l)) (v50 (ix2 r l))))
        (max (mag (fcAt (fun k => a (ix2 r k)) (fun k => w (ix2 k (⟨l.val, by omega⟩ : Fin 256))) (v12 (ix2 r 0)) (s (ix2 0 (⟨l.val, by omega⟩ : Fin 256))) (b (ix2 0 (⟨l.val, by omega⟩ : Fin 256))))) (mag (fcAt (fun k => a (ix2 r k)) (fun k => w (ix2 k (⟨128 + l.val, by omega⟩ : Fin 256))) (v12 (ix2 r 0)) (s (ix2 0 (⟨128 + l.val, by omega⟩ : Fin 256))) (b (ix2 0 (⟨128 + l.val, by omega⟩ : Fin 256)))))) := by
  rw [← pay15_at, ← pay15_at]; pointwise [k0_pay17, mag, FloatOps.absf]

theorem pay20_at (g : Vec Ideal S448x128 .f32) (v12 : Vec Ideal S448x1 .f32) (a : Vec Ideal S448x3072 .bf16) (w : Vec Ideal S3072x256 .i8) (s b : Vec Ideal S1x256 .f32) (r : Fin 448) (l : Fin 128) :
    k0_pay20 v12 g a w s b (ix2 r l)
      = max (g (ix2 r l)) (max (mag (fcAt (fun k => a (ix2 r k)) (fun k => w (ix2 k (⟨l.val, by omega⟩ : Fin 256))) (v12 (ix2 r 0)) (s (ix2 0 (⟨l.val, by omega⟩ : Fin 256))) (b (ix2 0 (⟨l.val, by omega⟩ : Fin 256))))) (mag (fcAt (fun k => a (ix2 r k)) (fun k => w (ix2 k (⟨128 + l.val, by omega⟩ : Fin 256))) (v12 (ix2 r 0)) (s (ix2 0 (⟨128 + l.val, by omega⟩ : Fin 256))) (b (ix2 0 (⟨128 + l.val, by omega⟩ : Fin 256)))))) := by
  rw [← pay18_at, ← pay18_at]; pointwise [k0_pay20, mag, FloatOps.absf]

theorem pay5_at (g : Vec Ideal S448x128 .f32) (v12 : Vec Ideal S448x1 .f32) (a : Vec Ideal S448x3072 .bf16) (w : Vec Ideal S3072x256 .i8) (s b : Vec Ideal S1x256 .f32) (r : Fin 448) (l : Fin 128) :
    k0_pay5 v12 g a w s b (ix2 r l)
      = max (g (ix2 r l)) (max (mag (fcAt (fun k => a (ix2 r k)) (fun k => w (ix2 k (⟨l.val, by omega⟩ : Fin 256))) (v12 (ix2 r 0)) (s (ix2 0 (⟨l.val, by omega⟩ : Fin 256))) (b (ix2 0 (⟨l.val, by omega⟩ : Fin 256))))) (mag (fcAt (fun k => a (ix2 r k)) (fun k => w (ix2 k (⟨128 + l.val, by omega⟩ : Fin 256))) (v12 (ix2 r 0)) (s (ix2 0 (⟨128 + l.val, by omega⟩ : Fin 256))) (b (ix2 0 (⟨128 + l.val, by omega⟩ : Fin 256)))))) := by
  rw [← pay3_at, ← pay3_at]; pointwise [k0_pay5, mag, FloatOps.absf]

theorem pay21_at (g : Vec Ideal S448x128 .f32) (r : Fin 448) :
    k0_pay21 g (ix2 r 0) = scaleAt (fun l => g (ix2 r l)) := by
  pointwise [k0_pay21, scaleAt, qscale]

theorem pay22_at (g : Vec Ideal S448x128 .f32) (r : Fin 448) (l : Fin 128) :
    k0_pay22 g (ix2 r l) = scaleAt (fun l => g (ix2 r l)) := by
  rw [← pay21_at]; pointwise [k0_pay22]

theorem pay23_at (g : Vec Ideal S448x128 .f32) (r : Fin 448) :
    k0_pay23 g (ix2 0 r) = scaleAt (fun l => g (ix2 r l)) := by
  rw [← pay21_at]; pointwise [k0_pay23]

/-- The clipped code of a value under a scale, as the kernel computes it: times the reciprocal of the scale. -/
def codeAt (v s : EReal) : EReal := rclip (v * Ideal.div (Ideal.ofBits .f32 0x3F800000#32) s)

theorem pay25_at (g : Vec Ideal S448x128 .f32) (v : Vec Ideal S448x512 .f32) (r : Fin 448) (q : Fin 512) :
    k0_pay25 (k0_pay24 g v) (ix2 r q) = codeAt (v (ix2 r q)) (k0_pay21 g (ix2 r 0)) := by
  pointwise [k0_pay25, k0_pay24, codeAt, rclip]
theorem pay26_at (g : Vec Ideal S448x128 .f32) (v : Vec Ideal S448x512 .f32) (r : Fin 448) (q : Fin 512) :
    k0_pay26 (k0_pay24 g v) (ix2 r q) = codeAt (v (ix2 r q)) (k0_pay21 g (ix2 r 0)) := by
  rw [← pay25_at]; pointwise [k0_pay26]
theorem pay27_at (g : Vec Ideal S448x128 .f32) (v : Vec Ideal S448x512 .f32) (r : Fin 448) (q : Fin 512) :
    k0_pay27 (k0_pay24 g v) (ix2 r q) = Ideal.fptosi 8 (codeAt (v (ix2 r q)) (k0_pay21 g (ix2 r 0))) := by
  rw [← pay25_at]; pointwise [k0_pay27, FloatOps.fptosi]
theorem pay28_at (s : FVec Ideal S448x1 .f32) (v : Vec Ideal S448x512 .f32) (r : Fin 448) (q : Fin 512) : k0_pay28 s v (ix2 r q) = codeAt (v (ix2 r q)) (s (ix2 r 0)) := by
  pointwise [k0_pay28, codeAt, rclip]
theorem pay29_at (s : FVec Ideal S448x1 .f32) (v : Vec Ideal S448x512 .f32) (r : Fin 448) (q : Fin 512) : k0_pay29 s v (ix2 r q) = codeAt (v (ix2 r q)) (s (ix2 r 0)) := by
  rw [← pay28_at]; pointwise [k0_pay29]
theorem pay30_at (s : FVec Ideal S448x1 .f32) (v : Vec Ideal S448x512 .f32) (r : Fin 448) (q : Fin 512) : k0_pay30 s v (ix2 r q) = Ideal.fptosi 8 (codeAt (v (ix2 r q)) (s (ix2 r 0))) := by
  rw [← pay28_at]; pointwise [k0_pay30, FloatOps.fptosi]
theorem pay34_at (s : FVec Ideal S448x1 .f32) (v : Vec Ideal S448x512 .f32) (r : Fin 448) (q : Fin 512) : k0_pay34 s v (ix2 r q) = codeAt (v (ix2 r q)) (s (ix2 r 0)) := by
  pointwise [k0_pay34, codeAt, rclip]
theorem pay35_at (s : FVec Ideal S448x1 .f32) (v : Vec Ideal S448x512 .f32) (r : Fin 448) (q : Fin 512) : k0_pay35 s v (ix2 r q) = codeAt (v (ix2 r q)) (s (ix2 r 0)) := by
  rw [← pay34_at]; pointwise [k0_pay35]
theorem pay36_at (s : FVec Ideal S448x1 .f32) (v : Vec Ideal S448x512 .f32) (r : Fin 448) (q : Fin 512) : k0_pay36 s v (ix2 r q) = Ideal.fptosi 8 (codeAt (v (ix2 r q)) (s (ix2 r 0))) := by
  rw [← pay34_at]; pointwise [k0_pay36, FloatOps.fptosi]
theorem pay40_at (s : FVec Ideal S448x1 .f32) (v : Vec Ideal S448x512 .f32) (r : Fin 448) (q : Fin 512) : k0_pay40 s v (ix2 r q) = codeAt (v (ix2 r q)) (s (ix2 r 0)) := by
  pointwise [k0_pay40, codeAt, rclip]
theorem pay41_at (s : FVec Ideal S448x1 .f32) (v : Vec Ideal S448x512 .f32) (r : Fin 448) (q : Fin 512) : k0_pay41 s v (ix2 r q) = codeAt (v (ix2 r q)) (s (ix2 r 0)) := by
  rw [← pay40_at]; pointwise [k0_pay41]
theorem pay42_at (s : FVec Ideal S448x1 .f32) (v : Vec Ideal S448x512 .f32) (r : Fin 448) (q : Fin 512) : k0_pay42 s v (ix2 r q) = Ideal.fptosi 8 (codeAt (v (ix2 r q)) (s (ix2 r 0))) := by
  rw [← pay40_at]; pointwise [k0_pay42, FloatOps.fptosi]
theorem pay43_at (s : FVec Ideal S448x1 .f32) (v : Vec Ideal S448x512 .f32) (r : Fin 448) (q : Fin 512) : k0_pay43 s v (ix2 r q) = codeAt (v (ix2 r q)) (s (ix2 r 0)) := by
  pointwise [k0_pay43, codeAt, rclip]
theorem pay44_at (s : FVec Ideal S448x1 .f32) (v : Vec Ideal S448x512 .f32) (r : Fin 448) (q : Fin 512) : k0_pay44 s v (ix2 r q) = codeAt (v (ix2 r q)) (s (ix2 r 0)) := by
  rw [← pay43_at]; pointwise [k0_pay44]
theorem pay45_at (s : FVec Ideal S448x1 .f32) (v : Vec Ideal S448x512 .f32) (r : Fin 448) (q : Fin 512) : k0_pay45 s v (ix2 r q) = Ideal.fptosi 8 (codeAt (v (ix2 r q)) (s (ix2 r 0))) := by
  rw [← pay43_at]; pointwise [k0_pay45, FloatOps.fptosi]
theorem pay46_at (s : FVec Ideal S448x1 .f32) (v : Vec Ideal S448x512 .f32) (r : Fin 448) (q : Fin 512) : k0_pay46 s v (ix2 r q) = codeAt (v (ix2 r q)) (s (ix2 r 0)) := by
  pointwise [k0_pay46, codeAt, rclip]
theorem pay47_at (s : FVec Ideal S448x1 .f32) (v : Vec Ideal S448x512 .f32) (r : Fin 448) (q : Fin 512) : k0_pay47 s v (ix2 r q) = codeAt (v (ix2 r q)) (s (ix2 r 0)) := by
  rw [← pay46_at]; pointwise [k0_pay47]
theorem pay48_at (s : FVec Ideal S448x1 .f32) (v : Vec Ideal S448x512 .f32) (r : Fin 448) (q : Fin 512) : k0_pay48 s v (ix2 r q) = Ideal.fptosi 8 (codeAt (v (ix2 r q)) (s (ix2 r 0))) := by
  rw [← pay46_at]; pointwise [k0_pay48, FloatOps.fptosi]
theorem pay49_at (s : FVec Ideal S448x1 .f32) (v : Vec Ideal S448x512 .f32) (r : Fin 448) (q : Fin 512) : k0_pay49 s v (ix2 r q) = codeAt (v (ix2 r q)) (s (ix2 r 0)) := by
  pointwise [k0_pay49, codeAt, rclip]
theorem pay50_at (s : FVec Ideal S448x1 .f32) (v : Vec Ideal S448x512 .f32) (r : Fin 448) (q : Fin 512) : k0_pay50 s v (ix2 r q) = codeAt (v (ix2 r q)) (s (ix2 r 0)) := by
  rw [← pay49_at]; pointwise [k0_pay50]
theorem pay51_at (s : FVec Ideal S448x1 .f32) (v : Vec Ideal S448x512 .f32) (r : Fin 448) (q : Fin 512) : k0_pay51 s v (ix2 r q) = Ideal.fptosi 8 (codeAt (v (ix2 r q)) (s (ix2 r 0))) := by
  rw [← pay49_at]; pointwise [k0_pay51, FloatOps.fptosi]
theorem pay56_at (s : FVec Ideal S448x1 .f32) (v : Vec Ideal S448x512 .f32) (r : Fin 448) (q : Fin 512) : k0_pay56 s v (ix2 r q) = codeAt (v (ix2 r q)) (s (ix2 r 0)) := by
  pointwise [k0_pay56, codeAt, rclip]
theorem pay57_at (s : FVec Ideal S448x1 .f32) (v : Vec Ideal S448x512 .f32) (r : Fin 448) (q : Fin 512) : k0_pay57 s v (ix2 r q) = codeAt (v (ix2 r q)) (s (ix2 r 0)) := by
  rw [← pay56_at]; pointwise [k0_pay57]
theorem pay58_at (s : FVec Ideal S448x1 .f32) (v : Vec Ideal S448x512 .f32) (r : Fin 448) (q : Fin 512) : k0_pay58 s v (ix2 r q) = Ideal.fptosi 8 (codeAt (v (ix2 r q)) (s (ix2 r 0))) := by
  rw [← pay56_at]; pointwise [k0_pay58, FloatOps.fptosi]
theorem pay31_at (s : FVec Ideal S448x1 .f32) (v : Vec Ideal S448x512 .f32) (r : Fin 448) (q : Fin 512) : k0_pay31 s v (ix2 r q) = codeAt (v (ix2 r q)) (s (ix2 r 0)) := by
  pointwise [k0_pay31, codeAt, rclip]
theorem pay32_at (s : FVec Ideal S448x1 .f32) (v : Vec Ideal S448x512 .f32) (r : Fin 448) (q : Fin 512) : k0_pay32 (k0_pay31 s v) (ix2 r q) = codeAt (v (ix2 r q)) (s (ix2 r 0)) := by
  rw [← pay31_at]; pointwise [k0_pay32]
theorem pay33_at (s : FVec Ideal S448x1 .f32) (v : Vec Ideal S448x512 .f32) (r : Fin 448) (q : Fin 512) : k0_pay33 (k0_pay31 s v) (ix2 r q) = Ideal.fptosi 8 (codeAt (v (ix2 r q)) (s (ix2 r 0))) := by
  rw [← pay31_at]; pointwise [k0_pay33, FloatOps.fptosi]
theorem pay37_at (s : FVec Ideal S448x1 .f32) (v : Vec Ideal S448x512 .f32) (r : Fin 448) (q : Fin 512) : k0_pay37 s v (ix2 r q) = codeAt (v (ix2 r q)) (s (ix2 r 0)) := by
  pointwise [k0_pay37, codeAt, rclip]
theorem pay38_at (s : FVec Ideal S448x1 .f32) (v : Vec Ideal S448x512 .f32) (r : Fin 448) (q : Fin 512) : k0_pay38 s v (ix2 r q) = codeAt (v (ix2 r q)) (s (ix2 r 0)) := by
  rw [← pay37_at]; pointwise [k0_pay38]
theorem pay39_at (s : FVec Ideal S448x1 .f32) (v : Vec Ideal S448x512 .f32) (r : Fin 448) (q : Fin 512) : k0_pay39 (k0_pay37 s v) (ix2 r q) = Ideal.fptosi 8 (codeAt (v (ix2 r q)) (s (ix2 r 0))) := by
  rw [← pay37_at]; pointwise [k0_pay39, FloatOps.fptosi]
theorem pay53_at (s : FVec Ideal S448x1 .f32) (v : Vec Ideal S448x512 .f32) (r : Fin 448) (q : Fin 512) : k0_pay53 v (k0_pay52 s) (ix2 r q) = codeAt (v (ix2 r q)) (s (ix2 r 0)) := by
  pointwise [k0_pay53, k0_pay52, codeAt, rclip]
theorem pay54_at (s : FVec Ideal S448x1 .f32) (v : Vec Ideal S448x512 .f32) (r : Fin 448) (q : Fin 512) : k0_pay54 v (k0_pay52 s) (ix2 r q) = codeAt (v (ix2 r q)) (s (ix2 r 0)) := by
  rw [← pay53_at]; pointwise [k0_pay54]
theorem pay55_at (s : FVec Ideal S448x1 .f32) (v : Vec Ideal S448x512 .f32) (r : Fin 448) (q : Fin 512) : k0_pay55 v (k0_pay52 s) (ix2 r q) = Ideal.fptosi 8 (codeAt (v (ix2 r q)) (s (ix2 r 0))) := by
  rw [← pay53_at]; pointwise [k0_pay55, FloatOps.fptosi]
theorem pay6_at (s : FVec Ideal S448x1 .f32) (v : Vec Ideal S448x512 .f32) (r : Fin 448) (q : Fin 512) : k0_pay6 (k0_pay59 s v) (Scalar.ofBits .f32 0x42FE0000#32) k0_pay60 (ix2 r q) = codeAt (v (ix2 r q)) (s (ix2 r 0)) := by
  pointwise [k0_pay6, k0_pay59, k0_pay60, codeAt, rclip]
theorem pay7_at (s : FVec Ideal S448x1 .f32) (v : Vec Ideal S448x512 .f32) (r : Fin 448) (q : Fin 512) : k0_pay7 (k0_pay59 s v) (Scalar.ofBits .f32 0x42FE0000#32) k0_pay60 (ix2 r q) = codeAt (v (ix2 r q)) (s (ix2 r 0)) := by
  rw [← pay6_at]; pointwise [k0_pay7]
theorem pay8_at (s : FVec Ideal S448x1 .f32) (v : Vec Ideal S448x512 .f32) (r : Fin 448) (q : Fin 512) : k0_pay8 (k0_pay59 s v) (Scalar.ofBits .f32 0x42FE0000#32) k0_pay60 (ix2 r q) = Ideal.fptosi 8 (codeAt (v (ix2 r q)) (s (ix2 r 0))) := by
  rw [← pay6_at]; pointwise [k0_pay8, FloatOps.fptosi]

theorem pay61_at (g : Vec Ideal S448x1 .f32) (a : Vec Ideal S448x6144 .bf16) (w : Vec Ideal S6144x256 .i8) (s b : Vec Ideal S1x256 .f32) (x : Vec Ideal S448x256 .f32) (r : Fin 448) (q : Fin 256) :
    k0_pay61 g a w s b x (ix2 r q) = prAt (fun k => a (ix2 r k)) (fun k => w (ix2 k q)) (g (ix2 r 0)) (s (ix2 0 q)) (b (ix2 0 q)) (x (ix2 r q)) := by
  pointwise [k0_pay61, prAt, lin, toE, FloatOps.sitofp]
theorem pay9_at (g : Vec Ideal S448x1 .f32) (a : Vec Ideal S448x6144 .bf16) (w : Vec Ideal S6144x256 .i8) (s b : Vec Ideal S1x256 .f32) (x : Vec Ideal S448x256 .f32) (r : Fin 448) (q : Fin 256) :
    k0_pay9 (k0_pay62 g a w s b) x (ix2 r q) = prAt (fun k => a (ix2 r k)) (fun k => w (ix2 k q)) (g (ix2 r 0)) (s (ix2 0 q)) (b (ix2 0 q)) (x (ix2 r q)) := by
  pointwise [k0_pay9, k0_pay62, prAt, lin, toE, FloatOps.sitofp]

end Cert.KernelIdeal.Hand

end
-- ==== Proof.MlpStep.lean ====
/-
  One step of the feed-forward kernel on plain vectors: what the stores of a step leave in each buffer, stated entry by entry.
-/
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameBody
public import Idealize.ShloMosaic.Lib.Tactic
public import Idealize.ShloMosaic.Lib.WordCmp
public import Idealize.ShloMosaic.Lib.Claim
public import Idealize.ShloMosaic.Lib.Writes
public import proofs.«01_k».proof.Proof.MlpPay

@[expose] public section

set_option maxRecDepth 16384

noncomputable section

namespace Cert.KernelIdeal.Hand

open Cert.KernelIdeal Cert.KernelIdeal.Gen Cert.Mlp
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pointwise
open Idealize.ShloMosaic.Pipeline (Dat Cfg Window BodyObligation cellOf)

local notation "𝕄" => MT nD τ sig Unit (Elt Ideal) ℕ (UR sig nD τ) ℕ

/-- An entry of the first product's tile at the step's columns. -/
def fcT (L : Vec Ideal S448x3072 .bf16) (x1 : Vec Ideal S448x128 .f32) (x3 : Vec Ideal S3072x1024 .i8) (x4 x5 : Vec Ideal S1x1024 .f32)
    (r : Fin 448) (q : Fin 1024) : EReal :=
  fcAt (fun k => L (ix2 r k)) (fun k => x3 (ix2 k q)) (x1 (ix2 r 0)) (x4 (ix2 0 q)) (x5 (ix2 0 q))

/-- What a step of the first product leaves in the buffer of products: its own 1024 columns new, the others as they were. -/
def FOut (j : ℕ) (L : Vec Ideal S448x3072 .bf16) (x1 : Vec Ideal S448x128 .f32) (x3 : Vec Ideal S3072x1024 .i8) (x4 x5 : Vec Ideal S1x1024 .f32)
    (x d : Vec Ideal S448x6144 .f32) : Prop :=
  ∀ (r : Fin 448) (c : Fin 6144), (∀ q : Fin 1024, c.val = 1024 * j + q.val → d (ix2 r c) = fcT L x1 x3 x4 x5 r q)
    ∧ (c.val < 1024 * j ∨ 1024 * j + 1024 ≤ c.val → d (ix2 r c) = x (ix2 r c))

/-- What it leaves in the buffer of largest magnitudes, by lane: the largest of what was there and of the lane's columns. -/
def GOut (L : Vec Ideal S448x3072 .bf16) (x1 : Vec Ideal S448x128 .f32) (x3 : Vec Ideal S3072x1024 .i8) (x4 x5 : Vec Ideal S1x1024 .f32)
    (G : Fin 448 → Fin 128 → EReal) (d : Vec Ideal S448x128 .f32) : Prop :=
  ∀ (r : Fin 448) (l : Fin 128) (y : EReal), d (ix2 r l) ≤ y ↔
    G r l ≤ y ∧ ∀ q : Fin 1024, q.val % 128 = l.val → mag (fcT L x1 x3 x4 x5 r q) ≤ y

/-- The codes of the block as numbers. -/
def LOut (x0 : Vec Ideal S448x3072 .i8) (d : Vec Ideal S448x3072 .bf16) : Prop :=
  ∀ (r : Fin 448) (k : Fin 3072), d (ix2 r k) = toE (x0 (ix2 r k))

/-- The largest magnitude taken in eight parts is the largest over the 1024 columns of the lane. -/
theorem eight_parts (f : Fin 1024 → EReal) (l : Fin 128) (g y : EReal) :
    ((((g ≤ y ∧ (f ⟨l.val, by omega⟩ ≤ y ∧ f ⟨128 + l.val, by omega⟩ ≤ y)) ∧ (f ⟨256 + l.val, by omega⟩ ≤ y ∧ f ⟨384 + l.val, by omega⟩ ≤ y))
        ∧ (f ⟨512 + l.val, by omega⟩ ≤ y ∧ f ⟨640 + l.val, by omega⟩ ≤ y)) ∧ (f ⟨768 + l.val, by omega⟩ ≤ y ∧ f ⟨896 + l.val, by omega⟩ ≤ y))
      ↔ g ≤ y ∧ ∀ q : Fin 1024, q.val % 128 = l.val → f q ≤ y := by
  constructor
  · rintro ⟨⟨⟨⟨hg, h0, h1⟩, h2, h3⟩, h4, h5⟩, h6, h7⟩
    refine ⟨hg, fun q hq => ?_⟩
    have hl := l.isLt
    have hq' := q.isLt
    obtain h | h | h | h | h | h | h | h : q.val = l.val ∨ q.val = 128 + l.val ∨ q.val = 256 + l.val ∨ q.val = 384 + l.val
      ∨ q.val = 512 + l.val ∨ q.val = 640 + l.val ∨ q.val = 768 + l.val ∨ q.val = 896 + l.val := by omega
    · rwa [show q = ⟨l.val, by omega⟩ from Fin.ext h]
    · rwa [show q = ⟨128 + l.val, by omega⟩ from Fin.ext h]
    · rwa [show q = ⟨256 + l.val, by omega⟩ from Fin.ext h]
    · rwa [show q = ⟨384 + l.val, by omega⟩ from Fin.ext h]
    · rwa [show q = ⟨512 + l.val, by omega⟩ from Fin.ext h]
    · rwa [show q = ⟨640 + l.val, by omega⟩ from Fin.ext h]
    · rwa [show q = ⟨768 + l.val, by omega⟩ from Fin.ext h]
    · rwa [show q = ⟨896 + l.val, by omega⟩ from Fin.ext h]
  · rintro ⟨hg, h⟩
    have hl := l.isLt
    refine ⟨⟨⟨⟨hg, h _ ?_, h _ ?_⟩, h _ ?_, h _ ?_⟩, h _ ?_, h _ ?_⟩, h _ ?_, h _ ?_⟩ <;> (simp only []; omega)

section
variable {A B p q o0 o1 : ℕ} {e : EltTy}

theorem ix2_eta (x : (⟨2, ![p, q]⟩ : Shape).Idx) : x = ix2 (⟨(x 0).val, (x 0).isLt⟩ : Fin p) (⟨(x 1).val, (x 1).isLt⟩ : Fin q) := by
  funext a
  match a with
  | ⟨0, _⟩ => rfl
  | ⟨1, _⟩ => rfl

/-- Where a box of unit stride puts a place. -/
theorem emb_at (inb : ∀ a, ![o0, o1] a + ![p, q] a ≤ (⟨2, ![A, B]⟩ : Shape).size a) (a : Fin p) (b : Fin q) (a' : Fin A) (b' : Fin B)
    (ha : a'.val = o0 + a.val) (hb : b'.val = o1 + b.val) :
    (Rect.unit (s := ⟨2, ![A, B]⟩) ![o0, o1] ![p, q] inb).emb (ix2 a b) = ix2 a' b' := by
  refine Rect.emb_eq_of_coords _ _ _ fun i => ?_
  match i with
  | ⟨0, _⟩ => show a'.val = o0 + 1 * a.val; omega
  | ⟨1, _⟩ => show b'.val = o1 + 1 * b.val; omega

/-- A load of a box of a whole buffer reads the buffer's entry at the box's offsets plus the place in the box. -/
theorem rd (m : Memref sig .tc .vmem ⟨2, ![A, B]⟩ e) (hm : m.IsWhole) (d : Vec Ideal ⟨2, ![A, B]⟩ e)
    (inb : ∀ a, ![o0, o1] a + ![p, q] a ≤ (⟨2, ![A, B]⟩ : Shape).size a) (a : Fin p) (b : Fin q) (a' : Fin A) (b' : Fin B)
    (ha : a'.val = o0 + a.val) (hb : b'.val = o1 + b.val) :
    View.readAt (Elt Ideal) m.view (Rect.unit (s := ⟨2, ![A, B]⟩) ![o0, o1] ![p, q] inb).toLoadRect (hm.unread d) (ix2 a b) = d (ix2 a' b') := by
  rw [View.readAt_eq_ld, Memref.IsWhole.read_unread]
  exact congrArg d (emb_at inb a b a' b' ha hb)

/-- A stored box whose entries are a function's values at the places they are stored to. -/
theorem piece_ok (inb : ∀ a, ![o0, o1] a + ![p, q] a ≤ (⟨2, ![A, B]⟩ : Shape).size a) (w : Vec Ideal ⟨2, ![p, q]⟩ e)
    (G : Vec Ideal ⟨2, ![A, B]⟩ e)
    (h : ∀ (a : Fin p) (b : Fin q) (a' : Fin A) (b' : Fin B), a'.val = o0 + a.val → b'.val = o1 + b.val → w (ix2 a b) = G (ix2 a' b'))
    (x : (⟨2, ![p, q]⟩ : Shape).Idx) :
    w x = G ((Rect.unit (s := ⟨2, ![A, B]⟩) ![o0, o1] ![p, q] inb).emb x) := by
  obtain ⟨a, b, rfl⟩ : ∃ a b, x = ix2 a b := ⟨_, _, ix2_eta x⟩
  have hA : o0 + a.val < A := lt_of_lt_of_le (Nat.add_lt_add_left a.isLt o0) (inb 0)
  have hB : o1 + b.val < B := lt_of_lt_of_le (Nat.add_lt_add_left b.isLt o1) (inb 1)
  rw [emb_at inb a b ⟨o0 + a.val, hA⟩ ⟨o1 + b.val, hB⟩ rfl rfl]
  exact h _ _ _ _ rfl rfl

/-- Reading back at a place the newest store holds, -/
theorem hit (m : Memref sig .tc .vmem ⟨2, ![A, B]⟩ e) (f : m.view.ty.Contents (Elt Ideal)) (off : Fin 2 → ℕ) (ho : off = ![o0, o1])
    (inb : ∀ a, off a + ![p, q] a ≤ (⟨2, ![A, B]⟩ : Shape).size a) (w : Vec Ideal ⟨2, ![p, q]⟩ e) (L : List (View.Piece (Elt Ideal) ⟨2, ![A, B]⟩ e))
    (a : Fin p) (b : Fin q) (a' : Fin A) (b' : Fin B) (ha : a'.val = o0 + a.val) (hb : b'.val = o1 + b.val) :
    View.read (Elt Ideal) m.view (m.view.writes (Elt Ideal) f (⟨Rect.unit (s := ⟨2, ![A, B]⟩) off ![p, q] inb, w⟩ :: L)) (ix2 a' b') = w (ix2 a b) := by
  subst ho
  exact View.read_writes_cons_hit m.view f (Rect.unit (s := ⟨2, ![A, B]⟩) ![o0, o1] ![p, q] inb) w L (ix2 a b) (ix2 a' b') (emb_at inb a b a' b' ha hb)

/-- and at a place whose column it does not hold, -/
theorem miss (m : Memref sig .tc .vmem ⟨2, ![A, B]⟩ e) (f : m.view.ty.Contents (Elt Ideal)) (off : Fin 2 → ℕ) (ho : off = ![o0, o1])
    (inb : ∀ a, off a + ![p, q] a ≤ (⟨2, ![A, B]⟩ : Shape).size a) (w : Vec Ideal ⟨2, ![p, q]⟩ e) (L : List (View.Piece (Elt Ideal) ⟨2, ![A, B]⟩ e))
    (a' : Fin A) (b' : Fin B) (hb : b'.val < o1 ∨ o1 + q ≤ b'.val) :
    View.read (Elt Ideal) m.view (m.view.writes (Elt Ideal) f (⟨Rect.unit (s := ⟨2, ![A, B]⟩) off ![p, q] inb, w⟩ :: L)) (ix2 a' b')
      = View.read (Elt Ideal) m.view (m.view.writes (Elt Ideal) f L) (ix2 a' b') := by
  subst ho
  exact View.read_writes_cons_miss_of_axis m.view f ⟨Rect.unit (s := ⟨2, ![A, B]⟩) ![o0, o1] ![p, q] inb, w⟩ L (ix2 a' b') 1 o1 q rfl rfl rfl hb

/-- or whose row. -/
theorem miss0 (m : Memref sig .tc .vmem ⟨2, ![A, B]⟩ e) (f : m.view.ty.Contents (Elt Ideal)) (off : Fin 2 → ℕ) (ho : off = ![o0, o1])
    (inb : ∀ a, off a + ![p, q] a ≤ (⟨2, ![A, B]⟩ : Shape).size a) (w : Vec Ideal ⟨2, ![p, q]⟩ e) (L : List (View.Piece (Elt Ideal) ⟨2, ![A, B]⟩ e))
    (a' : Fin A) (b' : Fin B) (hb : a'.val < o0 ∨ o0 + p ≤ a'.val) :
    View.read (Elt Ideal) m.view (m.view.writes (Elt Ideal) f (⟨Rect.unit (s := ⟨2, ![A, B]⟩) off ![p, q] inb, w⟩ :: L)) (ix2 a' b')
      = View.read (Elt Ideal) m.view (m.view.writes (Elt Ideal) f L) (ix2 a' b') := by
  subst ho
  exact View.read_writes_cons_miss_of_axis m.view f ⟨Rect.unit (s := ⟨2, ![A, B]⟩) ![o0, o1] ![p, q] inb, w⟩ L (ix2 a' b') 0 o0 p rfl rfl rfl hb

/-- A store of the whole buffer, read back. -/
theorem read_whole (m : Memref sig .tc .vmem ⟨2, ![A, B]⟩ e) (f : m.view.ty.Contents (Elt Ideal)) (w : Vec Ideal ⟨2, ![A, B]⟩ e)
    (inb : ∀ a, ![0, 0] a + ![A, B] a ≤ (⟨2, ![A, B]⟩ : Shape).size a) (L : List (View.Piece (Elt Ideal) ⟨2, ![A, B]⟩ e)) :
    View.read (Elt Ideal) m.view (m.view.writes (Elt Ideal) f (⟨Rect.unit (s := ⟨2, ![A, B]⟩) ![0, 0] ![A, B] inb, w⟩ :: L)) = w := by
  funext y
  obtain ⟨a, b, rfl⟩ : ∃ a b, y = ix2 a b := ⟨_, _, ix2_eta y⟩
  exact hit m f _ rfl inb w L a b a b (by omega) (by omega)
end

/-- The operands of one 256-column part of the step's tile, at column offset `o`. -/
structure IsTile (o : ℕ) (v : Vec Ideal S448x1 .f32) (a : Vec Ideal S448x3072 .bf16) (w : Vec Ideal S3072x256 .i8) (s b : Vec Ideal S1x256 .f32)
    (L : Vec Ideal S448x3072 .bf16) (x1 : Vec Ideal S448x128 .f32) (x3 : Vec Ideal S3072x1024 .i8) (x4 x5 : Vec Ideal S1x1024 .f32) : Prop where
  hv : ∀ r, v (ix2 r 0) = x1 (ix2 r 0)
  ha : ∀ r k, a (ix2 r k) = L (ix2 r k)
  hw : ∀ k (q : Fin 256) (q' : Fin 1024), q'.val = o + q.val → w (ix2 k q) = x3 (ix2 k q')
  hs : ∀ (q : Fin 256) (q' : Fin 1024), q'.val = o + q.val → s (ix2 0 q) = x4 (ix2 0 q')
  hb : ∀ (q : Fin 256) (q' : Fin 1024), q'.val = o + q.val → b (ix2 0 q) = x5 (ix2 0 q')

theorem IsTile.eq {o : ℕ} {v a w s b L x1 x3 x4 x5} (h : IsTile o v a w s b L x1 x3 x4 x5) (r : Fin 448) (q : Fin 256) (q' : Fin 1024) (hq : q'.val = o + q.val) :
    fcAt (fun k => a (ix2 r k)) (fun k => w (ix2 k q)) (v (ix2 r 0)) (s (ix2 0 q)) (b (ix2 0 q)) = fcT L x1 x3 x4 x5 r q' := by
  unfold fcT
  simp only [h.hv, h.ha, h.hw _ q q' hq, h.hs q q' hq, h.hb q q' hq]

/-- The operands a step loads are a part of the tile. -/
theorem isTile_read (o : ℕ) (arg3 : Memref sig .tc .vmem S448x128 .f32) (harg3 : arg3.IsWhole) (arg5 : Memref sig .tc .vmem S3072x1024 .i8) (harg5 : arg5.IsWhole)
    (arg6 : Memref sig .tc .vmem S1x1024 .f32) (harg6 : arg6.IsWhole) (arg7 : Memref sig .tc .vmem S1x1024 .f32) (harg7 : arg7.IsWhole)
    (x1 : Vec Ideal S448x128 .f32) (x3 : Vec Ideal S3072x1024 .i8) (x4 x5 : Vec Ideal S1x1024 .f32)
    (a L : Vec Ideal S448x3072 .bf16) (ha : ∀ r k, a (ix2 r k) = L (ix2 r k)) (i3 i5 i6 i7) :
    IsTile o (View.readAt (Elt Ideal) arg3.view (Rect.unit (s := S448x128) ![0, 0] S448x1.size i3).toLoadRect (harg3.unread x1)) a
      (View.readAt (Elt Ideal) arg5.view (Rect.unit (s := S3072x1024) ![0, o] S3072x256.size i5).toLoadRect (harg5.unread x3))
      (View.readAt (Elt Ideal) arg6.view (Rect.unit (s := S1x1024) ![0, o] S1x256.size i6).toLoadRect (harg6.unread x4))
      (View.readAt (Elt Ideal) arg7.view (Rect.unit (s := S1x1024) ![0, o] S1x256.size i7).toLoadRect (harg7.unread x5)) L x1 x3 x4 x5 := by
  refine ⟨fun r => ?_, ha, fun k q q' h => ?_, fun q q' h => ?_, fun q q' h => ?_⟩
  · exact rd arg3 harg3 x1 i3 r 0 r 0 (by omega) rfl
  · exact rd arg5 harg5 x3 i5 k q k q' (by omega) h
  · exact rd arg6 harg6 x4 i6 0 q 0 q' rfl h
  · exact rd arg7 harg7 x5 i7 0 q 0 q' rfl h

/-- The running largest magnitudes after the step. -/
theorem gout {v : Vec Ideal S448x1 .f32} {L : Vec Ideal S448x3072 .bf16} {x1 : Vec Ideal S448x128 .f32} {x3 : Vec Ideal S3072x1024 .i8} {x4 x5 : Vec Ideal S1x1024 .f32}
    {a0 : Vec Ideal S448x3072 .bf16} {w0 : Vec Ideal S3072x256 .i8} {s0 b0 : Vec Ideal S1x256 .f32}
    {a1 : Vec Ideal S448x3072 .bf16} {w1 : Vec Ideal S3072x256 .i8} {s1 b1 : Vec Ideal S1x256 .f32}
    {a2 : Vec Ideal S448x3072 .bf16} {w2 : Vec Ideal S3072x256 .i8} {s2 b2 : Vec Ideal S1x256 .f32}
    {a3 : Vec Ideal S448x3072 .bf16} {w3 : Vec Ideal S3072x256 .i8} {s3 b3 : Vec Ideal S1x256 .f32}
    (h0 : IsTile 0 v a0 w0 s0 b0 L x1 x3 x4 x5)
    (h1 : IsTile 256 v a1 w1 s1 b1 L x1 x3 x4 x5)
    (h2 : IsTile 512 v a2 w2 s2 b2 L x1 x3 x4 x5)
    (h3 : IsTile 768 v a3 w3 s3 b3 L x1 x3 x4 x5)
    (g : Vec Ideal S448x128 .f32) (G : Fin 448 → Fin 128 → EReal) (hg : ∀ r l, g (ix2 r l) = G r l) :
    GOut L x1 x3 x4 x5 G (k0_pay5 v (k0_pay20 v (k0_pay17 v g (k0_pay13 v a0 w0 s0 b0) (k0_pay14 v a0 w0 s0 b0) a1 w1 s1 b1) a2 w2 s2 b2) a3 w3 s3 b3) := by
  intro r l y
  have hl := l.isLt
  rw [pay5_at, pay20_at, pay17_at, pay13_at, pay14_at, hg,
    h0.eq r _ ⟨l.val, by omega⟩ (by simp), h0.eq r _ ⟨128 + l.val, by omega⟩ (by simp),
    h1.eq r _ ⟨256 + l.val, by omega⟩ (by simp), h1.eq r _ ⟨384 + l.val, by omega⟩ (by simp; omega),
    h2.eq r _ ⟨512 + l.val, by omega⟩ (by simp), h2.eq r _ ⟨640 + l.val, by omega⟩ (by simp; omega),
    h3.eq r _ ⟨768 + l.val, by omega⟩ (by simp), h3.eq r _ ⟨896 + l.val, by omega⟩ (by simp; omega)]
  simp only [max_le_iff]
  exact eight_parts (fun q => mag (fcT L x1 x3 x4 x5 r q)) l (G r l) y

theorem off1_at (i : grid0.Coords) : k0_off1 i 0#32 = ![0, 1024 * (i 1).val + 0] ∧ k0_off1 i 256#32 = ![0, 1024 * (i 1).val + 256]
    ∧ k0_off1 i 512#32 = ![0, 1024 * (i 1).val + 512] ∧ k0_off1 i 768#32 = ![0, 1024 * (i 1).val + 768] :=
  ⟨k0_off1_eq i 0, k0_off1_eq i 1, k0_off1_eq i 2, k0_off1_eq i 3⟩

/-- The buffer of products after the step. -/
theorem fout {v : Vec Ideal S448x1 .f32} {L : Vec Ideal S448x3072 .bf16} {x1 : Vec Ideal S448x128 .f32} {x3 : Vec Ideal S3072x1024 .i8} {x4 x5 : Vec Ideal S1x1024 .f32}
    {a0 : Vec Ideal S448x3072 .bf16} {w0 : Vec Ideal S3072x256 .i8} {s0 b0 : Vec Ideal S1x256 .f32}
    {a1 : Vec Ideal S448x3072 .bf16} {w1 : Vec Ideal S3072x256 .i8} {s1 b1 : Vec Ideal S1x256 .f32}
    {a2 : Vec Ideal S448x3072 .bf16} {w2 : Vec Ideal S3072x256 .i8} {s2 b2 : Vec Ideal S1x256 .f32}
    {a3 : Vec Ideal S448x3072 .bf16} {w3 : Vec Ideal S3072x256 .i8} {s3 b3 : Vec Ideal S1x256 .f32}
    (h0 : IsTile 0 v a0 w0 s0 b0 L x1 x3 x4 x5)
    (h1 : IsTile 256 v a1 w1 s1 b1 L x1 x3 x4 x5)
    (h2 : IsTile 512 v a2 w2 s2 b2 L x1 x3 x4 x5)
    (h3 : IsTile 768 v a3 w3 s3 b3 L x1 x3 x4 x5)
    (i : grid0.Coords) (m : Memref sig .tc .vmem S448x6144 .f32) (f : m.view.ty.Contents (Elt Ideal)) (x : Vec Ideal S448x6144 .f32)
    (hf : View.read (Elt Ideal) m.view f = x) (i0 i1 i2 i3) :
    FOut (i 1).val L x1 x3 x4 x5 x (View.read (Elt Ideal) m.view (m.view.writes (Elt Ideal) f
      [⟨Rect.unit (s := S448x6144) (k0_off1 i 768#32) S448x256.size i3, k0_pay4 v a3 w3 s3 b3⟩,
       ⟨Rect.unit (s := S448x6144) (k0_off1 i 512#32) S448x256.size i2, k0_pay19 v a2 w2 s2 b2⟩,
       ⟨Rect.unit (s := S448x6144) (k0_off1 i 256#32) S448x256.size i1, k0_pay16 v a1 w1 s1 b1⟩,
       ⟨Rect.unit (s := S448x6144) (k0_off1 i 0#32) S448x256.size i0, k0_pay11 v a0 w0 s0 b0⟩])) := by
  obtain ⟨e0, e1, e2, e3⟩ := off1_at i
  intro r c
  refine ⟨fun q hq => ?_, fun hc => ?_⟩
  · have hq1 := q.isLt
    by_cases c3 : 768 ≤ q.val
    · rw [hit m f _ e3 _ _ _ r ⟨q.val - 768, by omega⟩ r c (by omega) (by simp only []; omega), pay4_at, h3.eq r _ q (by simp only []; omega)]
    rw [miss m f _ e3 _ _ _ r c (by omega)]
    by_cases c2 : 512 ≤ q.val
    · rw [hit m f _ e2 _ _ _ r ⟨q.val - 512, by omega⟩ r c (by omega) (by simp only []; omega), pay19_at, h2.eq r _ q (by simp only []; omega)]
    rw [miss m f _ e2 _ _ _ r c (by omega)]
    by_cases c1 : 256 ≤ q.val
    · rw [hit m f _ e1 _ _ _ r ⟨q.val - 256, by omega⟩ r c (by omega) (by simp only []; omega), pay16_at, h1.eq r _ q (by simp only []; omega)]
    rw [miss m f _ e1 _ _ _ r c (by omega)]
    rw [hit m f _ e0 _ _ _ r ⟨q.val, by omega⟩ r c (by omega) (by simp only []; omega), pay11_at, h0.eq r _ q (by simp only []; omega)]
  · rw [miss m f _ e3 _ _ _ r c (by omega), miss m f _ e2 _ _ _ r c (by omega), miss m f _ e1 _ _ _ r c (by omega), miss m f _ e0 _ _ _ r c (by omega), View.writes_nil, hf]

end Cert.KernelIdeal.Hand

end
-- ==== Proof.MlpStep2.lean ====
/-
  The later steps of the feed-forward kernel on plain vectors: the codes and scales of the quantising step, an output
  block of the second product.
-/
module

public import proofs.«01_k».proof.Proof.MlpStep

@[expose] public section

set_option maxRecDepth 16384

noncomputable section

namespace Cert.KernelIdeal.Hand

open Cert.KernelIdeal Cert.KernelIdeal.Gen Cert.Mlp
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pointwise
open Idealize.ShloMosaic.Pipeline (Dat Cfg Window BodyObligation cellOf)

local notation "𝕄" => MT nD τ sig Unit (Elt Ideal) ℕ (UR sig nD τ) ℕ

/-- What the quantising step leaves in the array of scales of the second product's operand: the block's 448 rows. -/
def RowOut (blk : ℕ) (S : Fin 448 → EReal) (x d : Vec Ideal S2x896 .f32) : Prop :=
  ∀ (a : Fin 2) (b : Fin 896), (∀ r : Fin 448, 896 * a.val + b.val = 448 * blk + r.val → d (ix2 a b) = S r)
    ∧ (896 * a.val + b.val < 448 * blk ∨ 448 * blk + 448 ≤ 896 * a.val + b.val → d (ix2 a b) = x (ix2 a b))

/-- The second product's scales, spread over a row of lanes. -/
def SOut (S : Fin 448 → EReal) (d : Vec Ideal S448x128 .f32) : Prop := ∀ r l, d (ix2 r l) = S r
/-- The second product's operand: the block's codes as numbers. -/
def AOut (S : Fin 448 → EReal) (f : Vec Ideal S448x6144 .f32) (d : Vec Ideal S448x6144 .bf16) : Prop := ∀ r c, d (ix2 r c) = codeAt (f (ix2 r c)) (S r)
/-- The block's codes as stored. -/
def QOut (S : Fin 448 → EReal) (f : Vec Ideal S448x6144 .f32) (d : Vec Ideal S448x6144 .i8) : Prop := ∀ r c, d (ix2 r c) = Ideal.fptosi 8 (codeAt (f (ix2 r c)) (S r))

/-- What a step of the second product leaves in its output block. -/
def POut (A : Fin 448 → Fin 6144 → EReal) (S : Fin 448 → EReal) (x2 : Vec Ideal S448x512 .f32) (x6 : Vec Ideal S6144x512 .i8) (x7 x8 : Vec Ideal S1x512 .f32)
    (d : Vec Ideal S448x512 .bf16) : Prop :=
  ∀ (r : Fin 448) (c : Fin 512), d (ix2 r c) = prAt (A r) (fun k => x6 (ix2 k c)) (S r) (x7 (ix2 0 c)) (x8 (ix2 0 c)) (x2 (ix2 r c))

section
variable {A B p q o0 o1 : ℕ} {e : EltTy}

/-- A load covered by the step's own stores reads what they left. -/
theorem rdCov (m : Memref sig .tc .vmem ⟨2, ![A, B]⟩ e) (L : List (View.Piece (Elt Ideal) ⟨2, ![A, B]⟩ e))
    (inb : ∀ a, ![o0, o1] a + ![p, q] a ≤ (⟨2, ![A, B]⟩ : Shape).size a) (a : Fin p) (b : Fin q) (a' : Fin A) (b' : Fin B)
    (ha : a'.val = o0 + a.val) (hb : b'.val = o1 + b.val) :
    m.view.readCov L (Rect.unit (s := ⟨2, ![A, B]⟩) ![o0, o1] ![p, q] inb).toLoadRect (ix2 a b)
      = View.read (Elt Ideal) m.view (m.view.writes (Elt Ideal) m.view.junk L) (ix2 a' b') := by
  unfold View.readCov
  rw [View.readAt_eq_ld]
  exact congrArg _ (emb_at inb a b a' b' ha hb)

end

theorem rowout (m : Memref sig .tc .vmem S2x896 .f32) (f : m.view.ty.Contents (Elt Ideal)) (x : Vec Ideal S2x896 .f32) (hf : View.read (Elt Ideal) m.view f = x)
    (o0 o1 blk : ℕ) (h0 : o0 < 2) (h1 : o1 + 448 ≤ 896) (hb : 448 * blk = 896 * o0 + o1) (inb) (w : Vec Ideal S1x448 .f32) (S : Fin 448 → EReal) (hw : ∀ r, w (ix2 0 r) = S r) :
    RowOut blk S x (View.read (Elt Ideal) m.view (m.view.writes (Elt Ideal) f [⟨Rect.unit (s := S2x896) ![o0, o1] S1x448.size inb, w⟩])) := by
  intro a b
  have ha := a.isLt
  have hbl := b.isLt
  refine ⟨fun r hr => ?_, fun h => ?_⟩
  · have := r.isLt
    rw [hit m f ![o0, o1] rfl inb w [] 0 r a b (by simp only [Fin.val_zero]; omega) (by omega), hw]
  · by_cases hao : a.val = o0
    · rw [miss m f ![o0, o1] rfl inb w [] a b (by omega), View.writes_nil, hf]
    · rw [miss0 m f ![o0, o1] rfl inb w [] a b (by omega), View.writes_nil, hf]

/-- An output block stored in two halves. -/
theorem pout {g0 g1 : Vec Ideal S448x1 .f32} {a0 a1 : Vec Ideal S448x6144 .bf16} {w0 w1 : Vec Ideal S6144x256 .i8} {s0 b0 s1 b1 : Vec Ideal S1x256 .f32}
    {y0 y1 : Vec Ideal S448x256 .f32} {A : Fin 448 → Fin 6144 → EReal} {S : Fin 448 → EReal} {x2 : Vec Ideal S448x512 .f32} {x6 : Vec Ideal S6144x512 .i8} {x7 x8 : Vec Ideal S1x512 .f32}
    (hg0 : ∀ r, g0 (ix2 r 0) = S r) (hg1 : ∀ r, g1 (ix2 r 0) = S r) (ha0 : ∀ r k, a0 (ix2 r k) = A r k) (ha1 : ∀ r k, a1 (ix2 r k) = A r k)
    (hw0 : ∀ k (q : Fin 256) (c : Fin 512), c.val = 0 + q.val → w0 (ix2 k q) = x6 (ix2 k c)) (hw1 : ∀ k (q : Fin 256) (c : Fin 512), c.val = 256 + q.val → w1 (ix2 k q) = x6 (ix2 k c))
    (hs0 : ∀ (q : Fin 256) (c : Fin 512), c.val = 0 + q.val → s0 (ix2 0 q) = x7 (ix2 0 c)) (hs1 : ∀ (q : Fin 256) (c : Fin 512), c.val = 256 + q.val → s1 (ix2 0 q) = x7 (ix2 0 c))
    (hb0 : ∀ (q : Fin 256) (c : Fin 512), c.val = 0 + q.val → b0 (ix2 0 q) = x8 (ix2 0 c)) (hb1 : ∀ (q : Fin 256) (c : Fin 512), c.val = 256 + q.val → b1 (ix2 0 q) = x8 (ix2 0 c))
    (hy0 : ∀ r (q : Fin 256) (c : Fin 512), c.val = 0 + q.val → y0 (ix2 r q) = x2 (ix2 r c)) (hy1 : ∀ r (q : Fin 256) (c : Fin 512), c.val = 256 + q.val → y1 (ix2 r q) = x2 (ix2 r c))
    (m : Memref sig .tc .vmem S448x512 .bf16) (f : m.view.ty.Contents (Elt Ideal)) (i0 i1) :
    POut A S x2 x6 x7 x8 (View.read (Elt Ideal) m.view (m.view.writes (Elt Ideal) f
      [⟨Rect.unit (s := S448x512) ![0, 256] S448x256.size i1, k0_pay9 (k0_pay62 g1 a1 w1 s1 b1) y1⟩,
       ⟨Rect.unit (s := S448x512) ![0, 0] S448x256.size i0, k0_pay61 g0 a0 w0 s0 b0 y0⟩])) := by
  intro r c
  have hc := c.isLt
  by_cases h : 256 ≤ c.val
  · have e : c.val = 256 + (⟨c.val - 256, by omega⟩ : Fin 256).val := by simp only []; omega
    rw [hit m f _ rfl i1 _ _ r ⟨c.val - 256, by omega⟩ r c (by omega) e, pay9_at, hg1, hs1 _ c e, hb1 _ c e, hy1 r _ c e]
    simp only [ha1, hw1 _ _ c e]
  · have e : c.val = 0 + (⟨c.val, by omega⟩ : Fin 256).val := by simp only []; omega
    rw [miss m f _ rfl i1 _ _ r c (by omega), hit m f _ rfl i0 _ _ r ⟨c.val, by omega⟩ r c (by omega) e, pay61_at, hg0, hs0 _ c e, hb0 _ c e, hy0 r _ c e]
    simp only [ha0, hw0 _ _ c e]

/-- The operands a step of the second product loads. -/
theorem pout_read {A : Fin 448 → Fin 6144 → EReal} {S : Fin 448 → EReal} {x2 : Vec Ideal S448x512 .f32} {x6 : Vec Ideal S6144x512 .i8} {x7 x8 : Vec Ideal S1x512 .f32}
    {g : Vec Ideal S448x1 .f32} {a : Vec Ideal S448x6144 .bf16}
    (arg4 : Memref sig .tc .vmem S448x512 .f32) (harg4 : arg4.IsWhole) (arg8 : Memref sig .tc .vmem S6144x512 .i8) (harg8 : arg8.IsWhole)
    (arg9 : Memref sig .tc .vmem S1x512 .f32) (harg9 : arg9.IsWhole) (arg10 : Memref sig .tc .vmem S1x512 .f32) (harg10 : arg10.IsWhole)
    (hg : ∀ r, g (ix2 r 0) = S r) (ha : ∀ r k, a (ix2 r k) = A r k)
    (m : Memref sig .tc .vmem S448x512 .bf16) (f : m.view.ty.Contents (Elt Ideal)) (i0 i1 j0 j1 k0 k1 l0 l1 n0 n1) :
    POut A S x2 x6 x7 x8 (View.read (Elt Ideal) m.view (m.view.writes (Elt Ideal) f
      [⟨Rect.unit (s := S448x512) ![0, 256] S448x256.size i1, k0_pay9 (k0_pay62 g a
          (View.readAt (Elt Ideal) arg8.view (Rect.unit (s := S6144x512) ![0, 256] S6144x256.size j1).toLoadRect (harg8.unread x6))
          (View.readAt (Elt Ideal) arg9.view (Rect.unit (s := S1x512) ![0, 256] S1x256.size k1).toLoadRect (harg9.unread x7))
          (View.readAt (Elt Ideal) arg10.view (Rect.unit (s := S1x512) ![0, 256] S1x256.size l1).toLoadRect (harg10.unread x8)))
          (View.readAt (Elt Ideal) arg4.view (Rect.unit (s := S448x512) ![0, 256] S448x256.size n1).toLoadRect (harg4.unread x2))⟩,
       ⟨Rect.unit (s := S448x512) ![0, 0] S448x256.size i0, k0_pay61 g a
          (View.readAt (Elt Ideal) arg8.view (Rect.unit (s := S6144x512) ![0, 0] S6144x256.size j0).toLoadRect (harg8.unread x6))
          (View.readAt (Elt Ideal) arg9.view (Rect.unit (s := S1x512) ![0, 0] S1x256.size k0).toLoadRect (harg9.unread x7))
          (View.readAt (Elt Ideal) arg10.view (Rect.unit (s := S1x512) ![0, 0] S1x256.size l0).toLoadRect (harg10.unread x8))
          (View.readAt (Elt Ideal) arg4.view (Rect.unit (s := S448x512) ![0, 0] S448x256.size n0).toLoadRect (harg4.unread x2))⟩])) :=
  pout hg hg ha ha
    (fun k q c h => rd arg8 harg8 x6 j0 k q k c (by omega) h) (fun k q c h => rd arg8 harg8 x6 j1 k q k c (by omega) h)
    (fun q c h => rd arg9 harg9 x7 k0 0 q 0 c rfl h) (fun q c h => rd arg9 harg9 x7 k1 0 q 0 c rfl h)
    (fun q c h => rd arg10 harg10 x8 l0 0 q 0 c rfl h) (fun q c h => rd arg10 harg10 x8 l1 0 q 0 c rfl h)
    (fun r q c h => rd arg4 harg4 x2 n0 r q r c (by omega) h) (fun r q c h => rd arg4 harg4 x2 n1 r q r c (by omega) h) m f i0 i1

/-- The codes of the block, as the numbers the second product takes. -/
theorem q16 {g : Vec Ideal S448x128 .f32} {v0 v1 v2 v3 v4 v5 v6 v7 v8 v9 v10 v11 : Vec Ideal S448x512 .f32} {x : Vec Ideal S448x6144 .f32} {G : Fin 448 → Fin 128 → EReal}
    (hg : ∀ r l, g (ix2 r l) = G r l)
    (h0 : ∀ r (q : Fin 512) (c : Fin 6144), c.val = 0 + q.val → v0 (ix2 r q) = x (ix2 r c))
    (h1 : ∀ r (q : Fin 512) (c : Fin 6144), c.val = 512 + q.val → v1 (ix2 r q) = x (ix2 r c))
    (h2 : ∀ r (q : Fin 512) (c : Fin 6144), c.val = 1024 + q.val → v2 (ix2 r q) = x (ix2 r c))
    (h3 : ∀ r (q : Fin 512) (c : Fin 6144), c.val = 1536 + q.val → v3 (ix2 r q) = x (ix2 r c))
    (h4 : ∀ r (q : Fin 512) (c : Fin 6144), c.val = 2048 + q.val → v4 (ix2 r q) = x (ix2 r c))
    (h5 : ∀ r (q : Fin 512) (c : Fin 6144), c.val = 2560 + q.val → v5 (ix2 r q) = x (ix2 r c))
    (h6 : ∀ r (q : Fin 512) (c : Fin 6144), c.val = 3072 + q.val → v6 (ix2 r q) = x (ix2 r c))
    (h7 : ∀ r (q : Fin 512) (c : Fin 6144), c.val = 3584 + q.val → v7 (ix2 r q) = x (ix2 r c))
    (h8 : ∀ r (q : Fin 512) (c : Fin 6144), c.val = 4096 + q.val → v8 (ix2 r q) = x (ix2 r c))
    (h9 : ∀ r (q : Fin 512) (c : Fin 6144), c.val = 4608 + q.val → v9 (ix2 r q) = x (ix2 r c))
    (h10 : ∀ r (q : Fin 512) (c : Fin 6144), c.val = 5120 + q.val → v10 (ix2 r q) = x (ix2 r c))
    (h11 : ∀ r (q : Fin 512) (c : Fin 6144), c.val = 5632 + q.val → v11 (ix2 r q) = x (ix2 r c))
    (m : Memref sig .tc .vmem S448x6144 .bf16) (f : m.view.ty.Contents (Elt Ideal)) (i0 i1 i2 i3 i4 i5 i6 i7 i8 i9 i10 i11) (r : Fin 448) (c : Fin 6144) :
    View.read (Elt Ideal) m.view (m.view.writes (Elt Ideal) f
      [⟨Rect.unit (s := S448x6144) ![0, 5632] S448x512.size i11, k0_pay7 (k0_pay59 (k0_pay21 g) v11) (Scalar.ofBits .f32 0x42FE0000#32) k0_pay60⟩,
       ⟨Rect.unit (s := S448x6144) ![0, 5120] S448x512.size i10, k0_pay57 (k0_pay21 g) v10⟩,
       ⟨Rect.unit (s := S448x6144) ![0, 4608] S448x512.size i9, k0_pay54 v9 (k0_pay52 (k0_pay21 g))⟩,
       ⟨Rect.unit (s := S448x6144) ![0, 4096] S448x512.size i8, k0_pay50 (k0_pay21 g) v8⟩,
       ⟨Rect.unit (s := S448x6144) ![0, 3584] S448x512.size i7, k0_pay47 (k0_pay21 g) v7⟩,
       ⟨Rect.unit (s := S448x6144) ![0, 3072] S448x512.size i6, k0_pay44 (k0_pay21 g) v6⟩,
       ⟨Rect.unit (s := S448x6144) ![0, 2560] S448x512.size i5, k0_pay41 (k0_pay21 g) v5⟩,
       ⟨Rect.unit (s := S448x6144) ![0, 2048] S448x512.size i4, k0_pay38 (k0_pay21 g) v4⟩,
       ⟨Rect.unit (s := S448x6144) ![0, 1536] S448x512.size i3, k0_pay35 (k0_pay21 g) v3⟩,
       ⟨Rect.unit (s := S448x6144) ![0, 1024] S448x512.size i2, k0_pay32 (k0_pay31 (k0_pay21 g) v2)⟩,
       ⟨Rect.unit (s := S448x6144) ![0, 512] S448x512.size i1, k0_pay29 (k0_pay21 g) v1⟩,
       ⟨Rect.unit (s := S448x6144) ![0, 0] S448x512.size i0, k0_pay26 (k0_pay24 g v0)⟩]) (ix2 r c) = codeAt (x (ix2 r c)) (scaleAt (G r)) := by
  refine (View.read_writes_apply_of_pieces m.view f (fun y : S448x6144.Idx => codeAt (x y) (scaleAt (G ⟨(y 0).val, (y 0).isLt⟩))) _ ?_ (ix2 r c) (View.cover_of_tiled (s := S448x6144) _ ![448, 512] rfl (ix2 r c))).trans rfl
  have eg : ∀ r, (fun l => g (ix2 r l)) = G r := fun r => funext (hg r)
  refine List.forall_mem_cons.mpr ⟨piece_ok (A := 448) (B := 6144) (e := .bf16) i11 _ (fun y : S448x6144.Idx => codeAt (x y) (scaleAt (G ⟨(y 0).val, (y 0).isLt⟩))) fun a b a' b' ha hb => ?_, ?_⟩
  · obtain rfl : a' = a := Fin.ext (by omega)
    exact (pay7_at (k0_pay21 g) v11 a' b).trans ((congrArg₂ codeAt (h11 _ b b' hb) ((pay21_at g a').trans (congrArg scaleAt (eg a')))))
  refine List.forall_mem_cons.mpr ⟨piece_ok (A := 448) (B := 6144) (e := .bf16) i10 _ (fun y : S448x6144.Idx => codeAt (x y) (scaleAt (G ⟨(y 0).val, (y 0).isLt⟩))) fun a b a' b' ha hb => ?_, ?_⟩
  · obtain rfl : a' = a := Fin.ext (by omega)
    exact (pay57_at (k0_pay21 g) v10 a' b).trans ((congrArg₂ codeAt (h10 _ b b' hb) ((pay21_at g a').trans (congrArg scaleAt (eg a')))))
  refine List.forall_mem_cons.mpr ⟨piece_ok (A := 448) (B := 6144) (e := .bf16) i9 _ (fun y : S448x6144.Idx => codeAt (x y) (scaleAt (G ⟨(y 0).val, (y 0).isLt⟩))) fun a b a' b' ha hb => ?_, ?_⟩
  · obtain rfl : a' = a := Fin.ext (by omega)
    exact (pay54_at (k0_pay21 g) v9 a' b).trans ((congrArg₂ codeAt (h9 _ b b' hb) ((pay21_at g a').trans (congrArg scaleAt (eg a')))))
  refine List.forall_mem_cons.mpr ⟨piece_ok (A := 448) (B := 6144) (e := .bf16) i8 _ (fun y : S448x6144.Idx => codeAt (x y) (scaleAt (G ⟨(y 0).val, (y 0).isLt⟩))) fun a b a' b' ha hb => ?_, ?_⟩
  · obtain rfl : a' = a := Fin.ext (by omega)
    exact (pay50_at (k0_pay21 g) v8 a' b).trans ((congrArg₂ codeAt (h8 _ b b' hb) ((pay21_at g a').trans (congrArg scaleAt (eg a')))))
  refine List.forall_mem_cons.mpr ⟨piece_ok (A := 448) (B := 6144) (e := .bf16) i7 _ (fun y : S448x6144.Idx => codeAt (x y) (scaleAt (G ⟨(y 0).val, (y 0).isLt⟩))) fun a b a' b' ha hb => ?_, ?_⟩
  · obtain rfl : a' = a := Fin.ext (by omega)
    exact (pay47_at (k0_pay21 g) v7 a' b).trans ((congrArg₂ codeAt (h7 _ b b' hb) ((pay21_at g a').trans (congrArg scaleAt (eg a')))))
  refine List.forall_mem_cons.mpr ⟨piece_ok (A := 448) (B := 6144) (e := .bf16) i6 _ (fun y : S448x6144.Idx => codeAt (x y) (scaleAt (G ⟨(y 0).val, (y 0).isLt⟩))) fun a b a' b' ha hb => ?_, ?_⟩
  · obtain rfl : a' = a := Fin.ext (by omega)
    exact (pay44_at (k0_pay21 g) v6 a' b).trans ((congrArg₂ codeAt (h6 _ b b' hb) ((pay21_at g a').trans (congrArg scaleAt (eg a')))))
  refine List.forall_mem_cons.mpr ⟨piece_ok (A := 448) (B := 6144) (e := .bf16) i5 _ (fun y : S448x6144.Idx => codeAt (x y) (scaleAt (G ⟨(y 0).val, (y 0).isLt⟩))) fun a b a' b' ha hb => ?_, ?_⟩
  · obtain rfl : a' = a := Fin.ext (by omega)
    exact (pay41_at (k0_pay21 g) v5 a' b).trans ((congrArg₂ codeAt (h5 _ b b' hb) ((pay21_at g a').trans (congrArg scaleAt (eg a')))))
  refine List.forall_mem_cons.mpr ⟨piece_ok (A := 448) (B := 6144) (e := .bf16) i4 _ (fun y : S448x6144.Idx => codeAt (x y) (scaleAt (G ⟨(y 0).val, (y 0).isLt⟩))) fun a b a' b' ha hb => ?_, ?_⟩
  · obtain rfl : a' = a := Fin.ext (by omega)
    exact (pay38_at (k0_pay21 g) v4 a' b).trans ((congrArg₂ codeAt (h4 _ b b' hb) ((pay21_at g a').trans (congrArg scaleAt (eg a')))))
  refine List.forall_mem_cons.mpr ⟨piece_ok (A := 448) (B := 6144) (e := .bf16) i3 _ (fun y : S448x6144.Idx => codeAt (x y) (scaleAt (G ⟨(y 0).val, (y 0).isLt⟩))) fun a b a' b' ha hb => ?_, ?_⟩
  · obtain rfl : a' = a := Fin.ext (by omega)
    exact (pay35_at (k0_pay21 g) v3 a' b).trans ((congrArg₂ codeAt (h3 _ b b' hb) ((pay21_at g a').trans (congrArg scaleAt (eg a')))))
  refine List.forall_mem_cons.mpr ⟨piece_ok (A := 448) (B := 6144) (e := .bf16) i2 _ (fun y : S448x6144.Idx => codeAt (x y) (scaleAt (G ⟨(y 0).val, (y 0).isLt⟩))) fun a b a' b' ha hb => ?_, ?_⟩
  · obtain rfl : a' = a := Fin.ext (by omega)
    exact (pay32_at (k0_pay21 g) v2 a' b).trans ((congrArg₂ codeAt (h2 _ b b' hb) ((pay21_at g a').trans (congrArg scaleAt (eg a')))))
  refine List.forall_mem_cons.mpr ⟨piece_ok (A := 448) (B := 6144) (e := .bf16) i1 _ (fun y : S448x6144.Idx => codeAt (x y) (scaleAt (G ⟨(y 0).val, (y 0).isLt⟩))) fun a b a' b' ha hb => ?_, ?_⟩
  · obtain rfl : a' = a := Fin.ext (by omega)
    exact (pay29_at (k0_pay21 g) v1 a' b).trans ((congrArg₂ codeAt (h1 _ b b' hb) ((pay21_at g a').trans (congrArg scaleAt (eg a')))))
  refine List.forall_mem_cons.mpr ⟨piece_ok (A := 448) (B := 6144) (e := .bf16) i0 _ (fun y : S448x6144.Idx => codeAt (x y) (scaleAt (G ⟨(y 0).val, (y 0).isLt⟩))) fun a b a' b' ha hb => ?_, ?_⟩
  · obtain rfl : a' = a := Fin.ext (by omega)
    exact (pay26_at g v0 a' b).trans ((congrArg₂ codeAt (h0 _ b b' hb) ((pay21_at g a').trans (congrArg scaleAt (eg a')))))
  exact fun _ h => absurd h List.not_mem_nil

/-- The codes of the block, as stored. -/
theorem q12 {g : Vec Ideal S448x128 .f32} {v0 v1 v2 v3 v4 v5 v6 v7 v8 v9 v10 v11 : Vec Ideal S448x512 .f32} {x : Vec Ideal S448x6144 .f32} {G : Fin 448 → Fin 128 → EReal}
    (hg : ∀ r l, g (ix2 r l) = G r l)
    (h0 : ∀ r (q : Fin 512) (c : Fin 6144), c.val = 0 + q.val → v0 (ix2 r q) = x (ix2 r c))
    (h1 : ∀ r (q : Fin 512) (c : Fin 6144), c.val = 512 + q.val → v1 (ix2 r q) = x (ix2 r c))
    (h2 : ∀ r (q : Fin 512) (c : Fin 6144), c.val = 1024 + q.val → v2 (ix2 r q) = x (ix2 r c))
    (h3 : ∀ r (q : Fin 512) (c : Fin 6144), c.val = 1536 + q.val → v3 (ix2 r q) = x (ix2 r c))
    (h4 : ∀ r (q : Fin 512) (c : Fin 6144), c.val = 2048 + q.val → v4 (ix2 r q) = x (ix2 r c))
    (h5 : ∀ r (q : Fin 512) (c : Fin 6144), c.val = 2560 + q.val → v5 (ix2 r q) = x (ix2 r c))
    (h6 : ∀ r (q : Fin 512) (c : Fin 6144), c.val = 3072 + q.val → v6 (ix2 r q) = x (ix2 r c))
    (h7 : ∀ r (q : Fin 512) (c : Fin 6144), c.val = 3584 + q.val → v7 (ix2 r q) = x (ix2 r c))
    (h8 : ∀ r (q : Fin 512) (c : Fin 6144), c.val = 4096 + q.val → v8 (ix2 r q) = x (ix2 r c))
    (h9 : ∀ r (q : Fin 512) (c : Fin 6144), c.val = 4608 + q.val → v9 (ix2 r q) = x (ix2 r c))
    (h10 : ∀ r (q : Fin 512) (c : Fin 6144), c.val = 5120 + q.val → v10 (ix2 r q) = x (ix2 r c))
    (h11 : ∀ r (q : Fin 512) (c : Fin 6144), c.val = 5632 + q.val → v11 (ix2 r q) = x (ix2 r c))
    (m : Memref sig .tc .vmem S448x6144 .i8) (f : m.view.ty.Contents (Elt Ideal)) (i0 i1 i2 i3 i4 i5 i6 i7 i8 i9 i10 i11) (r : Fin 448) (c : Fin 6144) :
    View.read (Elt Ideal) m.view (m.view.writes (Elt Ideal) f
      [⟨Rect.unit (s := S448x6144) ![0, 5632] S448x512.size i11, k0_pay8 (k0_pay59 (k0_pay21 g) v11) (Scalar.ofBits .f32 0x42FE0000#32) k0_pay60⟩,
       ⟨Rect.unit (s := S448x6144) ![0, 5120] S448x512.size i10, k0_pay58 (k0_pay21 g) v10⟩,
       ⟨Rect.unit (s := S448x6144) ![0, 4608] S448x512.size i9, k0_pay55 v9 (k0_pay52 (k0_pay21 g))⟩,
       ⟨Rect.unit (s := S448x6144) ![0, 4096] S448x512.size i8, k0_pay51 (k0_pay21 g) v8⟩,
       ⟨Rect.unit (s := S448x6144) ![0, 3584] S448x512.size i7, k0_pay48 (k0_pay21 g) v7⟩,
       ⟨Rect.unit (s := S448x6144) ![0, 3072] S448x512.size i6, k0_pay45 (k0_pay21 g) v6⟩,
       ⟨Rect.unit (s := S448x6144) ![0, 2560] S448x512.size i5, k0_pay42 (k0_pay21 g) v5⟩,
       ⟨Rect.unit (s := S448x6144) ![0, 2048] S448x512.size i4, k0_pay39 (k0_pay37 (k0_pay21 g) v4)⟩,
       ⟨Rect.unit (s := S448x6144) ![0, 1536] S448x512.size i3, k0_pay36 (k0_pay21 g) v3⟩,
       ⟨Rect.unit (s := S448x6144) ![0, 1024] S448x512.size i2, k0_pay33 (k0_pay31 (k0_pay21 g) v2)⟩,
       ⟨Rect.unit (s := S448x6144) ![0, 512] S448x512.size i1, k0_pay30 (k0_pay21 g) v1⟩,
       ⟨Rect.unit (s := S448x6144) ![0, 0] S448x512.size i0, k0_pay27 (k0_pay24 g v0)⟩]) (ix2 r c) = Ideal.fptosi 8 (codeAt (x (ix2 r c)) (scaleAt (G r))) := by
  refine (View.read_writes_apply_of_pieces m.view f (fun y : S448x6144.Idx => Ideal.fptosi 8 (codeAt (x y) (scaleAt (G ⟨(y 0).val, (y 0).isLt⟩)))) _ ?_ (ix2 r c) (View.cover_of_tiled (s := S448x6144) _ ![448, 512] rfl (ix2 r c))).trans rfl
  have eg : ∀ r, (fun l => g (ix2 r l)) = G r := fun r => funext (hg r)
  refine List.forall_mem_cons.mpr ⟨piece_ok (A := 448) (B := 6144) (e := .i8) i11 _ (fun y : S448x6144.Idx => Ideal.fptosi 8 (codeAt (x y) (scaleAt (G ⟨(y 0).val, (y 0).isLt⟩)))) fun a b a' b' ha hb => ?_, ?_⟩
  · obtain rfl : a' = a := Fin.ext (by omega)
    exact (pay8_at (k0_pay21 g) v11 a' b).trans (congrArg (Ideal.fptosi 8) (congrArg₂ codeAt (h11 _ b b' hb) ((pay21_at g a').trans (congrArg scaleAt (eg a')))))
  refine List.forall_mem_cons.mpr ⟨piece_ok (A := 448) (B := 6144) (e := .i8) i10 _ (fun y : S448x6144.Idx => Ideal.fptosi 8 (codeAt (x y) (scaleAt (G ⟨(y 0).val, (y 0).isLt⟩)))) fun a b a' b' ha hb => ?_, ?_⟩
  · obtain rfl : a' = a := Fin.ext (by omega)
    exact (pay58_at (k0_pay21 g) v10 a' b).trans (congrArg (Ideal.fptosi 8) (congrArg₂ codeAt (h10 _ b b' hb) ((pay21_at g a').trans (congrArg scaleAt (eg a')))))
  refine List.forall_mem_cons.mpr ⟨piece_ok (A := 448) (B := 6144) (e := .i8) i9 _ (fun y : S448x6144.Idx => Ideal.fptosi 8 (codeAt (x y) (scaleAt (G ⟨(y 0).val, (y 0).isLt⟩)))) fun a b a' b' ha hb => ?_, ?_⟩
  · obtain rfl : a' = a := Fin.ext (by omega)
    exact (pay55_at (k0_pay21 g) v9 a' b).trans (congrArg (Ideal.fptosi 8) (congrArg₂ codeAt (h9 _ b b' hb) ((pay21_at g a').trans (congrArg scaleAt (eg a')))))
  refine List.forall_mem_cons.mpr ⟨piece_ok (A := 448) (B := 6144) (e := .i8) i8 _ (fun y : S448x6144.Idx => Ideal.fptosi 8 (codeAt (x y) (scaleAt (G ⟨(y 0).val, (y 0).isLt⟩)))) fun a b a' b' ha hb => ?_, ?_⟩
  · obtain rfl : a' = a := Fin.ext (by omega)
    exact (pay51_at (k0_pay21 g) v8 a' b).trans (congrArg (Ideal.fptosi 8) (congrArg₂ codeAt (h8 _ b b' hb) ((pay21_at g a').trans (congrArg scaleAt (eg a')))))
  refine List.forall_mem_cons.mpr ⟨piece_ok (A := 448) (B := 6144) (e := .i8) i7 _ (fun y : S448x6144.Idx => Ideal.fptosi 8 (codeAt (x y) (scaleAt (G ⟨(y 0).val, (y 0).isLt⟩)))) fun a b a' b' ha hb => ?_, ?_⟩
  · obtain rfl : a' = a := Fin.ext (by omega)
    exact (pay48_at (k0_pay21 g) v7 a' b).trans (congrArg (Ideal.fptosi 8) (congrArg₂ codeAt (h7 _ b b' hb) ((pay21_at g a').trans (congrArg scaleAt (eg a')))))
  refine List.forall_mem_cons.mpr ⟨piece_ok (A := 448) (B := 6144) (e := .i8) i6 _ (fun y : S448x6144.Idx => Ideal.fptosi 8 (codeAt (x y) (scaleAt (G ⟨(y 0).val, (y 0).isLt⟩)))) fun a b a' b' ha hb => ?_, ?_⟩
  · obtain rfl : a' = a := Fin.ext (by omega)
    exact (pay45_at (k0_pay21 g) v6 a' b).trans (congrArg (Ideal.fptosi 8) (congrArg₂ codeAt (h6 _ b b' hb) ((pay21_at g a').trans (congrArg scaleAt (eg a')))))
  refine List.forall_mem_cons.mpr ⟨piece_ok (A := 448) (B := 6144) (e := .i8) i5 _ (fun y : S448x6144.Idx => Ideal.fptosi 8 (codeAt (x y) (scaleAt (G ⟨(y 0).val, (y 0).isLt⟩)))) fun a b a' b' ha hb => ?_, ?_⟩
  · obtain rfl : a' = a := Fin.ext (by omega)
    exact (pay42_at (k0_pay21 g) v5 a' b).trans (congrArg (Ideal.fptosi 8) (congrArg₂ codeAt (h5 _ b b' hb) ((pay21_at g a').trans (congrArg scaleAt (eg a')))))
  refine List.forall_mem_cons.mpr ⟨piece_ok (A := 448) (B := 6144) (e := .i8) i4 _ (fun y : S448x6144.Idx => Ideal.fptosi 8 (codeAt (x y) (scaleAt (G ⟨(y 0).val, (y 0).isLt⟩)))) fun a b a' b' ha hb => ?_, ?_⟩
  · obtain rfl : a' = a := Fin.ext (by omega)
    exact (pay39_at (k0_pay21 g) v4 a' b).trans (congrArg (Ideal.fptosi 8) (congrArg₂ codeAt (h4 _ b b' hb) ((pay21_at g a').trans (congrArg scaleAt (eg a')))))
  refine List.forall_mem_cons.mpr ⟨piece_ok (A := 448) (B := 6144) (e := .i8) i3 _ (fun y : S448x6144.Idx => Ideal.fptosi 8 (codeAt (x y) (scaleAt (G ⟨(y 0).val, (y 0).isLt⟩)))) fun a b a' b' ha hb => ?_, ?_⟩
  · obtain rfl : a' = a := Fin.ext (by omega)
    exact (pay36_at (k0_pay21 g) v3 a' b).trans (congrArg (Ideal.fptosi 8) (congrArg₂ codeAt (h3 _ b b' hb) ((pay21_at g a').trans (congrArg scaleAt (eg a')))))
  refine List.forall_mem_cons.mpr ⟨piece_ok (A := 448) (B := 6144) (e := .i8) i2 _ (fun y : S448x6144.Idx => Ideal.fptosi 8 (codeAt (x y) (scaleAt (G ⟨(y 0).val, (y 0).isLt⟩)))) fun a b a' b' ha hb => ?_, ?_⟩
  · obtain rfl : a' = a := Fin.ext (by omega)
    exact (pay33_at (k0_pay21 g) v2 a' b).trans (congrArg (Ideal.fptosi 8) (congrArg₂ codeAt (h2 _ b b' hb) ((pay21_at g a').trans (congrArg scaleAt (eg a')))))
  refine List.forall_mem_cons.mpr ⟨piece_ok (A := 448) (B := 6144) (e := .i8) i1 _ (fun y : S448x6144.Idx => Ideal.fptosi 8 (codeAt (x y) (scaleAt (G ⟨(y 0).val, (y 0).isLt⟩)))) fun a b a' b' ha hb => ?_, ?_⟩
  · obtain rfl : a' = a := Fin.ext (by omega)
    exact (pay30_at (k0_pay21 g) v1 a' b).trans (congrArg (Ideal.fptosi 8) (congrArg₂ codeAt (h1 _ b b' hb) ((pay21_at g a').trans (congrArg scaleAt (eg a')))))
  refine List.forall_mem_cons.mpr ⟨piece_ok (A := 448) (B := 6144) (e := .i8) i0 _ (fun y : S448x6144.Idx => Ideal.fptosi 8 (codeAt (x y) (scaleAt (G ⟨(y 0).val, (y 0).isLt⟩)))) fun a b a' b' ha hb => ?_, ?_⟩
  · obtain rfl : a' = a := Fin.ext (by omega)
    exact (pay27_at g v0 a' b).trans (congrArg (Ideal.fptosi 8) (congrArg₂ codeAt (h0 _ b b' hb) ((pay21_at g a').trans (congrArg scaleAt (eg a')))))
  exact fun _ h => absurd h List.not_mem_nil

end Cert.KernelIdeal.Hand

end
-- ==== Proof.MlpArr.lean ====
/-
  The blocks the feed-forward kernel reads at a grid point, as parts of the whole arrays.
-/
module

public import proofs.«01_k».proof.Proof.MlpStep2
public import proofs.«01_k».proof.Proof.Gen.KernelIdeal.Frame
public import Idealize.ShloMosaic.Lib.Pipeline.ValueKit

@[expose] public section

set_option maxRecDepth 16384

noncomputable section

namespace Cert.KernelIdeal.Hand

open Cert.KernelIdeal Cert.KernelIdeal.Gen Cert.Mlp
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pointwise
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ)

/-! ## Where each window stands at a grid point -/

theorem at0 : ∀ t : Fin cfg0.N, win0_0.index t = ![t.val / 12, 0] := by decide +kernel
theorem at1 : ∀ t : Fin cfg0.N, win0_1.index t = ![t.val / 12, 0] := by decide +kernel
theorem at2 : ∀ t : Fin cfg0.N, win0_2.index t = ![t.val / 12, t.val % 12 - 6] := by decide +kernel
theorem at3 : ∀ t : Fin cfg0.N, win0_3.index t = ![0, min (t.val % 12) 5] := by decide +kernel
theorem at4 : ∀ t : Fin cfg0.N, win0_4.index t = ![0, min (t.val % 12) 5] := by decide +kernel
theorem at5 : ∀ t : Fin cfg0.N, win0_5.index t = ![0, min (t.val % 12) 5] := by decide +kernel
theorem at6 : ∀ t : Fin cfg0.N, win0_6.index t = ![0, t.val % 12 - 6] := by decide +kernel
theorem at7 : ∀ t : Fin cfg0.N, win0_7.index t = ![0, t.val % 12 - 6] := by decide +kernel
theorem at8 : ∀ t : Fin cfg0.N, win0_8.index t = ![0, t.val % 12 - 6] := by decide +kernel
theorem at9 : ∀ t : Fin cfg0.N, win0_9.index t = ![t.val / 12, t.val % 12 - 6] := by decide +kernel
theorem at10 : ∀ t : Fin cfg0.N, win0_10.index t = ![t.val / 12, 0] := by decide +kernel
theorem at11 : ∀ t : Fin cfg0.N, win0_11.index t = ![0, 0] := by decide +kernel

/-! ## The blocks, read off the arrays -/

theorem blk0 (c : Dev nD) (t : Fin cfg0.N) (x : Fin 448) (y : Fin 3072) (X : Fin 1792) (Y : Fin 3072) (hX : X.val = 448 * (t.val / 12) + x.val) (hY : Y.val = y.val) :
    iblk m c 0 t (ix2 x y) = V m c main_arg0 (ix2 X Y) := by
  unfold iblk
  refine congrArg (V m c main_arg0) (funext fun a => Fin.ext ?_)
  match a with
  | ⟨0, _⟩ => blk_simp [at0]; omega
  | ⟨1, _⟩ => blk_simp [at0]; omega
theorem blk1 (c : Dev nD) (t : Fin cfg0.N) (x : Fin 448) (y : Fin 128) (X : Fin 1792) (Y : Fin 128) (hX : X.val = 448 * (t.val / 12) + x.val) (hY : Y.val = y.val) :
    iblk m c 1 t (ix2 x y) = V m c main_arg1 (ix2 X Y) := by
  unfold iblk
  refine congrArg (V m c main_arg1) (funext fun a => Fin.ext ?_)
  match a with
  | ⟨0, _⟩ => blk_simp [at1]; omega
  | ⟨1, _⟩ => blk_simp [at1]; omega
theorem blk2 (c : Dev nD) (t : Fin cfg0.N) (x : Fin 448) (y : Fin 512) (X : Fin 1792) (Y : Fin 3072) (hX : X.val = 448 * (t.val / 12) + x.val) (hY : Y.val = 512 * (t.val % 12 - 6) + y.val) :
    iblk m c 2 t (ix2 x y) = V m c main_arg2 (ix2 X Y) := by
  unfold iblk
  refine congrArg (V m c main_arg2) (funext fun a => Fin.ext ?_)
  match a with
  | ⟨0, _⟩ => blk_simp [at2]; omega
  | ⟨1, _⟩ => blk_simp [at2]; omega
theorem blk3 (c : Dev nD) (t : Fin cfg0.N) (x : Fin 3072) (y : Fin 1024) (X : Fin 3072) (Y : Fin 6144) (hX : X.val = x.val) (hY : Y.val = 1024 * (min (t.val % 12) 5) + y.val) :
    iblk m c 3 t (ix2 x y) = V m c main_arg3 (ix2 X Y) := by
  unfold iblk
  refine congrArg (V m c main_arg3) (funext fun a => Fin.ext ?_)
  match a with
  | ⟨0, _⟩ => blk_simp [at3]; omega
  | ⟨1, _⟩ => blk_simp [at3]; omega
theorem blk4 (c : Dev nD) (t : Fin cfg0.N) (x : Fin 1) (y : Fin 1024) (X : Fin 1) (Y : Fin 6144) (hX : X.val = x.val) (hY : Y.val = 1024 * (min (t.val % 12) 5) + y.val) :
    iblk m c 4 t (ix2 x y) = V m c main_v0 (ix2 X Y) := by
  unfold iblk
  refine congrArg (V m c main_v0) (funext fun a => Fin.ext ?_)
  match a with
  | ⟨0, _⟩ => blk_simp [at4]
  | ⟨1, _⟩ => blk_simp [at4]; omega
theorem blk5 (c : Dev nD) (t : Fin cfg0.N) (x : Fin 1) (y : Fin 1024) (X : Fin 1) (Y : Fin 6144) (hX : X.val = x.val) (hY : Y.val = 1024 * (min (t.val % 12) 5) + y.val) :
    iblk m c 5 t (ix2 x y) = V m c main_v1 (ix2 X Y) := by
  unfold iblk
  refine congrArg (V m c main_v1) (funext fun a => Fin.ext ?_)
  match a with
  | ⟨0, _⟩ => blk_simp [at5]
  | ⟨1, _⟩ => blk_simp [at5]; omega
theorem blk6 (c : Dev nD) (t : Fin cfg0.N) (x : Fin 6144) (y : Fin 512) (X : Fin 6144) (Y : Fin 3072) (hX : X.val = x.val) (hY : Y.val = 512 * (t.val % 12 - 6) + y.val) :
    iblk m c 6 t (ix2 x y) = V m c main_arg6 (ix2 X Y) := by
  unfold iblk
  refine congrArg (V m c main_arg6) (funext fun a => Fin.ext ?_)
  match a with
  | ⟨0, _⟩ => blk_simp [at6]; omega
  | ⟨1, _⟩ => blk_simp [at6]; omega
theorem blk7 (c : Dev nD) (t : Fin cfg0.N) (x : Fin 1) (y : Fin 512) (X : Fin 1) (Y : Fin 3072) (hX : X.val = x.val) (hY : Y.val = 512 * (t.val % 12 - 6) + y.val) :
    iblk m c 7 t (ix2 x y) = V m c main_v2 (ix2 X Y) := by
  unfold iblk
  refine congrArg (V m c main_v2) (funext fun a => Fin.ext ?_)
  match a with
  | ⟨0, _⟩ => blk_simp [at7]
  | ⟨1, _⟩ => blk_simp [at7]; omega
theorem blk8 (c : Dev nD) (t : Fin cfg0.N) (x : Fin 1) (y : Fin 512) (X : Fin 1) (Y : Fin 3072) (hX : X.val = x.val) (hY : Y.val = 512 * (t.val % 12 - 6) + y.val) :
    iblk m c 8 t (ix2 x y) = V m c main_v3 (ix2 X Y) := by
  unfold iblk
  refine congrArg (V m c main_v3) (funext fun a => Fin.ext ?_)
  match a with
  | ⟨0, _⟩ => blk_simp [at8]
  | ⟨1, _⟩ => blk_simp [at8]; omega
end Cert.KernelIdeal.Hand

end
-- ==== Proof.MlpVal.lean ====
/-
  What the feed-forward call computes, entry by entry over the whole arrays; the state of its buffers between grid points;
  and that each kind of grid point carries that state on.
-/
module

public import proofs.«01_k».proof.Proof.MlpStep2

@[expose] public section

set_option maxRecDepth 16384

noncomputable section

namespace Cert.KernelIdeal.Hand

open Cert.KernelIdeal Cert.KernelIdeal.Gen Cert.Mlp
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pointwise
open Idealize.ShloMosaic.Pipeline (Dat Cfg Window BodyObligation cellOf)

local notation "𝕄" => MT nD τ sig Unit (Elt Ideal) ℕ (UR sig nD τ) ℕ

/-! ## What the call computes, entry by entry over the whole arrays -/

/-- The call's nine operands. -/
structure Ins where
  a0 : Vec Ideal S1792x3072 .i8
  a1 : Vec Ideal S1792x128 .f32
  a2 : Vec Ideal S1792x3072 .f32
  a3 : Vec Ideal S3072x6144 .i8
  a4 : Vec Ideal S1x6144 .f32
  a5 : Vec Ideal S1x6144 .f32
  a6 : Vec Ideal S6144x3072 .i8
  a7 : Vec Ideal S1x3072 .f32
  a8 : Vec Ideal S1x3072 .f32

variable (I : Ins)

/-- The first layer after gelu. -/
def Ins.f (R : Fin 1792) (C : Fin 6144) : EReal :=
  fcAt (fun k => toE (I.a0 (ix2 R k))) (fun k => I.a3 (ix2 k C)) (I.a1 (ix2 R 0)) (I.a4 (ix2 0 C)) (I.a5 (ix2 0 C))
/-- The scale of a row of it. -/
def Ins.s (R : Fin 1792) : EReal := qscale (Finset.univ.fold max (Ideal.ofBits .f32 0xFF800000#32) fun C => mag (I.f R C))
/-- Its codes. -/
def Ins.cd (R : Fin 1792) (C : Fin 6144) : EReal := codeAt (I.f R C) (I.s R)
/-- The second layer with the residual added. -/
def Ins.o (R : Fin 1792) (C : Fin 3072) : EReal :=
  prAt (I.cd R) (fun k => I.a6 (ix2 k C)) (I.s R) (I.a7 (ix2 0 C)) (I.a8 (ix2 0 C)) (I.a2 (ix2 R C))

/-! ## The state of the buffers between grid points -/

/-- The scratch buffers before point `n` (`n / 12` the row block, `n % 12` the step). -/
structure Inv (n : ℕ) (x12 : Vec Ideal S448x3072 .bf16) (x13 : Vec Ideal S448x6144 .f32) (x14 : Vec Ideal S448x6144 .bf16) (x15 : Vec Ideal S448x128 .f32) : Prop where
  lhs : 0 < n % 12 → ∀ (r : Fin 448) (R : Fin 1792), R.val = 448 * (n / 12) + r.val → ∀ k, x12 (ix2 r k) = toE (I.a0 (ix2 R k))
  fc : ∀ (r : Fin 448) (R : Fin 1792), R.val = 448 * (n / 12) + r.val → ∀ C : Fin 6144, C.val < 1024 * (n % 12) → x13 (ix2 r C) = I.f R C
  mx : 0 < n % 12 → n % 12 ≤ 6 → ∀ (r : Fin 448) (R : Fin 1792), R.val = 448 * (n / 12) + r.val → ∀ (l : Fin 128) (y : EReal),
    x15 (ix2 r l) ≤ y ↔ 0 ≤ y ∧ ∀ C : Fin 6144, C.val < 1024 * (n % 12) → C.val % 128 = l.val → mag (I.f R C) ≤ y
  sc : 6 < n % 12 → ∀ (r : Fin 448) (R : Fin 1792), R.val = 448 * (n / 12) + r.val → (∀ l, x15 (ix2 r l) = I.s R) ∧ ∀ C, x14 (ix2 r C) = I.cd R C

/-- Nothing is asked of the scratch buffers at the first step of a row block. -/
theorem Inv.start {n : ℕ} (h : n % 12 = 0) (x12 x13 x14 x15) : Inv I n x12 x13 x14 x15 :=
  ⟨fun h' => by omega, fun _ _ _ C hC => by omega, fun h' => by omega, fun h' => by omega⟩

/-- The blocks of the operands at point `n`. -/
structure Blk (n : ℕ) (x0 : Vec Ideal S448x3072 .i8) (x1 : Vec Ideal S448x128 .f32) (x2 : Vec Ideal S448x512 .f32) (x3 : Vec Ideal S3072x1024 .i8) (x4 x5 : Vec Ideal S1x1024 .f32)
    (x6 : Vec Ideal S6144x512 .i8) (x7 x8 : Vec Ideal S1x512 .f32) : Prop where
  b0 : ∀ (r : Fin 448) (R : Fin 1792), R.val = 448 * (n / 12) + r.val → ∀ k, x0 (ix2 r k) = I.a0 (ix2 R k)
  b1 : ∀ (r : Fin 448) (R : Fin 1792), R.val = 448 * (n / 12) + r.val → ∀ k, x1 (ix2 r k) = I.a1 (ix2 R k)
  b2 : ∀ (r : Fin 448) (R : Fin 1792), R.val = 448 * (n / 12) + r.val → ∀ (q : Fin 512) (C : Fin 3072), C.val = 512 * (n % 12 - 6) + q.val → x2 (ix2 r q) = I.a2 (ix2 R C)
  b3 : ∀ (q : Fin 1024) (C : Fin 6144), C.val = 1024 * min (n % 12) 5 + q.val → ∀ k, x3 (ix2 k q) = I.a3 (ix2 k C)
  b4 : ∀ (q : Fin 1024) (C : Fin 6144), C.val = 1024 * min (n % 12) 5 + q.val → x4 (ix2 0 q) = I.a4 (ix2 0 C)
  b5 : ∀ (q : Fin 1024) (C : Fin 6144), C.val = 1024 * min (n % 12) 5 + q.val → x5 (ix2 0 q) = I.a5 (ix2 0 C)
  b6 : ∀ (q : Fin 512) (C : Fin 3072), C.val = 512 * (n % 12 - 6) + q.val → ∀ k, x6 (ix2 k q) = I.a6 (ix2 k C)
  b7 : ∀ (q : Fin 512) (C : Fin 3072), C.val = 512 * (n % 12 - 6) + q.val → x7 (ix2 0 q) = I.a7 (ix2 0 C)
  b8 : ∀ (q : Fin 512) (C : Fin 3072), C.val = 512 * (n % 12 - 6) + q.val → x8 (ix2 0 q) = I.a8 (ix2 0 C)

/-- The block of the second layer that point `n` leaves. -/
def Res (n : ℕ) (d : Vec Ideal S448x512 .bf16) : Prop := 6 ≤ n % 12 → ∀ (r : Fin 448) (R : Fin 1792), R.val = 448 * (n / 12) + r.val →
  ∀ (q : Fin 512) (C : Fin 3072), C.val = 512 * (n % 12 - 6) + q.val → d (ix2 r q) = I.o R C
/-- The block of codes it leaves. -/
def Cod (n : ℕ) (d : Vec Ideal S448x6144 .i8) : Prop := 6 ≤ n % 12 → ∀ (r : Fin 448) (R : Fin 1792), R.val = 448 * (n / 12) + r.val →
  ∀ C, d (ix2 r C) = Ideal.fptosi 8 (I.cd R C)
/-- The scales stored once it has run: those of the row blocks quantised so far. -/
def Sca (n : ℕ) (d : Vec Ideal S2x896 .f32) : Prop := ∀ (a : Fin 2) (b : Fin 896) (R : Fin 1792), R.val = 896 * a.val + b.val →
  R.val < 448 * ((n + 6) / 12) → d (ix2 a b) = I.s R

variable {I}
variable {n : ℕ} {x0 : Vec Ideal S448x3072 .i8} {x1 : Vec Ideal S448x128 .f32} {x2 : Vec Ideal S448x512 .f32} {x3 : Vec Ideal S3072x1024 .i8} {x4 x5 : Vec Ideal S1x1024 .f32}
    {x6 : Vec Ideal S6144x512 .i8} {x7 x8 : Vec Ideal S1x512 .f32}
    {x12 : Vec Ideal S448x3072 .bf16} {x13 : Vec Ideal S448x6144 .f32} {x14 : Vec Ideal S448x6144 .bf16} {x15 : Vec Ideal S448x128 .f32}

theorem mod12 (h : n % 12 < 11) : (n + 1) % 12 = n % 12 + 1 := by omega
theorem div12 (h : n % 12 < 11) : (n + 1) / 12 = n / 12 := by omega

/-- A tile of the first layer is the layer at the tile's columns. -/
theorem tile_eq (B : Blk I n x0 x1 x2 x3 x4 x5 x6 x7 x8) (hn : n % 12 < 6) {L : Vec Ideal S448x3072 .bf16} {r : Fin 448} {R : Fin 1792} (hR : R.val = 448 * (n / 12) + r.val)
    (hL : ∀ k, L (ix2 r k) = toE (I.a0 (ix2 R k))) (q : Fin 1024) (C : Fin 6144) (hC : C.val = 1024 * (n % 12) + q.val) :
    fcT L x1 x3 x4 x5 r q = I.f R C := by
  have hC' : C.val = 1024 * min (n % 12) 5 + q.val := by omega
  unfold fcT Ins.f
  rw [B.b1 r R hR, B.b4 q C hC', B.b5 q C hC', funext hL, funext (B.b3 q C hC')]

/-- A step of the first phase. -/
theorem step_fc (B : Blk I n x0 x1 x2 x3 x4 x5 x6 x7 x8) (hn : n % 12 < 6) {L : Vec Ideal S448x3072 .bf16} {G : Fin 448 → Fin 128 → EReal}
    {d12 : Vec Ideal S448x3072 .bf16} {d13 : Vec Ideal S448x6144 .f32} {d15 : Vec Ideal S448x128 .f32}
    (hL : ∀ (r : Fin 448) (R : Fin 1792), R.val = 448 * (n / 12) + r.val → ∀ k, L (ix2 r k) = toE (I.a0 (ix2 R k)))
    (hd : ∀ (r : Fin 448) (R : Fin 1792), R.val = 448 * (n / 12) + r.val → ∀ k, d12 (ix2 r k) = toE (I.a0 (ix2 R k)))
    (hF : ∀ (r : Fin 448) (R : Fin 1792), R.val = 448 * (n / 12) + r.val → ∀ C : Fin 6144, C.val < 1024 * (n % 12) → x13 (ix2 r C) = I.f R C)
    (hG : ∀ (r : Fin 448) (R : Fin 1792), R.val = 448 * (n / 12) + r.val → ∀ (l : Fin 128) (y : EReal),
      G r l ≤ y ↔ 0 ≤ y ∧ ∀ C : Fin 6144, C.val < 1024 * (n % 12) → C.val % 128 = l.val → mag (I.f R C) ≤ y)
    (h13 : FOut (n % 12) L x1 x3 x4 x5 x13 d13) (h15 : GOut L x1 x3 x4 x5 G d15) : Inv I (n + 1) d12 d13 x14 d15 := by
  refine ⟨fun _ r R hR k => hd r R (by omega) k, fun r R hR C hC => ?_, fun _ _ r R hR l y => ?_, fun h => by omega⟩
  · have hR' : R.val = 448 * (n / 12) + r.val := by omega
    by_cases h : C.val < 1024 * (n % 12)
    · rw [(h13 r C).2 (.inl h), hF r R hR' C h]
    · have e : C.val = 1024 * (n % 12) + (⟨C.val - 1024 * (n % 12), by omega⟩ : Fin 1024).val := by simp only []; omega
      rw [(h13 r C).1 _ e, tile_eq B hn hR' (hL r R hR') _ C e]
  · have hR' : R.val = 448 * (n / 12) + r.val := by omega
    rw [h15 r l y, hG r R hR' l y, mod12 (by omega), and_assoc]
    refine and_congr_right fun _ => ⟨fun ⟨h1, h2⟩ C hC hl => ?_, fun h => ⟨fun C hC hl => h C (by omega) hl, fun q hq => ?_⟩⟩
    · by_cases h : C.val < 1024 * (n % 12)
      · exact h1 C h hl
      · have e : C.val = 1024 * (n % 12) + (⟨C.val - 1024 * (n % 12), by omega⟩ : Fin 1024).val := by simp only []; omega
        rw [← tile_eq B hn hR' (hL r R hR') _ C e]
        exact h2 _ (by simp only []; omega)
    · have hq' := q.isLt
      have e : (⟨1024 * (n % 12) + q.val, by omega⟩ : Fin 6144).val = 1024 * (n % 12) + q.val := rfl
      rw [tile_eq B hn hR' (hL r R hR') q _ e]
      exact h _ (by simp only []; omega) (by simp only []; omega)

/-- The largest of the lanes' largest magnitudes is the row's. -/
theorem scale_eq {R : Fin 1792} {g : Fin 128 → EReal}
    (hg : ∀ (l : Fin 128) (y : EReal), g l ≤ y ↔ 0 ≤ y ∧ ∀ C : Fin 6144, C.val < 6144 → C.val % 128 = l.val → mag (I.f R C) ≤ y) : scaleAt g = I.s R := by
  unfold scaleAt Ins.s
  refine congrArg qscale (eq_of_forall_ge_iff fun y => ?_)
  rw [Finset.fold_max_le, Finset.fold_max_le]
  refine and_congr_right fun _ => ⟨fun h C _ => ?_, fun h l _ => ?_⟩
  · exact ((hg ⟨C.val % 128, Nat.mod_lt _ (by omega)⟩ y).mp (h _ (Finset.mem_univ _))).2 C C.isLt rfl
  · exact (hg l y).mpr ⟨(mag_nonneg _).trans (h ⟨0, by omega⟩ (Finset.mem_univ _)), fun C _ _ => h C (Finset.mem_univ _)⟩

/-- The scale the quantising step computes of a row. -/
theorem Inv.scale (V : Inv I n x12 x13 x14 x15) (hn : n % 12 = 6) {r : Fin 448} {R : Fin 1792} (hR : R.val = 448 * (n / 12) + r.val) :
    scaleAt (fun l => x15 (ix2 r l)) = I.s R :=
  scale_eq fun l y => by
    have := V.mx (by omega) (by omega) r R hR l y
    rwa [hn] at this

/-- An output block of the second phase, from its operand's codes and scales. -/
theorem step_res (B : Blk I n x0 x1 x2 x3 x4 x5 x6 x7 x8) {A : Fin 448 → Fin 6144 → EReal} {S : Fin 448 → EReal} {d : Vec Ideal S448x512 .bf16}
    (hA : ∀ (r : Fin 448) (R : Fin 1792), R.val = 448 * (n / 12) + r.val → ∀ C, A r C = I.cd R C)
    (hS : ∀ (r : Fin 448) (R : Fin 1792), R.val = 448 * (n / 12) + r.val → S r = I.s R)
    (h : POut A S x2 x6 x7 x8 d) : Res I n d := by
  intro hn r R hR q C hC
  rw [h r q, Ins.o, B.b2 r R hR q C hC, B.b7 q C hC, B.b8 q C hC, hS r R hR, funext (hA r R hR), funext (B.b6 q C hC)]

/-- The quantising step. -/
theorem step_quant (V : Inv I n x12 x13 x14 x15) (B : Blk I n x0 x1 x2 x3 x4 x5 x6 x7 x8) (hn : n % 12 = 6)
    {x11 d11 : Vec Ideal S2x896 .f32} {d9 : Vec Ideal S448x512 .bf16} {d10 : Vec Ideal S448x6144 .i8} {d14 : Vec Ideal S448x6144 .bf16} {d15 : Vec Ideal S448x128 .f32}
    (h9 : POut (fun r k => codeAt (x13 (ix2 r k)) (scaleAt (fun l => x15 (ix2 r l)))) (fun r => scaleAt (fun l => x15 (ix2 r l))) x2 x6 x7 x8 d9)
    (h10 : QOut (fun r => scaleAt (fun l => x15 (ix2 r l))) x13 d10) (h11 : RowOut (n / 12) (fun r => scaleAt (fun l => x15 (ix2 r l))) x11 d11)
    (h14 : AOut (fun r => scaleAt (fun l => x15 (ix2 r l))) x13 d14) (h15 : SOut (fun r => scaleAt (fun l => x15 (ix2 r l))) d15)
    (hS : 0 < n → Sca I (n - 1) x11) :
    Inv I (n + 1) x12 x13 d14 d15 ∧ Res I n d9 ∧ Cod I n d10 ∧ Sca I n d11 := by
  have hf : ∀ (r : Fin 448) (R : Fin 1792), R.val = 448 * (n / 12) + r.val → ∀ C : Fin 6144, x13 (ix2 r C) = I.f R C :=
    fun r R hR C => V.fc r R hR C (by have := C.isLt; omega)
  have hc : ∀ (r : Fin 448) (R : Fin 1792), R.val = 448 * (n / 12) + r.val → ∀ C : Fin 6144,
      codeAt (x13 (ix2 r C)) (scaleAt (fun l => x15 (ix2 r l))) = I.cd R C :=
    fun r R hR C => by rw [hf r R hR, V.scale hn hR]; rfl
  refine ⟨⟨fun _ r R hR k => V.lhs (by omega) r R (by omega) k, fun r R hR C _ => hf r R (by omega) C, fun _ h => by omega,
    fun _ r R hR => ⟨fun l => (h15 r l).trans (V.scale hn (by omega)), fun C => (h14 r C).trans (hc r R (by omega) C)⟩⟩,
    step_res B hc (fun r R hR => V.scale hn hR) h9, fun _ r R hR C => (h10 r C).trans (congrArg (Ideal.fptosi 8) (hc r R hR C)), fun a b R hR hlt => ?_⟩
  by_cases h : R.val < 448 * (n / 12)
  · rw [(h11 a b).2 (by omega)]
    exact hS (by omega) a b R hR (by omega)
  · rw [(h11 a b).1 ⟨R.val - 448 * (n / 12), by omega⟩ (by simp only []; omega)]
    exact V.scale hn (by simp only []; omega)

/-- A later step of the second phase. -/
theorem step_out (V : Inv I n x12 x13 x14 x15) (B : Blk I n x0 x1 x2 x3 x4 x5 x6 x7 x8) (hn : 6 < n % 12)
    {x10 : Vec Ideal S448x6144 .i8} {x11 : Vec Ideal S2x896 .f32} {d9 : Vec Ideal S448x512 .bf16}
    (h9 : POut (fun r k => x14 (ix2 r k)) (fun r => x15 (ix2 r 0)) x2 x6 x7 x8 d9)
    (hC : Cod I (n - 1) x10) (hS : Sca I (n - 1) x11) :
    Inv I (n + 1) x12 x13 x14 x15 ∧ Res I n d9 ∧ Cod I n x10 ∧ Sca I n x11 := by
  refine ⟨?_, step_res B (fun r R hR => (V.sc hn r R hR).2) (fun r R hR => (V.sc hn r R hR).1 0) h9, fun _ r R hR C => hC (by omega) r R (by omega) C,
    fun a b R hR hlt => hS a b R hR (by omega)⟩
  by_cases h : n % 12 = 11
  · exact Inv.start I (by omega) _ _ _ _
  · exact ⟨fun _ r R hR k => V.lhs (by omega) r R (by omega) k, fun r R hR C _ => V.fc r R (by omega) C (by have := C.isLt; omega), fun _ h => by omega,
      fun _ r R hR => V.sc hn r R (by omega)⟩

end Cert.KernelIdeal.Hand

end
-- ==== Proof.MlpPoints.lean ====
/-
  Which branch of the feed-forward kernel a grid point takes.
-/
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameBody
public import Idealize.ShloMosaic.Lib.Tactic
public import Idealize.ShloMosaic.Lib.WordCmp
public import Idealize.ShloMosaic.Lib.Claim
public import Idealize.ShloMosaic.Lib.Writes
public import proofs.«01_k».proof.Proof.MlpStep2

@[expose] public section

set_option maxRecDepth 16384

noncomputable section

namespace Cert.KernelIdeal.Hand

open Cert.KernelIdeal Cert.KernelIdeal.Gen Cert.Mlp
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pointwise
open Idealize.ShloMosaic.Pipeline (Dat Cfg Window BodyObligation cellOf)

local notation "𝕄" => MT nD τ sig Unit (Elt Ideal) ℕ (UR sig nD τ) ℕ

/-- The condition of the body's conditional 0, from the grid coordinates. -/
abbrev cond0_0 (i : grid0.Coords) : Prop := Scalar.cmpi .ne (Scalar.extui (Scalar.cmpi .eq (BitVec.ofNat 32 (i 1).val) 0#32) : BitVec 32) 0#32 = 1#1
theorem hcond0_0 : ∀ t : Fin cfg0.N, cond0_0 (grid0.coords t) ↔ t.val % 12 = 0 :=
  (fun t => by
    have ht : t.val < 48 := Nat.lt_of_lt_of_eq t.isLt N_0
    have e1 : (grid0.coords t 1).val = t.val / 1 % 12 := Pipeline.Grid.coords_val t 1 (by decide) rfl
    have e0 : (grid0.coords t 0).val = t.val / 12 % 4 := Pipeline.Grid.coords_val t 0 (by decide) rfl
    simp only [cond0_0, e0, e1]
    word_cmp
   : ∀ t : Fin grid0.N, cond0_0 (grid0.coords t) ↔ t.val % 12 = 0)
/-- The condition of the body's conditional 1, from the grid coordinates. -/
abbrev cond0_1 (i : grid0.Coords) : Prop := k0_cond2 i = 1#1
theorem hcond0_1 : ∀ t : Fin cfg0.N, cond0_1 (grid0.coords t) ↔ t.val % 12 < 6 :=
  (fun t => by
    have ht : t.val < 48 := Nat.lt_of_lt_of_eq t.isLt N_0
    have e1 : (grid0.coords t 1).val = t.val / 1 % 12 := Pipeline.Grid.coords_val t 1 (by decide) rfl
    have e0 : (grid0.coords t 0).val = t.val / 12 % 4 := Pipeline.Grid.coords_val t 0 (by decide) rfl
    simp only [cond0_1, k0_cond2, e0, e1]
    word_cmp
   : ∀ t : Fin grid0.N, cond0_1 (grid0.coords t) ↔ t.val % 12 < 6)
/-- The condition of the body's conditional 2, from the grid coordinates. -/
abbrev cond0_2 (i : grid0.Coords) : Prop := k0_cond3 i = 1#1
theorem hcond0_2 : ∀ t : Fin cfg0.N, cond0_2 (grid0.coords t) ↔ t.val % 12 = 6 :=
  (fun t => by
    have ht : t.val < 48 := Nat.lt_of_lt_of_eq t.isLt N_0
    have e1 : (grid0.coords t 1).val = t.val / 1 % 12 := Pipeline.Grid.coords_val t 1 (by decide) rfl
    have e0 : (grid0.coords t 0).val = t.val / 12 % 4 := Pipeline.Grid.coords_val t 0 (by decide) rfl
    simp only [cond0_2, k0_cond3, e0, e1]
    word_cmp
   : ∀ t : Fin grid0.N, cond0_2 (grid0.coords t) ↔ t.val % 12 = 6)
/-- The condition of the body's conditional 3, from the grid coordinates. -/
abbrev cond0_3 (i : grid0.Coords) : Prop := k0_cond4 i = 1#1
theorem hcond0_3 : ∀ t : Fin cfg0.N, cond0_3 (grid0.coords t) ↔ t.val / 12 = 0 :=
  (fun t => by
    have ht : t.val < 48 := Nat.lt_of_lt_of_eq t.isLt N_0
    have e1 : (grid0.coords t 1).val = t.val / 1 % 12 := Pipeline.Grid.coords_val t 1 (by decide) rfl
    have e0 : (grid0.coords t 0).val = t.val / 12 % 4 := Pipeline.Grid.coords_val t 0 (by decide) rfl
    simp only [cond0_3, k0_cond4, e0, e1]
    word_cmp
   : ∀ t : Fin grid0.N, cond0_3 (grid0.coords t) ↔ t.val / 12 = 0)
/-- The condition of the body's conditional 4, from the grid coordinates. -/
abbrev cond0_4 (i : grid0.Coords) : Prop := k0_cond5 i = 1#1
theorem hcond0_4 : ∀ t : Fin cfg0.N, cond0_4 (grid0.coords t) ↔ t.val / 12 = 1 :=
  (fun t => by
    have ht : t.val < 48 := Nat.lt_of_lt_of_eq t.isLt N_0
    have e1 : (grid0.coords t 1).val = t.val / 1 % 12 := Pipeline.Grid.coords_val t 1 (by decide) rfl
    have e0 : (grid0.coords t 0).val = t.val / 12 % 4 := Pipeline.Grid.coords_val t 0 (by decide) rfl
    simp only [cond0_4, k0_cond5, e0, e1]
    word_cmp
   : ∀ t : Fin grid0.N, cond0_4 (grid0.coords t) ↔ t.val / 12 = 1)
/-- The condition of the body's conditional 5, from the grid coordinates. -/
abbrev cond0_5 (i : grid0.Coords) : Prop := k0_cond6 i = 1#1
theorem hcond0_5 : ∀ t : Fin cfg0.N, cond0_5 (grid0.coords t) ↔ t.val / 12 = 2 :=
  (fun t => by
    have ht : t.val < 48 := Nat.lt_of_lt_of_eq t.isLt N_0
    have e1 : (grid0.coords t 1).val = t.val / 1 % 12 := Pipeline.Grid.coords_val t 1 (by decide) rfl
    have e0 : (grid0.coords t 0).val = t.val / 12 % 4 := Pipeline.Grid.coords_val t 0 (by decide) rfl
    simp only [cond0_5, k0_cond6, e0, e1]
    word_cmp
   : ∀ t : Fin grid0.N, cond0_5 (grid0.coords t) ↔ t.val / 12 = 2)
/-- The condition of the body's conditional 6, from the grid coordinates. -/
abbrev cond0_6 (i : grid0.Coords) : Prop := k0_cond7 i = 1#1
theorem hcond0_6 : ∀ t : Fin cfg0.N, cond0_6 (grid0.coords t) ↔ t.val / 12 = 3 :=
  (fun t => by
    have ht : t.val < 48 := Nat.lt_of_lt_of_eq t.isLt N_0
    have e1 : (grid0.coords t 1).val = t.val / 1 % 12 := Pipeline.Grid.coords_val t 1 (by decide) rfl
    have e0 : (grid0.coords t 0).val = t.val / 12 % 4 := Pipeline.Grid.coords_val t 0 (by decide) rfl
    simp only [cond0_6, k0_cond7, e0, e1]
    word_cmp
   : ∀ t : Fin grid0.N, cond0_6 (grid0.coords t) ↔ t.val / 12 = 3)
/-- The condition of the body's conditional 7, from the grid coordinates. -/
abbrev cond0_7 (i : grid0.Coords) : Prop := k0_cond8 i = 1#1
theorem hcond0_7 : ∀ t : Fin cfg0.N, cond0_7 (grid0.coords t) ↔ 6 ≤ t.val % 12 :=
  (fun t => by
    have ht : t.val < 48 := Nat.lt_of_lt_of_eq t.isLt N_0
    have e1 : (grid0.coords t 1).val = t.val / 1 % 12 := Pipeline.Grid.coords_val t 1 (by decide) rfl
    have e0 : (grid0.coords t 0).val = t.val / 12 % 4 := Pipeline.Grid.coords_val t 0 (by decide) rfl
    simp only [cond0_7, k0_cond8, e0, e1]
    word_cmp
   : ∀ t : Fin grid0.N, cond0_7 (grid0.coords t) ↔ 6 ≤ t.val % 12)
end Cert.KernelIdeal.Hand

end
-- ==== Proof.MlpRunA.lean ====
/-
  The first step of a row block: the codes become numbers, the first column tile of the feed-forward is computed.
-/
module

public import proofs.«01_k».proof.Proof.MlpPoints
public import proofs.«01_k».proof.Proof.MlpStep2

@[expose] public section

set_option maxRecDepth 16384

noncomputable section

namespace Cert.KernelIdeal.Hand

open Cert.KernelIdeal Cert.KernelIdeal.Gen Cert.Mlp
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pointwise
open Idealize.ShloMosaic.Pipeline (Dat Cfg Window BodyObligation cellOf)

local notation "𝕄" => MT nD τ sig Unit (Elt Ideal) ℕ (UR sig nD τ) ℕ

set_option maxHeartbeats 4000000 in
/-- The first step of a row block: the codes become numbers, the first column tile of the feed-forward is computed. -/
theorem vrun_A (c : Dev nD) (i : grid0.Coords) (hc0 : cond0_0 i) (hc1 : cond0_1 i) (hc2 : ¬cond0_2 i) (hc7 : ¬cond0_7 i)
    (arg2 : Memref sig .tc .vmem S448x3072 .i8) (harg2 : arg2.IsWhole) (arg3 : Memref sig .tc .vmem S448x128 .f32) (harg3 : arg3.IsWhole) (arg4 : Memref sig .tc .vmem S448x512 .f32) (harg4 : arg4.IsWhole) (arg5 : Memref sig .tc .vmem S3072x1024 .i8) (harg5 : arg5.IsWhole) (arg6 : Memref sig .tc .vmem S1x1024 .f32) (harg6 : arg6.IsWhole) (arg7 : Memref sig .tc .vmem S1x1024 .f32) (harg7 : arg7.IsWhole) (arg8 : Memref sig .tc .vmem S6144x512 .i8) (harg8 : arg8.IsWhole) (arg9 : Memref sig .tc .vmem S1x512 .f32) (harg9 : arg9.IsWhole) (arg10 : Memref sig .tc .vmem S1x512 .f32) (harg10 : arg10.IsWhole) (arg11 : Memref sig .tc .vmem S448x512 .bf16) (harg11 : arg11.IsWhole) (arg12 : Memref sig .tc .vmem S448x6144 .i8) (harg12 : arg12.IsWhole) (arg13 : Memref sig .tc .vmem S2x896 .f32) (harg13 : arg13.IsWhole) (arg14 : Memref sig .tc .vmem S448x3072 .bf16) (harg14 : arg14.IsWhole) (arg15 : Memref sig .tc .vmem S448x6144 .f32) (harg15 : arg15.IsWhole) (arg16 : Memref sig .tc .vmem S448x6144 .bf16) (harg16 : arg16.IsWhole) (arg17 : Memref sig .tc .vmem S448x128 .f32) (harg17 : arg17.IsWhole)
    (x0 : Vec Ideal S448x3072 .i8) (x1 : Vec Ideal S448x128 .f32) (x2 : Vec Ideal S448x512 .f32) (x3 : Vec Ideal S3072x1024 .i8) (x4 : Vec Ideal S1x1024 .f32) (x5 : Vec Ideal S1x1024 .f32) (x6 : Vec Ideal S6144x512 .i8) (x7 : Vec Ideal S1x512 .f32) (x8 : Vec Ideal S1x512 .f32) (x9 : Vec Ideal S448x512 .bf16) (x10 : Vec Ideal S448x6144 .i8) (x11 : Vec Ideal S2x896 .f32) (x12 : Vec Ideal S448x3072 .bf16) (x13 : Vec Ideal S448x6144 .f32) (x14 : Vec Ideal S448x6144 .bf16) (x15 : Vec Ideal S448x128 .f32) (E : Set ℕ) (K : PUnit.{1} → sProp 𝕄) :
    iprop(iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, ⌜LOut x0 d⌝ ∗ owns (c : Thread nD τ) arg14 fullShare d) ∗ (∃ d, ⌜FOut (i 1).val (fun y => toE (x0 y)) x1 x3 x4 x5 x13 d⌝ ∗ owns (c : Thread nD τ) arg15 fullShare d) ∗ owns (c : Thread nD τ) arg16 fullShare x14 ∗ (∃ d, ⌜GOut (fun y => toE (x0 y)) x1 x3 x4 x5 (fun _ _ => 0) d⌝ ∗ owns (c : Thread nD τ) arg17 fullShare d)) -∗ K ⟨⟩))
      ⊢ wp frame (wpE (defs₀ (F := Ideal)) Variants.none c none) E (cc0_mlp i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_mlp_eq_skeleton]; unfold cc0_mlp_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15
  sl_exec (disch := first | sl_exact hc0 | sl_exact hc1 | sl_exact hc2 | sl_exact hc7)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; · ipureintro; exact harg13.read_unread _
    iexact H11
  isplitl [H12]
  · iexists _; isplitr; swap
    · iexists _; isplitr; swap; · iexact H12
      ipureintro; rfl
    · ipureintro
      sl_unfold_run_names
      refine (congrArg (LOut x0) (read_whole arg14 _ _ _ [])).mpr ?_
      exact fun r k => (pay1_at _ r k).trans (congrArg toE (rd arg2 harg2 x0 _ r k r k (by omega) (by omega)))
  isplitl [H13]
  · iexists _; isplitr; swap
    · iexists _; isplitr; swap; · iexact H13
      ipureintro; rfl
    · ipureintro
      sl_unfold_run_names
      exact fout
        (isTile_read 0 arg3 harg3 arg5 harg5 arg6 harg6 arg7 harg7 x1 x3 x4 x5 _ (fun y => toE (x0 y)) (fun r k => (rdCov arg14 _ _ r k r k (by omega) (by omega)).trans ((congrFun (read_whole arg14 _ _ _ _) (ix2 r k)).trans ((pay1_at _ r k).trans (congrArg toE (rd arg2 harg2 x0 _ r k r k (by omega) (by omega)))))) _ _ _ _)
        (isTile_read 256 arg3 harg3 arg5 harg5 arg6 harg6 arg7 harg7 x1 x3 x4 x5 _ (fun y => toE (x0 y)) (fun r k => (rdCov arg14 _ _ r k r k (by omega) (by omega)).trans ((congrFun (read_whole arg14 _ _ _ _) (ix2 r k)).trans ((pay1_at _ r k).trans (congrArg toE (rd arg2 harg2 x0 _ r k r k (by omega) (by omega)))))) _ _ _ _)
        (isTile_read 512 arg3 harg3 arg5 harg5 arg6 harg6 arg7 harg7 x1 x3 x4 x5 _ (fun y => toE (x0 y)) (fun r k => (rdCov arg14 _ _ r k r k (by omega) (by omega)).trans ((congrFun (read_whole arg14 _ _ _ _) (ix2 r k)).trans ((pay1_at _ r k).trans (congrArg toE (rd arg2 harg2 x0 _ r k r k (by omega) (by omega)))))) _ _ _ _)
        (isTile_read 768 arg3 harg3 arg5 harg5 arg6 harg6 arg7 harg7 x1 x3 x4 x5 _ (fun y => toE (x0 y)) (fun r k => (rdCov arg14 _ _ r k r k (by omega) (by omega)).trans ((congrFun (read_whole arg14 _ _ _ _) (ix2 r k)).trans ((pay1_at _ r k).trans (congrArg toE (rd arg2 harg2 x0 _ r k r k (by omega) (by omega)))))) _ _ _ _)
        i arg15 _ x13 (harg15.read_unread x13) _ _ _ _
  isplitl [H14]
  · iexists _; isplitr; · ipureintro; exact harg16.read_unread _
    iexact H14
  iexists _; isplitr; swap
  · iexists _; isplitr; swap; · iexact H15
    ipureintro; rfl
  · ipureintro
    sl_unfold_run_names
    refine (congrArg (GOut (fun y => toE (x0 y)) x1 x3 x4 x5 (fun _ _ => 0)) (read_whole arg17 _ _ _ _)).mpr ?_
    exact gout
      (isTile_read 0 arg3 harg3 arg5 harg5 arg6 harg6 arg7 harg7 x1 x3 x4 x5 _ (fun y => toE (x0 y)) (fun r k => (rdCov arg14 _ _ r k r k (by omega) (by omega)).trans ((congrFun (read_whole arg14 _ _ _ _) (ix2 r k)).trans ((pay1_at _ r k).trans (congrArg toE (rd arg2 harg2 x0 _ r k r k (by omega) (by omega)))))) _ _ _ _)
      (isTile_read 256 arg3 harg3 arg5 harg5 arg6 harg6 arg7 harg7 x1 x3 x4 x5 _ (fun y => toE (x0 y)) (fun r k => (rdCov arg14 _ _ r k r k (by omega) (by omega)).trans ((congrFun (read_whole arg14 _ _ _ _) (ix2 r k)).trans ((pay1_at _ r k).trans (congrArg toE (rd arg2 harg2 x0 _ r k r k (by omega) (by omega)))))) _ _ _ _)
      (isTile_read 512 arg3 harg3 arg5 harg5 arg6 harg6 arg7 harg7 x1 x3 x4 x5 _ (fun y => toE (x0 y)) (fun r k => (rdCov arg14 _ _ r k r k (by omega) (by omega)).trans ((congrFun (read_whole arg14 _ _ _ _) (ix2 r k)).trans ((pay1_at _ r k).trans (congrArg toE (rd arg2 harg2 x0 _ r k r k (by omega) (by omega)))))) _ _ _ _)
      (isTile_read 768 arg3 harg3 arg5 harg5 arg6 harg6 arg7 harg7 x1 x3 x4 x5 _ (fun y => toE (x0 y)) (fun r k => (rdCov arg14 _ _ r k r k (by omega) (by omega)).trans ((congrFun (read_whole arg14 _ _ _ _) (ix2 r k)).trans ((pay1_at _ r k).trans (congrArg toE (rd arg2 harg2 x0 _ r k r k (by omega) (by omega)))))) _ _ _ _)
      _ _ (fun r l => (rdCov arg17 _ _ r l r l (by omega) (by omega)).trans ((congrFun (read_whole arg17 _ _ _ _) (ix2 r l)).trans (pay2_at r l)))

end Cert.KernelIdeal.Hand

end
-- ==== Proof.MlpRunB.lean ====
/-
  A further step of the first phase: one more column tile of the feed-forward.
-/
module

public import proofs.«01_k».proof.Proof.MlpPoints
public import proofs.«01_k».proof.Proof.MlpStep2

@[expose] public section

set_option maxRecDepth 16384

noncomputable section

namespace Cert.KernelIdeal.Hand

open Cert.KernelIdeal Cert.KernelIdeal.Gen Cert.Mlp
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pointwise
open Idealize.ShloMosaic.Pipeline (Dat Cfg Window BodyObligation cellOf)

local notation "𝕄" => MT nD τ sig Unit (Elt Ideal) ℕ (UR sig nD τ) ℕ

set_option maxHeartbeats 4000000 in
/-- A further step of the first phase: one more column tile of the feed-forward. -/
theorem vrun_B (c : Dev nD) (i : grid0.Coords) (hc0 : ¬cond0_0 i) (hc1 : cond0_1 i) (hc2 : ¬cond0_2 i) (hc7 : ¬cond0_7 i)
    (arg2 : Memref sig .tc .vmem S448x3072 .i8) (harg2 : arg2.IsWhole) (arg3 : Memref sig .tc .vmem S448x128 .f32) (harg3 : arg3.IsWhole) (arg4 : Memref sig .tc .vmem S448x512 .f32) (harg4 : arg4.IsWhole) (arg5 : Memref sig .tc .vmem S3072x1024 .i8) (harg5 : arg5.IsWhole) (arg6 : Memref sig .tc .vmem S1x1024 .f32) (harg6 : arg6.IsWhole) (arg7 : Memref sig .tc .vmem S1x1024 .f32) (harg7 : arg7.IsWhole) (arg8 : Memref sig .tc .vmem S6144x512 .i8) (harg8 : arg8.IsWhole) (arg9 : Memref sig .tc .vmem S1x512 .f32) (harg9 : arg9.IsWhole) (arg10 : Memref sig .tc .vmem S1x512 .f32) (harg10 : arg10.IsWhole) (arg11 : Memref sig .tc .vmem S448x512 .bf16) (harg11 : arg11.IsWhole) (arg12 : Memref sig .tc .vmem S448x6144 .i8) (harg12 : arg12.IsWhole) (arg13 : Memref sig .tc .vmem S2x896 .f32) (harg13 : arg13.IsWhole) (arg14 : Memref sig .tc .vmem S448x3072 .bf16) (harg14 : arg14.IsWhole) (arg15 : Memref sig .tc .vmem S448x6144 .f32) (harg15 : arg15.IsWhole) (arg16 : Memref sig .tc .vmem S448x6144 .bf16) (harg16 : arg16.IsWhole) (arg17 : Memref sig .tc .vmem S448x128 .f32) (harg17 : arg17.IsWhole)
    (x0 : Vec Ideal S448x3072 .i8) (x1 : Vec Ideal S448x128 .f32) (x2 : Vec Ideal S448x512 .f32) (x3 : Vec Ideal S3072x1024 .i8) (x4 : Vec Ideal S1x1024 .f32) (x5 : Vec Ideal S1x1024 .f32) (x6 : Vec Ideal S6144x512 .i8) (x7 : Vec Ideal S1x512 .f32) (x8 : Vec Ideal S1x512 .f32) (x9 : Vec Ideal S448x512 .bf16) (x10 : Vec Ideal S448x6144 .i8) (x11 : Vec Ideal S2x896 .f32) (x12 : Vec Ideal S448x3072 .bf16) (x13 : Vec Ideal S448x6144 .f32) (x14 : Vec Ideal S448x6144 .bf16) (x15 : Vec Ideal S448x128 .f32) (E : Set ℕ) (K : PUnit.{1} → sProp 𝕄) :
    iprop(iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, ⌜FOut (i 1).val x12 x1 x3 x4 x5 x13 d⌝ ∗ owns (c : Thread nD τ) arg15 fullShare d) ∗ owns (c : Thread nD τ) arg16 fullShare x14 ∗ (∃ d, ⌜GOut x12 x1 x3 x4 x5 (fun r l => x15 (ix2 r l)) d⌝ ∗ owns (c : Thread nD τ) arg17 fullShare d)) -∗ K ⟨⟩))
      ⊢ wp frame (wpE (defs₀ (F := Ideal)) Variants.none c none) E (cc0_mlp i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_mlp_eq_skeleton]; unfold cc0_mlp_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15
  sl_exec (disch := first | sl_exact hc0 | sl_exact hc1 | sl_exact hc2 | sl_exact hc7)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; · ipureintro; exact harg13.read_unread _
    iexact H11
  isplitl [H12]
  · iexists _; isplitr; · ipureintro; exact harg14.read_unread _
    iexact H12
  isplitl [H13]
  · iexists _; isplitr; swap
    · iexists _; isplitr; swap; · iexact H13
      ipureintro; rfl
    · ipureintro
      sl_unfold_run_names
      exact fout (isTile_read 0 arg3 harg3 arg5 harg5 arg6 harg6 arg7 harg7 x1 x3 x4 x5 _ x12 (fun r k => rd arg14 harg14 x12 _ r k r k (by omega) (by omega)) _ _ _ _)
        (isTile_read 256 arg3 harg3 arg5 harg5 arg6 harg6 arg7 harg7 x1 x3 x4 x5 _ x12 (fun r k => rd arg14 harg14 x12 _ r k r k (by omega) (by omega)) _ _ _ _)
        (isTile_read 512 arg3 harg3 arg5 harg5 arg6 harg6 arg7 harg7 x1 x3 x4 x5 _ x12 (fun r k => rd arg14 harg14 x12 _ r k r k (by omega) (by omega)) _ _ _ _)
        (isTile_read 768 arg3 harg3 arg5 harg5 arg6 harg6 arg7 harg7 x1 x3 x4 x5 _ x12 (fun r k => rd arg14 harg14 x12 _ r k r k (by omega) (by omega)) _ _ _ _)
        i arg15 _ x13 (harg15.read_unread x13) _ _ _ _
  isplitl [H14]
  · iexists _; isplitr; · ipureintro; exact harg16.read_unread _
    iexact H14
  iexists _; isplitr; swap
  · iexists _; isplitr; swap; · iexact H15
    ipureintro; rfl
  · ipureintro
    sl_unfold_run_names
    refine (congrArg (GOut x12 x1 x3 x4 x5 (fun r l => x15 (ix2 r l))) (read_whole arg17 _ _ _ [])).mpr ?_
    exact gout (isTile_read 0 arg3 harg3 arg5 harg5 arg6 harg6 arg7 harg7 x1 x3 x4 x5 _ x12 (fun r k => rd arg14 harg14 x12 _ r k r k (by omega) (by omega)) _ _ _ _)
      (isTile_read 256 arg3 harg3 arg5 harg5 arg6 harg6 arg7 harg7 x1 x3 x4 x5 _ x12 (fun r k => rd arg14 harg14 x12 _ r k r k (by omega) (by omega)) _ _ _ _)
      (isTile_read 512 arg3 harg3 arg5 harg5 arg6 harg6 arg7 harg7 x1 x3 x4 x5 _ x12 (fun r k => rd arg14 harg14 x12 _ r k r k (by omega) (by omega)) _ _ _ _)
      (isTile_read 768 arg3 harg3 arg5 harg5 arg6 harg6 arg7 harg7 x1 x3 x4 x5 _ x12 (fun r k => rd arg14 harg14 x12 _ r k r k (by omega) (by omega)) _ _ _ _)
      _ _ (fun r l => rd arg17 harg17 x15 _ r l r l (by omega) (by omega))

end Cert.KernelIdeal.Hand

end
-- ==== Proof.MlpRunC.lean ====
/-
  The first step of the second phase on row block `q`: the block is quantised, its first output block computed.
-/
module

public import proofs.«01_k».proof.Proof.MlpPoints
public import proofs.«01_k».proof.Proof.MlpStep2

@[expose] public section

set_option maxRecDepth 16384

noncomputable section

namespace Cert.KernelIdeal.Hand

open Cert.KernelIdeal Cert.KernelIdeal.Gen Cert.Mlp
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pointwise
open Idealize.ShloMosaic.Pipeline (Dat Cfg Window BodyObligation cellOf)

local notation "𝕄" => MT nD τ sig Unit (Elt Ideal) ℕ (UR sig nD τ) ℕ

set_option maxHeartbeats 16000000 in
/-- The first step of the second phase on row block `q`: the block is quantised, its first output block computed. -/
theorem vrun_C (c : Dev nD) (i : grid0.Coords) (q : ℕ) (hq : q < 4) (hc0 : ¬cond0_0 i) (hc1 : ¬cond0_1 i) (hc2 : cond0_2 i) (hc3 : cond0_3 i ↔ q = 0) (hc4 : cond0_4 i ↔ q = 1) (hc5 : cond0_5 i ↔ q = 2) (hc6 : cond0_6 i ↔ q = 3) (hc7 : cond0_7 i)
    (arg2 : Memref sig .tc .vmem S448x3072 .i8) (harg2 : arg2.IsWhole) (arg3 : Memref sig .tc .vmem S448x128 .f32) (harg3 : arg3.IsWhole) (arg4 : Memref sig .tc .vmem S448x512 .f32) (harg4 : arg4.IsWhole) (arg5 : Memref sig .tc .vmem S3072x1024 .i8) (harg5 : arg5.IsWhole) (arg6 : Memref sig .tc .vmem S1x1024 .f32) (harg6 : arg6.IsWhole) (arg7 : Memref sig .tc .vmem S1x1024 .f32) (harg7 : arg7.IsWhole) (arg8 : Memref sig .tc .vmem S6144x512 .i8) (harg8 : arg8.IsWhole) (arg9 : Memref sig .tc .vmem S1x512 .f32) (harg9 : arg9.IsWhole) (arg10 : Memref sig .tc .vmem S1x512 .f32) (harg10 : arg10.IsWhole) (arg11 : Memref sig .tc .vmem S448x512 .bf16) (harg11 : arg11.IsWhole) (arg12 : Memref sig .tc .vmem S448x6144 .i8) (harg12 : arg12.IsWhole) (arg13 : Memref sig .tc .vmem S2x896 .f32) (harg13 : arg13.IsWhole) (arg14 : Memref sig .tc .vmem S448x3072 .bf16) (harg14 : arg14.IsWhole) (arg15 : Memref sig .tc .vmem S448x6144 .f32) (harg15 : arg15.IsWhole) (arg16 : Memref sig .tc .vmem S448x6144 .bf16) (harg16 : arg16.IsWhole) (arg17 : Memref sig .tc .vmem S448x128 .f32) (harg17 : arg17.IsWhole)
    (x0 : Vec Ideal S448x3072 .i8) (x1 : Vec Ideal S448x128 .f32) (x2 : Vec Ideal S448x512 .f32) (x3 : Vec Ideal S3072x1024 .i8) (x4 : Vec Ideal S1x1024 .f32) (x5 : Vec Ideal S1x1024 .f32) (x6 : Vec Ideal S6144x512 .i8) (x7 : Vec Ideal S1x512 .f32) (x8 : Vec Ideal S1x512 .f32) (x9 : Vec Ideal S448x512 .bf16) (x10 : Vec Ideal S448x6144 .i8) (x11 : Vec Ideal S2x896 .f32) (x12 : Vec Ideal S448x3072 .bf16) (x13 : Vec Ideal S448x6144 .f32) (x14 : Vec Ideal S448x6144 .bf16) (x15 : Vec Ideal S448x128 .f32) (E : Set ℕ) (K : PUnit.{1} → sProp 𝕄) :
    iprop(iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, ⌜POut (fun r k => codeAt (x13 (ix2 r k)) (scaleAt (fun l => x15 (ix2 r l)))) (fun r => scaleAt (fun l => x15 (ix2 r l))) x2 x6 x7 x8 d⌝ ∗ owns (c : Thread nD τ) arg11 fullShare d) ∗ (∃ d, ⌜QOut (fun r => scaleAt (fun l => x15 (ix2 r l))) x13 d⌝ ∗ owns (c : Thread nD τ) arg12 fullShare d) ∗ (∃ d, ⌜RowOut q (fun r => scaleAt (fun l => x15 (ix2 r l))) x11 d⌝ ∗ owns (c : Thread nD τ) arg13 fullShare d) ∗ owns (c : Thread nD τ) arg14 fullShare x12 ∗ owns (c : Thread nD τ) arg15 fullShare x13 ∗ (∃ d, ⌜AOut (fun r => scaleAt (fun l => x15 (ix2 r l))) x13 d⌝ ∗ owns (c : Thread nD τ) arg16 fullShare d) ∗ (∃ d, ⌜SOut (fun r => scaleAt (fun l => x15 (ix2 r l))) d⌝ ∗ owns (c : Thread nD τ) arg17 fullShare d)) -∗ K ⟨⟩))
      ⊢ wp frame (wpE (defs₀ (F := Ideal)) Variants.none c none) E (cc0_mlp i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  obtain rfl | rfl | rfl | rfl : q = 0 ∨ q = 1 ∨ q = 2 ∨ q = 3 := by omega
  all_goals
    simp only [Nat.reduceEqDiff, iff_true, iff_false] at hc3 hc4 hc5 hc6
    simp only [cc0_mlp_eq_skeleton]; unfold cc0_mlp_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15
    sl_exec (disch := first | sl_exact hc0 | sl_exact hc1 | sl_exact hc2 | sl_exact hc3 | sl_exact hc4 | sl_exact hc5 | sl_exact hc6 | sl_exact hc7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; swap
      · iexists _; isplitr; swap; · iexact H9
        ipureintro; rfl
      · ipureintro
        sl_unfold_run_names
        exact pout_read (A := (fun r k => codeAt (x13 (ix2 r k)) (scaleAt (fun l => x15 (ix2 r l))))) (S := (fun r => scaleAt (fun l => x15 (ix2 r l)))) arg4 harg4 arg8 harg8 arg9 harg9 arg10 harg10
          (fun r => (rdCov arg17 _ _ r 0 r 0 (by omega) rfl).trans ((congrFun (read_whole arg17 _ _ _ _) (ix2 r 0)).trans ((pay22_at _ r 0).trans (congrArg scaleAt (funext fun l => rd arg17 harg17 x15 _ r l r l (by omega) (by omega))))))
          (fun r k => (rdCov arg16 _ _ r k r k (by omega) (by omega)).trans (q16 (x := x13) (G := fun r l => x15 (ix2 r l)) (fun r l => rd arg17 harg17 x15 _ r l r l (by omega) (by omega)) (fun r q c h => rd arg15 harg15 x13 _ r q r c (by omega) h) (fun r q c h => rd arg15 harg15 x13 _ r q r c (by omega) h) (fun r q c h => rd arg15 harg15 x13 _ r q r c (by omega) h) (fun r q c h => rd arg15 harg15 x13 _ r q r c (by omega) h) (fun r q c h => rd arg15 harg15 x13 _ r q r c (by omega) h) (fun r q c h => rd arg15 harg15 x13 _ r q r c (by omega) h) (fun r q c h => rd arg15 harg15 x13 _ r q r c (by omega) h) (fun r q c h => rd arg15 harg15 x13 _ r q r c (by omega) h) (fun r q c h => rd arg15 harg15 x13 _ r q r c (by omega) h) (fun r q c h => rd arg15 harg15 x13 _ r q r c (by omega) h) (fun r q c h => rd arg15 harg15 x13 _ r q r c (by omega) h) (fun r q c h => rd arg15 harg15 x13 _ r q r c (by omega) h) arg16 _ _ _ _ _ _ _ _ _ _ _ _ _ r k))
          arg11 _ _ _ _ _ _ _ _ _ _ _
    isplitl [H10]
    · iexists _; isplitr; swap
      · iexists _; isplitr; swap; · iexact H10
        ipureintro; rfl
      · ipureintro
        sl_unfold_run_names
        exact fun r c => q12 (x := x13) (G := fun r l => x15 (ix2 r l)) (fun r l => rd arg17 harg17 x15 _ r l r l (by omega) (by omega)) (fun r q c h => rd arg15 harg15 x13 _ r q r c (by omega) h) (fun r q c h => rd arg15 harg15 x13 _ r q r c (by omega) h) (fun r q c h => rd arg15 harg15 x13 _ r q r c (by omega) h) (fun r q c h => rd arg15 harg15 x13 _ r q r c (by omega) h) (fun r q c h => rd arg15 harg15 x13 _ r q r c (by omega) h) (fun r q c h => rd arg15 harg15 x13 _ r q r c (by omega) h) (fun r q c h => rd arg15 harg15 x13 _ r q r c (by omega) h) (fun r q c h => rd arg15 harg15 x13 _ r q r c (by omega) h) (fun r q c h => rd arg15 harg15 x13 _ r q r c (by omega) h) (fun r q c h => rd arg15 harg15 x13 _ r q r c (by omega) h) (fun r q c h => rd arg15 harg15 x13 _ r q r c (by omega) h) (fun r q c h => rd arg15 harg15 x13 _ r q r c (by omega) h) arg12 _ _ _ _ _ _ _ _ _ _ _ _ _ r c
    isplitl [H11]
    · iexists _; isplitr; swap
      · iexists _; isplitr; swap; · iexact H11
        ipureintro; rfl
      · ipureintro
        sl_unfold_run_names
        exact rowout arg13 _ x11 (harg13.read_unread x11) _ _ _ (by omega) (by omega) (by omega) _ _ (fun r => scaleAt (fun l => x15 (ix2 r l))) (fun r => (pay23_at _ r).trans (congrArg scaleAt (funext fun l => rd arg17 harg17 x15 _ r l r l (by omega) (by omega))))
    isplitl [H12]
    · iexists _; isplitr; · ipureintro; exact harg14.read_unread _
      iexact H12
    isplitl [H13]
    · iexists _; isplitr; · ipureintro; exact harg15.read_unread _
      iexact H13
    isplitl [H14]
    · iexists _; isplitr; swap
      · iexists _; isplitr; swap; · iexact H14
        ipureintro; rfl
      · ipureintro
        sl_unfold_run_names
        exact fun r c => q16 (x := x13) (G := fun r l => x15 (ix2 r l)) (fun r l => rd arg17 harg17 x15 _ r l r l (by omega) (by omega)) (fun r q c h => rd arg15 harg15 x13 _ r q r c (by omega) h) (fun r q c h => rd arg15 harg15 x13 _ r q r c (by omega) h) (fun r q c h => rd arg15 harg15 x13 _ r q r c (by omega) h) (fun r q c h => rd arg15 harg15 x13 _ r q r c (by omega) h) (fun r q c h => rd arg15 harg15 x13 _ r q r c (by omega) h) (fun r q c h => rd arg15 harg15 x13 _ r q r c (by omega) h) (fun r q c h => rd arg15 harg15 x13 _ r q r c (by omega) h) (fun r q c h => rd arg15 harg15 x13 _ r q r c (by omega) h) (fun r q c h => rd arg15 harg15 x13 _ r q r c (by omega) h) (fun r q c h => rd arg15 harg15 x13 _ r q r c (by omega) h) (fun r q c h => rd arg15 harg15 x13 _ r q r c (by omega) h) (fun r q c h => rd arg15 harg15 x13 _ r q r c (by omega) h) arg16 _ _ _ _ _ _ _ _ _ _ _ _ _ r c
    iexists _; isplitr; swap
    · iexists _; isplitr; swap; · iexact H15
      ipureintro; rfl
    · ipureintro
      sl_unfold_run_names
      refine (congrArg (SOut (fun r => scaleAt (fun l => x15 (ix2 r l)))) (read_whole arg17 _ _ _ [])).mpr ?_
      exact fun r l => (pay22_at _ r l).trans (congrArg scaleAt (funext fun l => rd arg17 harg17 x15 _ r l r l (by omega) (by omega)))

end Cert.KernelIdeal.Hand

end
-- ==== Proof.MlpRunD.lean ====
/-
  A further step of the second phase: one more output block.
-/
module

public import proofs.«01_k».proof.Proof.MlpPoints
public import proofs.«01_k».proof.Proof.MlpStep2

@[expose] public section

set_option maxRecDepth 16384

noncomputable section

namespace Cert.KernelIdeal.Hand

open Cert.KernelIdeal Cert.KernelIdeal.Gen Cert.Mlp
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pointwise
open Idealize.ShloMosaic.Pipeline (Dat Cfg Window BodyObligation cellOf)

local notation "𝕄" => MT nD τ sig Unit (Elt Ideal) ℕ (UR sig nD τ) ℕ

set_option maxHeartbeats 4000000 in
/-- A further step of the second phase: one more output block. -/
theorem vrun_D (c : Dev nD) (i : grid0.Coords) (hc0 : ¬cond0_0 i) (hc1 : ¬cond0_1 i) (hc2 : ¬cond0_2 i) (hc7 : cond0_7 i)
    (arg2 : Memref sig .tc .vmem S448x3072 .i8) (harg2 : arg2.IsWhole) (arg3 : Memref sig .tc .vmem S448x128 .f32) (harg3 : arg3.IsWhole) (arg4 : Memref sig .tc .vmem S448x512 .f32) (harg4 : arg4.IsWhole) (arg5 : Memref sig .tc .vmem S3072x1024 .i8) (harg5 : arg5.IsWhole) (arg6 : Memref sig .tc .vmem S1x1024 .f32) (harg6 : arg6.IsWhole) (arg7 : Memref sig .tc .vmem S1x1024 .f32) (harg7 : arg7.IsWhole) (arg8 : Memref sig .tc .vmem S6144x512 .i8) (harg8 : arg8.IsWhole) (arg9 : Memref sig .tc .vmem S1x512 .f32) (harg9 : arg9.IsWhole) (arg10 : Memref sig .tc .vmem S1x512 .f32) (harg10 : arg10.IsWhole) (arg11 : Memref sig .tc .vmem S448x512 .bf16) (harg11 : arg11.IsWhole) (arg12 : Memref sig .tc .vmem S448x6144 .i8) (harg12 : arg12.IsWhole) (arg13 : Memref sig .tc .vmem S2x896 .f32) (harg13 : arg13.IsWhole) (arg14 : Memref sig .tc .vmem S448x3072 .bf16) (harg14 : arg14.IsWhole) (arg15 : Memref sig .tc .vmem S448x6144 .f32) (harg15 : arg15.IsWhole) (arg16 : Memref sig .tc .vmem S448x6144 .bf16) (harg16 : arg16.IsWhole) (arg17 : Memref sig .tc .vmem S448x128 .f32) (harg17 : arg17.IsWhole)
    (x0 : Vec Ideal S448x3072 .i8) (x1 : Vec Ideal S448x128 .f32) (x2 : Vec Ideal S448x512 .f32) (x3 : Vec Ideal S3072x1024 .i8) (x4 : Vec Ideal S1x1024 .f32) (x5 : Vec Ideal S1x1024 .f32) (x6 : Vec Ideal S6144x512 .i8) (x7 : Vec Ideal S1x512 .f32) (x8 : Vec Ideal S1x512 .f32) (x9 : Vec Ideal S448x512 .bf16) (x10 : Vec Ideal S448x6144 .i8) (x11 : Vec Ideal S2x896 .f32) (x12 : Vec Ideal S448x3072 .bf16) (x13 : Vec Ideal S448x6144 .f32) (x14 : Vec Ideal S448x6144 .bf16) (x15 : Vec Ideal S448x128 .f32) (E : Set ℕ) (K : PUnit.{1} → sProp 𝕄) :
    iprop(iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, ⌜POut (fun r k => x14 (ix2 r k)) (fun r => x15 (ix2 r 0)) x2 x6 x7 x8 d⌝ ∗ owns (c : Thread nD τ) arg11 fullShare d) ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15) -∗ K ⟨⟩))
      ⊢ wp frame (wpE (defs₀ (F := Ideal)) Variants.none c none) E (cc0_mlp i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_mlp_eq_skeleton]; unfold cc0_mlp_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15
  sl_exec (disch := first | sl_exact hc0 | sl_exact hc1 | sl_exact hc2 | sl_exact hc7)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; swap
    · iexists _; isplitr; swap; · iexact H9
      ipureintro; rfl
    · ipureintro
      sl_unfold_run_names
      exact pout_read (A := fun r k => x14 (ix2 r k)) (S := fun r => x15 (ix2 r 0)) arg4 harg4 arg8 harg8 arg9 harg9 arg10 harg10
        (fun r => rd arg17 harg17 x15 _ r 0 r 0 (by omega) rfl)
        (fun r k => rd arg16 harg16 x14 _ r k r k (by omega) (by omega))
        arg11 _ _ _ _ _ _ _ _ _ _ _
  isplitl [H10]
  · iexists _; isplitr; · ipureintro; exact harg12.read_unread _
    iexact H10
  isplitl [H11]
  · iexists _; isplitr; · ipureintro; exact harg13.read_unread _
    iexact H11
  isplitl [H12]
  · iexists _; isplitr; · ipureintro; exact harg14.read_unread _
    iexact H12
  isplitl [H13]
  · iexists _; isplitr; · ipureintro; exact harg15.read_unread _
    iexact H13
  isplitl [H14]
  · iexists _; isplitr; · ipureintro; exact harg16.read_unread _
    iexact H14
  iexists _; isplitr; · ipureintro; exact harg17.read_unread _
  iexact H15

end Cert.KernelIdeal.Hand

end
-- ==== Proof.MlpBody.lean ====
/-
  One grid point of the feed-forward kernel: whichever branch it takes, it carries the state of the buffers on.
-/
module

public import proofs.«01_k».proof.Proof.MlpVal
public import proofs.«01_k».proof.Proof.MlpRunA
public import proofs.«01_k».proof.Proof.MlpRunB
public import proofs.«01_k».proof.Proof.MlpRunC
public import proofs.«01_k».proof.Proof.MlpRunD

@[expose] public section

set_option maxRecDepth 16384

noncomputable section

namespace Cert.KernelIdeal.Hand

open Cert.KernelIdeal Cert.KernelIdeal.Gen Cert.Mlp
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pointwise
open Idealize.ShloMosaic.Pipeline (Dat Cfg Window BodyObligation cellOf)

local notation "𝕄" => MT nD τ sig Unit (Elt Ideal) ℕ (UR sig nD τ) ℕ

/-! ## One grid point: from the state before to the state after -/

section
variable (c : Dev nD) (arg2 : Memref sig .tc .vmem S448x3072 .i8) (harg2 : arg2.IsWhole) (arg3 : Memref sig .tc .vmem S448x128 .f32) (harg3 : arg3.IsWhole) (arg4 : Memref sig .tc .vmem S448x512 .f32) (harg4 : arg4.IsWhole) (arg5 : Memref sig .tc .vmem S3072x1024 .i8) (harg5 : arg5.IsWhole) (arg6 : Memref sig .tc .vmem S1x1024 .f32) (harg6 : arg6.IsWhole) (arg7 : Memref sig .tc .vmem S1x1024 .f32) (harg7 : arg7.IsWhole) (arg8 : Memref sig .tc .vmem S6144x512 .i8) (harg8 : arg8.IsWhole) (arg9 : Memref sig .tc .vmem S1x512 .f32) (harg9 : arg9.IsWhole) (arg10 : Memref sig .tc .vmem S1x512 .f32) (harg10 : arg10.IsWhole) (arg11 : Memref sig .tc .vmem S448x512 .bf16) (harg11 : arg11.IsWhole) (arg12 : Memref sig .tc .vmem S448x6144 .i8) (harg12 : arg12.IsWhole) (arg13 : Memref sig .tc .vmem S2x896 .f32) (harg13 : arg13.IsWhole) (arg14 : Memref sig .tc .vmem S448x3072 .bf16) (harg14 : arg14.IsWhole) (arg15 : Memref sig .tc .vmem S448x6144 .f32) (harg15 : arg15.IsWhole) (arg16 : Memref sig .tc .vmem S448x6144 .bf16) (harg16 : arg16.IsWhole) (arg17 : Memref sig .tc .vmem S448x128 .f32) (harg17 : arg17.IsWhole)
  (x0 : Vec Ideal S448x3072 .i8) (x1 : Vec Ideal S448x128 .f32) (x2 : Vec Ideal S448x512 .f32) (x3 : Vec Ideal S3072x1024 .i8) (x4 : Vec Ideal S1x1024 .f32) (x5 : Vec Ideal S1x1024 .f32) (x6 : Vec Ideal S6144x512 .i8) (x7 : Vec Ideal S1x512 .f32) (x8 : Vec Ideal S1x512 .f32)

/-- The buffers after a grid point: the operands' blocks as they were, the others at some contents of which `Φf` holds. -/
def After (Φf : Vec Ideal S448x512 .bf16 → Vec Ideal S448x6144 .i8 → Vec Ideal S2x896 .f32 → Vec Ideal S448x3072 .bf16 → Vec Ideal S448x6144 .f32 → Vec Ideal S448x6144 .bf16 → Vec Ideal S448x128 .f32 → Prop) : sProp 𝕄 :=
  iprop(∃ (d9 : Vec Ideal S448x512 .bf16) (d10 : Vec Ideal S448x6144 .i8) (d11 : Vec Ideal S2x896 .f32) (d12 : Vec Ideal S448x3072 .bf16) (d13 : Vec Ideal S448x6144 .f32) (d14 : Vec Ideal S448x6144 .bf16) (d15 : Vec Ideal S448x128 .f32), ⌜Φf d9 d10 d11 d12 d13 d14 d15⌝ ∗ owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare d9 ∗ owns (c : Thread nD τ) arg12 fullShare d10 ∗ owns (c : Thread nD τ) arg13 fullShare d11 ∗ owns (c : Thread nD τ) arg14 fullShare d12 ∗ owns (c : Thread nD τ) arg15 fullShare d13 ∗ owns (c : Thread nD τ) arg16 fullShare d14 ∗ owns (c : Thread nD τ) arg17 fullShare d15)

theorem keep {s e} (a : Memref sig .tc .vmem s e) (x : Vec Ideal s e) :
    (owns (c : Thread nD τ) a fullShare x : sProp 𝕄) ⊢ iprop(∃ d, ⌜d = x⌝ ∗ owns (c : Thread nD τ) a fullShare d) := by
  iintro H; iexists x; isplitr
  · ipureintro; rfl
  iexact H

/-- What the stores of a grid point leave, buffer by buffer, gathered. -/
theorem gather {Q9 Q10 Q11 Q12 Q13 Q14 Q15 : sProp 𝕄} {P9 : Vec Ideal S448x512 .bf16 → Prop} {P10 : Vec Ideal S448x6144 .i8 → Prop} {P11 : Vec Ideal S2x896 .f32 → Prop} {P12 : Vec Ideal S448x3072 .bf16 → Prop} {P13 : Vec Ideal S448x6144 .f32 → Prop} {P14 : Vec Ideal S448x6144 .bf16 → Prop} {P15 : Vec Ideal S448x128 .f32 → Prop}
    {Φf : Vec Ideal S448x512 .bf16 → Vec Ideal S448x6144 .i8 → Vec Ideal S2x896 .f32 → Vec Ideal S448x3072 .bf16 → Vec Ideal S448x6144 .f32 → Vec Ideal S448x6144 .bf16 → Vec Ideal S448x128 .f32 → Prop}
    (e9 : Q9 ⊢ iprop(∃ d, ⌜P9 d⌝ ∗ owns (c : Thread nD τ) arg11 fullShare d)) (e10 : Q10 ⊢ iprop(∃ d, ⌜P10 d⌝ ∗ owns (c : Thread nD τ) arg12 fullShare d)) (e11 : Q11 ⊢ iprop(∃ d, ⌜P11 d⌝ ∗ owns (c : Thread nD τ) arg13 fullShare d)) (e12 : Q12 ⊢ iprop(∃ d, ⌜P12 d⌝ ∗ owns (c : Thread nD τ) arg14 fullShare d)) (e13 : Q13 ⊢ iprop(∃ d, ⌜P13 d⌝ ∗ owns (c : Thread nD τ) arg15 fullShare d)) (e14 : Q14 ⊢ iprop(∃ d, ⌜P14 d⌝ ∗ owns (c : Thread nD τ) arg16 fullShare d)) (e15 : Q15 ⊢ iprop(∃ d, ⌜P15 d⌝ ∗ owns (c : Thread nD τ) arg17 fullShare d))
    (h : ∀ d9 d10 d11 d12 d13 d14 d15, P9 d9 → P10 d10 → P11 d11 → P12 d12 → P13 d13 → P14 d14 → P15 d15 → Φf d9 d10 d11 d12 d13 d14 d15)
    (W : sProp 𝕄) (K : PUnit.{1} → sProp 𝕄) (Pre : sProp 𝕄)
    (hrun : iprop(Pre ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ Q9 ∗ Q10 ∗ Q11 ∗ Q12 ∗ Q13 ∗ Q14 ∗ Q15) -∗ K ⟨⟩)) ⊢ W) :
    iprop(Pre ∗ (After c arg2 arg3 arg4 arg5 arg6 arg7 arg8 arg9 arg10 arg11 arg12 arg13 arg14 arg15 arg16 arg17 x0 x1 x2 x3 x4 x5 x6 x7 x8 Φf -∗ K ⟨⟩)) ⊢ W := by
  refine (sep_mono .rfl (wand_mono_left ?_)).trans hrun
  refine BIBase.Entails.trans (BIClass.sep_mono .rfl <| BIClass.sep_mono .rfl <| BIClass.sep_mono .rfl <| BIClass.sep_mono .rfl <| BIClass.sep_mono .rfl <| BIClass.sep_mono .rfl <| BIClass.sep_mono .rfl <| BIClass.sep_mono .rfl <| BIClass.sep_mono .rfl <| BIClass.sep_mono e9 <| BIClass.sep_mono e10 <| BIClass.sep_mono e11 <| BIClass.sep_mono e12 <| BIClass.sep_mono e13 <| BIClass.sep_mono e14 <| e15) ?_
  unfold After
  iintro ⟨H0, H1, H2, H3, H4, H5, H6, H7, H8, ⟨%d9, %hd9, H9⟩, ⟨%d10, %hd10, H10⟩, ⟨%d11, %hd11, H11⟩, ⟨%d12, %hd12, H12⟩, ⟨%d13, %hd13, H13⟩, ⟨%d14, %hd14, H14⟩, ⟨%d15, %hd15, H15⟩⟩
  iexists d9, d10, d11, d12, d13, d14, d15
  isplitr
  · ipureintro; exact h _ _ _ _ _ _ _ hd9 hd10 hd11 hd12 hd13 hd14 hd15
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

set_option maxHeartbeats 1000000 in
/-- One grid point: from a state that `Inv` describes, with the blocks of the operands in place, the body runs and leaves the
    next state, its output block, the row block's codes and the scales so far. -/
theorem vrun (I : Ins) (t : Fin cfg0.N) (x9 : Vec Ideal S448x512 .bf16) (x10 : Vec Ideal S448x6144 .i8) (x11 : Vec Ideal S2x896 .f32) (x12 : Vec Ideal S448x3072 .bf16) (x13 : Vec Ideal S448x6144 .f32) (x14 : Vec Ideal S448x6144 .bf16) (x15 : Vec Ideal S448x128 .f32)
    (B : Blk I t.val x0 x1 x2 x3 x4 x5 x6 x7 x8) (V : Inv I t.val x12 x13 x14 x15)
    (hC : 6 < t.val % 12 → Cod I (t.val - 1) x10) (hS : 0 < t.val → Sca I (t.val - 1) x11) (E : Set ℕ) (K : PUnit.{1} → sProp 𝕄) :
    iprop(iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15)
        ∗ (After c arg2 arg3 arg4 arg5 arg6 arg7 arg8 arg9 arg10 arg11 arg12 arg13 arg14 arg15 arg16 arg17 x0 x1 x2 x3 x4 x5 x6 x7 x8 (fun d9 d10 d11 d12 d13 d14 d15 => Res I t.val d9 ∧ Cod I t.val d10 ∧ Sca I t.val d11 ∧ Inv I (t.val + 1) d12 d13 d14 d15) -∗ K ⟨⟩))
      ⊢ wp frame (wpE (defs₀ (F := Ideal)) Variants.none c none) E (cc0_mlp (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  have hN : t.val < 48 := lt_of_lt_of_eq t.isLt (show cfg0.N = 48 from N_0)
  have g : ∀ {p : Prop} {q : Prop}, (p ↔ q) → ¬q → ¬p := fun h hq hp => hq (h.mp hp)
  have hco : ((grid0.coords t) 1).val = t.val % 12 := (by decide +kernel : ∀ t : Fin cfg0.N, ((grid0.coords t) 1).val = t.val % 12) t
  have fin : ∀ {a b c d : Prop}, a ∧ b ∧ c ∧ d → b ∧ c ∧ d ∧ a := fun ⟨a, b, c, d⟩ => ⟨b, c, d, a⟩
  by_cases h6 : t.val % 12 < 6
  · by_cases h0 : t.val % 12 = 0
    · exact gather c arg2 arg3 arg4 arg5 arg6 arg7 arg8 arg9 arg10 arg11 arg12 arg13 arg14 arg15 arg16 arg17 x0 x1 x2 x3 x4 x5 x6 x7 x8 (keep c arg11 x9) (keep c arg12 x10) (keep c arg13 x11) .rfl .rfl (keep c arg16 x14) .rfl
            (fun d9 d10 d11 d12 d13 d14 d15 h9 h10 h11 h12 h13 h14 h15 => by
              subst h9; subst h10; subst h11; subst h14
              rw [hco] at h13
              exact ⟨fun h => by omega, fun h => by omega, fun a b R hR hlt => hS (by omega) a b R hR (by omega),
                step_fc B h6 (fun r R hR k => congrArg toE (B.b0 r R hR k)) (fun r R hR k => (h12 r k).trans (congrArg toE (B.b0 r R hR k))) (fun r R hR C hC => by omega)
                  (fun r R hR l y => ⟨fun h => ⟨h, fun C hC => by omega⟩, fun h => h.1⟩) h13 h15⟩) _ K _
            (vrun_A c (grid0.coords t) ((hcond0_0 t).mpr h0) ((hcond0_1 t).mpr h6) (g (hcond0_2 t) (by omega)) (g (hcond0_7 t) (by omega)) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 x14 x15 E K)
    · exact gather c arg2 arg3 arg4 arg5 arg6 arg7 arg8 arg9 arg10 arg11 arg12 arg13 arg14 arg15 arg16 arg17 x0 x1 x2 x3 x4 x5 x6 x7 x8 (keep c arg11 x9) (keep c arg12 x10) (keep c arg13 x11) (keep c arg14 x12) .rfl (keep c arg16 x14) .rfl
            (fun d9 d10 d11 d12 d13 d14 d15 h9 h10 h11 h12 h13 h14 h15 => by
              subst h9; subst h10; subst h11; subst h12; subst h14
              rw [hco] at h13
              exact ⟨fun h => by omega, fun h => by omega, fun a b R hR hlt => hS (by omega) a b R hR (by omega),
                step_fc B h6 (V.lhs (by omega)) (V.lhs (by omega)) V.fc (V.mx (by omega) (by omega)) h13 h15⟩) _ K _
            (vrun_B c (grid0.coords t) (g (hcond0_0 t) h0) ((hcond0_1 t).mpr h6) (g (hcond0_2 t) (by omega)) (g (hcond0_7 t) (by omega)) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 x14 x15 E K)
  · have n0 := g (hcond0_0 t) (by omega : ¬t.val % 12 = 0)
    have n1 := g (hcond0_1 t) h6
    have p7 := (hcond0_7 t).mpr (by omega)
    by_cases h : t.val % 12 = 6
    · have p2 := (hcond0_2 t).mpr h
      exact gather c arg2 arg3 arg4 arg5 arg6 arg7 arg8 arg9 arg10 arg11 arg12 arg13 arg14 arg15 arg16 arg17 x0 x1 x2 x3 x4 x5 x6 x7 x8 .rfl .rfl .rfl (keep c arg14 x12) (keep c arg15 x13) .rfl .rfl
            (fun d9 d10 d11 d12 d13 d14 d15 h9 h10 h11 h12 h13 h14 h15 => by
              subst h12; subst h13
              exact fin (step_quant V B h h9 h10 h11 h14 h15 hS)) _ K _
            (vrun_C c (grid0.coords t) (t.val / 12) (by omega) n0 n1 p2 (hcond0_3 t) (hcond0_4 t) (hcond0_5 t) (hcond0_6 t) p7 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 x14 x15 E K)
    · exact gather c arg2 arg3 arg4 arg5 arg6 arg7 arg8 arg9 arg10 arg11 arg12 arg13 arg14 arg15 arg16 arg17 x0 x1 x2 x3 x4 x5 x6 x7 x8 .rfl (keep c arg12 x10) (keep c arg13 x11) (keep c arg14 x12) (keep c arg15 x13) (keep c arg16 x14) (keep c arg17 x15)
            (fun d9 d10 d11 d12 d13 d14 d15 h9 h10 h11 h12 h13 h14 h15 => by
              subst h10; subst h11; subst h12; subst h13; subst h14; subst h15
              exact fin (step_out V B (by omega) h9 (hC (by omega)) (hS (by omega)))) _ K _
            (vrun_D c (grid0.coords t) n0 n1 (g (hcond0_2 t) h) p7 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 x14 x15 E K)

end
end Cert.KernelIdeal.Hand

end
-- ==== Proof.MlpOut.lean ====
/-
  The run of the feed-forward kernel over the extended reals: the frame, and what the result arrays end as.
-/
module

public import proofs.«01_k».proof.Proof.MlpArr
public import proofs.«01_k».proof.Proof.MlpBody
public import Idealize.ShloMosaic.Lib.Pipeline.DatRel
public import Idealize.ShloMosaic.Lib.Pipeline.ArrRel

@[expose] public section

set_option maxRecDepth 16384

noncomputable section

namespace Cert.KernelIdeal.Hand

open Cert.KernelIdeal Cert.KernelIdeal.Gen Cert.Mlp
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pointwise
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The operands as the kernel finds them. -/
def ins (c : Dev nD) : Ins :=
  ⟨V m c main_arg0, V m c main_arg1, V m c main_arg2, V m c main_arg3, V m c main_v0, V m c main_v1, V m c main_arg6, V m c main_v2, V m c main_v3⟩

/-- At every grid point the input blocks are the operands' blocks. -/
theorem blk_all (c : Dev nD) (t : Fin cfg0.N) :
    Blk (ins m c) t.val (iblk m c 0 t) (iblk m c 1 t) (iblk m c 2 t) (iblk m c 3 t) (iblk m c 4 t) (iblk m c 5 t) (iblk m c 6 t) (iblk m c 7 t) (iblk m c 8 t) :=
  ⟨fun r R hR k => blk0 m c t r k R k hR rfl, fun r R hR k => blk1 m c t r k R k hR rfl, fun r R hR q C hC => blk2 m c t r q R C hR hC,
    fun q C hC k => blk3 m c t k q k C rfl hC, fun q C hC => blk4 m c t 0 q 0 C rfl hC, fun q C hC => blk5 m c t 0 q 0 C rfl hC,
    fun q C hC k => blk6 m c t k q k C rfl hC, fun q C hC => blk7 m c t 0 q 0 C rfl hC, fun q C hC => blk8 m c t 0 q 0 C rfl hC⟩

/-! ## The pipeline's proof data -/

/-- The output windows, which are held to a predicate instead of being named. -/
def outs0 : Fin 12 → Bool := fun w => w.val == 9 || w.val == 10 || w.val == 11

/-- What the body leaves in each of them. -/
def Rl (c : Dev nD) (w : Fin cfg0.W) (t : Fin cfg0.N) : ((cfg0.win w).block.Idx → Elt Ideal (cfg0.win w).elt) → Prop := match w with
  | ⟨9, _⟩ => Res (ins m c) t.val
  | ⟨10, _⟩ => Cod (ins m c) t.val
  | ⟨11, _⟩ => Sca (ins m c) t.val
  | _ => fun _ => True

/-- The scratch buffers before point `n`. -/
def PhiN (c : Dev nD) (n : ℕ) : sProp 𝕄 :=
  iprop(∃ (x12 : Vec Ideal S448x3072 .bf16) (x13 : Vec Ideal S448x6144 .f32) (x14 : Vec Ideal S448x6144 .bf16) (x15 : Vec Ideal S448x128 .f32), ⌜Inv (ins m c) n x12 x13 x14 x15⌝ ∗ owns (c : Thread nD τ) (Memref.whole cc0_scratch0) fullShare x12 ∗ owns (c : Thread nD τ) (Memref.whole cc0_scratch1) fullShare x13 ∗ owns (c : Thread nD τ) (Memref.whole cc0_scratch2) fullShare x14 ∗ owns (c : Thread nD τ) (Memref.whole cc0_scratch3) fullShare x15 ∗ (∃ r, prngReg c r))

/-- The proof data: the arrays as the region finds them; each input's buffer at its block; the outputs unnamed; between
    points the scratch buffers in the state `Inv` describes. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
  Φ t := PhiN m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem leaves0_0 (c : Dev nD) (t : Fin cfg0.N) : (dats m 0 c).leavesExact 0 t = owns (c : Thread nD τ) (st0_0 t) fullShare (iblk m c 0 t) := by
  unfold Dat.leavesExact; rw [show cfg0.idle 0 (grid0.coords t) = false from rfl, after0_0]
theorem leaves0_1 (c : Dev nD) (t : Fin cfg0.N) : (dats m 0 c).leavesExact 1 t = owns (c : Thread nD τ) (st0_1 t) fullShare (iblk m c 1 t) := by
  unfold Dat.leavesExact; rw [show cfg0.idle 1 (grid0.coords t) = false from rfl, after0_1]
theorem leaves0_2 (c : Dev nD) (t : Fin cfg0.N) : (dats m 0 c).leavesExact 2 t = owns (c : Thread nD τ) (st0_2 t) fullShare (iblk m c 2 t) := by
  unfold Dat.leavesExact; rw [show cfg0.idle 2 (grid0.coords t) = false from rfl, after0_2]
theorem leaves0_3 (c : Dev nD) (t : Fin cfg0.N) : (dats m 0 c).leavesExact 3 t = owns (c : Thread nD τ) (st0_3 t) fullShare (iblk m c 3 t) := by
  unfold Dat.leavesExact; rw [show cfg0.idle 3 (grid0.coords t) = false from rfl, after0_3]
theorem leaves0_4 (c : Dev nD) (t : Fin cfg0.N) : (dats m 0 c).leavesExact 4 t = owns (c : Thread nD τ) (st0_4 t) fullShare (iblk m c 4 t) := by
  unfold Dat.leavesExact; rw [show cfg0.idle 4 (grid0.coords t) = false from rfl, after0_4]
theorem leaves0_5 (c : Dev nD) (t : Fin cfg0.N) : (dats m 0 c).leavesExact 5 t = owns (c : Thread nD τ) (st0_5 t) fullShare (iblk m c 5 t) := by
  unfold Dat.leavesExact; rw [show cfg0.idle 5 (grid0.coords t) = false from rfl, after0_5]
theorem leaves0_6 (c : Dev nD) (t : Fin cfg0.N) : (dats m 0 c).leavesExact 6 t = owns (c : Thread nD τ) (st0_6 t) fullShare (iblk m c 6 t) := by
  unfold Dat.leavesExact; rw [show cfg0.idle 6 (grid0.coords t) = false from rfl, after0_6]
theorem leaves0_7 (c : Dev nD) (t : Fin cfg0.N) : (dats m 0 c).leavesExact 7 t = owns (c : Thread nD τ) (st0_7 t) fullShare (iblk m c 7 t) := by
  unfold Dat.leavesExact; rw [show cfg0.idle 7 (grid0.coords t) = false from rfl, after0_7]
theorem leaves0_8 (c : Dev nD) (t : Fin cfg0.N) : (dats m 0 c).leavesExact 8 t = owns (c : Thread nD τ) (st0_8 t) fullShare (iblk m c 8 t) := by
  unfold Dat.leavesExact; rw [show cfg0.idle 8 (grid0.coords t) = false from rfl, after0_8]

/-- The scratch buffers between points, as memrefs at some contents. -/
theorem PhiA0_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d)) ∗ (∃ r, prngReg c r)) := by
  unfold Pipeline.ΦA; rw [scopedRest0_eq]; simp only [owns_whole]; try rfl

/-- The same data read relationally. -/
abbrev rdats (c : Dev nD) := (dats m 0 c).toRRel outs0 (Rl m c)

/-- The codes' buffer, past a row block's first output step, holds the row block's codes. -/
theorem found10 (c : Dev nD) (t : Fin cfg0.N) (h : 6 < t.val % 12) (X) (hX : (rdats m c).Finds (10 : Fin 12) t X) : Cod (ins m c) (t.val - 1) X := by
  have hf : (cfg0.win (10 : Fin 12)).fetch t = false := rfl
  rw [Pipeline.RDat.finds_of_pos _ hf (by omega)] at hX
  rcases hX with hX | hX
  · exact absurd ((flush0_10 _).mp hX) (by dsimp only; omega)
  · exact (dats m 0 c).toRRel_leaves (fgt := outs0) (Rl := Rl m c) (w := (10 : Fin 12)) rfl hX

/-- The scales' buffer holds the scales so far. -/
theorem found11 (c : Dev nD) (t : Fin cfg0.N) (h : 0 < t.val) (X) (hX : (rdats m c).Finds (11 : Fin 12) t X) : Sca (ins m c) (t.val - 1) X := by
  have hf : (cfg0.win (11 : Fin 12)).fetch t = false := rfl
  have hN : t.val < 48 := lt_of_lt_of_eq t.isLt (show cfg0.N = 48 from N_0)
  rw [Pipeline.RDat.finds_of_pos _ hf (by omega)] at hX
  rcases hX with hX | hX
  · exact absurd ((flush0_11 _).mp hX) (by dsimp only; omega)
  · exact (dats m 0 c).toRRel_leaves (fgt := outs0) (Rl := Rl m c) (w := (11 : Fin 12)) rfl hX

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ Y, ⌜(rdats m c).Finds (9 : Fin 12) t Y⌝ ∗ owns (c : Thread nD τ) (st0_9 t) fullShare Y)
    ∗ (∃ Y, ⌜(rdats m c).Finds (10 : Fin 12) t Y⌝ ∗ owns (c : Thread nD τ) (st0_10 t) fullShare Y)
    ∗ (∃ Y, ⌜(rdats m c).Finds (11 : Fin 12) t Y⌝ ∗ owns (c : Thread nD τ) (st0_11 t) fullShare Y))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (∃ X, ⌜Res (ins m c) t.val X⌝ ∗ owns (c : Thread nD τ) (st0_9 t) fullShare X)
    ∗ (∃ X, ⌜Cod (ins m c) t.val X⌝ ∗ owns (c : Thread nD τ) (st0_10 t) fullShare X)
    ∗ (∃ X, ⌜Sca (ins m c) t.val X⌝ ∗ owns (c : Thread nD τ) (st0_11 t) fullShare X))

set_option maxHeartbeats 4800000 in
/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7, before0_8, leaves0_0, leaves0_1, leaves0_2, leaves0_3, leaves0_4, leaves0_5, leaves0_6, leaves0_7, leaves0_8]
  rw [show (dats m 0 c).Φ t.succ = PhiN m c (t.val + 1) from rfl,
    show (dats m 0 c).owesAt () t.succ = (dats m 0 c).owesAt () t.castSucc from rfl]
  rw [show (dats m 0 c).Φ t.castSucc = PhiN m c t.val from rfl]
  unfold PhiN
  iintro ⟨⟨%x12, %x13, %x14, %x15, %hI, HS0, HS1, HS2, HS3, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%x9, %f9, H9⟩, ⟨%x10, %f10, H10⟩, ⟨%x11, %f11, H11⟩⟩
  iapply (vrun c _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (ins m c) t x9 x10 x11 x12 x13 x14 x15
    (blk_all m c t) hI (fun h => found10 m c t h x10 f10) (fun h => found11 m c t h x11 f11) Set.univ _)
  isplitl [H0 H1 H2 H3 H4 H5 H6 H7 H8 H9 H10 H11 HS0 HS1 HS2 HS3]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HS0]; · iexact HS0
    isplitl [HS1]; · iexact HS1
    isplitl [HS2]; · iexact HS2
    iexact HS3
  unfold After
  iintro ⟨%d9, %d10, %d11, %d12, %d13, %d14, %d15, %hd, H0, H1, H2, H3, H4, H5, H6, H7, H8, H9, H10, H11, HS0, HS1, HS2, HS3⟩
  isplitl [HS0 HS1 HS2 HS3 Hg]
  · iexists d12, d13, d14, d15
    isplitr
    · ipureintro; exact hd.2.2.2
    isplitl [HS0]; · iexact HS0
    isplitl [HS1]; · iexact HS1
    isplitl [HS2]; · iexact HS2
    isplitl [HS3]; · iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iexists d9
    isplitr
    · ipureintro; exact hd.1
    iexact H9
  isplitl [H10]
  · iexists d10
    isplitr
    · ipureintro; exact hd.2.1
    iexact H10
  iexists d11
  isplitr
  · ipureintro; exact hd.2.2.1
  iexact H11

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : Pipeline.BodyObligationRel (dats m 0 c) (defs₀ (F := Ideal)) Variants.none () Set.univ outs0 (Rl m c) := fun t => by
  rw [bigSep_W0, bigSep_W0, defs₀_row]
  exact triple_restated (sound_body m c t) rfl .rfl fun _ => .rfl

/-- Before the first point nothing is asked of the scratch buffers, -/
theorem phi_in (c : Dev nD) : Pipeline.ΦA spec0 c ⊢ PhiN m c 0 := by
  rw [PhiA0_eq]; unfold PhiN
  iintro ⟨⟨⟨%x12, HS0⟩, ⟨%x13, HS1⟩, ⟨%x14, HS2⟩, ⟨%x15, HS3⟩⟩, Hg⟩
  iexists x12, x13, x14, x15
  isplitr
  · ipureintro; exact Inv.start _ rfl _ _ _ _
  isplitl [HS0]; · iexact HS0
  isplitl [HS1]; · iexact HS1
  isplitl [HS2]; · iexact HS2
  isplitl [HS3]; · iexact HS3
  iexact Hg

/-- and after the last their contents are forgotten. -/
theorem phi_out (c : Dev nD) (n : ℕ) : PhiN m c n ⊢ Pipeline.ΦA spec0 c := by
  rw [PhiA0_eq]; unfold PhiN
  iintro ⟨%x12, %x13, %x14, %x15, %hI, HS0, HS1, HS2, HS3, Hg⟩
  isplitl [HS0 HS1 HS2 HS3]
  · isplitl [HS0]; · iexists x12; iexact HS0
    isplitl [HS1]; · iexists x13; iexact HS1
    isplitl [HS2]; · iexists x14; iexact HS2
    iexists x15; iexact HS3
  iexact Hg

/-! ## The run, the frame and the results -/

set_option backward.isDefEq.respectTransparency.types false in
theorem run_main_quiescent : θ_run defs (onTc (τ := τ) (main (F := Ideal))) (s₀ m ρ) (fun r => (Pipeline.RDat.FramePost (cfgs 0) (fun c => rdats m c) (V m)) r ∧ r.2.sem = fun _ => 0) :=
  Pipeline.RDat.θ_run_frame_track (Q' := _) cfgs (0 : Fin 1) launch0 defs₀ Variants.none (fun c => rdats m c) m ρ main
    (hbody := fun c => (body_obligation m c).toRRel) (hshare := fun c => (dats m 0 c).share_full fun _ => rfl)
    (howed := fun _ _ => rfl) (V := V m) (hmain := hmain m Variants.none) (hA := A_eq m) (hin := phi_in m) (hout := fun c => phi_out m c _)

/-- The argument arrays end unchanged and the semaphore counters at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ hh => ⟨fun c => have h := hh.1; ⟨(Pipeline.RDat.FramePost.arr_in (cfg₁ := cfg0) h c (0 : Fin 12) rfl).trans ((A_eq m c 0).trans (V_main_arg0 m c)),
      (Pipeline.RDat.FramePost.arr_in (cfg₁ := cfg0) h c (1 : Fin 12) rfl).trans ((A_eq m c 1).trans (V_main_arg1 m c)),
      (Pipeline.RDat.FramePost.arr_in (cfg₁ := cfg0) h c (2 : Fin 12) rfl).trans ((A_eq m c 2).trans (V_main_arg2 m c)),
      (Pipeline.RDat.FramePost.arr_in (cfg₁ := cfg0) h c (3 : Fin 12) rfl).trans ((A_eq m c 3).trans (V_main_arg3 m c)),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      (Pipeline.RDat.FramePost.arr_in (cfg₁ := cfg0) h c (6 : Fin 12) rfl).trans ((A_eq m c 6).trans (V_main_arg6 m c)),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩, hh.2⟩) (run_main_quiescent m ρ)

/-- The result arrays, in closed form. -/
def outArr (c : Dev nD) : Vec Ideal S1792x3072 .bf16 := fun i => (ins m c).o (i 0) (i 1)
def codArr (c : Dev nD) : Vec Ideal S1792x6144 .i8 := fun i => Ideal.fptosi 8 ((ins m c).cd (i 0) (i 1))
def scaArr (c : Dev nD) : Vec Ideal S2x896 .f32 := fun i => (ins m c).s ⟨896 * (i 0).val + (i 1).val, by have := (i 0).isLt; have := (i 1).isLt; change (i 0).val < 2 at *; change (i 1).val < 896 at *; omega⟩

theorem ix2_self {a b : ℕ} (y : Shape.Idx ⟨2, ![a, b]⟩) : y = ix2 (y 0) (y 1) := by
  funext k; match k with
  | ⟨0, _⟩ => rfl
  | ⟨1, _⟩ => rfl

section
variable {m}
variable {after : (w : Fin cfg0.W) → Fin cfg0.N → (cfg0.win w).block.Idx → Elt Ideal (cfg0.win w).elt}

theorem flush9 : ∀ t : Fin cfg0.N, (cfg0.win (9 : Fin 12)).flush t = true → 6 ≤ t.val % 12 := by decide +kernel
theorem lt48 (t : Fin cfg0.N) : t.val < 48 := lt_of_lt_of_eq t.isLt (show cfg0.N = 48 from N_0)

theorem final9 (c : Dev nD) (hL : ∀ u, (cfg0.win (9 : Fin 12)).flush u = true → Res (ins m c) u.val (after (9 : Fin 12) u)) :
    ((rdats m c).withAfter after).arrAt (9 : Fin 12) cfg0.N = outArr m c := by
  refine Pipeline.Dat.arrAt_eq_of_covers (cfg := cfg0) ((rdats m c).withAfter after) (9 : Fin 12) _ (by decide +kernel) fun t hf y => ?_
  have h6 := flush9 t hf
  have hN := lt48 t
  have e := hL t hf h6
  blk_simp
  unfold outArr
  have e0 : (((win0_9.blk t).view.emb y 0 : Fin 1792)).val = 448 * (t.val / 12) + (y 0 : Fin 448).val := by blk_simp [at9]; omega
  have e1 : (((win0_9.blk t).view.emb y 1 : Fin 3072)).val = 512 * (t.val % 12 - 6) + (y 1 : Fin 512).val := by blk_simp [at9]; omega
  exact (congrArg (after (9 : Fin 12) t) (ix2_self (a := 448) (b := 512) y)).trans (e (y 0) _ e0 (y 1) _ e1)

theorem flush10 : ∀ t : Fin cfg0.N, (cfg0.win (10 : Fin 12)).flush t = true → 6 ≤ t.val % 12 := by decide +kernel

theorem final10 (c : Dev nD) (hL : ∀ u, (cfg0.win (10 : Fin 12)).flush u = true → Cod (ins m c) u.val (after (10 : Fin 12) u)) :
    ((rdats m c).withAfter after).arrAt (10 : Fin 12) cfg0.N = codArr m c := by
  refine Pipeline.Dat.arrAt_eq_of_covers (cfg := cfg0) ((rdats m c).withAfter after) (10 : Fin 12) _ (by decide +kernel) fun t hf y => ?_
  have h6 := flush10 t hf
  have hN := lt48 t
  have e := hL t hf h6
  blk_simp
  unfold codArr
  have e0 : (((win0_10.blk t).view.emb y 0 : Fin 1792)).val = 448 * (t.val / 12) + (y 0 : Fin 448).val := by blk_simp [at10]; omega
  have e1 : ((win0_10.blk t).view.emb y 1 : Fin 6144) = (y 1 : Fin 6144) := Fin.ext (by blk_simp [at10]; try omega)
  refine (congrArg (after (10 : Fin 12) t) (ix2_self (a := 448) (b := 6144) y)).trans ((e (y 0) _ e0 (y 1)).trans ?_)
  exact congrArg (fun C => Ideal.fptosi 8 ((ins m c).cd _ C)) e1.symm

theorem final11 (c : Dev nD) (hL : ∀ u, (cfg0.win (11 : Fin 12)).flush u = true → Sca (ins m c) u.val (after (11 : Fin 12) u)) :
    ((rdats m c).withAfter after).arrAt (11 : Fin 12) cfg0.N = scaArr m c := by
  refine Pipeline.Dat.arrAt_eq_of_covers (cfg := cfg0) ((rdats m c).withAfter after) (11 : Fin 12) _ (by decide +kernel) fun t hf y => ?_
  have hN := lt48 t
  have ht := (flush0_11 t).mp hf
  have e := hL t hf
  blk_simp
  unfold scaArr
  have e0 : (((win0_11.blk t).view.emb y 0 : Fin 2)).val = (y 0 : Fin 2).val := by blk_simp [at11]; try omega
  have e1 : (((win0_11.blk t).view.emb y 1 : Fin 896)).val = (y 1 : Fin 896).val := by blk_simp [at11]; try omega
  have l0 : (y 0 : Fin 2).val < 2 := (y 0 : Fin 2).isLt
  have l1 : (y 1 : Fin 896).val < 896 := (y 1 : Fin 896).isLt
  refine (congrArg (after (11 : Fin 12) t) (ix2_self (a := 2) (b := 896) y)).trans (e (y 0) (y 1) _ ?_ ?_)
  · dsimp only; rw [e0, e1]
  · dsimp only; rw [e0, e1]; omega

end

/-- Every run ends with the result arrays at their closed forms. -/
theorem post_eq {r : PUnit × MemSt nD τ sig (Elt Ideal)} (h : Pipeline.RDat.FramePost (cfgs 0) (fun c => rdats m c) (V m) r) (c : Dev nD) :
    r.2.mem ((cfg0.spec (9 : Fin 12)).arr.view.loc (c.tc : Thread nD τ)) = outArr m c
    ∧ r.2.mem ((cfg0.spec (10 : Fin 12)).arr.view.loc (c.tc : Thread nD τ)) = codArr m c
    ∧ r.2.mem ((cfg0.spec (11 : Fin 12)).arr.view.loc (c.tc : Thread nD τ)) = scaArr m c := by
  obtain ⟨after, hL, hA⟩ := Pipeline.RDat.FramePost.exists_exact (cfg₁ := cfg0) h c
  exact ⟨(hA (9 : Fin 12)).trans (final9 c fun u hf => (dats m 0 c).toRRel_leaves (fgt := outs0) (Rl := Rl m c) (w := (9 : Fin 12)) rfl (hL _ u hf)),
    (hA (10 : Fin 12)).trans (final10 c fun u hf => (dats m 0 c).toRRel_leaves (fgt := outs0) (Rl := Rl m c) (w := (10 : Fin 12)) rfl (hL _ u hf)),
    (hA (11 : Fin 12)).trans (final11 c fun u hf => (dats m 0 c).toRRel_leaves (fgt := outs0) (Rl := Rl m c) (w := (11 : Fin 12)) rfl (hL _ u hf))⟩
end Cert.KernelIdeal.Hand

end
-- ==== Proof.MlpRefPay.lean ====
/-
  What the reference of the feed-forward call computes at an index, over the extended reals.
-/
module

public import proofs.«01_k».proof.Proof.MlpPay
public import proofs.«01_k».proof.Proof.Gen.ReferenceIdeal.Skeleton

@[expose] public section

set_option maxRecDepth 16384

noncomputable section

namespace Cert.ReferenceIdeal.Hand

open Cert.ReferenceIdeal Cert.ReferenceIdeal.Gen Cert.Mlp
open Cert.KernelIdeal.Hand (fcAt prAt codeAt)
open Idealize.ShloMosaic Idealize.ShloMosaic.Pointwise

variable (v0 : Vec Ideal S1792x3072 .i8) (v1 : Vec Ideal S1792 .f32) (v3 : Vec Ideal S3072x6144 .i8) (v4 v5 : Vec Ideal S6144 .f32)

/-- The first layer after gelu. -/
theorem pay4_at (r : Fin 1792) (q : Fin 6144) :
    k0_pay4 v0 v1 v3 v4 v5 (ix2 r q)
      = fcAt (fun k => toE (v0 (ix2 r k))) (fun k => v3 (ix2 k q)) (v1 (ix1 r)) (v4 (ix1 q)) (v5 (ix1 q)) := by
  pointwise [k0_pay4, fcAt, gelu, lin, toE, FloatOps.sitofp]

/-- The largest of a row. -/
theorem top_of (g : FVec Ideal S1792x6144 .f32) (r : Fin 1792) :
    multiReduction .maximumf [1] S1792 g 0xFF800000#32 reduces_S1792x6144_S1792 (.inl rfl) rfl (ix1 r)
      = Finset.univ.fold max (Ideal.ofBits .f32 0xFF800000#32) fun C => g (ix2 r C) := by
  pointwise []

theorem abs_of (g : FVec Ideal S1792x6144 .f32) (r : Fin 1792) (q : Fin 6144) : absf g (ix2 r q) = mag (g (ix2 r q)) := by
  pointwise [mag, FloatOps.absf]

/-- A row scale, of the row's largest magnitude. -/
theorem scale_of (t : FVec Ideal S1792 .f32) (r : Fin 1792) :
    select (cmpf .ogt t (broadcast S1792 (Scalar.ofBits (F := Ideal) .f32 0x00000000#32)))
      (divf t (broadcast S1792 (Scalar.ofBits (F := Ideal) .f32 0x42FE0000#32)))
      (broadcast S1792 (Scalar.ofBits (F := Ideal) .f32 0x3F800000#32)) (ix1 r) = qscale (t (ix1 r)) := by
  pointwise [qscale]

/-- Values over a row scale, rounded. -/
theorem round_of (g : FVec Ideal S1792x6144 .f32) (s : FVec Ideal S1792 .f32) (r : Fin 1792) (q : Fin 6144) :
    roundeven (divf g (broadcastTo S1792x6144 (shapeCast S1792x1 s shapeCasts_S1792_S1792x1) broadcasts_S1792x1_S1792x6144)) (ix2 r q)
      = Ideal.liftRound Ideal.roundHalfEven (Ideal.div (g (ix2 r q)) (s (ix1 r))) := by
  pointwise []

/-- The row scale of the first layer. -/
theorem pay5_at (r : Fin 1792) :
    k0_pay5 v0 v1 v3 v4 v5 (ix1 r)
      = qscale (Finset.univ.fold max (Ideal.ofBits .f32 0xFF800000#32) fun C => mag (k0_pay4 v0 v1 v3 v4 v5 (ix2 r C))) :=
  (scale_of _ r).trans <| congrArg qscale <| (top_of _ r).trans <| by simp only [abs_of]

/-- The first layer over its scale, rounded. -/
theorem pay6_at (r : Fin 1792) (q : Fin 6144) :
    k0_pay6 v0 v1 v3 v4 v5 (ix2 r q)
      = Ideal.liftRound Ideal.roundHalfEven (Ideal.div (k0_pay4 v0 v1 v3 v4 v5 (ix2 r q)) (k0_pay5 v0 v1 v3 v4 v5 (ix1 r))) :=
  round_of (k0_pay4 v0 v1 v3 v4 v5) (k0_pay5 v0 v1 v3 v4 v5) r q

/-- A word as an extended real. -/
def wordE (b : BitVec 32) : EReal := ((b.toInt : ℝ) : EReal)

theorem word_127 : wordE 127#32 = Ideal.ofBits .f32 0x42FE0000#32 := by
  rw [ofBits_127, wordE, show (127#32).toInt = 127 from by decide]; norm_num
theorem word_neg127 : wordE 4294967169#32 = Ideal.ofBits .f32 0xC2FE0000#32 := by
  rw [ofBits_neg127, wordE, show (4294967169#32).toInt = -127 from by decide]; norm_num

/-- Clipped, and as a code. -/
theorem pay1_at (v : Vec Ideal S1792x6144 .f32) (x : EReal) (r : Fin 1792) (q : Fin 6144)
    (h : v (ix2 r q) = Ideal.liftRound Ideal.roundHalfEven x) :
    k0_pay1 (F := Ideal) v 4294967169#32 (ix2 r q) = Ideal.fptosi 8 (rclip x) := by
  have e : k0_pay1 (F := Ideal) v 4294967169#32 (ix2 r q)
      = Ideal.fptosi 8 (min (wordE (127#32)) (max (wordE (4294967169#32)) (v (ix2 r q)))) := by
    pointwise [k0_pay1, wordE, FloatOps.fptosi, FloatOps.sitofp]
  rw [e, h, word_127, word_neg127, rclip]

/-- The second layer with the residual. -/
theorem pay2_at (s : Vec Ideal S1792 .f32) (v : Vec Ideal S1792x6144 .f32) (c : BitVec 32) (x : Vec Ideal S1792x3072 .f32) (w : Vec Ideal S6144x3072 .i8)
    (sw b : Vec Ideal S3072 .f32) (r : Fin 1792) (q : Fin 3072) :
    k0_pay2 s v c x w sw b (ix2 r q)
      = prAt (fun k => toE (k0_pay1 (F := Ideal) v c (ix2 r k))) (fun k => w (ix2 k q)) (s (ix1 r)) (sw (ix1 q)) (b (ix1 q)) (x (ix2 r q)) := by
  pointwise [k0_pay2, prAt, lin, toE, FloatOps.sitofp]

/-- The scales, laid out by sequence. -/
theorem pay3_at (s : Vec Ideal S1792 .f32) (a : Fin 2) (b : Fin 896)  :
    k0_pay3 (F := Ideal) s (ix2 a b) = s (ix1 ⟨a.val * 896 + b.val, by omega⟩) := by
  pointwise [k0_pay3]

end Cert.ReferenceIdeal.Hand

end
-- ==== Proof.MlpRef.lean ====
/-
  What the reference of the feed-forward call leaves in its result arrays, in the kernel's closed form.
-/
module

public import proofs.«01_k».proof.Proof.MlpRefPay
public import proofs.«01_k».proof.Proof.MlpVal
public import proofs.«01_k».proof.Proof.Gen.ReferenceIdeal.Value
public import Idealize.ShloMosaic.Lib.Pipeline.ValueKit
public import Idealize.ShloMosaic.Lib.StableHlo.ReadAt

@[expose] public section

set_option maxRecDepth 16384

noncomputable section

namespace Cert.ReferenceIdeal.Hand

open Cert.ReferenceIdeal Cert.ReferenceIdeal.Gen Cert.Mlp
open Cert.KernelIdeal.Hand (Ins fcAt prAt codeAt)
open Idealize.ShloMosaic Idealize.ShloMosaic.TcCoe Idealize.ShloMosaic.Tactic Idealize.ShloMosaic.Pointwise Idealize.SL.Sem

section
variable (x0 : Vec Ideal S1792x3072 .i8) (x1 : Vec Ideal S1792 .f32) (x2 : Vec Ideal S1792x3072 .f32) (x3 : Vec Ideal S3072x6144 .i8) (x4 x5 : Vec Ideal S6144 .f32)
  (x6 : Vec Ideal S6144x3072 .i8) (x7 x8 : Vec Ideal S3072 .f32)

/-- The reference's operands, in the shapes of the kernel's. -/
def opsOf : Ins :=
  ⟨x0, fun i => x1 (ix1 (i 0)), x2, x3, fun i => x4 (ix1 (i 1)), fun i => x5 (ix1 (i 1)), x6, fun i => x7 (ix1 (i 1)), fun i => x8 (ix1 (i 1))⟩

local notation "J" => opsOf x0 x1 x2 x3 x4 x5 x6 x7 x8

theorem val_f (r : Fin 1792) (q : Fin 6144) : k0_pay4 x0 x1 x3 x4 x5 (ix2 r q) = (J).f r q := pay4_at x0 x1 x3 x4 x5 r q

theorem val_s (r : Fin 1792) : k0_pay5 x0 x1 x3 x4 x5 (ix1 r) = (J).s r := by
  rw [pay5_at]; simp only [val_f x0 x1 x2 x3 x4 x5 x6 x7 x8]; rfl

theorem val_cd (r : Fin 1792) (q : Fin 6144) :
    k0_pay1 (F := Ideal) (k0_pay6 x0 x1 x3 x4 x5) 4294967169#32 (ix2 r q) = Ideal.fptosi 8 ((J).cd r q) := by
  rw [pay1_at _ _ r q (pay6_at x0 x1 x3 x4 x5 r q), val_f x0 x1 x2 x3 x4 x5 x6 x7 x8, val_s x0 x1 x2 x3 x4 x5 x6 x7 x8]
  exact congrArg (fun x => Ideal.fptosi 8 (rclip x)) (mul_recip _ _ (qscale_ne_zero _)).symm

theorem toE_cd (r : Fin 1792) (q : Fin 6144) : toE (Ideal.fptosi 8 ((J).cd r q)) = (J).cd r q := toE_fptosi_rclip _

theorem val_o (r : Fin 1792) (q : Fin 3072) :
    k0_pay2 (k0_pay5 x0 x1 x3 x4 x5) (k0_pay6 x0 x1 x3 x4 x5) 4294967169#32 x2 x6 x7 x8 (ix2 r q) = (J).o r q := by
  rw [pay2_at]
  simp only [val_cd x0 x1 x2 x3 x4 x5 x6 x7 x8, val_s x0 x1 x2 x3 x4 x5 x6 x7 x8, toE_cd]
  rfl

theorem out9_at (r : Fin 1792) (q : Fin 3072) : out0_9 x0 x1 x2 x3 x4 x5 x6 x7 x8 (ix2 r q) = (J).o r q := by
  unfold out0_9 k0_pay7 k0_pay8
  rw [View.canon_cons_unit_lit _ _ _ (by decide)]
  repeat rw [View.ld_unit_lit _ _ (by decide)]
  exact val_o x0 x1 x2 x3 x4 x5 x6 x7 x8 r q

theorem out10_at (r : Fin 1792) (q : Fin 6144) : out0_10 x0 x1 x2 x3 x4 x5 x6 x7 x8 (ix2 r q) = Ideal.fptosi 8 ((J).cd r q) := by
  unfold out0_10 k0_pay8
  rw [View.canon_cons_unit_lit _ _ _ (by decide)]
  repeat rw [View.ld_unit_lit _ _ (by decide)]
  exact val_cd x0 x1 x2 x3 x4 x5 x6 x7 x8 r q

theorem out11_at (a : Fin 2) (b : Fin 896) (R : Fin 1792) (hR : R.val = 896 * a.val + b.val) : out0_11 x0 x1 x2 x3 x4 x5 x6 x7 x8 (ix2 a b) = (J).s R := by
  unfold out0_11 k0_pay7
  rw [View.canon_cons_unit_lit _ _ _ (by decide)]
  repeat rw [View.ld_unit_lit _ _ (by decide)]
  have e : (⟨a.val * 896 + b.val, by omega⟩ : Fin 1792) = R := Fin.ext (by dsimp only; omega)
  rw [pay3_at, e]
  exact val_s x0 x1 x2 x3 x4 x5 x6 x7 x8 R
end

variable (m : (ℓ : Loc nD τ sig) → Buf (Elt Ideal) ℓ)

theorem at0 : ∀ t : Fin cfg0.N, win0_0.index t = ![0, 0] := by decide +kernel
theorem at1 : ∀ t : Fin cfg0.N, win0_1.index t = ![0] := by decide +kernel
theorem at2 : ∀ t : Fin cfg0.N, win0_2.index t = ![0, 0] := by decide +kernel
theorem at3 : ∀ t : Fin cfg0.N, win0_3.index t = ![0, 0] := by decide +kernel
theorem at4 : ∀ t : Fin cfg0.N, win0_4.index t = ![0] := by decide +kernel
theorem at5 : ∀ t : Fin cfg0.N, win0_5.index t = ![0] := by decide +kernel
theorem at6 : ∀ t : Fin cfg0.N, win0_6.index t = ![0, 0] := by decide +kernel
theorem at7 : ∀ t : Fin cfg0.N, win0_7.index t = ![0] := by decide +kernel
theorem at8 : ∀ t : Fin cfg0.N, win0_8.index t = ![0] := by decide +kernel
theorem at9 : ∀ t : Fin cfg0.N, win0_9.index t = ![0, 0] := by decide +kernel
theorem at10 : ∀ t : Fin cfg0.N, win0_10.index t = ![0, 0] := by decide +kernel
theorem at11 : ∀ t : Fin cfg0.N, win0_11.index t = ![0, 0] := by decide +kernel

theorem whole0 (c : Dev nD) (t : Fin cfg0.N) : iblk m c 0 t = V m c main_arg0 := by
  unfold iblk
  funext y
  refine congrArg (V m c main_arg0) (funext fun a => Fin.ext ?_)
  match a with
  | ⟨0, _⟩ => blk_simp [at0]
  | ⟨1, _⟩ => blk_simp [at0]
theorem whole1 (c : Dev nD) (t : Fin cfg0.N) : iblk m c 1 t = V m c main_v1 := by
  unfold iblk
  funext y
  refine congrArg (V m c main_v1) (funext fun a => Fin.ext ?_)
  match a with
  | ⟨0, _⟩ => blk_simp [at1]
theorem whole2 (c : Dev nD) (t : Fin cfg0.N) : iblk m c 2 t = V m c main_arg2 := by
  unfold iblk
  funext y
  refine congrArg (V m c main_arg2) (funext fun a => Fin.ext ?_)
  match a with
  | ⟨0, _⟩ => blk_simp [at2]
  | ⟨1, _⟩ => blk_simp [at2]
theorem whole3 (c : Dev nD) (t : Fin cfg0.N) : iblk m c 3 t = V m c main_arg3 := by
  unfold iblk
  funext y
  refine congrArg (V m c main_arg3) (funext fun a => Fin.ext ?_)
  match a with
  | ⟨0, _⟩ => blk_simp [at3]
  | ⟨1, _⟩ => blk_simp [at3]
theorem whole4 (c : Dev nD) (t : Fin cfg0.N) : iblk m c 4 t = V m c main_arg4 := by
  unfold iblk
  funext y
  refine congrArg (V m c main_arg4) (funext fun a => Fin.ext ?_)
  match a with
  | ⟨0, _⟩ => blk_simp [at4]
theorem whole5 (c : Dev nD) (t : Fin cfg0.N) : iblk m c 5 t = V m c main_arg5 := by
  unfold iblk
  funext y
  refine congrArg (V m c main_arg5) (funext fun a => Fin.ext ?_)
  match a with
  | ⟨0, _⟩ => blk_simp [at5]
theorem whole6 (c : Dev nD) (t : Fin cfg0.N) : iblk m c 6 t = V m c main_arg6 := by
  unfold iblk
  funext y
  refine congrArg (V m c main_arg6) (funext fun a => Fin.ext ?_)
  match a with
  | ⟨0, _⟩ => blk_simp [at6]
  | ⟨1, _⟩ => blk_simp [at6]
theorem whole7 (c : Dev nD) (t : Fin cfg0.N) : iblk m c 7 t = V m c main_arg7 := by
  unfold iblk
  funext y
  refine congrArg (V m c main_arg7) (funext fun a => Fin.ext ?_)
  match a with
  | ⟨0, _⟩ => blk_simp [at7]
theorem whole8 (c : Dev nD) (t : Fin cfg0.N) : iblk m c 8 t = V m c main_arg8 := by
  unfold iblk
  funext y
  refine congrArg (V m c main_arg8) (funext fun a => Fin.ext ?_)
  match a with
  | ⟨0, _⟩ => blk_simp [at8]

/-- The operands as the reference finds them. -/
def rops (c : Dev nD) : Ins := opsOf (V m c main_arg0) (V m c main_v1) (V m c main_arg2) (V m c main_arg3) (V m c main_arg4) (V m c main_arg5) (V m c main_arg6) (V m c main_arg7) (V m c main_arg8)

theorem ix2_self {a b : ℕ} (y : Shape.Idx ⟨2, ![a, b]⟩) : y = ix2 (y 0) (y 1) := by
  funext k; match k with
  | ⟨0, _⟩ => rfl
  | ⟨1, _⟩ => rfl

def res9 (c : Dev nD) : Vec Ideal S1792x3072 .bf16 := fun i => (rops m c).o (i 0) (i 1)
theorem final9 (c : Dev nD) : (dats m 0 c).arrAt 9 cfg0.N = res9 m c := by
  refine Pipeline.Dat.arrAt_eq_of_covers (cfg := cfg0) (dats m 0 c) (9 : Fin 12) _ (by decide +kernel) fun t hf y => ?_
  have e := congrFun (after0_9 m c t) y
  rw [whole0, whole1, whole2, whole3, whole4, whole5, whole6, whole7, whole8] at e
  blk_simp
  have ey : (win0_9.blk t).view.emb y = y := funext fun a => Fin.ext (by
    match a with
    | ⟨0, _⟩ => blk_simp [at9]
    | ⟨1, _⟩ => blk_simp [at9])
  refine e.trans ?_
  refine Eq.trans ?_ (congrArg (res9 m c) ey.symm)
  exact (congrArg _ (ix2_self (a := 1792) (b := 3072) y)).trans (out9_at _ _ _ _ _ _ _ _ _ (y 0) (y 1))

def res10 (c : Dev nD) : Vec Ideal S1792x6144 .i8 := fun i => Ideal.fptosi 8 ((rops m c).cd (i 0) (i 1))
theorem final10 (c : Dev nD) : (dats m 0 c).arrAt 10 cfg0.N = res10 m c := by
  refine Pipeline.Dat.arrAt_eq_of_covers (cfg := cfg0) (dats m 0 c) (10 : Fin 12) _ (by decide +kernel) fun t hf y => ?_
  have e := congrFun (after0_10 m c t) y
  rw [whole0, whole1, whole2, whole3, whole4, whole5, whole6, whole7, whole8] at e
  blk_simp
  have ey : (win0_10.blk t).view.emb y = y := funext fun a => Fin.ext (by
    match a with
    | ⟨0, _⟩ => blk_simp [at10]
    | ⟨1, _⟩ => blk_simp [at10])
  refine e.trans ?_
  refine Eq.trans ?_ (congrArg (res10 m c) ey.symm)
  exact (congrArg _ (ix2_self (a := 1792) (b := 6144) y)).trans (out10_at _ _ _ _ _ _ _ _ _ (y 0) (y 1))

def res11 (c : Dev nD) : Vec Ideal S2x896 .f32 := fun i => (rops m c).s ⟨896 * (i 0).val + (i 1).val, by have := (i 0).isLt; have := (i 1).isLt; change (i 0).val < 2 at *; change (i 1).val < 896 at *; omega⟩
theorem final11 (c : Dev nD) : (dats m 0 c).arrAt 11 cfg0.N = res11 m c := by
  refine Pipeline.Dat.arrAt_eq_of_covers (cfg := cfg0) (dats m 0 c) (11 : Fin 12) _ (by decide +kernel) fun t hf y => ?_
  have e := congrFun (after0_11 m c t) y
  rw [whole0, whole1, whole2, whole3, whole4, whole5, whole6, whole7, whole8] at e
  blk_simp
  have ey : (win0_11.blk t).view.emb y = y := funext fun a => Fin.ext (by
    match a with
    | ⟨0, _⟩ => blk_simp [at11]
    | ⟨1, _⟩ => blk_simp [at11])
  refine e.trans ?_
  refine Eq.trans ?_ (congrArg (res11 m c) ey.symm)
  exact (congrArg _ (ix2_self (a := 2) (b := 896) y)).trans (out11_at _ _ _ _ _ _ _ _ _ (y 0) (y 1) _ rfl)

end Cert.ReferenceIdeal.Hand

end
-- ==== Proof.MlpEq.lean ====
/-
  The feed-forward kernel and its reference, over the extended reals: the same results from the same arguments.
-/
module

public import proofs.«01_k».proof.Proof.MlpOut
public import proofs.«01_k».proof.Proof.MlpRef

@[expose] public section

set_option maxRecDepth 16384

noncomputable section

open Idealize.ShloMosaic Idealize.ShloMosaic.TcCoe Idealize.ShloMosaic.Tactic Idealize.ShloMosaic.Pointwise Idealize.SL.Sem Cert.Mlp

namespace Cert.KernelIdeal.Hand
open Cert.KernelIdeal Cert.KernelIdeal.Gen

variable (m : (ℓ : Loc nD τ sig) → Buf (Elt Ideal) ℓ)

theorem V_v0 (c : Dev nD) (C : Fin 6144) : V m c main_v0 (ix2 (0 : Fin 1) C) = m ((c : Thread nD τ).loc main_arg4) (ix1 C) := by
  unfold V
  after_reads_at
theorem V_v1 (c : Dev nD) (C : Fin 6144) : V m c main_v1 (ix2 (0 : Fin 1) C) = m ((c : Thread nD τ).loc main_arg5) (ix1 C) := by
  unfold V
  after_reads_at
theorem V_v2 (c : Dev nD) (C : Fin 3072) : V m c main_v2 (ix2 (0 : Fin 1) C) = m ((c : Thread nD τ).loc main_arg7) (ix1 C) := by
  unfold V
  after_reads_at
theorem V_v3 (c : Dev nD) (C : Fin 3072) : V m c main_v3 (ix2 (0 : Fin 1) C) = m ((c : Thread nD τ).loc main_arg8) (ix1 C) := by
  unfold V
  after_reads_at

/-- Two sets of operands that agree where they are read give the same results. -/
structure Same (I K : Ins) : Prop where
  h0 : ∀ i, I.a0 i = K.a0 i
  h1 : ∀ R : Fin 1792, I.a1 (ix2 R 0) = K.a1 (ix2 R 0)
  h2 : ∀ i, I.a2 i = K.a2 i
  h3 : ∀ i, I.a3 i = K.a3 i
  h4 : ∀ C : Fin 6144, I.a4 (ix2 0 C) = K.a4 (ix2 0 C)
  h5 : ∀ C : Fin 6144, I.a5 (ix2 0 C) = K.a5 (ix2 0 C)
  h6 : ∀ i, I.a6 i = K.a6 i
  h7 : ∀ C : Fin 3072, I.a7 (ix2 0 C) = K.a7 (ix2 0 C)
  h8 : ∀ C : Fin 3072, I.a8 (ix2 0 C) = K.a8 (ix2 0 C)

theorem Same.f {I K : Ins} (h : Same I K) (R : Fin 1792) (C : Fin 6144) : I.f R C = K.f R C := by
  simp only [Ins.f, h.h0, h.h1, h.h3, h.h4, h.h5]
theorem Same.s {I K : Ins} (h : Same I K) (R : Fin 1792) : I.s R = K.s R := by
  simp only [Ins.s, h.f]
theorem Same.cd {I K : Ins} (h : Same I K) (R : Fin 1792) (C : Fin 6144) : I.cd R C = K.cd R C := by
  simp only [Ins.cd, h.f, h.s]
theorem Same.o {I K : Ins} (h : Same I K) (R : Fin 1792) (C : Fin 3072) : I.o R C = K.o R C := by
  have e : I.cd R = K.cd R := funext fun C => h.cd R C
  simp only [Ins.o, e, h.s, h.h2, h.h6, h.h7, h.h8]

end Cert.KernelIdeal.Hand

namespace Cert.ReferenceIdeal.Hand
open Cert.ReferenceIdeal Cert.ReferenceIdeal.Gen

theorem V_v1 (m : (ℓ : Loc nD τ sig) → Buf (Elt Ideal) ℓ) (c : Dev nD) (R : Fin 1792) :
    V m c main_v1 (ix1 R) = m ((c : Thread nD τ).loc main_arg1) (ix2 R (0 : Fin 128)) := by
  unfold V
  after_reads_at

end Cert.ReferenceIdeal.Hand

namespace Cert.MlpEq

abbrev MemK := (ℓ : Loc Cert.KernelIdeal.nD Cert.KernelIdeal.τ Cert.KernelIdeal.sig) → Buf (Elt Ideal) ℓ
abbrev MemR := (ℓ : Loc Cert.ReferenceIdeal.nD Cert.ReferenceIdeal.τ Cert.ReferenceIdeal.sig) → Buf (Elt Ideal) ℓ

variable (m : MemK) (m' : MemR)

/-- The two programs' arguments are the same on a device. -/
def Args (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)

theorem same (c : Dev Cert.KernelIdeal.nD) (h : Args m m' c) : Cert.KernelIdeal.Hand.Same (Cert.ReferenceIdeal.Hand.rops m' c) (Cert.KernelIdeal.Hand.ins m c) := by
  obtain ⟨h0, h1, h2, h3, h4, h5, h6, h7, h8⟩ := h
  refine ⟨fun i => ?_, fun R => ?_, fun i => ?_, fun i => ?_, fun C => ?_, fun C => ?_, fun i => ?_, fun C => ?_, fun C => ?_⟩
  · exact congrFun (((Cert.ReferenceIdeal.Gen.V_main_arg0 m' c).trans h0).trans (Cert.KernelIdeal.Gen.V_main_arg0 m c).symm) i
  · exact (Cert.ReferenceIdeal.Hand.V_v1 m' c R).trans (congrFun (h1.trans (Cert.KernelIdeal.Gen.V_main_arg1 m c).symm) (ix2 R 0))
  · exact congrFun (((Cert.ReferenceIdeal.Gen.V_main_arg2 m' c).trans h2).trans (Cert.KernelIdeal.Gen.V_main_arg2 m c).symm) i
  · exact congrFun (((Cert.ReferenceIdeal.Gen.V_main_arg3 m' c).trans h3).trans (Cert.KernelIdeal.Gen.V_main_arg3 m c).symm) i
  · exact (congrFun ((Cert.ReferenceIdeal.Gen.V_main_arg4 m' c).trans h4) (ix1 C)).trans (Cert.KernelIdeal.Hand.V_v0 m c C).symm
  · exact (congrFun ((Cert.ReferenceIdeal.Gen.V_main_arg5 m' c).trans h5) (ix1 C)).trans (Cert.KernelIdeal.Hand.V_v1 m c C).symm
  · exact congrFun (((Cert.ReferenceIdeal.Gen.V_main_arg6 m' c).trans h6).trans (Cert.KernelIdeal.Gen.V_main_arg6 m c).symm) i
  · exact (congrFun ((Cert.ReferenceIdeal.Gen.V_main_arg7 m' c).trans h7) (ix1 C)).trans (Cert.KernelIdeal.Hand.V_v2 m c C).symm
  · exact (congrFun ((Cert.ReferenceIdeal.Gen.V_main_arg8 m' c).trans h8) (ix1 C)).trans (Cert.KernelIdeal.Hand.V_v3 m c C).symm

theorem res9 (c : Dev Cert.KernelIdeal.nD) (h : Args m m' c) : Cert.ReferenceIdeal.Hand.res9 m' c = Cert.KernelIdeal.Hand.outArr m c :=
  funext fun _ => (same m m' c h).o _ _
theorem res10 (c : Dev Cert.KernelIdeal.nD) (h : Args m m' c) : Cert.ReferenceIdeal.Hand.res10 m' c = Cert.KernelIdeal.Hand.codArr m c :=
  funext fun _ => congrArg (Ideal.fptosi 8) ((same m m' c h).cd _ _)
theorem res11 (c : Dev Cert.KernelIdeal.nD) (h : Args m m' c) : Cert.ReferenceIdeal.Hand.res11 m' c = Cert.KernelIdeal.Hand.scaArr m c :=
  funext fun _ => (same m m' c h).s _

end Cert.MlpEq

namespace Cert.KernelIdeal.Hand
open Cert.KernelIdeal Cert.KernelIdeal.Gen

/-- The kernel's runs: the results in closed form, the arguments unchanged. -/
theorem run_values (m : Cert.MlpEq.MemK) (ρ : Dev nD → PrngReg) : θ_run defs (onTc (τ := τ) (main (F := Ideal))) ⟨m, fun _ => 0, ρ⟩ (fun r => ∀ c : Dev nD,
    r.2.mem ((c.tc : Thread nD τ).loc main_v4_0) = outArr m c
    ∧ r.2.mem ((c.tc : Thread nD τ).loc main_v4_1) = codArr m c
    ∧ r.2.mem ((c.tc : Thread nD τ).loc main_v4_2) = scaArr m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)) :=
  (θ_run defs _ _).mono (fun _ hh c => have h := hh.1; ⟨(post_eq m h c).1, (post_eq m h c).2.1, (post_eq m h c).2.2, (Pipeline.RDat.FramePost.arr_in (cfg₁ := cfg0) h c (0 : Fin 12) rfl).trans ((A_eq m c 0).trans (V_main_arg0 m c)),
      (Pipeline.RDat.FramePost.arr_in (cfg₁ := cfg0) h c (1 : Fin 12) rfl).trans ((A_eq m c 1).trans (V_main_arg1 m c)),
      (Pipeline.RDat.FramePost.arr_in (cfg₁ := cfg0) h c (2 : Fin 12) rfl).trans ((A_eq m c 2).trans (V_main_arg2 m c)),
      (Pipeline.RDat.FramePost.arr_in (cfg₁ := cfg0) h c (3 : Fin 12) rfl).trans ((A_eq m c 3).trans (V_main_arg3 m c)),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      (Pipeline.RDat.FramePost.arr_in (cfg₁ := cfg0) h c (6 : Fin 12) rfl).trans ((A_eq m c 6).trans (V_main_arg6 m c)),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩) (run_main_quiescent m ρ)

end Cert.KernelIdeal.Hand

namespace Cert.ReferenceIdeal.Hand
open Cert.ReferenceIdeal Cert.ReferenceIdeal.Gen

/-- The reference's runs, likewise. -/
theorem run_values (m : Cert.MlpEq.MemR) (ρ : Dev nD → PrngReg) : θ_run defs (onTc (τ := τ) (main (F := Ideal))) ⟨m, fun _ => 0, ρ⟩ (fun r => ∀ c : Dev nD,
    r.2.mem ((c.tc : Thread nD τ).loc main_v2_0) = res9 m c
    ∧ r.2.mem ((c.tc : Thread nD τ).loc main_v2_1) = res10 m c
    ∧ r.2.mem ((c.tc : Thread nD τ).loc main_v2_2) = res11 m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)) :=
  (θ_run defs _ _).mono (fun _ hh c => ⟨(hh c).1.trans (final9 m c), (hh c).2.1.trans (final10 m c), (hh c).2.2.1.trans (final11 m c), (hh c).2.2.2⟩) (Cert.ReferenceIdeal.Value.run_blocks m ρ)

end Cert.ReferenceIdeal.Hand

end
-- ==== Proof.OutProjFrameRuns.lean ====
/-
  The output projection kernel as printed for the machine: which conditional each grid point takes, and the body run on each
  row block with the contents of its outputs left unsaid (what the frame claim needs).
-/
module

public import proofs.«01_k».proof.Proof.Gen.OutProj.Frame
public import proofs.«01_k».proof.Proof.Gen.OutProj.Skeleton
public import proofs.«01_k».proof.Proof.Gen.OutProj.Points
public import Idealize.ShloMosaic.Lib.Pipeline.FrameBody
public import Idealize.ShloMosaic.Lib.Tactic
public import Idealize.ShloMosaic.Lib.WordCmp
public import Idealize.ShloMosaic.Lib.Claim

@[expose] public section

set_option maxRecDepth 16384

noncomputable section

namespace Cert.OutProj.Hand

open Cert.OutProj Cert.OutProj.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Conditional 1 of the body is taken on row block 0. -/
abbrev cond0_1 (i : grid0.Coords) : Prop := k0_cond1 i = 1#1
theorem hcond0_1 : ∀ t : Fin cfg0.N, cond0_1 (grid0.coords t) ↔ t.val = 0 :=
  (fun t => by
    have ht : t.val < 4 := Nat.lt_of_lt_of_eq t.isLt N_0
    have e0 : (grid0.coords t 0).val = t.val / 1 % 4 := Pipeline.Grid.coords_val t 0 (by decide) rfl
    simp only [cond0_1, k0_cond1, e0]
    word_cmp
   : ∀ t : Fin grid0.N, cond0_1 (grid0.coords t) ↔ t.val = 0)
/-- Conditional 2 of the body is taken on row block 1. -/
abbrev cond0_2 (i : grid0.Coords) : Prop := k0_cond2 i = 1#1
theorem hcond0_2 : ∀ t : Fin cfg0.N, cond0_2 (grid0.coords t) ↔ t.val = 1 :=
  (fun t => by
    have ht : t.val < 4 := Nat.lt_of_lt_of_eq t.isLt N_0
    have e0 : (grid0.coords t 0).val = t.val / 1 % 4 := Pipeline.Grid.coords_val t 0 (by decide) rfl
    simp only [cond0_2, k0_cond2, e0]
    word_cmp
   : ∀ t : Fin grid0.N, cond0_2 (grid0.coords t) ↔ t.val = 1)
/-- Conditional 3 of the body is taken on row block 2. -/
abbrev cond0_3 (i : grid0.Coords) : Prop := k0_cond3 i = 1#1
theorem hcond0_3 : ∀ t : Fin cfg0.N, cond0_3 (grid0.coords t) ↔ t.val = 2 :=
  (fun t => by
    have ht : t.val < 4 := Nat.lt_of_lt_of_eq t.isLt N_0
    have e0 : (grid0.coords t 0).val = t.val / 1 % 4 := Pipeline.Grid.coords_val t 0 (by decide) rfl
    simp only [cond0_3, k0_cond3, e0]
    word_cmp
   : ∀ t : Fin grid0.N, cond0_3 (grid0.coords t) ↔ t.val = 2)
/-- Conditional 4 of the body is taken on row block 3. -/
abbrev cond0_4 (i : grid0.Coords) : Prop := k0_cond4 i = 1#1
theorem hcond0_4 : ∀ t : Fin cfg0.N, cond0_4 (grid0.coords t) ↔ t.val = 3 :=
  (fun t => by
    have ht : t.val < 4 := Nat.lt_of_lt_of_eq t.isLt N_0
    have e0 : (grid0.coords t 0).val = t.val / 1 % 4 := Pipeline.Grid.coords_val t 0 (by decide) rfl
    simp only [cond0_4, k0_cond4, e0]
    word_cmp
   : ∀ t : Fin grid0.N, cond0_4 (grid0.coords t) ↔ t.val = 3)
/-- What the body's frame takes of one grid point: on whole staging memrefs, the inputs at their contents and every
    output and scratch buffer at anything, the body runs and hands the inputs back as they were and the others at
    some contents. -/
def RunSpec (c : Dev nD) (i : grid0.Coords) : Prop :=
  ∀ (arg1 : Memref sig .tc .vmem S448x1536 .i8) (harg1 : arg1.IsWhole) (arg2 : Memref sig .tc .vmem S448x128 .f32) (harg2 : arg2.IsWhole) (arg3 : Memref sig .tc .vmem S448x3072 .bf16) (harg3 : arg3.IsWhole) (arg4 : Memref sig .tc .vmem S1536x3072 .i8) (harg4 : arg4.IsWhole) (arg5 : Memref sig .tc .vmem S1x3072 .f32) (harg5 : arg5.IsWhole) (arg6 : Memref sig .tc .vmem S1x3072 .f32) (harg6 : arg6.IsWhole) (arg7 : Memref sig .tc .vmem S1x3072 .f32) (harg7 : arg7.IsWhole) (arg8 : Memref sig .tc .vmem S1x3072 .f32) (harg8 : arg8.IsWhole) (arg9 : Memref sig .tc .vmem S448x3072 .f32) (harg9 : arg9.IsWhole) (arg10 : Memref sig .tc .vmem S448x3072 .i8) (harg10 : arg10.IsWhole) (arg11 : Memref sig .tc .vmem S2x896 .f32) (harg11 : arg11.IsWhole) (arg12 : Memref sig .tc .vmem S448x128 .f32) (harg12 : arg12.IsWhole) (arg13 : Memref sig .tc .vmem S448x1536 .bf16) (harg13 : arg13.IsWhole)
    (x0 : Vec F S448x1536 .i8) (x1 : Vec F S448x128 .f32) (x2 : Vec F S448x3072 .bf16) (x3 : Vec F S1536x3072 .i8) (x4 : Vec F S1x3072 .f32) (x5 : Vec F S1x3072 .f32) (x6 : Vec F S1x3072 .f32) (x7 : Vec F S1x3072 .f32) (E : Set ℕ) (K : PUnit → sProp 𝕄),
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) Variants.none c none) E (cc0_out_proj i arg1 harg1 arg2 harg2 arg3 harg3 arg4 harg4 arg5 harg5 arg6 harg6 arg7 harg7 arg8 harg8 arg9 harg9 arg10 harg10 arg11 harg11 arg12 harg12 arg13 harg13) K

set_option maxHeartbeats 16000000 in
/-- The body on row block `q`. -/
theorem run_at (c : Dev nD) (i : grid0.Coords) (q : ℕ) (hq : q < 4) (hc1 : cond0_1 i ↔ q = 0) (hc2 : cond0_2 i ↔ q = 1) (hc3 : cond0_3 i ↔ q = 2) (hc4 : cond0_4 i ↔ q = 3) : RunSpec (F := F) c i := by
  obtain rfl | rfl | rfl | rfl : q = 0 ∨ q = 1 ∨ q = 2 ∨ q = 3 := by omega
  all_goals
    simp only [Nat.reduceEqDiff, iff_true, iff_false] at hc1 hc2 hc3 hc4
    unfold RunSpec
    intro arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 E K
    simp only [cc0_out_proj_eq_skeleton]; unfold cc0_out_proj_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | sl_exact hc1 | sl_exact hc2 | sl_exact hc3 | sl_exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    iexists _, _; isplitr; swap; · iexact H12
    ipureintro; rfl

end Cert.OutProj.Hand

end
-- ==== Proof.OutProjFrame.lean ====
/-
  The frame of the output projection kernel as printed for the machine: every run ends with the argument arrays unchanged
  and the semaphore counters at zero. The contents of the outputs are left unsaid.
-/
module

public import proofs.«01_k».proof.Proof.OutProjFrameRuns

@[expose] public section

set_option maxRecDepth 16384

noncomputable section

namespace Cert.OutProj.Hand

open Cert.OutProj Cert.OutProj.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body runs at every grid point. -/
theorem run_all (c : Dev nD) (t : Fin cfg0.N) : RunSpec (F := F) c (grid0.coords t) := by
  have hN : t.val < 4 := lt_of_lt_of_eq t.isLt (show cfg0.N = 4 from N_0)
  exact run_at c _ t.val hN (hcond0_1 t) (hcond0_2 t) (hcond0_3 t) (hcond0_4 t)

/-! ## The pipeline's proof data -/

/-- The output windows, whose contents the frame does not state. -/
def forgets0 : Fin 12 → Bool := fun w => w.val == 8 || w.val == 9 || w.val == 10 || w.val == 11

/-- The proof data: the arrays as the region finds them; each input's buffer at its block; the outputs unnamed; between
    points the scratch buffers at some contents. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem leaves0_0 (c : Dev nD) (t : Fin cfg0.N) : (dats m 0 c).leavesExact 0 t = owns (c : Thread nD τ) (st0_0 t) fullShare (iblk m c 0 t) := by
  unfold Dat.leavesExact; rw [show cfg0.idle 0 (grid0.coords t) = false from rfl, after0_0]
theorem leaves0_1 (c : Dev nD) (t : Fin cfg0.N) : (dats m 0 c).leavesExact 1 t = owns (c : Thread nD τ) (st0_1 t) fullShare (iblk m c 1 t) := by
  unfold Dat.leavesExact; rw [show cfg0.idle 1 (grid0.coords t) = false from rfl, after0_1]
theorem leaves0_2 (c : Dev nD) (t : Fin cfg0.N) : (dats m 0 c).leavesExact 2 t = owns (c : Thread nD τ) (st0_2 t) fullShare (iblk m c 2 t) := by
  unfold Dat.leavesExact; rw [show cfg0.idle 2 (grid0.coords t) = false from rfl, after0_2]
theorem leaves0_3 (c : Dev nD) (t : Fin cfg0.N) : (dats m 0 c).leavesExact 3 t = owns (c : Thread nD τ) (st0_3 t) fullShare (iblk m c 3 t) := by
  unfold Dat.leavesExact; rw [show cfg0.idle 3 (grid0.coords t) = false from rfl, after0_3]
theorem leaves0_4 (c : Dev nD) (t : Fin cfg0.N) : (dats m 0 c).leavesExact 4 t = owns (c : Thread nD τ) (st0_4 t) fullShare (iblk m c 4 t) := by
  unfold Dat.leavesExact; rw [show cfg0.idle 4 (grid0.coords t) = false from rfl, after0_4]
theorem leaves0_5 (c : Dev nD) (t : Fin cfg0.N) : (dats m 0 c).leavesExact 5 t = owns (c : Thread nD τ) (st0_5 t) fullShare (iblk m c 5 t) := by
  unfold Dat.leavesExact; rw [show cfg0.idle 5 (grid0.coords t) = false from rfl, after0_5]
theorem leaves0_6 (c : Dev nD) (t : Fin cfg0.N) : (dats m 0 c).leavesExact 6 t = owns (c : Thread nD τ) (st0_6 t) fullShare (iblk m c 6 t) := by
  unfold Dat.leavesExact; rw [show cfg0.idle 6 (grid0.coords t) = false from rfl, after0_6]
theorem leaves0_7 (c : Dev nD) (t : Fin cfg0.N) : (dats m 0 c).leavesExact 7 t = owns (c : Thread nD τ) (st0_7 t) fullShare (iblk m c 7 t) := by
  unfold Dat.leavesExact; rw [show cfg0.idle 7 (grid0.coords t) = false from rfl, after0_7]

/-- The scratch buffer between points, as a memref at some contents. -/
theorem PhiA0_eq (c : Dev nD) :
    (Pipeline.ΦA spec0 c : sProp 𝕄)
      = iprop((∃ d, owns (c : Thread nD τ) (Memref.whole cc0_scratch0) fullShare d) ∗ (∃ r, prngReg c r)) := by
  unfold Pipeline.ΦA; rw [scopedRest0_eq]; simp only [owns_whole]; try rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare d)
    ∗ (∃ d, owns (c : Thread nD τ) (st0_9 t) fullShare d)
    ∗ (∃ d, owns (c : Thread nD τ) (st0_10 t) fullShare d)
    ∗ (∃ d, owns (c : Thread nD τ) (st0_11 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (∃ d, owns (c : Thread nD τ) (st0_8 t) fullShare d)
    ∗ (∃ d, owns (c : Thread nD τ) (st0_9 t) fullShare d)
    ∗ (∃ d, owns (c : Thread nD τ) (st0_10 t) fullShare d)
    ∗ (∃ d, owns (c : Thread nD τ) (st0_11 t) fullShare d))

set_option maxHeartbeats 4800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, leaves0_0, leaves0_1, leaves0_2, leaves0_3, leaves0_4, leaves0_5, leaves0_6, leaves0_7]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9, H10, H11⟩
  iapply (run_all (F := F) c t _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS0]; · iexact HS0
  iintro ⟨H0, H1, H2, H3, H4, H5, H6, H7, H8, H9, H10, H11, HS0⟩
  isplitl [HS0 Hg]
  · isplitl [HS0]; · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The argument arrays end unchanged and the semaphore counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ hh => ⟨fun c => have h := hh.1; ⟨(Pipeline.RDat.FramePost.arr_in (cfg₁ := cfg0) h c (0 : Fin 12) rfl).trans ((A_eq m c 0).trans (V_main_arg0 m c)),
      (Pipeline.RDat.FramePost.arr_in (cfg₁ := cfg0) h c (1 : Fin 12) rfl).trans ((A_eq m c 1).trans (V_main_arg1 m c)),
      (Pipeline.RDat.FramePost.arr_in (cfg₁ := cfg0) h c (2 : Fin 12) rfl).trans ((A_eq m c 2).trans (V_main_arg2 m c)),
      (Pipeline.RDat.FramePost.arr_in (cfg₁ := cfg0) h c (3 : Fin 12) rfl).trans ((A_eq m c 3).trans (V_main_arg3 m c)),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩, hh.2⟩) (run_main_quiescent m ρ)

end Cert.OutProj.Hand

end
-- ==== Proof.LnMath.lean ====
/-
  The layer norm of a row over the extended reals, and the scale and code of an entry of the normalised row.
-/
module

public import proofs.«01_k».proof.Proof.MlpMath

@[expose] public section

set_option maxRecDepth 16384

noncomputable section

namespace Cert.Ln

open Idealize.ShloMosaic Cert.Mlp

/-- A row less its mean. -/
def cent (v : Fin 3072 → EReal) (C : Fin 3072) : EReal := v C - Ideal.div (∑ k, v k) (Ideal.ofBits .f32 0x45400000#32)

/-- The layer norm of a row, with gain `g` and bias `b`. -/
def lnorm (g b v : Fin 3072 → EReal) (C : Fin 3072) : EReal :=
  cent v C * Ideal.rsqrt (Ideal.div (∑ k, cent v k * cent v k) (Ideal.ofBits .f32 0x45400000#32) + Ideal.ofBits .f32 0x3727C5AC#32) * g C + b C

/-- The scale of a row. -/
def rowScale (v : Fin 3072 → EReal) : EReal := qscale (Finset.univ.fold max (Ideal.ofBits .f32 0xFF800000#32) fun C => mag (v C))

/-- A row's entry over the row's scale, rounded and clipped. -/
def rowCode (v : Fin 3072 → EReal) (C : Fin 3072) : EReal := rclip (Ideal.div (v C) (rowScale v))

end Cert.Ln

end
-- ==== Proof.OutProjPay.lean ====
/-
  What the output projection kernel's stored values are at an index, over the extended reals.
-/
module

public import proofs.«01_k».proof.Proof.LnMath
public import proofs.«01_k».proof.Proof.Gen.OutProjIdeal.Skeleton

@[expose] public section

set_option maxRecDepth 16384

noncomputable section

namespace Cert.OutProjIdeal.Hand

open Cert.OutProjIdeal Cert.OutProjIdeal.Gen Cert.Mlp Cert.Ln
open Idealize.ShloMosaic Idealize.ShloMosaic.Pointwise

/-- The codes as numbers. -/
theorem pay2_at (v : Vec Ideal S448x1536 .i8) (r : Fin 448) (k : Fin 1536) : k0_pay2 (F := Ideal) v (ix2 r k) = toE (v (ix2 r k)) := by
  pointwise [k0_pay2, toE, FloatOps.sitofp]

/-! A column tile: the residual plus the projection. -/

theorem pay3_at (v5 : Vec Ideal S448x1 .f32) (a : Vec Ideal S448x1536 .bf16) (w : Vec Ideal S1536x256 .i8) (x : Vec Ideal S448x256 .bf16) (s b : Vec Ideal S1x256 .f32) (r : Fin 448) (q : Fin 256) :
    k0_pay3 v5 a w x s b (ix2 r q) = x (ix2 r q) + lin (fun k => a (ix2 r k)) (fun k => toE (w (ix2 k q))) (v5 (ix2 r 0)) (s (ix2 0 q)) (b (ix2 0 q)) := by
  pointwise [k0_pay3, lin, toE, FloatOps.sitofp]

theorem pay8_at (v5 : Vec Ideal S448x1 .f32) (a : Vec Ideal S448x1536 .bf16) (w : Vec Ideal S1536x256 .i8) (x : Vec Ideal S448x256 .bf16) (s b : Vec Ideal S1x256 .f32) (r : Fin 448) (q : Fin 256) :
    k0_pay8 v5 a w x s b (ix2 r q) = x (ix2 r q) + lin (fun k => a (ix2 r k)) (fun k => toE (w (ix2 k q))) (v5 (ix2 r 0)) (s (ix2 0 q)) (b (ix2 0 q)) := by
  pointwise [k0_pay8, lin, toE, FloatOps.sitofp]

theorem pay11_at (v5 : Vec Ideal S448x1 .f32) (a : Vec Ideal S448x1536 .bf16) (w : Vec Ideal S1536x256 .i8) (x : Vec Ideal S448x256 .bf16) (s b : Vec Ideal S1x256 .f32) (r : Fin 448) (q : Fin 256) :
    k0_pay11 v5 a w x s b (ix2 r q) = x (ix2 r q) + lin (fun k => a (ix2 r k)) (fun k => toE (w (ix2 k q))) (v5 (ix2 r 0)) (s (ix2 0 q)) (b (ix2 0 q)) := by
  pointwise [k0_pay11, lin, toE, FloatOps.sitofp]

theorem pay12_at (v5 : Vec Ideal S448x1 .f32) (a : Vec Ideal S448x1536 .bf16) (w : Vec Ideal S1536x256 .i8) (x : Vec Ideal S448x256 .bf16) (s b : Vec Ideal S1x256 .f32) (r : Fin 448) (q : Fin 256) :
    k0_pay12 v5 a w x s b (ix2 r q) = x (ix2 r q) + lin (fun k => a (ix2 r k)) (fun k => toE (w (ix2 k q))) (v5 (ix2 r 0)) (s (ix2 0 q)) (b (ix2 0 q)) := by
  pointwise [k0_pay12, lin, toE, FloatOps.sitofp]

theorem pay13_at (v5 : Vec Ideal S448x1 .f32) (a : Vec Ideal S448x1536 .bf16) (w : Vec Ideal S1536x256 .i8) (x : Vec Ideal S448x256 .bf16) (s b : Vec Ideal S1x256 .f32) (r : Fin 448) (q : Fin 256) :
    k0_pay13 v5 a w x s b (ix2 r q) = x (ix2 r q) + lin (fun k => a (ix2 r k)) (fun k => toE (w (ix2 k q))) (v5 (ix2 r 0)) (s (ix2 0 q)) (b (ix2 0 q)) := by
  pointwise [k0_pay13, lin, toE, FloatOps.sitofp]

theorem pay14_at (v5 : Vec Ideal S448x1 .f32) (a : Vec Ideal S448x1536 .bf16) (w : Vec Ideal S1536x256 .i8) (x : Vec Ideal S448x256 .bf16) (s b : Vec Ideal S1x256 .f32) (r : Fin 448) (q : Fin 256) :
    k0_pay14 v5 a w x s b (ix2 r q) = x (ix2 r q) + lin (fun k => a (ix2 r k)) (fun k => toE (w (ix2 k q))) (v5 (ix2 r 0)) (s (ix2 0 q)) (b (ix2 0 q)) := by
  pointwise [k0_pay14, lin, toE, FloatOps.sitofp]

theorem pay15_at (v5 : Vec Ideal S448x1 .f32) (a : Vec Ideal S448x1536 .bf16) (w : Vec Ideal S1536x256 .i8) (x : Vec Ideal S448x256 .bf16) (s b : Vec Ideal S1x256 .f32) (r : Fin 448) (q : Fin 256) :
    k0_pay15 v5 a w x s b (ix2 r q) = x (ix2 r q) + lin (fun k => a (ix2 r k)) (fun k => toE (w (ix2 k q))) (v5 (ix2 r 0)) (s (ix2 0 q)) (b (ix2 0 q)) := by
  pointwise [k0_pay15, lin, toE, FloatOps.sitofp]

theorem pay16_at (v5 : Vec Ideal S448x1 .f32) (a : Vec Ideal S448x1536 .bf16) (w : Vec Ideal S1536x256 .i8) (x : Vec Ideal S448x256 .bf16) (s b : Vec Ideal S1x256 .f32) (r : Fin 448) (q : Fin 256) :
    k0_pay16 v5 a w x s b (ix2 r q) = x (ix2 r q) + lin (fun k => a (ix2 r k)) (fun k => toE (w (ix2 k q))) (v5 (ix2 r 0)) (s (ix2 0 q)) (b (ix2 0 q)) := by
  pointwise [k0_pay16, lin, toE, FloatOps.sitofp]

theorem pay21_at (v5 : Vec Ideal S448x1 .f32) (a : Vec Ideal S448x1536 .bf16) (w : Vec Ideal S1536x256 .i8) (x : Vec Ideal S448x256 .bf16) (s b : Vec Ideal S1x256 .f32) (r : Fin 448) (q : Fin 256) :
    k0_pay21 v5 a w x s b (ix2 r q) = x (ix2 r q) + lin (fun k => a (ix2 r k)) (fun k => toE (w (ix2 k q))) (v5 (ix2 r 0)) (s (ix2 0 q)) (b (ix2 0 q)) := by
  pointwise [k0_pay21, lin, toE, FloatOps.sitofp]

theorem pay7_at (v5 : Vec Ideal S448x1 .f32) (a : Vec Ideal S448x1536 .bf16) (w : Vec Ideal S1536x256 .i8) (x : Vec Ideal S448x256 .bf16) (s b : Vec Ideal S1x256 .f32) (r : Fin 448) (q : Fin 256) :
    k0_pay7 (k0_pay4 a w) (k0_pay5 x) (k0_pay6 v5) s b (ix2 r q) = x (ix2 r q) + lin (fun k => a (ix2 r k)) (fun k => toE (w (ix2 k q))) (v5 (ix2 r 0)) (s (ix2 0 q)) (b (ix2 0 q)) := by
  pointwise [k0_pay7, k0_pay4, k0_pay5, k0_pay6, lin, toE, FloatOps.sitofp]

theorem pay10_at (v5 : Vec Ideal S448x1 .f32) (a : Vec Ideal S448x1536 .bf16) (w : Vec Ideal S1536x256 .i8) (x : Vec Ideal S448x256 .bf16) (s b : Vec Ideal S1x256 .f32) (r : Fin 448) (q : Fin 256) :
    k0_pay10 v5 (k0_pay9 a w) x s b (ix2 r q) = x (ix2 r q) + lin (fun k => a (ix2 r k)) (fun k => toE (w (ix2 k q))) (v5 (ix2 r 0)) (s (ix2 0 q)) (b (ix2 0 q)) := by
  pointwise [k0_pay10, k0_pay9, lin, toE, FloatOps.sitofp]

theorem pay20_at (v5 : Vec Ideal S448x1 .f32) (a : Vec Ideal S448x1536 .bf16) (w : Vec Ideal S1536x256 .i8) (x : Vec Ideal S448x256 .bf16) (s b : Vec Ideal S1x256 .f32) (r : Fin 448) (q : Fin 256) :
    k0_pay20 (k0_pay17 x) (k0_pay18 v5 a w s) (k0_pay19 b) (ix2 r q) = x (ix2 r q) + lin (fun k => a (ix2 r k)) (fun k => toE (w (ix2 k q))) (v5 (ix2 r 0)) (s (ix2 0 q)) (b (ix2 0 q)) := by
  pointwise [k0_pay20, k0_pay17, k0_pay18, k0_pay19, lin, toE, FloatOps.sitofp]

/-! The layer norm of the block, its scales and codes. -/

theorem cent_of (x : Vec Ideal S448x3072 .f32) (r : Fin 448) (C : Fin 3072) : k0_pay24 (F := Ideal) x (ix2 r C) = cent (fun C => x (ix2 r C)) C := by
  pointwise [k0_pay24, cent]
theorem sq_of (x : Vec Ideal S448x3072 .f32) (r : Fin 448) (C : Fin 3072) :
    k0_pay25 (F := Ideal) x (ix2 r C) = cent (fun C => x (ix2 r C)) C * cent (fun C => x (ix2 r C)) C := by
  rw [← cent_of]; pointwise [k0_pay25]
theorem gain_of (g : Vec Ideal S1x3072 .f32) (C : Fin 3072) : k0_pay22 (F := Ideal) g (ix2 0 C) = g (ix2 0 C) := by pointwise [k0_pay22]
theorem bias_of (g : Vec Ideal S1x3072 .f32) (C : Fin 3072) : k0_pay23 (F := Ideal) g (ix2 0 C) = g (ix2 0 C) := by pointwise [k0_pay23]

theorem norm_of (g b : FVec Ideal S1x3072 .f32) (u w : FVec Ideal S448x3072 .f32) (r : Fin 448) (C : Fin 3072) :
    k0_pay26 (F := Ideal) g b u w (ix2 r C)
      = u (ix2 r C) * Ideal.rsqrt (Ideal.div (∑ k, w (ix2 r k)) (Ideal.ofBits .f32 0x45400000#32) + Ideal.ofBits .f32 0x3727C5AC#32) * g (ix2 0 C) + b (ix2 0 C) := by
  pointwise [k0_pay26]

theorem top_of (g : FVec Ideal S448x3072 .f32) (r : Fin 448) :
    multiReduction .maximumf [1] S448 g 0xFF800000#32 reduces_S448x3072_S448 (.inl rfl) rfl (ix1 r)
      = Finset.univ.fold max (Ideal.ofBits .f32 0xFF800000#32) fun C => g (ix2 r C) := by
  pointwise []

theorem abs_of (g : FVec Ideal S448x3072 .f32) (r : Fin 448) (q : Fin 3072) : absf g (ix2 r q) = mag (g (ix2 r q)) := by
  pointwise [mag, FloatOps.absf]

theorem scale_of (t : FVec Ideal S448 .f32) (r : Fin 448) :
    select (cmpf .ogt (shapeCast S448x1 t shapeCasts_S448_S448x1) (broadcast S448x1 (Scalar.ofBits (F := Ideal) .f32 0x00000000#32)))
      (divf (shapeCast S448x1 t shapeCasts_S448_S448x1) (broadcast S448x1 (Scalar.ofBits (F := Ideal) .f32 0x42FE0000#32)))
      (broadcast S448x1 (Scalar.ofBits (F := Ideal) .f32 0x3F800000#32)) (ix2 r 0) = qscale (t (ix1 r)) := by
  pointwise [qscale]

theorem clip_of (y : FVec Ideal S448x3072 .f32) (s : FVec Ideal S448x1 .f32) (r : Fin 448) (q : Fin 3072) :
    fptosi 8 (minimumf (broadcast S448x3072 (Scalar.ofBits (F := Ideal) .f32 0x42FE0000#32)) (maximumf (broadcast S448x3072 (Scalar.ofBits (F := Ideal) .f32 0xC2FE0000#32))
      (roundeven (mulf y (broadcastTo S448x3072 (divf (broadcast S448x1 (Scalar.ofBits (F := Ideal) .f32 0x3F800000#32)) s) broadcasts_S448x1_S448x3072))))) (ix2 r q)
      = Ideal.fptosi 8 (rclip (y (ix2 r q) * Ideal.div (Ideal.ofBits .f32 0x3F800000#32) (s (ix2 r 0)))) := by
  pointwise [rclip, FloatOps.fptosi]

variable (g b : FVec Ideal S1x3072 .f32) (u w : FVec Ideal S448x3072 .f32)

theorem pay27_at (r : Fin 448) : k0_pay27 (F := Ideal) g b u w (ix2 r 0) = rowScale fun C => k0_pay26 (F := Ideal) g b u w (ix2 r C) :=
  (scale_of _ r).trans <| congrArg qscale <| (top_of _ r).trans <| by simp only [abs_of]

theorem pay28_at (r : Fin 448) (q : Fin 3072) :
    k0_pay28 (F := Ideal) g b u w (ix2 r q) = Ideal.fptosi 8 (rowCode (fun C => k0_pay26 (F := Ideal) g b u w (ix2 r C)) q) :=
  (clip_of (k0_pay26 (F := Ideal) g b u w) (k0_pay27 (F := Ideal) g b u w) r q).trans <| by
    rw [pay27_at]
    exact congrArg (fun x => Ideal.fptosi 8 (rclip x)) (mul_recip _ _ (qscale_ne_zero _))

theorem row_of (s : FVec Ideal S448x1 .f32) (r : Fin 448) :
    extractStridedSlice S1x448 ![0, 0] (transpose S128x448 [1, 0] (broadcastTo S448x128 (shapeCast S448x1 s shapeCasts_S448x1_S448x1) broadcasts_S448x1_S448x128) transposes_S448x128_p1_0_S128x448) slices_S128x448_o0_0_S1x448 (ix2 0 r)
      = s (ix2 r 0) := by
  pointwise []
theorem pay29_at (r : Fin 448) : k0_pay29 (F := Ideal) g b u w (ix2 0 r) = k0_pay27 (F := Ideal) g b u w (ix2 r 0) :=
  row_of (k0_pay27 (F := Ideal) g b u w) r
theorem pay1_at (s : FVec Ideal S448x1 .f32) (r : Fin 448) (l : Fin 128) : k0_pay1 (F := Ideal) s (ix2 r l) = s (ix2 r 0) := by
  pointwise [k0_pay1]

/-- The normalised block. -/
theorem h_at (x : Vec Ideal S448x3072 .f32) (g b : Vec Ideal S1x3072 .f32) (r : Fin 448) :
    (fun C => k0_pay26 (F := Ideal) (k0_pay22 g) (k0_pay23 b) (k0_pay24 x) (k0_pay25 x) (ix2 r C))
      = lnorm (fun C => g (ix2 0 C)) (fun C => b (ix2 0 C)) (fun C => x (ix2 r C)) := by
  funext C
  rw [norm_of, gain_of, bias_of, cent_of]
  simp only [sq_of]
  rfl

end Cert.OutProjIdeal.Hand

end
-- ==== Proof.Boxes.lean ====
/-
  Loads and stores of boxes of a whole two-dimensional buffer, entry by entry: a load at an offset, the newest store at a
  place it holds and at a place it does not, a load covered by earlier stores.
-/
module

public import Idealize.ShloMosaic.Lib.Pointwise
public import Idealize.ShloMosaic.Lib.IdealHost
public import Idealize.ShloMosaic.Lib.Pipeline.FrameBody
public import Idealize.ShloMosaic.Lib.Tactic
public import Idealize.ShloMosaic.Lib.Writes

@[expose] public section

set_option maxRecDepth 16384

noncomputable section

namespace Cert.Boxes

open Idealize.ShloMosaic Idealize.ShloMosaic.TcCoe Idealize.ShloMosaic.Tactic
open Idealize.ShloMosaic.Rounds Idealize.ShloMosaic.Pointwise

section
variable {sig : RefSig} {A B p q o0 o1 : ℕ} {e : EltTy}

theorem ix2_eta (x : (⟨2, ![p, q]⟩ : Shape).Idx) : x = ix2 (⟨(x 0).val, (x 0).isLt⟩ : Fin p) (⟨(x 1).val, (x 1).isLt⟩ : Fin q) := by
  funext a
  match a with
  | ⟨0, _⟩ => rfl
  | ⟨1, _⟩ => rfl

/-- Where a box of unit stride puts a place. -/
theorem emb_at (inb : ∀ a, ![o0, o1] a + ![p, q] a ≤ (⟨2, ![A, B]⟩ : Shape).size a) (a : Fin p) (b : Fin q) (a' : Fin A) (b' : Fin B)
    (ha : a'.val = o0 + a.val) (hb : b'.val = o1 + b.val) :
    (Rect.unit (s := ⟨2, ![A, B]⟩) ![o0, o1] ![p, q] inb).emb (ix2 a b) = ix2 a' b' := by
  refine Rect.emb_eq_of_coords _ _ _ fun i => ?_
  match i with
  | ⟨0, _⟩ => show a'.val = o0 + 1 * a.val; omega
  | ⟨1, _⟩ => show b'.val = o1 + 1 * b.val; omega

/-- A load of a box of a whole buffer reads the buffer's entry at the box's offsets plus the place in the box. -/
theorem rd (m : Memref sig .tc .vmem ⟨2, ![A, B]⟩ e) (hm : m.IsWhole) (d : Vec Ideal ⟨2, ![A, B]⟩ e)
    (inb : ∀ a, ![o0, o1] a + ![p, q] a ≤ (⟨2, ![A, B]⟩ : Shape).size a) (a : Fin p) (b : Fin q) (a' : Fin A) (b' : Fin B)
    (ha : a'.val = o0 + a.val) (hb : b'.val = o1 + b.val) :
    View.readAt (Elt Ideal) m.view (Rect.unit (s := ⟨2, ![A, B]⟩) ![o0, o1] ![p, q] inb).toLoadRect (hm.unread d) (ix2 a b) = d (ix2 a' b') := by
  rw [View.readAt_eq_ld, Memref.IsWhole.read_unread]
  exact congrArg d (emb_at inb a b a' b' ha hb)

/-- A stored box whose entries are a function's values at the places they are stored to. -/
theorem piece_ok (inb : ∀ a, ![o0, o1] a + ![p, q] a ≤ (⟨2, ![A, B]⟩ : Shape).size a) (w : Vec Ideal ⟨2, ![p, q]⟩ e)
    (G : Vec Ideal ⟨2, ![A, B]⟩ e)
    (h : ∀ (a : Fin p) (b : Fin q) (a' : Fin A) (b' : Fin B), a'.val = o0 + a.val → b'.val = o1 + b.val → w (ix2 a b) = G (ix2 a' b'))
    (x : (⟨2, ![p, q]⟩ : Shape).Idx) :
    w x = G ((Rect.unit (s := ⟨2, ![A, B]⟩) ![o0, o1] ![p, q] inb).emb x) := by
  obtain ⟨a, b, rfl⟩ : ∃ a b, x = ix2 a b := ⟨_, _, ix2_eta x⟩
  have hA : o0 + a.val < A := lt_of_lt_of_le (Nat.add_lt_add_left a.isLt o0) (inb 0)
  have hB : o1 + b.val < B := lt_of_lt_of_le (Nat.add_lt_add_left b.isLt o1) (inb 1)
  rw [emb_at inb a b ⟨o0 + a.val, hA⟩ ⟨o1 + b.val, hB⟩ rfl rfl]
  exact h _ _ _ _ rfl rfl

/-- Reading back at a place the newest store holds, -/
theorem hit (m : Memref sig .tc .vmem ⟨2, ![A, B]⟩ e) (f : m.view.ty.Contents (Elt Ideal)) (off : Fin 2 → ℕ) (ho : off = ![o0, o1])
    (inb : ∀ a, off a + ![p, q] a ≤ (⟨2, ![A, B]⟩ : Shape).size a) (w : Vec Ideal ⟨2, ![p, q]⟩ e) (L : List (View.Piece (Elt Ideal) ⟨2, ![A, B]⟩ e))
    (a : Fin p) (b : Fin q) (a' : Fin A) (b' : Fin B) (ha : a'.val = o0 + a.val) (hb : b'.val = o1 + b.val) :
    View.read (Elt Ideal) m.view (m.view.writes (Elt Ideal) f (⟨Rect.unit (s := ⟨2, ![A, B]⟩) off ![p, q] inb, w⟩ :: L)) (ix2 a' b') = w (ix2 a b) := by
  subst ho
  exact View.read_writes_cons_hit m.view f (Rect.unit (s := ⟨2, ![A, B]⟩) ![o0, o1] ![p, q] inb) w L (ix2 a b) (ix2 a' b') (emb_at inb a b a' b' ha hb)

/-- and at a place whose column it does not hold, -/
theorem miss (m : Memref sig .tc .vmem ⟨2, ![A, B]⟩ e) (f : m.view.ty.Contents (Elt Ideal)) (off : Fin 2 → ℕ) (ho : off = ![o0, o1])
    (inb : ∀ a, off a + ![p, q] a ≤ (⟨2, ![A, B]⟩ : Shape).size a) (w : Vec Ideal ⟨2, ![p, q]⟩ e) (L : List (View.Piece (Elt Ideal) ⟨2, ![A, B]⟩ e))
    (a' : Fin A) (b' : Fin B) (hb : b'.val < o1 ∨ o1 + q ≤ b'.val) :
    View.read (Elt Ideal) m.view (m.view.writes (Elt Ideal) f (⟨Rect.unit (s := ⟨2, ![A, B]⟩) off ![p, q] inb, w⟩ :: L)) (ix2 a' b')
      = View.read (Elt Ideal) m.view (m.view.writes (Elt Ideal) f L) (ix2 a' b') := by
  subst ho
  exact View.read_writes_cons_miss_of_axis m.view f ⟨Rect.unit (s := ⟨2, ![A, B]⟩) ![o0, o1] ![p, q] inb, w⟩ L (ix2 a' b') 1 o1 q rfl rfl rfl hb

/-- or whose row. -/
theorem miss0 (m : Memref sig .tc .vmem ⟨2, ![A, B]⟩ e) (f : m.view.ty.Contents (Elt Ideal)) (off : Fin 2 → ℕ) (ho : off = ![o0, o1])
    (inb : ∀ a, off a + ![p, q] a ≤ (⟨2, ![A, B]⟩ : Shape).size a) (w : Vec Ideal ⟨2, ![p, q]⟩ e) (L : List (View.Piece (Elt Ideal) ⟨2, ![A, B]⟩ e))
    (a' : Fin A) (b' : Fin B) (hb : a'.val < o0 ∨ o0 + p ≤ a'.val) :
    View.read (Elt Ideal) m.view (m.view.writes (Elt Ideal) f (⟨Rect.unit (s := ⟨2, ![A, B]⟩) off ![p, q] inb, w⟩ :: L)) (ix2 a' b')
      = View.read (Elt Ideal) m.view (m.view.writes (Elt Ideal) f L) (ix2 a' b') := by
  subst ho
  exact View.read_writes_cons_miss_of_axis m.view f ⟨Rect.unit (s := ⟨2, ![A, B]⟩) ![o0, o1] ![p, q] inb, w⟩ L (ix2 a' b') 0 o0 p rfl rfl rfl hb

/-- A store of the whole buffer, read back. -/
theorem read_whole (m : Memref sig .tc .vmem ⟨2, ![A, B]⟩ e) (f : m.view.ty.Contents (Elt Ideal)) (w : Vec Ideal ⟨2, ![A, B]⟩ e)
    (inb : ∀ a, ![0, 0] a + ![A, B] a ≤ (⟨2, ![A, B]⟩ : Shape).size a) (L : List (View.Piece (Elt Ideal) ⟨2, ![A, B]⟩ e)) :
    View.read (Elt Ideal) m.view (m.view.writes (Elt Ideal) f (⟨Rect.unit (s := ⟨2, ![A, B]⟩) ![0, 0] ![A, B] inb, w⟩ :: L)) = w := by
  funext y
  obtain ⟨a, b, rfl⟩ : ∃ a b, y = ix2 a b := ⟨_, _, ix2_eta y⟩
  exact hit m f _ rfl inb w L a b a b (by omega) (by omega)
/-- A load covered by the step's own stores reads what they left. -/
theorem rdCov (m : Memref sig .tc .vmem ⟨2, ![A, B]⟩ e) (L : List (View.Piece (Elt Ideal) ⟨2, ![A, B]⟩ e))
    (inb : ∀ a, ![o0, o1] a + ![p, q] a ≤ (⟨2, ![A, B]⟩ : Shape).size a) (a : Fin p) (b : Fin q) (a' : Fin A) (b' : Fin B)
    (ha : a'.val = o0 + a.val) (hb : b'.val = o1 + b.val) :
    m.view.readCov L (Rect.unit (s := ⟨2, ![A, B]⟩) ![o0, o1] ![p, q] inb).toLoadRect (ix2 a b)
      = View.read (Elt Ideal) m.view (m.view.writes (Elt Ideal) m.view.junk L) (ix2 a' b') := by
  unfold View.readCov
  rw [View.readAt_eq_ld]
  exact congrArg _ (emb_at inb a b a' b' ha hb)

end

/-- What a row block leaves in an array of row scales laid out by sequence: its own 448 entries new, the others as they were. -/
def RowOut (blk : ℕ) (S : Fin 448 → EReal) (x d : Vec Ideal ⟨2, ![2, 896]⟩ .f32) : Prop :=
  ∀ (a : Fin 2) (b : Fin 896), (∀ r : Fin 448, 896 * a.val + b.val = 448 * blk + r.val → d (ix2 a b) = S r)
    ∧ (896 * a.val + b.val < 448 * blk ∨ 448 * blk + 448 ≤ 896 * a.val + b.val → d (ix2 a b) = x (ix2 a b))

variable {sig : RefSig}

/-- A row block's scales, stored. -/
theorem rowout (m : Memref sig .tc .vmem ⟨2, ![2, 896]⟩ .f32) (f : m.view.ty.Contents (Elt Ideal)) (x : Vec Ideal ⟨2, ![2, 896]⟩ .f32) (hf : View.read (Elt Ideal) m.view f = x)
    (o0 o1 blk : ℕ) (h0 : o0 < 2) (h1 : o1 + 448 ≤ 896) (hb : 448 * blk = 896 * o0 + o1) (inb) (w : Vec Ideal ⟨2, ![1, 448]⟩ .f32) (S : Fin 448 → EReal) (hw : ∀ r, w (ix2 0 r) = S r) :
    RowOut blk S x (View.read (Elt Ideal) m.view (m.view.writes (Elt Ideal) f [⟨Rect.unit (s := ⟨2, ![2, 896]⟩) ![o0, o1] ![1, 448] inb, w⟩])) := by
  intro a b
  have ha := a.isLt
  have hbl := b.isLt
  refine ⟨fun r hr => ?_, fun h => ?_⟩
  · have := r.isLt
    rw [hit m f ![o0, o1] rfl inb w [] 0 r a b (by simp only [Fin.val_zero]; omega) (by omega), hw]
  · by_cases hao : a.val = o0
    · rw [miss m f ![o0, o1] rfl inb w [] a b (by omega), View.writes_nil, hf]
    · rw [miss0 m f ![o0, o1] rfl inb w [] a b (by omega), View.writes_nil, hf]

end Cert.Boxes

end
-- ==== Proof.OutProjStep.lean ====
/-
  What the body of the output projection kernel leaves in its outputs, from the loads and stores of one grid point.
-/
module

public import proofs.«01_k».proof.Proof.OutProjPay
public import proofs.«01_k».proof.Proof.Boxes
public import proofs.«01_k».proof.Proof.Gen.OutProjIdeal.Skeleton

@[expose] public section

set_option maxRecDepth 16384

noncomputable section

namespace Cert.OutProjIdeal.Hand

open Cert.OutProjIdeal Cert.OutProjIdeal.Gen Cert.Mlp Cert.Ln Cert.Boxes
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pointwise

variable (x0 : Vec Ideal S448x1536 .i8) (x1 : Vec Ideal S448x128 .f32) (x2 : Vec Ideal S448x3072 .bf16) (x3 : Vec Ideal S1536x3072 .i8) (x4 : Vec Ideal S1x3072 .f32) (x5 : Vec Ideal S1x3072 .f32) (x6 : Vec Ideal S1x3072 .f32) (x7 : Vec Ideal S1x3072 .f32)

/-- An entry of the block of sums: the residual plus the projection of the attention's codes. -/
def rT (r : Fin 448) (C : Fin 3072) : EReal :=
  x2 (ix2 r C) + lin (fun k => toE (x0 (ix2 r k))) (fun k => toE (x3 (ix2 k C))) (x1 (ix2 r 0)) (x4 (ix2 0 C)) (x5 (ix2 0 C))
/-- A row of the normalised block. -/
def hT (r : Fin 448) : Fin 3072 → EReal := lnorm (fun C => x6 (ix2 0 C)) (fun C => x7 (ix2 0 C)) (rT x0 x1 x2 x3 x4 x5 r)

/-- What the body leaves in its four outputs. -/
def ROut (d : Vec Ideal S448x3072 .f32) : Prop := ∀ r C, d (ix2 r C) = rT x0 x1 x2 x3 x4 x5 r C
def COut (d : Vec Ideal S448x3072 .i8) : Prop := ∀ r C, d (ix2 r C) = Ideal.fptosi 8 (rowCode (hT x0 x1 x2 x3 x4 x5 x6 x7 r) C)
def SOut (d : Vec Ideal S448x128 .f32) : Prop := ∀ r l, d (ix2 r l) = rowScale (hT x0 x1 x2 x3 x4 x5 x6 x7 r)

/-- One more column tile stored. -/
theorem tstep {T : Fin 448 → Fin 3072 → EReal} (m : Memref sig .tc .vmem S448x3072 .f32) (f : m.view.ty.Contents (Elt Ideal)) (o : ℕ)
    (L : List (View.Piece (Elt Ideal) S448x3072 .f32)) (inb) (w : Vec Ideal S448x256 .f32)
    (hw : ∀ r (q : Fin 256) (c : Fin 3072), c.val = o + q.val → w (ix2 r q) = T r c)
    (hL : ∀ (r : Fin 448) (c : Fin 3072), c.val < o → View.read (Elt Ideal) m.view (m.view.writes (Elt Ideal) f L) (ix2 r c) = T r c)
    (r : Fin 448) (c : Fin 3072) (hc : c.val < o + 256) :
    View.read (Elt Ideal) m.view (m.view.writes (Elt Ideal) f (⟨Rect.unit (s := S448x3072) ![0, o] S448x256.size inb, w⟩ :: L)) (ix2 r c) = T r c := by
  by_cases h : c.val < o
  · rw [miss m f ![0, o] rfl inb w L r c (Or.inl h)]; exact hL r c h
  · rw [hit m f ![0, o] rfl inb w L r ⟨c.val - o, by omega⟩ r c (by omega) (by simp only []; omega)]
    exact hw _ _ _ (by simp only []; omega)

/-- A tile's entries, from the loads of its operands. -/
theorem tile_ok (o : ℕ) (arg1 : Memref sig .tc .vmem S448x1536 .i8) (harg1 : arg1.IsWhole) (arg2 : Memref sig .tc .vmem S448x128 .f32) (harg2 : arg2.IsWhole)
    (arg3 : Memref sig .tc .vmem S448x3072 .bf16) (harg3 : arg3.IsWhole) (arg4 : Memref sig .tc .vmem S1536x3072 .i8) (harg4 : arg4.IsWhole)
    (arg5 : Memref sig .tc .vmem S1x3072 .f32) (harg5 : arg5.IsWhole) (arg6 : Memref sig .tc .vmem S1x3072 .f32) (harg6 : arg6.IsWhole) (arg13 : Memref sig .tc .vmem S448x1536 .bf16) (i1 i2 i3 i4 i5 i6 j0 j1)
    (w : Vec Ideal S448x256 .f32)
    (hp : ∀ r (q : Fin 256), w (ix2 r q) = View.readAt (Elt Ideal) arg3.view (Rect.unit (s := S448x3072) ![0, o] S448x256.size i3).toLoadRect (harg3.unread x2) (ix2 r q)
      + lin (fun k => (arg13.view.readCov [⟨Rect.unit (s := S448x1536) ![0, 0] S448x1536.size j0,
            k0_pay2 (View.readAt (Elt Ideal) arg1.view (Rect.unit (s := S448x1536) ![0, 0] S448x1536.size i1).toLoadRect (harg1.unread x0))⟩]
              (Rect.unit (s := S448x1536) ![0, 0] S448x1536.size j1).toLoadRect : Vec Ideal S448x1536 .bf16) (ix2 r k))
        (fun k => toE (View.readAt (Elt Ideal) arg4.view (Rect.unit (s := S1536x3072) ![0, o] S1536x256.size i4).toLoadRect (harg4.unread x3) (ix2 k q)))
        (View.readAt (Elt Ideal) arg2.view (Rect.unit (s := S448x128) ![0, 0] S448x1.size i2).toLoadRect (harg2.unread x1) (ix2 r 0))
        (View.readAt (Elt Ideal) arg5.view (Rect.unit (s := S1x3072) ![0, o] S1x256.size i5).toLoadRect (harg5.unread x4) (ix2 0 q))
        (View.readAt (Elt Ideal) arg6.view (Rect.unit (s := S1x3072) ![0, o] S1x256.size i6).toLoadRect (harg6.unread x5) (ix2 0 q)))
    (r : Fin 448) (q : Fin 256) (c : Fin 3072) (hc : c.val = o + q.val) : w (ix2 r q) = rT x0 x1 x2 x3 x4 x5 r c := by
  have e (k : Fin 1536) : (arg13.view.readCov [⟨Rect.unit (s := S448x1536) ![0, 0] S448x1536.size j0,
            k0_pay2 (View.readAt (Elt Ideal) arg1.view (Rect.unit (s := S448x1536) ![0, 0] S448x1536.size i1).toLoadRect (harg1.unread x0))⟩]
              (Rect.unit (s := S448x1536) ![0, 0] S448x1536.size j1).toLoadRect : Vec Ideal S448x1536 .bf16) (ix2 r k) = toE (x0 (ix2 r k)) :=
    (rdCov arg13 _ _ r k r k (by omega) (by omega)).trans <| (congrFun (read_whole arg13 _ _ _ _) (ix2 r k)).trans <|
      (pay2_at _ r k).trans <| congrArg toE (rd arg1 harg1 x0 _ r k r k (by omega) (by omega))
  have ew (k : Fin 1536) : View.readAt (Elt Ideal) arg4.view (Rect.unit (s := S1536x3072) ![0, o] S1536x256.size i4).toLoadRect (harg4.unread x3) (ix2 k q) = x3 (ix2 k c) :=
    rd arg4 harg4 x3 i4 k q k c (by omega) hc
  have ex : View.readAt (Elt Ideal) arg3.view (Rect.unit (s := S448x3072) ![0, o] S448x256.size i3).toLoadRect (harg3.unread x2) (ix2 r q) = x2 (ix2 r c) :=
    rd arg3 harg3 x2 i3 r q r c (by omega) hc
  have ev : View.readAt (Elt Ideal) arg2.view (Rect.unit (s := S448x128) ![0, 0] S448x1.size i2).toLoadRect (harg2.unread x1) (ix2 r 0) = x1 (ix2 r 0) :=
    rd arg2 harg2 x1 i2 r 0 r 0 (by omega) rfl
  have es : View.readAt (Elt Ideal) arg5.view (Rect.unit (s := S1x3072) ![0, o] S1x256.size i5).toLoadRect (harg5.unread x4) (ix2 0 q) = x4 (ix2 0 c) :=
    rd arg5 harg5 x4 i5 0 q 0 c rfl hc
  have eb : View.readAt (Elt Ideal) arg6.view (Rect.unit (s := S1x3072) ![0, o] S1x256.size i6).toLoadRect (harg6.unread x5) (ix2 0 q) = x5 (ix2 0 c) :=
    rd arg6 harg6 x5 i6 0 q 0 c rfl hc
  rw [hp, ex, ev, es, eb]
  unfold rT
  rw [funext e, funext fun k => congrArg toE (ew k)]

/-- The normalised rows, from the sums read back and the gain and bias. -/
theorem h_ok {X : Vec Ideal S448x3072 .f32} {g b : Vec Ideal S1x3072 .f32} (hX : ∀ r C, X (ix2 r C) = rT x0 x1 x2 x3 x4 x5 r C)
    (hg : ∀ C, g (ix2 0 C) = x6 (ix2 0 C)) (hb : ∀ C, b (ix2 0 C) = x7 (ix2 0 C)) (r : Fin 448) :
    (fun C => k0_pay26 (F := Ideal) (k0_pay22 g) (k0_pay23 b) (k0_pay24 X) (k0_pay25 X) (ix2 r C)) = hT x0 x1 x2 x3 x4 x5 x6 x7 r :=
  (h_at X g b r).trans <| by unfold hT; rw [funext hg, funext hb, funext (hX r)]

theorem c_ok {X : Vec Ideal S448x3072 .f32} {g b : Vec Ideal S1x3072 .f32} (hX : ∀ r C, X (ix2 r C) = rT x0 x1 x2 x3 x4 x5 r C)
    (hg : ∀ C, g (ix2 0 C) = x6 (ix2 0 C)) (hb : ∀ C, b (ix2 0 C) = x7 (ix2 0 C)) :
    COut x0 x1 x2 x3 x4 x5 x6 x7 (k0_pay28 (F := Ideal) (k0_pay22 g) (k0_pay23 b) (k0_pay24 X) (k0_pay25 X)) := fun r C =>
  (pay28_at _ _ _ _ r C).trans <| congrArg (fun v => Ideal.fptosi 8 (rowCode v C)) (h_ok x0 x1 x2 x3 x4 x5 x6 x7 hX hg hb r)

theorem s_ok {X : Vec Ideal S448x3072 .f32} {g b : Vec Ideal S1x3072 .f32} (hX : ∀ r C, X (ix2 r C) = rT x0 x1 x2 x3 x4 x5 r C)
    (hg : ∀ C, g (ix2 0 C) = x6 (ix2 0 C)) (hb : ∀ C, b (ix2 0 C) = x7 (ix2 0 C)) (r : Fin 448) :
    k0_pay27 (F := Ideal) (k0_pay22 g) (k0_pay23 b) (k0_pay24 X) (k0_pay25 X) (ix2 r 0) = rowScale (hT x0 x1 x2 x3 x4 x5 x6 x7 r) :=
  (pay27_at _ _ _ _ r).trans <| congrArg rowScale (h_ok x0 x1 x2 x3 x4 x5 x6 x7 hX hg hb r)

end Cert.OutProjIdeal.Hand

end
-- ==== Proof.OutProjArr.lean ====
/-
  The blocks the output projection kernel reads at a grid point, as parts of the whole arrays.
-/
module

public import proofs.«01_k».proof.Proof.OutProjStep
public import proofs.«01_k».proof.Proof.Gen.OutProjIdeal.Frame
public import Idealize.ShloMosaic.Lib.Pipeline.ValueKit

@[expose] public section

set_option maxRecDepth 16384

noncomputable section

namespace Cert.OutProjIdeal.Hand

open Cert.OutProjIdeal Cert.OutProjIdeal.Gen Cert.Mlp Cert.Ln Cert.Boxes
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pointwise
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ)

/-! ## Where each window stands at a grid point -/

theorem at0 : ∀ t : Fin cfg0.N, win0_0.index t = ![t.val, 0] := by decide +kernel
theorem at1 : ∀ t : Fin cfg0.N, win0_1.index t = ![t.val, 0] := by decide +kernel
theorem at2 : ∀ t : Fin cfg0.N, win0_2.index t = ![t.val, 0] := by decide +kernel
theorem at3 : ∀ t : Fin cfg0.N, win0_3.index t = ![0, 0] := by decide +kernel
theorem at4 : ∀ t : Fin cfg0.N, win0_4.index t = ![0, 0] := by decide +kernel
theorem at5 : ∀ t : Fin cfg0.N, win0_5.index t = ![0, 0] := by decide +kernel
theorem at6 : ∀ t : Fin cfg0.N, win0_6.index t = ![0, 0] := by decide +kernel
theorem at7 : ∀ t : Fin cfg0.N, win0_7.index t = ![0, 0] := by decide +kernel
theorem at8 : ∀ t : Fin cfg0.N, win0_8.index t = ![t.val, 0] := by decide +kernel
theorem at9 : ∀ t : Fin cfg0.N, win0_9.index t = ![t.val, 0] := by decide +kernel
theorem at10 : ∀ t : Fin cfg0.N, win0_10.index t = ![0, 0] := by decide +kernel
theorem at11 : ∀ t : Fin cfg0.N, win0_11.index t = ![t.val, 0] := by decide +kernel

/-! ## The blocks, read off the arrays -/

theorem blk0 (c : Dev nD) (t : Fin cfg0.N) (x : Fin 448) (y : Fin 1536) (X : Fin 1792) (Y : Fin 1536) (hX : X.val = 448 * t.val + x.val) (hY : Y.val = y.val) :
    iblk m c 0 t (ix2 x y) = V m c main_arg0 (ix2 X Y) := by
  unfold iblk
  refine congrArg (V m c main_arg0) (funext fun a => Fin.ext ?_)
  match a with
  | ⟨0, _⟩ => blk_simp [at0]; try omega
  | ⟨1, _⟩ => blk_simp [at0]; try omega
theorem blk1 (c : Dev nD) (t : Fin cfg0.N) (x : Fin 448) (y : Fin 128) (X : Fin 1792) (Y : Fin 128) (hX : X.val = 448 * t.val + x.val) (hY : Y.val = y.val) :
    iblk m c 1 t (ix2 x y) = V m c main_arg1 (ix2 X Y) := by
  unfold iblk
  refine congrArg (V m c main_arg1) (funext fun a => Fin.ext ?_)
  match a with
  | ⟨0, _⟩ => blk_simp [at1]; try omega
  | ⟨1, _⟩ => blk_simp [at1]; try omega
theorem blk2 (c : Dev nD) (t : Fin cfg0.N) (x : Fin 448) (y : Fin 3072) (X : Fin 1792) (Y : Fin 3072) (hX : X.val = 448 * t.val + x.val) (hY : Y.val = y.val) :
    iblk m c 2 t (ix2 x y) = V m c main_arg2 (ix2 X Y) := by
  unfold iblk
  refine congrArg (V m c main_arg2) (funext fun a => Fin.ext ?_)
  match a with
  | ⟨0, _⟩ => blk_simp [at2]; try omega
  | ⟨1, _⟩ => blk_simp [at2]; try omega
theorem blk3 (c : Dev nD) (t : Fin cfg0.N) (x : Fin 1536) (y : Fin 3072) (X : Fin 1536) (Y : Fin 3072) (hX : X.val = x.val) (hY : Y.val = y.val) :
    iblk m c 3 t (ix2 x y) = V m c main_arg3 (ix2 X Y) := by
  unfold iblk
  refine congrArg (V m c main_arg3) (funext fun a => Fin.ext ?_)
  match a with
  | ⟨0, _⟩ => blk_simp [at3]; try omega
  | ⟨1, _⟩ => blk_simp [at3]; try omega
theorem blk4 (c : Dev nD) (t : Fin cfg0.N) (x : Fin 1) (y : Fin 3072) (X : Fin 1) (Y : Fin 3072) (hX : X.val = x.val) (hY : Y.val = y.val) :
    iblk m c 4 t (ix2 x y) = V m c main_v0 (ix2 X Y) := by
  unfold iblk
  refine congrArg (V m c main_v0) (funext fun a => Fin.ext ?_)
  match a with
  | ⟨0, _⟩ => blk_simp [at4]; try omega
  | ⟨1, _⟩ => blk_simp [at4]; try omega
theorem blk5 (c : Dev nD) (t : Fin cfg0.N) (x : Fin 1) (y : Fin 3072) (X : Fin 1) (Y : Fin 3072) (hX : X.val = x.val) (hY : Y.val = y.val) :
    iblk m c 5 t (ix2 x y) = V m c main_v1 (ix2 X Y) := by
  unfold iblk
  refine congrArg (V m c main_v1) (funext fun a => Fin.ext ?_)
  match a with
  | ⟨0, _⟩ => blk_simp [at5]; try omega
  | ⟨1, _⟩ => blk_simp [at5]; try omega
theorem blk6 (c : Dev nD) (t : Fin cfg0.N) (x : Fin 1) (y : Fin 3072) (X : Fin 1) (Y : Fin 3072) (hX : X.val = x.val) (hY : Y.val = y.val) :
    iblk m c 6 t (ix2 x y) = V m c main_v2 (ix2 X Y) := by
  unfold iblk
  refine congrArg (V m c main_v2) (funext fun a => Fin.ext ?_)
  match a with
  | ⟨0, _⟩ => blk_simp [at6]; try omega
  | ⟨1, _⟩ => blk_simp [at6]; try omega
theorem blk7 (c : Dev nD) (t : Fin cfg0.N) (x : Fin 1) (y : Fin 3072) (X : Fin 1) (Y : Fin 3072) (hX : X.val = x.val) (hY : Y.val = y.val) :
    iblk m c 7 t (ix2 x y) = V m c main_v3 (ix2 X Y) := by
  unfold iblk
  refine congrArg (V m c main_v3) (funext fun a => Fin.ext ?_)
  match a with
  | ⟨0, _⟩ => blk_simp [at7]; try omega
  | ⟨1, _⟩ => blk_simp [at7]; try omega
end Cert.OutProjIdeal.Hand

end
-- ==== Proof.OutProjVal.lean ====
/-
  The values of the output projection kernel in closed form, and what each of its outputs holds after a grid point.
-/
module

public import proofs.«01_k».proof.Proof.OutProjStep
public import proofs.«01_k».proof.Proof.Gen.OutProjIdeal.Frame

@[expose] public section

set_option maxRecDepth 16384

noncomputable section

namespace Cert.OutProjIdeal.Hand

open Cert.OutProjIdeal Cert.OutProjIdeal.Gen Cert.Mlp Cert.Ln Cert.Boxes
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pointwise
open Idealize.ShloMosaic.Pipeline (Dat Cfg Window BodyObligation cellOf)

local notation "𝕄" => MT nD τ sig Unit (Elt Ideal) ℕ (UR sig nD τ) ℕ

/-- The operands of the call, whole arrays. -/
structure Ins where
  a0 : Vec Ideal S1792x1536 .i8
  a1 : Vec Ideal S1792x128 .f32
  a2 : Vec Ideal S1792x3072 .bf16
  a3 : Vec Ideal S1536x3072 .i8
  a4 : Vec Ideal S1x3072 .f32
  a5 : Vec Ideal S1x3072 .f32
  a6 : Vec Ideal S1x3072 .f32
  a7 : Vec Ideal S1x3072 .f32

variable (I : Ins)

/-- The sums: the residual plus the projection. -/
def Ins.r (R : Fin 1792) (C : Fin 3072) : EReal :=
  I.a2 (ix2 R C) + lin (fun k => toE (I.a0 (ix2 R k))) (fun k => toE (I.a3 (ix2 k C))) (I.a1 (ix2 R 0)) (I.a4 (ix2 0 C)) (I.a5 (ix2 0 C))
/-- A row of their layer norm. -/
def Ins.h (R : Fin 1792) : Fin 3072 → EReal := lnorm (fun C => I.a6 (ix2 0 C)) (fun C => I.a7 (ix2 0 C)) (I.r R)

/-- The blocks of the operands at point `n`. -/
structure Blk (n : ℕ) (x0 : Vec Ideal S448x1536 .i8) (x1 : Vec Ideal S448x128 .f32) (x2 : Vec Ideal S448x3072 .bf16) (x3 : Vec Ideal S1536x3072 .i8) (x4 : Vec Ideal S1x3072 .f32) (x5 : Vec Ideal S1x3072 .f32) (x6 : Vec Ideal S1x3072 .f32) (x7 : Vec Ideal S1x3072 .f32) : Prop where
  b0 : ∀ (r : Fin 448) (R : Fin 1792), R.val = 448 * n + r.val → ∀ k, x0 (ix2 r k) = I.a0 (ix2 R k)
  b1 : ∀ (r : Fin 448) (R : Fin 1792), R.val = 448 * n + r.val → ∀ k, x1 (ix2 r k) = I.a1 (ix2 R k)
  b2 : ∀ (r : Fin 448) (R : Fin 1792), R.val = 448 * n + r.val → ∀ k, x2 (ix2 r k) = I.a2 (ix2 R k)
  b3 : ∀ i j, x3 (ix2 i j) = I.a3 (ix2 i j)
  b4 : ∀ i j, x4 (ix2 i j) = I.a4 (ix2 i j)
  b5 : ∀ i j, x5 (ix2 i j) = I.a5 (ix2 i j)
  b6 : ∀ i j, x6 (ix2 i j) = I.a6 (ix2 i j)
  b7 : ∀ i j, x7 (ix2 i j) = I.a7 (ix2 i j)

def Res (n : ℕ) (d : Vec Ideal S448x3072 .f32) : Prop := ∀ (r : Fin 448) (R : Fin 1792), R.val = 448 * n + r.val → ∀ C, d (ix2 r C) = I.r R C
def Cod (n : ℕ) (d : Vec Ideal S448x3072 .i8) : Prop := ∀ (r : Fin 448) (R : Fin 1792), R.val = 448 * n + r.val → ∀ C, d (ix2 r C) = Ideal.fptosi 8 (rowCode (I.h R) C)
def Sca (n : ℕ) (d : Vec Ideal S2x896 .f32) : Prop := ∀ (a : Fin 2) (b : Fin 896) (R : Fin 1792), R.val = 896 * a.val + b.val → R.val < 448 * (n + 1) → d (ix2 a b) = rowScale (I.h R)
def Spr (n : ℕ) (d : Vec Ideal S448x128 .f32) : Prop := ∀ (r : Fin 448) (R : Fin 1792), R.val = 448 * n + r.val → ∀ C, d (ix2 r C) = rowScale (I.h R)

/-- A row block's scales stored over the earlier ones. -/
theorem sca_step {n : ℕ} {S : Fin 448 → EReal} {V : Fin 1792 → EReal} {x d : Vec Ideal S2x896 .f32} (h : RowOut n S x d)
    (hS : ∀ (r : Fin 448) (R : Fin 1792), R.val = 448 * n + r.val → S r = V R)
    (hx : 0 < n → ∀ (a : Fin 2) (b : Fin 896) (R : Fin 1792), R.val = 896 * a.val + b.val → R.val < 448 * (n - 1 + 1) → x (ix2 a b) = V R)
    (a : Fin 2) (b : Fin 896) (R : Fin 1792) (hR : R.val = 896 * a.val + b.val) (hlt : R.val < 448 * (n + 1)) : d (ix2 a b) = V R := by
  by_cases h1 : R.val < 448 * n
  · exact ((h a b).2 (Or.inl (by omega))).trans (hx (by omega) a b R hR (by omega))
  · have e : 896 * a.val + b.val = 448 * n + (⟨R.val - 448 * n, by omega⟩ : Fin 448).val := by simp only []; omega
    exact ((h a b).1 _ e).trans (hS _ R (by simp only []; omega))

variable {I}
variable {n : ℕ} {x0 : Vec Ideal S448x1536 .i8} {x1 : Vec Ideal S448x128 .f32} {x2 : Vec Ideal S448x3072 .bf16} {x3 : Vec Ideal S1536x3072 .i8} {x4 x5 x6 x7 : Vec Ideal S1x3072 .f32}

theorem Blk.r (B : Blk I n x0 x1 x2 x3 x4 x5 x6 x7) (r : Fin 448) (R : Fin 1792) (hR : R.val = 448 * n + r.val) : rT x0 x1 x2 x3 x4 x5 r = I.r R := by
  funext C
  simp only [rT, Ins.r, B.b0 r R hR, B.b1 r R hR, B.b2 r R hR, B.b3, B.b4, B.b5]
theorem Blk.h (B : Blk I n x0 x1 x2 x3 x4 x5 x6 x7) (r : Fin 448) (R : Fin 1792) (hR : R.val = 448 * n + r.val) : hT x0 x1 x2 x3 x4 x5 x6 x7 r = I.h R := by
  unfold hT Ins.h
  rw [B.r r R hR, funext (B.b6 0), funext (B.b7 0)]

end Cert.OutProjIdeal.Hand

end
-- ==== Proof.OutProjPoints.lean ====
/-
  Which conditional of the output projection kernel each grid point takes.
-/
module

public import proofs.«01_k».proof.Proof.Gen.OutProjIdeal.Frame
public import proofs.«01_k».proof.Proof.Gen.OutProjIdeal.Skeleton
public import proofs.«01_k».proof.Proof.Gen.OutProjIdeal.Points
public import Idealize.ShloMosaic.Lib.Pipeline.FrameBody
public import Idealize.ShloMosaic.Lib.Tactic
public import Idealize.ShloMosaic.Lib.WordCmp
public import Idealize.ShloMosaic.Lib.Claim
public import proofs.«01_k».proof.Proof.LnMath

@[expose] public section

set_option maxRecDepth 16384

noncomputable section

namespace Cert.OutProjIdeal.Hand

open Cert.OutProjIdeal Cert.OutProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pointwise
open Idealize.ShloMosaic.Pipeline (Dat Cfg Window BodyObligation cellOf)

local notation "𝕄" => MT nD τ sig Unit (Elt Ideal) ℕ (UR sig nD τ) ℕ

/-- Conditional 1 of the body is taken on row block 0. -/
abbrev cond0_1 (i : grid0.Coords) : Prop := k0_cond1 i = 1#1
theorem hcond0_1 : ∀ t : Fin cfg0.N, cond0_1 (grid0.coords t) ↔ t.val = 0 :=
  (fun t => by
    have ht : t.val < 4 := Nat.lt_of_lt_of_eq t.isLt N_0
    have e0 : (grid0.coords t 0).val = t.val / 1 % 4 := Pipeline.Grid.coords_val t 0 (by decide) rfl
    simp only [cond0_1, k0_cond1, e0]
    word_cmp
   : ∀ t : Fin grid0.N, cond0_1 (grid0.coords t) ↔ t.val = 0)
/-- Conditional 2 of the body is taken on row block 1. -/
abbrev cond0_2 (i : grid0.Coords) : Prop := k0_cond2 i = 1#1
theorem hcond0_2 : ∀ t : Fin cfg0.N, cond0_2 (grid0.coords t) ↔ t.val = 1 :=
  (fun t => by
    have ht : t.val < 4 := Nat.lt_of_lt_of_eq t.isLt N_0
    have e0 : (grid0.coords t 0).val = t.val / 1 % 4 := Pipeline.Grid.coords_val t 0 (by decide) rfl
    simp only [cond0_2, k0_cond2, e0]
    word_cmp
   : ∀ t : Fin grid0.N, cond0_2 (grid0.coords t) ↔ t.val = 1)
/-- Conditional 3 of the body is taken on row block 2. -/
abbrev cond0_3 (i : grid0.Coords) : Prop := k0_cond3 i = 1#1
theorem hcond0_3 : ∀ t : Fin cfg0.N, cond0_3 (grid0.coords t) ↔ t.val = 2 :=
  (fun t => by
    have ht : t.val < 4 := Nat.lt_of_lt_of_eq t.isLt N_0
    have e0 : (grid0.coords t 0).val = t.val / 1 % 4 := Pipeline.Grid.coords_val t 0 (by decide) rfl
    simp only [cond0_3, k0_cond3, e0]
    word_cmp
   : ∀ t : Fin grid0.N, cond0_3 (grid0.coords t) ↔ t.val = 2)
/-- Conditional 4 of the body is taken on row block 3. -/
abbrev cond0_4 (i : grid0.Coords) : Prop := k0_cond4 i = 1#1
theorem hcond0_4 : ∀ t : Fin cfg0.N, cond0_4 (grid0.coords t) ↔ t.val = 3 :=
  (fun t => by
    have ht : t.val < 4 := Nat.lt_of_lt_of_eq t.isLt N_0
    have e0 : (grid0.coords t 0).val = t.val / 1 % 4 := Pipeline.Grid.coords_val t 0 (by decide) rfl
    simp only [cond0_4, k0_cond4, e0]
    word_cmp
   : ∀ t : Fin grid0.N, cond0_4 (grid0.coords t) ↔ t.val = 3)
end Cert.OutProjIdeal.Hand

end
-- ==== Proof.OutProjRun.lean ====
/-
  The body of the output projection kernel on every row block, with the contents of its outputs.
-/
module

public import proofs.«01_k».proof.Proof.Gen.OutProjIdeal.Frame
public import proofs.«01_k».proof.Proof.Gen.OutProjIdeal.Skeleton
public import proofs.«01_k».proof.Proof.Gen.OutProjIdeal.Points
public import Idealize.ShloMosaic.Lib.Pipeline.FrameBody
public import Idealize.ShloMosaic.Lib.Tactic
public import Idealize.ShloMosaic.Lib.WordCmp
public import Idealize.ShloMosaic.Lib.Claim
public import proofs.«01_k».proof.Proof.OutProjPoints
public import proofs.«01_k».proof.Proof.OutProjStep

@[expose] public section

set_option maxRecDepth 16384

noncomputable section

namespace Cert.OutProjIdeal.Hand

open Cert.OutProjIdeal Cert.OutProjIdeal.Gen Cert.Mlp Cert.Ln Cert.Boxes
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pointwise
open Idealize.ShloMosaic.Pipeline (Dat Cfg Window BodyObligation cellOf)

local notation "𝕄" => MT nD τ sig Unit (Elt Ideal) ℕ (UR sig nD τ) ℕ

set_option maxHeartbeats 16000000 in
/-- The body on row block `q`. -/
theorem vrun_at (c : Dev nD) (i : grid0.Coords) (q : ℕ) (hq : q < 4) (hc1 : cond0_1 i ↔ q = 0) (hc2 : cond0_2 i ↔ q = 1) (hc3 : cond0_3 i ↔ q = 2) (hc4 : cond0_4 i ↔ q = 3)
    (arg1 : Memref sig .tc .vmem S448x1536 .i8) (harg1 : arg1.IsWhole) (arg2 : Memref sig .tc .vmem S448x128 .f32) (harg2 : arg2.IsWhole) (arg3 : Memref sig .tc .vmem S448x3072 .bf16) (harg3 : arg3.IsWhole) (arg4 : Memref sig .tc .vmem S1536x3072 .i8) (harg4 : arg4.IsWhole) (arg5 : Memref sig .tc .vmem S1x3072 .f32) (harg5 : arg5.IsWhole) (arg6 : Memref sig .tc .vmem S1x3072 .f32) (harg6 : arg6.IsWhole) (arg7 : Memref sig .tc .vmem S1x3072 .f32) (harg7 : arg7.IsWhole) (arg8 : Memref sig .tc .vmem S1x3072 .f32) (harg8 : arg8.IsWhole) (arg9 : Memref sig .tc .vmem S448x3072 .f32) (harg9 : arg9.IsWhole) (arg10 : Memref sig .tc .vmem S448x3072 .i8) (harg10 : arg10.IsWhole) (arg11 : Memref sig .tc .vmem S2x896 .f32) (harg11 : arg11.IsWhole) (arg12 : Memref sig .tc .vmem S448x128 .f32) (harg12 : arg12.IsWhole) (arg13 : Memref sig .tc .vmem S448x1536 .bf16) (harg13 : arg13.IsWhole)
    (x0 : Vec Ideal S448x1536 .i8) (x1 : Vec Ideal S448x128 .f32) (x2 : Vec Ideal S448x3072 .bf16) (x3 : Vec Ideal S1536x3072 .i8) (x4 : Vec Ideal S1x3072 .f32) (x5 : Vec Ideal S1x3072 .f32) (x6 : Vec Ideal S1x3072 .f32) (x7 : Vec Ideal S1x3072 .f32) (x8 : Vec Ideal S448x3072 .f32) (x9 : Vec Ideal S448x3072 .i8) (x10 : Vec Ideal S2x896 .f32) (x11 : Vec Ideal S448x128 .f32) (x12 : Vec Ideal S448x1536 .bf16) (E : Set ℕ) (K : PUnit.{1} → sProp 𝕄) :
    iprop(iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, ⌜ROut x0 x1 x2 x3 x4 x5 d⌝ ∗ owns (c : Thread nD τ) arg9 fullShare d) ∗ (∃ d, ⌜COut x0 x1 x2 x3 x4 x5 x6 x7 d⌝ ∗ owns (c : Thread nD τ) arg10 fullShare d) ∗ (∃ d, ⌜RowOut q (fun r => rowScale (hT x0 x1 x2 x3 x4 x5 x6 x7 r)) x10 d⌝ ∗ owns (c : Thread nD τ) arg11 fullShare d) ∗ (∃ d, ⌜SOut x0 x1 x2 x3 x4 x5 x6 x7 d⌝ ∗ owns (c : Thread nD τ) arg12 fullShare d) ∗ (∃ d, ⌜True⌝ ∗ owns (c : Thread nD τ) arg13 fullShare d)) -∗ K ⟨⟩))
      ⊢ wp frame (wpE (defs₀ (F := Ideal)) Variants.none c none) E (cc0_out_proj i arg1 harg1 arg2 harg2 arg3 harg3 arg4 harg4 arg5 harg5 arg6 harg6 arg7 harg7 arg8 harg8 arg9 harg9 arg10 harg10 arg11 harg11 arg12 harg12 arg13 harg13) K := by
  obtain rfl | rfl | rfl | rfl : q = 0 ∨ q = 1 ∨ q = 2 ∨ q = 3 := by omega
  all_goals
    simp only [Nat.reduceEqDiff, iff_true, iff_false] at hc1 hc2 hc3 hc4
    simp only [cc0_out_proj_eq_skeleton]; unfold cc0_out_proj_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12
    sl_exec (disch := first | sl_exact hc1 | sl_exact hc2 | sl_exact hc3 | sl_exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; swap
      · iexists _; isplitr; swap; · iexact H8
        ipureintro; rfl
      · ipureintro
        sl_unfold_run_names
        exact fun r C => tstep arg9 _ 2816 _ _ _ (tile_ok x0 x1 x2 x3 x4 x5 2816 arg1 harg1 arg2 harg2 arg3 harg3 arg4 harg4 arg5 harg5 arg6 harg6 arg13 _ _ _ _ _ _ _ _ _ (pay21_at _ _ _ _ _ _))
            (tstep arg9 _ 2560 _ _ _ (tile_ok x0 x1 x2 x3 x4 x5 2560 arg1 harg1 arg2 harg2 arg3 harg3 arg4 harg4 arg5 harg5 arg6 harg6 arg13 _ _ _ _ _ _ _ _ _ (pay20_at _ _ _ _ _ _))
            (tstep arg9 _ 2304 _ _ _ (tile_ok x0 x1 x2 x3 x4 x5 2304 arg1 harg1 arg2 harg2 arg3 harg3 arg4 harg4 arg5 harg5 arg6 harg6 arg13 _ _ _ _ _ _ _ _ _ (pay16_at _ _ _ _ _ _))
            (tstep arg9 _ 2048 _ _ _ (tile_ok x0 x1 x2 x3 x4 x5 2048 arg1 harg1 arg2 harg2 arg3 harg3 arg4 harg4 arg5 harg5 arg6 harg6 arg13 _ _ _ _ _ _ _ _ _ (pay15_at _ _ _ _ _ _))
            (tstep arg9 _ 1792 _ _ _ (tile_ok x0 x1 x2 x3 x4 x5 1792 arg1 harg1 arg2 harg2 arg3 harg3 arg4 harg4 arg5 harg5 arg6 harg6 arg13 _ _ _ _ _ _ _ _ _ (pay14_at _ _ _ _ _ _))
            (tstep arg9 _ 1536 _ _ _ (tile_ok x0 x1 x2 x3 x4 x5 1536 arg1 harg1 arg2 harg2 arg3 harg3 arg4 harg4 arg5 harg5 arg6 harg6 arg13 _ _ _ _ _ _ _ _ _ (pay13_at _ _ _ _ _ _))
            (tstep arg9 _ 1280 _ _ _ (tile_ok x0 x1 x2 x3 x4 x5 1280 arg1 harg1 arg2 harg2 arg3 harg3 arg4 harg4 arg5 harg5 arg6 harg6 arg13 _ _ _ _ _ _ _ _ _ (pay12_at _ _ _ _ _ _))
            (tstep arg9 _ 1024 _ _ _ (tile_ok x0 x1 x2 x3 x4 x5 1024 arg1 harg1 arg2 harg2 arg3 harg3 arg4 harg4 arg5 harg5 arg6 harg6 arg13 _ _ _ _ _ _ _ _ _ (pay11_at _ _ _ _ _ _))
            (tstep arg9 _ 768 _ _ _ (tile_ok x0 x1 x2 x3 x4 x5 768 arg1 harg1 arg2 harg2 arg3 harg3 arg4 harg4 arg5 harg5 arg6 harg6 arg13 _ _ _ _ _ _ _ _ _ (pay10_at _ _ _ _ _ _))
            (tstep arg9 _ 512 _ _ _ (tile_ok x0 x1 x2 x3 x4 x5 512 arg1 harg1 arg2 harg2 arg3 harg3 arg4 harg4 arg5 harg5 arg6 harg6 arg13 _ _ _ _ _ _ _ _ _ (pay8_at _ _ _ _ _ _))
            (tstep arg9 _ 256 _ _ _ (tile_ok x0 x1 x2 x3 x4 x5 256 arg1 harg1 arg2 harg2 arg3 harg3 arg4 harg4 arg5 harg5 arg6 harg6 arg13 _ _ _ _ _ _ _ _ _ (pay7_at _ _ _ _ _ _))
            (tstep arg9 _ 0 _ _ _ (tile_ok x0 x1 x2 x3 x4 x5 0 arg1 harg1 arg2 harg2 arg3 harg3 arg4 harg4 arg5 harg5 arg6 harg6 arg13 _ _ _ _ _ _ _ _ _ (pay3_at _ _ _ _ _ _))
            ((fun _ _ h => absurd h (Nat.not_lt_zero _)))))))))))))) r C C.isLt
    isplitl [H9]
    · iexists _; isplitr; swap
      · iexists _; isplitr; swap; · iexact H9
        ipureintro; rfl
      · ipureintro
        sl_unfold_run_names
        refine (congrArg (COut x0 x1 x2 x3 x4 x5 x6 x7) (read_whole arg10 _ _ _ [])).mpr ?_
        exact c_ok x0 x1 x2 x3 x4 x5 x6 x7 (fun r C => (rdCov arg9 _ _ r C r C (by omega) (by omega)).trans (
            tstep arg9 _ 2816 _ _ _ (tile_ok x0 x1 x2 x3 x4 x5 2816 arg1 harg1 arg2 harg2 arg3 harg3 arg4 harg4 arg5 harg5 arg6 harg6 arg13 _ _ _ _ _ _ _ _ _ (pay21_at _ _ _ _ _ _))
            (tstep arg9 _ 2560 _ _ _ (tile_ok x0 x1 x2 x3 x4 x5 2560 arg1 harg1 arg2 harg2 arg3 harg3 arg4 harg4 arg5 harg5 arg6 harg6 arg13 _ _ _ _ _ _ _ _ _ (pay20_at _ _ _ _ _ _))
            (tstep arg9 _ 2304 _ _ _ (tile_ok x0 x1 x2 x3 x4 x5 2304 arg1 harg1 arg2 harg2 arg3 harg3 arg4 harg4 arg5 harg5 arg6 harg6 arg13 _ _ _ _ _ _ _ _ _ (pay16_at _ _ _ _ _ _))
            (tstep arg9 _ 2048 _ _ _ (tile_ok x0 x1 x2 x3 x4 x5 2048 arg1 harg1 arg2 harg2 arg3 harg3 arg4 harg4 arg5 harg5 arg6 harg6 arg13 _ _ _ _ _ _ _ _ _ (pay15_at _ _ _ _ _ _))
            (tstep arg9 _ 1792 _ _ _ (tile_ok x0 x1 x2 x3 x4 x5 1792 arg1 harg1 arg2 harg2 arg3 harg3 arg4 harg4 arg5 harg5 arg6 harg6 arg13 _ _ _ _ _ _ _ _ _ (pay14_at _ _ _ _ _ _))
            (tstep arg9 _ 1536 _ _ _ (tile_ok x0 x1 x2 x3 x4 x5 1536 arg1 harg1 arg2 harg2 arg3 harg3 arg4 harg4 arg5 harg5 arg6 harg6 arg13 _ _ _ _ _ _ _ _ _ (pay13_at _ _ _ _ _ _))
            (tstep arg9 _ 1280 _ _ _ (tile_ok x0 x1 x2 x3 x4 x5 1280 arg1 harg1 arg2 harg2 arg3 harg3 arg4 harg4 arg5 harg5 arg6 harg6 arg13 _ _ _ _ _ _ _ _ _ (pay12_at _ _ _ _ _ _))
            (tstep arg9 _ 1024 _ _ _ (tile_ok x0 x1 x2 x3 x4 x5 1024 arg1 harg1 arg2 harg2 arg3 harg3 arg4 harg4 arg5 harg5 arg6 harg6 arg13 _ _ _ _ _ _ _ _ _ (pay11_at _ _ _ _ _ _))
            (tstep arg9 _ 768 _ _ _ (tile_ok x0 x1 x2 x3 x4 x5 768 arg1 harg1 arg2 harg2 arg3 harg3 arg4 harg4 arg5 harg5 arg6 harg6 arg13 _ _ _ _ _ _ _ _ _ (pay10_at _ _ _ _ _ _))
            (tstep arg9 _ 512 _ _ _ (tile_ok x0 x1 x2 x3 x4 x5 512 arg1 harg1 arg2 harg2 arg3 harg3 arg4 harg4 arg5 harg5 arg6 harg6 arg13 _ _ _ _ _ _ _ _ _ (pay8_at _ _ _ _ _ _))
            (tstep arg9 _ 256 _ _ _ (tile_ok x0 x1 x2 x3 x4 x5 256 arg1 harg1 arg2 harg2 arg3 harg3 arg4 harg4 arg5 harg5 arg6 harg6 arg13 _ _ _ _ _ _ _ _ _ (pay7_at _ _ _ _ _ _))
            (tstep arg9 _ 0 _ _ _ (tile_ok x0 x1 x2 x3 x4 x5 0 arg1 harg1 arg2 harg2 arg3 harg3 arg4 harg4 arg5 harg5 arg6 harg6 arg13 _ _ _ _ _ _ _ _ _ (pay3_at _ _ _ _ _ _))
            ((fun _ _ h => absurd h (Nat.not_lt_zero _)))))))))))))) r C C.isLt)) (fun C => rd arg7 harg7 x6 _ 0 C 0 C rfl (by omega)) (fun C => rd arg8 harg8 x7 _ 0 C 0 C rfl (by omega))
    isplitl [H10]
    · iexists _; isplitr; swap
      · iexists _; isplitr; swap; · iexact H10
        ipureintro; rfl
      · ipureintro
        sl_unfold_run_names
        exact rowout arg11 _ x10 (harg11.read_unread x10) _ _ _ (by omega) (by omega) (by omega) _ _ _ (fun r => (pay29_at _ _ _ _ r).trans (s_ok x0 x1 x2 x3 x4 x5 x6 x7 (fun r C => (rdCov arg9 _ _ r C r C (by omega) (by omega)).trans (
            tstep arg9 _ 2816 _ _ _ (tile_ok x0 x1 x2 x3 x4 x5 2816 arg1 harg1 arg2 harg2 arg3 harg3 arg4 harg4 arg5 harg5 arg6 harg6 arg13 _ _ _ _ _ _ _ _ _ (pay21_at _ _ _ _ _ _))
            (tstep arg9 _ 2560 _ _ _ (tile_ok x0 x1 x2 x3 x4 x5 2560 arg1 harg1 arg2 harg2 arg3 harg3 arg4 harg4 arg5 harg5 arg6 harg6 arg13 _ _ _ _ _ _ _ _ _ (pay20_at _ _ _ _ _ _))
            (tstep arg9 _ 2304 _ _ _ (tile_ok x0 x1 x2 x3 x4 x5 2304 arg1 harg1 arg2 harg2 arg3 harg3 arg4 harg4 arg5 harg5 arg6 harg6 arg13 _ _ _ _ _ _ _ _ _ (pay16_at _ _ _ _ _ _))
            (tstep arg9 _ 2048 _ _ _ (tile_ok x0 x1 x2 x3 x4 x5 2048 arg1 harg1 arg2 harg2 arg3 harg3 arg4 harg4 arg5 harg5 arg6 harg6 arg13 _ _ _ _ _ _ _ _ _ (pay15_at _ _ _ _ _ _))
            (tstep arg9 _ 1792 _ _ _ (tile_ok x0 x1 x2 x3 x4 x5 1792 arg1 harg1 arg2 harg2 arg3 harg3 arg4 harg4 arg5 harg5 arg6 harg6 arg13 _ _ _ _ _ _ _ _ _ (pay14_at _ _ _ _ _ _))
            (tstep arg9 _ 1536 _ _ _ (tile_ok x0 x1 x2 x3 x4 x5 1536 arg1 harg1 arg2 harg2 arg3 harg3 arg4 harg4 arg5 harg5 arg6 harg6 arg13 _ _ _ _ _ _ _ _ _ (pay13_at _ _ _ _ _ _))
            (tstep arg9 _ 1280 _ _ _ (tile_ok x0 x1 x2 x3 x4 x5 1280 arg1 harg1 arg2 harg2 arg3 harg3 arg4 harg4 arg5 harg5 arg6 harg6 arg13 _ _ _ _ _ _ _ _ _ (pay12_at _ _ _ _ _ _))
            (tstep arg9 _ 1024 _ _ _ (tile_ok x0 x1 x2 x3 x4 x5 1024 arg1 harg1 arg2 harg2 arg3 harg3 arg4 harg4 arg5 harg5 arg6 harg6 arg13 _ _ _ _ _ _ _ _ _ (pay11_at _ _ _ _ _ _))
            (tstep arg9 _ 768 _ _ _ (tile_ok x0 x1 x2 x3 x4 x5 768 arg1 harg1 arg2 harg2 arg3 harg3 arg4 harg4 arg5 harg5 arg6 harg6 arg13 _ _ _ _ _ _ _ _ _ (pay10_at _ _ _ _ _ _))
            (tstep arg9 _ 512 _ _ _ (tile_ok x0 x1 x2 x3 x4 x5 512 arg1 harg1 arg2 harg2 arg3 harg3 arg4 harg4 arg5 harg5 arg6 harg6 arg13 _ _ _ _ _ _ _ _ _ (pay8_at _ _ _ _ _ _))
            (tstep arg9 _ 256 _ _ _ (tile_ok x0 x1 x2 x3 x4 x5 256 arg1 harg1 arg2 harg2 arg3 harg3 arg4 harg4 arg5 harg5 arg6 harg6 arg13 _ _ _ _ _ _ _ _ _ (pay7_at _ _ _ _ _ _))
            (tstep arg9 _ 0 _ _ _ (tile_ok x0 x1 x2 x3 x4 x5 0 arg1 harg1 arg2 harg2 arg3 harg3 arg4 harg4 arg5 harg5 arg6 harg6 arg13 _ _ _ _ _ _ _ _ _ (pay3_at _ _ _ _ _ _))
            ((fun _ _ h => absurd h (Nat.not_lt_zero _)))))))))))))) r C C.isLt)) (fun C => rd arg7 harg7 x6 _ 0 C 0 C rfl (by omega)) (fun C => rd arg8 harg8 x7 _ 0 C 0 C rfl (by omega)) r))
    isplitl [H11]
    · iexists _; isplitr; swap
      · iexists _; isplitr; swap; · iexact H11
        ipureintro; rfl
      · ipureintro
        sl_unfold_run_names
        refine (congrArg (SOut x0 x1 x2 x3 x4 x5 x6 x7) (read_whole arg12 _ _ _ [])).mpr ?_
        exact fun r l => (pay1_at _ r l).trans (s_ok x0 x1 x2 x3 x4 x5 x6 x7 (fun r C => (rdCov arg9 _ _ r C r C (by omega) (by omega)).trans (
            tstep arg9 _ 2816 _ _ _ (tile_ok x0 x1 x2 x3 x4 x5 2816 arg1 harg1 arg2 harg2 arg3 harg3 arg4 harg4 arg5 harg5 arg6 harg6 arg13 _ _ _ _ _ _ _ _ _ (pay21_at _ _ _ _ _ _))
            (tstep arg9 _ 2560 _ _ _ (tile_ok x0 x1 x2 x3 x4 x5 2560 arg1 harg1 arg2 harg2 arg3 harg3 arg4 harg4 arg5 harg5 arg6 harg6 arg13 _ _ _ _ _ _ _ _ _ (pay20_at _ _ _ _ _ _))
            (tstep arg9 _ 2304 _ _ _ (tile_ok x0 x1 x2 x3 x4 x5 2304 arg1 harg1 arg2 harg2 arg3 harg3 arg4 harg4 arg5 harg5 arg6 harg6 arg13 _ _ _ _ _ _ _ _ _ (pay16_at _ _ _ _ _ _))
            (tstep arg9 _ 2048 _ _ _ (tile_ok x0 x1 x2 x3 x4 x5 2048 arg1 harg1 arg2 harg2 arg3 harg3 arg4 harg4 arg5 harg5 arg6 harg6 arg13 _ _ _ _ _ _ _ _ _ (pay15_at _ _ _ _ _ _))
            (tstep arg9 _ 1792 _ _ _ (tile_ok x0 x1 x2 x3 x4 x5 1792 arg1 harg1 arg2 harg2 arg3 harg3 arg4 harg4 arg5 harg5 arg6 harg6 arg13 _ _ _ _ _ _ _ _ _ (pay14_at _ _ _ _ _ _))
            (tstep arg9 _ 1536 _ _ _ (tile_ok x0 x1 x2 x3 x4 x5 1536 arg1 harg1 arg2 harg2 arg3 harg3 arg4 harg4 arg5 harg5 arg6 harg6 arg13 _ _ _ _ _ _ _ _ _ (pay13_at _ _ _ _ _ _))
            (tstep arg9 _ 1280 _ _ _ (tile_ok x0 x1 x2 x3 x4 x5 1280 arg1 harg1 arg2 harg2 arg3 harg3 arg4 harg4 arg5 harg5 arg6 harg6 arg13 _ _ _ _ _ _ _ _ _ (pay12_at _ _ _ _ _ _))
            (tstep arg9 _ 1024 _ _ _ (tile_ok x0 x1 x2 x3 x4 x5 1024 arg1 harg1 arg2 harg2 arg3 harg3 arg4 harg4 arg5 harg5 arg6 harg6 arg13 _ _ _ _ _ _ _ _ _ (pay11_at _ _ _ _ _ _))
            (tstep arg9 _ 768 _ _ _ (tile_ok x0 x1 x2 x3 x4 x5 768 arg1 harg1 arg2 harg2 arg3 harg3 arg4 harg4 arg5 harg5 arg6 harg6 arg13 _ _ _ _ _ _ _ _ _ (pay10_at _ _ _ _ _ _))
            (tstep arg9 _ 512 _ _ _ (tile_ok x0 x1 x2 x3 x4 x5 512 arg1 harg1 arg2 harg2 arg3 harg3 arg4 harg4 arg5 harg5 arg6 harg6 arg13 _ _ _ _ _ _ _ _ _ (pay8_at _ _ _ _ _ _))
            (tstep arg9 _ 256 _ _ _ (tile_ok x0 x1 x2 x3 x4 x5 256 arg1 harg1 arg2 harg2 arg3 harg3 arg4 harg4 arg5 harg5 arg6 harg6 arg13 _ _ _ _ _ _ _ _ _ (pay7_at _ _ _ _ _ _))
            (tstep arg9 _ 0 _ _ _ (tile_ok x0 x1 x2 x3 x4 x5 0 arg1 harg1 arg2 harg2 arg3 harg3 arg4 harg4 arg5 harg5 arg6 harg6 arg13 _ _ _ _ _ _ _ _ _ (pay3_at _ _ _ _ _ _))
            ((fun _ _ h => absurd h (Nat.not_lt_zero _)))))))))))))) r C C.isLt)) (fun C => rd arg7 harg7 x6 _ 0 C 0 C rfl (by omega)) (fun C => rd arg8 harg8 x7 _ 0 C 0 C rfl (by omega)) r)
    iexists _; isplitr; swap
    · iexists _; isplitr; swap; · iexact H12
      ipureintro; rfl
    · ipureintro
      trivial

end Cert.OutProjIdeal.Hand

end
-- ==== Proof.OutProjOut.lean ====
/-
  The run of the output projection kernel over the extended reals: the frame, and what the result arrays end as.
-/
module

public import proofs.«01_k».proof.Proof.OutProjArr
public import proofs.«01_k».proof.Proof.OutProjVal
public import proofs.«01_k».proof.Proof.OutProjRun
public import Idealize.ShloMosaic.Lib.Pipeline.DatRel
public import Idealize.ShloMosaic.Lib.Pipeline.ArrRel

@[expose] public section

set_option maxRecDepth 16384

noncomputable section

namespace Cert.OutProjIdeal.Hand

open Cert.OutProjIdeal Cert.OutProjIdeal.Gen Cert.Mlp Cert.Ln Cert.Boxes
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pointwise
open Idealize.ShloMosaic.Pipeline (Dat Cfg Window BodyObligation cellOf)

local notation "𝕄" => MT nD τ sig Unit (Elt Ideal) ℕ (UR sig nD τ) ℕ

/-- The body at any grid point, with what it leaves in its outputs. -/
theorem vrun (c : Dev nD) (t : Fin cfg0.N)
    (arg1 : Memref sig .tc .vmem S448x1536 .i8) (harg1 : arg1.IsWhole) (arg2 : Memref sig .tc .vmem S448x128 .f32) (harg2 : arg2.IsWhole) (arg3 : Memref sig .tc .vmem S448x3072 .bf16) (harg3 : arg3.IsWhole) (arg4 : Memref sig .tc .vmem S1536x3072 .i8) (harg4 : arg4.IsWhole) (arg5 : Memref sig .tc .vmem S1x3072 .f32) (harg5 : arg5.IsWhole) (arg6 : Memref sig .tc .vmem S1x3072 .f32) (harg6 : arg6.IsWhole) (arg7 : Memref sig .tc .vmem S1x3072 .f32) (harg7 : arg7.IsWhole) (arg8 : Memref sig .tc .vmem S1x3072 .f32) (harg8 : arg8.IsWhole) (arg9 : Memref sig .tc .vmem S448x3072 .f32) (harg9 : arg9.IsWhole) (arg10 : Memref sig .tc .vmem S448x3072 .i8) (harg10 : arg10.IsWhole) (arg11 : Memref sig .tc .vmem S2x896 .f32) (harg11 : arg11.IsWhole) (arg12 : Memref sig .tc .vmem S448x128 .f32) (harg12 : arg12.IsWhole) (arg13 : Memref sig .tc .vmem S448x1536 .bf16) (harg13 : arg13.IsWhole)
    (x0 : Vec Ideal S448x1536 .i8) (x1 : Vec Ideal S448x128 .f32) (x2 : Vec Ideal S448x3072 .bf16) (x3 : Vec Ideal S1536x3072 .i8) (x4 : Vec Ideal S1x3072 .f32) (x5 : Vec Ideal S1x3072 .f32) (x6 : Vec Ideal S1x3072 .f32) (x7 : Vec Ideal S1x3072 .f32) (x8 : Vec Ideal S448x3072 .f32) (x9 : Vec Ideal S448x3072 .i8) (x10 : Vec Ideal S2x896 .f32) (x11 : Vec Ideal S448x128 .f32) (x12 : Vec Ideal S448x1536 .bf16) (E : Set ℕ) (K : PUnit.{1} → sProp 𝕄) :
    iprop(iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, ⌜ROut x0 x1 x2 x3 x4 x5 d⌝ ∗ owns (c : Thread nD τ) arg9 fullShare d) ∗ (∃ d, ⌜COut x0 x1 x2 x3 x4 x5 x6 x7 d⌝ ∗ owns (c : Thread nD τ) arg10 fullShare d) ∗ (∃ d, ⌜RowOut t.val (fun r => rowScale (hT x0 x1 x2 x3 x4 x5 x6 x7 r)) x10 d⌝ ∗ owns (c : Thread nD τ) arg11 fullShare d) ∗ (∃ d, ⌜SOut x0 x1 x2 x3 x4 x5 x6 x7 d⌝ ∗ owns (c : Thread nD τ) arg12 fullShare d) ∗ (∃ d, ⌜True⌝ ∗ owns (c : Thread nD τ) arg13 fullShare d)) -∗ K ⟨⟩))
      ⊢ wp frame (wpE (defs₀ (F := Ideal)) Variants.none c none) E (cc0_out_proj (grid0.coords t) arg1 harg1 arg2 harg2 arg3 harg3 arg4 harg4 arg5 harg5 arg6 harg6 arg7 harg7 arg8 harg8 arg9 harg9 arg10 harg10 arg11 harg11 arg12 harg12 arg13 harg13) K := by
  have hN : t.val < 4 := lt_of_lt_of_eq t.isLt (show cfg0.N = 4 from N_0)
  exact vrun_at c (grid0.coords t) t.val hN (hcond0_1 t) (hcond0_2 t) (hcond0_3 t) (hcond0_4 t) arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 x12 E K

variable (m : (ℓ : Loc nD τ sig) → Buf (Elt Ideal) ℓ) (ρ : Dev nD → PrngReg)

/-- The operands as the kernel finds them. -/
def ins (c : Dev nD) : Ins := ⟨V m c main_arg0, V m c main_arg1, V m c main_arg2, V m c main_arg3, V m c main_v0, V m c main_v1, V m c main_v2, V m c main_v3⟩

/-- At every grid point the input blocks are the operands' blocks. -/
theorem blk_all (c : Dev nD) (t : Fin cfg0.N) :
    Blk (ins m c) t.val (iblk m c 0 t) (iblk m c 1 t) (iblk m c 2 t) (iblk m c 3 t) (iblk m c 4 t) (iblk m c 5 t) (iblk m c 6 t) (iblk m c 7 t) :=
  ⟨fun r R hR k => blk0 m c t r k R k hR rfl, fun r R hR k => blk1 m c t r k R k hR rfl, fun r R hR k => blk2 m c t r k R k hR rfl, fun i j => blk3 m c t i j i j rfl rfl, fun i j => blk4 m c t i j i j rfl rfl, fun i j => blk5 m c t i j i j rfl rfl, fun i j => blk6 m c t i j i j rfl rfl, fun i j => blk7 m c t i j i j rfl rfl⟩

/-! ## The pipeline's proof data -/

/-- The output windows, which are held to a predicate instead of being named. -/
def outs0 : Fin 12 → Bool := fun w => w.val == 8 || w.val == 9 || w.val == 10 || w.val == 11

/-- What the body leaves in each of them. -/
def Rl (c : Dev nD) (w : Fin cfg0.W) (t : Fin cfg0.N) : ((cfg0.win w).block.Idx → Elt Ideal (cfg0.win w).elt) → Prop := match w with
  | ⟨8, _⟩ => Res (ins m c) t.val
  | ⟨9, _⟩ => Cod (ins m c) t.val
  | ⟨10, _⟩ => Sca (ins m c) t.val
  | ⟨11, _⟩ => Spr (ins m c) t.val
  | _ => fun _ => True

/-- The proof data: the arrays as the region finds them; each input's buffer at its block; the outputs unnamed; between
    points the scratch buffers at some contents. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem leaves0_0 (c : Dev nD) (t : Fin cfg0.N) : (dats m 0 c).leavesExact 0 t = owns (c : Thread nD τ) (st0_0 t) fullShare (iblk m c 0 t) := by
  unfold Dat.leavesExact; rw [show cfg0.idle 0 (grid0.coords t) = false from rfl, after0_0]
theorem leaves0_1 (c : Dev nD) (t : Fin cfg0.N) : (dats m 0 c).leavesExact 1 t = owns (c : Thread nD τ) (st0_1 t) fullShare (iblk m c 1 t) := by
  unfold Dat.leavesExact; rw [show cfg0.idle 1 (grid0.coords t) = false from rfl, after0_1]
theorem leaves0_2 (c : Dev nD) (t : Fin cfg0.N) : (dats m 0 c).leavesExact 2 t = owns (c : Thread nD τ) (st0_2 t) fullShare (iblk m c 2 t) := by
  unfold Dat.leavesExact; rw [show cfg0.idle 2 (grid0.coords t) = false from rfl, after0_2]
theorem leaves0_3 (c : Dev nD) (t : Fin cfg0.N) : (dats m 0 c).leavesExact 3 t = owns (c : Thread nD τ) (st0_3 t) fullShare (iblk m c 3 t) := by
  unfold Dat.leavesExact; rw [show cfg0.idle 3 (grid0.coords t) = false from rfl, after0_3]
theorem leaves0_4 (c : Dev nD) (t : Fin cfg0.N) : (dats m 0 c).leavesExact 4 t = owns (c : Thread nD τ) (st0_4 t) fullShare (iblk m c 4 t) := by
  unfold Dat.leavesExact; rw [show cfg0.idle 4 (grid0.coords t) = false from rfl, after0_4]
theorem leaves0_5 (c : Dev nD) (t : Fin cfg0.N) : (dats m 0 c).leavesExact 5 t = owns (c : Thread nD τ) (st0_5 t) fullShare (iblk m c 5 t) := by
  unfold Dat.leavesExact; rw [show cfg0.idle 5 (grid0.coords t) = false from rfl, after0_5]
theorem leaves0_6 (c : Dev nD) (t : Fin cfg0.N) : (dats m 0 c).leavesExact 6 t = owns (c : Thread nD τ) (st0_6 t) fullShare (iblk m c 6 t) := by
  unfold Dat.leavesExact; rw [show cfg0.idle 6 (grid0.coords t) = false from rfl, after0_6]
theorem leaves0_7 (c : Dev nD) (t : Fin cfg0.N) : (dats m 0 c).leavesExact 7 t = owns (c : Thread nD τ) (st0_7 t) fullShare (iblk m c 7 t) := by
  unfold Dat.leavesExact; rw [show cfg0.idle 7 (grid0.coords t) = false from rfl, after0_7]

/-- The scratch buffer between points, as a memref at some contents. -/
theorem PhiA0_eq (c : Dev nD) :
    (Pipeline.ΦA spec0 c : sProp 𝕄)
      = iprop((∃ d, owns (c : Thread nD τ) (Memref.whole cc0_scratch0) fullShare d) ∗ (∃ r, prngReg c r)) := by
  unfold Pipeline.ΦA; rw [scopedRest0_eq]; simp only [owns_whole]; try rfl

/-- The same data read relationally. -/
abbrev rdats (c : Dev nD) := (dats m 0 c).toRRel outs0 (Rl m c)

/-- A scales' buffer holds the scales so far. -/
theorem found10 (c : Dev nD) (t : Fin cfg0.N) (h : 0 < t.val) (X) (hX : (rdats m c).Finds (10 : Fin 12) t X) : Sca (ins m c) (t.val - 1) X := by
  have hf : (cfg0.win (10 : Fin 12)).fetch t = false := rfl
  have hN : t.val < 4 := lt_of_lt_of_eq t.isLt (show cfg0.N = 4 from N_0)
  rw [Pipeline.RDat.finds_of_pos _ hf (by omega)] at hX
  rcases hX with hX | hX
  · exact absurd ((flush0_10 _).mp hX) (by dsimp only; omega)
  · exact (dats m 0 c).toRRel_leaves (fgt := outs0) (Rl := Rl m c) (w := (10 : Fin 12)) rfl hX

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ Y, ⌜(rdats m c).Finds (8 : Fin 12) t Y⌝ ∗ owns (c : Thread nD τ) (st0_8 t) fullShare Y)
    ∗ (∃ Y, ⌜(rdats m c).Finds (9 : Fin 12) t Y⌝ ∗ owns (c : Thread nD τ) (st0_9 t) fullShare Y)
    ∗ (∃ Y, ⌜(rdats m c).Finds (10 : Fin 12) t Y⌝ ∗ owns (c : Thread nD τ) (st0_10 t) fullShare Y)
    ∗ (∃ Y, ⌜(rdats m c).Finds (11 : Fin 12) t Y⌝ ∗ owns (c : Thread nD τ) (st0_11 t) fullShare Y))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (∃ X, ⌜Res (ins m c) t.val X⌝ ∗ owns (c : Thread nD τ) (st0_8 t) fullShare X)
    ∗ (∃ X, ⌜Cod (ins m c) t.val X⌝ ∗ owns (c : Thread nD τ) (st0_9 t) fullShare X)
    ∗ (∃ X, ⌜Sca (ins m c) t.val X⌝ ∗ owns (c : Thread nD τ) (st0_10 t) fullShare X)
    ∗ (∃ X, ⌜Spr (ins m c) t.val X⌝ ∗ owns (c : Thread nD τ) (st0_11 t) fullShare X))

set_option maxHeartbeats 4800000 in
/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7, leaves0_0, leaves0_1, leaves0_2, leaves0_3, leaves0_4, leaves0_5, leaves0_6, leaves0_7]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  iintro ⟨⟨⟨%x12, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%x8, %f8, H8⟩, ⟨%x9, %f9, H9⟩, ⟨%x10, %f10, H10⟩, ⟨%x11, %f11, H11⟩⟩
  iapply (vrun c t _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) x8 x9 x10 x11 x12 Set.univ _)
  isplitl [H0 H1 H2 H3 H4 H5 H6 H7 H8 H9 H10 H11 HS0]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact HS0
  iintro ⟨H0, H1, H2, H3, H4, H5, H6, H7, ⟨%d8, %h8, H8⟩, ⟨%d9, %h9, H9⟩, ⟨%d10, %h10, H10⟩, ⟨%d11, %h11, H11⟩, ⟨%d12, -, HS0⟩⟩
  isplitl [HS0 Hg]
  · isplitl [HS0]; · iexists d12; iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iexists d8
    isplitr
    · ipureintro; exact fun r R hR C => (h8 r C).trans (congrFun ((blk_all m c t).r r R hR) C)
    iexact H8
  isplitl [H9]
  · iexists d9
    isplitr
    · ipureintro; exact fun r R hR C => (h9 r C).trans (congrArg (fun v => Ideal.fptosi 8 (rowCode v C)) ((blk_all m c t).h r R hR))
    iexact H9
  isplitl [H10]
  · iexists d10
    isplitr
    · ipureintro; exact sca_step h10 (fun r R hR => congrArg rowScale ((blk_all m c t).h r R hR)) (fun h => found10 m c t h x10 f10)
    iexact H10
  iexists d11
  isplitr
  · ipureintro; exact fun r R hR C => (h11 r C).trans (congrArg rowScale ((blk_all m c t).h r R hR))
  iexact H11

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : Pipeline.BodyObligationRel (dats m 0 c) (defs₀ (F := Ideal)) Variants.none () Set.univ outs0 (Rl m c) := fun t => by
  rw [bigSep_W0, bigSep_W0, defs₀_row]
  exact triple_restated (sound_body m c t) rfl .rfl fun _ => .rfl

/-! ## The run, the frame and the results -/

set_option backward.isDefEq.respectTransparency.types false in
theorem run_main_quiescent : θ_run defs (onTc (τ := τ) (main (F := Ideal))) (s₀ m ρ) (fun r => (Pipeline.RDat.FramePost (cfgs 0) (fun c => rdats m c) (V m)) r ∧ r.2.sem = fun _ => 0) :=
  Pipeline.RDat.θ_run_frame_track (Q' := _) cfgs (0 : Fin 1) launch0 defs₀ Variants.none (fun c => rdats m c) m ρ main
    (hbody := fun c => (body_obligation m c).toRRel) (hshare := fun c => (dats m 0 c).share_full fun _ => rfl)
    (howed := fun _ _ => rfl) (V := V m) (hmain := hmain m Variants.none) (hA := A_eq m) (hin := fun _ => .rfl) (hout := fun _ => .rfl)

/-- The argument arrays end unchanged and the semaphore counters at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ hh => ⟨fun c => have h := hh.1; ⟨(Pipeline.RDat.FramePost.arr_in (cfg₁ := cfg0) h c (0 : Fin 12) rfl).trans ((A_eq m c 0).trans (V_main_arg0 m c)),
      (Pipeline.RDat.FramePost.arr_in (cfg₁ := cfg0) h c (1 : Fin 12) rfl).trans ((A_eq m c 1).trans (V_main_arg1 m c)),
      (Pipeline.RDat.FramePost.arr_in (cfg₁ := cfg0) h c (2 : Fin 12) rfl).trans ((A_eq m c 2).trans (V_main_arg2 m c)),
      (Pipeline.RDat.FramePost.arr_in (cfg₁ := cfg0) h c (3 : Fin 12) rfl).trans ((A_eq m c 3).trans (V_main_arg3 m c)),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩, hh.2⟩) (run_main_quiescent m ρ)

/-- The result arrays, in closed form. -/
def arr8 (c : Dev nD) : Vec Ideal S1792x3072 .f32 := fun i => ((fun (R : Fin 1792) (C : Fin 3072) => (ins m c).r R C) (i 0) (i 1))
def arr9 (c : Dev nD) : Vec Ideal S1792x3072 .i8 := fun i => ((fun (R : Fin 1792) (C : Fin 3072) => Ideal.fptosi 8 (rowCode ((ins m c).h R) C)) (i 0) (i 1))
def arr10 (c : Dev nD) : Vec Ideal S2x896 .f32 := fun i => (fun R : Fin 1792 => rowScale ((ins m c).h R)) ⟨896 * (i 0).val + (i 1).val, by have := (i 0).isLt; have := (i 1).isLt; change (i 0).val < 2 at *; change (i 1).val < 896 at *; omega⟩
def arr11 (c : Dev nD) : Vec Ideal S1792x128 .f32 := fun i => ((fun (R : Fin 1792) (C : Fin 128) => rowScale ((ins m c).h R)) (i 0) (i 1))

theorem ix2_self {a b : ℕ} (y : Shape.Idx ⟨2, ![a, b]⟩) : y = ix2 (y 0) (y 1) := by
  funext k; match k with
  | ⟨0, _⟩ => rfl
  | ⟨1, _⟩ => rfl

section
variable {m}
variable {after : (w : Fin cfg0.W) → Fin cfg0.N → (cfg0.win w).block.Idx → Elt Ideal (cfg0.win w).elt}

theorem lt4 (t : Fin cfg0.N) : t.val < 4 := lt_of_lt_of_eq t.isLt (show cfg0.N = 4 from N_0)

theorem final8 (c : Dev nD) (hL : ∀ u, (cfg0.win (8 : Fin 12)).flush u = true → Res (ins m c) u.val (after (8 : Fin 12) u)) :
    ((rdats m c).withAfter after).arrAt (8 : Fin 12) cfg0.N = arr8 m c := by
  refine Pipeline.Dat.arrAt_eq_of_covers (cfg := cfg0) ((rdats m c).withAfter after) (8 : Fin 12) _ (by decide +kernel) fun t hf y => ?_
  have hN := lt4 t
  have e := hL t hf
  blk_simp
  unfold arr8
  have e0 : (((win0_8.blk t).view.emb y 0 : Fin 1792)).val = 448 * t.val + (y 0 : Fin 448).val := by blk_simp [at8]; try omega
  have e1 : ((win0_8.blk t).view.emb y 1 : Fin 3072) = (y 1 : Fin 3072) := Fin.ext (by blk_simp [at8]; try omega)
  refine (congrArg (after (8 : Fin 12) t) (ix2_self (a := 448) (b := 3072) y)).trans ((e (y 0) _ e0 (y 1)).trans ?_)
  exact congrArg (fun C : Fin 3072 => (fun (R : Fin 1792) (C : Fin 3072) => (ins m c).r R C) _ C) e1.symm

theorem final9 (c : Dev nD) (hL : ∀ u, (cfg0.win (9 : Fin 12)).flush u = true → Cod (ins m c) u.val (after (9 : Fin 12) u)) :
    ((rdats m c).withAfter after).arrAt (9 : Fin 12) cfg0.N = arr9 m c := by
  refine Pipeline.Dat.arrAt_eq_of_covers (cfg := cfg0) ((rdats m c).withAfter after) (9 : Fin 12) _ (by decide +kernel) fun t hf y => ?_
  have hN := lt4 t
  have e := hL t hf
  blk_simp
  unfold arr9
  have e0 : (((win0_9.blk t).view.emb y 0 : Fin 1792)).val = 448 * t.val + (y 0 : Fin 448).val := by blk_simp [at9]; try omega
  have e1 : ((win0_9.blk t).view.emb y 1 : Fin 3072) = (y 1 : Fin 3072) := Fin.ext (by blk_simp [at9]; try omega)
  refine (congrArg (after (9 : Fin 12) t) (ix2_self (a := 448) (b := 3072) y)).trans ((e (y 0) _ e0 (y 1)).trans ?_)
  exact congrArg (fun C : Fin 3072 => (fun (R : Fin 1792) (C : Fin 3072) => Ideal.fptosi 8 (rowCode ((ins m c).h R) C)) _ C) e1.symm

theorem final10 (c : Dev nD) (hL : ∀ u, (cfg0.win (10 : Fin 12)).flush u = true → Sca (ins m c) u.val (after (10 : Fin 12) u)) :
    ((rdats m c).withAfter after).arrAt (10 : Fin 12) cfg0.N = arr10 m c := by
  refine Pipeline.Dat.arrAt_eq_of_covers (cfg := cfg0) ((rdats m c).withAfter after) (10 : Fin 12) _ (by decide +kernel) fun t hf y => ?_
  have hN := lt4 t
  have ht := (flush0_10 t).mp hf
  have e := hL t hf
  blk_simp
  unfold arr10
  have e0 : (((win0_10.blk t).view.emb y 0 : Fin 2)).val = (y 0 : Fin 2).val := by blk_simp [at10]; try omega
  have e1 : (((win0_10.blk t).view.emb y 1 : Fin 896)).val = (y 1 : Fin 896).val := by blk_simp [at10]; try omega
  have l0 : (y 0 : Fin 2).val < 2 := (y 0 : Fin 2).isLt
  have l1 : (y 1 : Fin 896).val < 896 := (y 1 : Fin 896).isLt
  refine (congrArg (after (10 : Fin 12) t) (ix2_self (a := 2) (b := 896) y)).trans (e (y 0) (y 1) _ ?_ ?_)
  · dsimp only; rw [e0, e1]
  · dsimp only; rw [e0, e1]; omega

theorem final11 (c : Dev nD) (hL : ∀ u, (cfg0.win (11 : Fin 12)).flush u = true → Spr (ins m c) u.val (after (11 : Fin 12) u)) :
    ((rdats m c).withAfter after).arrAt (11 : Fin 12) cfg0.N = arr11 m c := by
  refine Pipeline.Dat.arrAt_eq_of_covers (cfg := cfg0) ((rdats m c).withAfter after) (11 : Fin 12) _ (by decide +kernel) fun t hf y => ?_
  have hN := lt4 t
  have e := hL t hf
  blk_simp
  unfold arr11
  have e0 : (((win0_11.blk t).view.emb y 0 : Fin 1792)).val = 448 * t.val + (y 0 : Fin 448).val := by blk_simp [at11]; try omega
  have e1 : ((win0_11.blk t).view.emb y 1 : Fin 128) = (y 1 : Fin 128) := Fin.ext (by blk_simp [at11]; try omega)
  refine (congrArg (after (11 : Fin 12) t) (ix2_self (a := 448) (b := 128) y)).trans ((e (y 0) _ e0 (y 1)).trans ?_)
  exact congrArg (fun C : Fin 128 => (fun (R : Fin 1792) (C : Fin 128) => rowScale ((ins m c).h R)) _ C) e1.symm

end

/-- Every run ends with the result arrays at their closed forms. -/
theorem post_eq {r : PUnit × MemSt nD τ sig (Elt Ideal)} (h : Pipeline.RDat.FramePost (cfgs 0) (fun c => rdats m c) (V m) r) (c : Dev nD) :
    r.2.mem ((cfg0.spec (8 : Fin 12)).arr.view.loc (c.tc : Thread nD τ)) = arr8 m c
    ∧ r.2.mem ((cfg0.spec (9 : Fin 12)).arr.view.loc (c.tc : Thread nD τ)) = arr9 m c
    ∧ r.2.mem ((cfg0.spec (10 : Fin 12)).arr.view.loc (c.tc : Thread nD τ)) = arr10 m c
    ∧ r.2.mem ((cfg0.spec (11 : Fin 12)).arr.view.loc (c.tc : Thread nD τ)) = arr11 m c := by
  obtain ⟨after, hL, hA⟩ := Pipeline.RDat.FramePost.exists_exact (cfg₁ := cfg0) h c
  exact ⟨(hA (8 : Fin 12)).trans (final8 c fun u hf => (dats m 0 c).toRRel_leaves (fgt := outs0) (Rl := Rl m c) (w := (8 : Fin 12)) rfl (hL _ u hf)),
    (hA (9 : Fin 12)).trans (final9 c fun u hf => (dats m 0 c).toRRel_leaves (fgt := outs0) (Rl := Rl m c) (w := (9 : Fin 12)) rfl (hL _ u hf)),
    (hA (10 : Fin 12)).trans (final10 c fun u hf => (dats m 0 c).toRRel_leaves (fgt := outs0) (Rl := Rl m c) (w := (10 : Fin 12)) rfl (hL _ u hf)),
    (hA (11 : Fin 12)).trans (final11 c fun u hf => (dats m 0 c).toRRel_leaves (fgt := outs0) (Rl := Rl m c) (w := (11 : Fin 12)) rfl (hL _ u hf))⟩

/-- The kernel's runs: the results in closed form, the arguments unchanged. -/
theorem run_values : θ_run defs (onTc (τ := τ) (main (F := Ideal))) ⟨m, fun _ => 0, ρ⟩ (fun r => ∀ c : Dev nD,
    r.2.mem ((c.tc : Thread nD τ).loc main_v4_0) = arr8 m c
    ∧ r.2.mem ((c.tc : Thread nD τ).loc main_v4_1) = arr9 m c
    ∧ r.2.mem ((c.tc : Thread nD τ).loc main_v4_2) = arr10 m c
    ∧ r.2.mem ((c.tc : Thread nD τ).loc main_v4_3) = arr11 m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)) :=
  (θ_run defs _ _).mono (fun _ hh c => have h := hh.1; ⟨(post_eq m h c).1, (post_eq m h c).2.1, (post_eq m h c).2.2.1, (post_eq m h c).2.2.2, (Pipeline.RDat.FramePost.arr_in (cfg₁ := cfg0) h c (0 : Fin 12) rfl).trans ((A_eq m c 0).trans (V_main_arg0 m c)),
      (Pipeline.RDat.FramePost.arr_in (cfg₁ := cfg0) h c (1 : Fin 12) rfl).trans ((A_eq m c 1).trans (V_main_arg1 m c)),
      (Pipeline.RDat.FramePost.arr_in (cfg₁ := cfg0) h c (2 : Fin 12) rfl).trans ((A_eq m c 2).trans (V_main_arg2 m c)),
      (Pipeline.RDat.FramePost.arr_in (cfg₁ := cfg0) h c (3 : Fin 12) rfl).trans ((A_eq m c 3).trans (V_main_arg3 m c)),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩) (run_main_quiescent m ρ)

end Cert.OutProjIdeal.Hand

end
-- ==== Proof.OutProjRefPay.lean ====
/-
  What the reference of the output projection call computes at an index, over the extended reals.
-/
module

public import proofs.«01_k».proof.Proof.OutProjPay
public import proofs.«01_k».proof.Proof.MlpRefPay
public import proofs.«01_k».proof.Proof.Gen.OutProjReferenceIdeal.Skeleton

@[expose] public section

set_option maxRecDepth 16384

noncomputable section

namespace Cert.OutProjReferenceIdeal.Hand

open Cert.OutProjReferenceIdeal Cert.OutProjReferenceIdeal.Gen Cert.Mlp Cert.Ln
open Cert.ReferenceIdeal.Hand (wordE word_127 word_neg127)
open Idealize.ShloMosaic Idealize.ShloMosaic.Pointwise

variable (x : Vec Ideal S1792x3072 .bf16) (a : Vec Ideal S1792x1536 .i8) (v : Vec Ideal S1792 .f32) (w : Vec Ideal S1536x3072 .i8) (s b g : Vec Ideal S3072 .f32) (e : Vec Ideal S3072 .f32)

/-- The sums. -/
theorem pay6_at (r : Fin 1792) (q : Fin 3072) :
    k0_pay6 x a v w s b (ix2 r q) = x (ix2 r q) + lin (fun k => toE (a (ix2 r k))) (fun k => toE (w (ix2 k q))) (v (ix1 r)) (s (ix1 q)) (b (ix1 q)) := by
  pointwise [k0_pay6, lin, toE, FloatOps.sitofp]

/-! The layer norm of the rows, their scales and codes. -/

theorem cent_of (x : FVec Ideal S1792x3072 .f32) (r : Fin 1792) (C : Fin 3072) :
    subf x (broadcastTo S1792x3072 (divf (shapeCast S1792x1 (multiReduction .add [1] S1792 x 0x00000000#32 reduces_S1792x3072_S1792 (.inl rfl) rfl) shapeCasts_S1792_S1792x1)
      (broadcast S1792x1 (Scalar.ofBits (F := Ideal) .f32 0x45400000#32))) broadcasts_S1792x1_S1792x3072) (ix2 r C) = cent (fun C => x (ix2 r C)) C := by
  pointwise [cent]
theorem gain_of (u : FVec Ideal S1792x3072 .f32) (g : FVec Ideal S3072 .f32) (r : Fin 1792) (C : Fin 3072) :
    mulf (mulf u (broadcastTo S1792x3072 (rsqrt (addf (divf (shapeCast S1792x1 (multiReduction .add [1] S1792 (mulf u u) 0x00000000#32 reduces_S1792x3072_S1792 (.inl rfl) rfl) shapeCasts_S1792_S1792x1)
      (broadcast S1792x1 (Scalar.ofBits (F := Ideal) .f32 0x45400000#32))) (broadcast S1792x1 (Scalar.ofBits (F := Ideal) .f32 0x3727C5AC#32)))) broadcasts_S1792x1_S1792x3072))
      (broadcastTo S1792x3072 (shapeCast S1x3072 g shapeCasts_S3072_S1x3072) broadcasts_S1x3072_S1792x3072) (ix2 r C)
      = u (ix2 r C) * Ideal.rsqrt (Ideal.div (∑ k, u (ix2 r k) * u (ix2 r k)) (Ideal.ofBits .f32 0x45400000#32) + Ideal.ofBits .f32 0x3727C5AC#32) * g (ix1 C) := by
  pointwise []

theorem gain_cent (u : FVec Ideal S1792x3072 .f32) (g : FVec Ideal S3072 .f32) (V : Fin 3072 → EReal) (r : Fin 1792) (C : Fin 3072) (hu : ∀ k, u (ix2 r k) = cent V k) :
    mulf (mulf u (broadcastTo S1792x3072 (rsqrt (addf (divf (shapeCast S1792x1 (multiReduction .add [1] S1792 (mulf u u) 0x00000000#32 reduces_S1792x3072_S1792 (.inl rfl) rfl) shapeCasts_S1792_S1792x1)
      (broadcast S1792x1 (Scalar.ofBits (F := Ideal) .f32 0x45400000#32))) (broadcast S1792x1 (Scalar.ofBits (F := Ideal) .f32 0x3727C5AC#32)))) broadcasts_S1792x1_S1792x3072))
      (broadcastTo S1792x3072 (shapeCast S1x3072 g shapeCasts_S3072_S1x3072) broadcasts_S1x3072_S1792x3072) (ix2 r C)
      = cent V C * Ideal.rsqrt (Ideal.div (∑ k, cent V k * cent V k) (Ideal.ofBits .f32 0x45400000#32) + Ideal.ofBits .f32 0x3727C5AC#32) * g (ix1 C) :=
  (gain_of u g r C).trans <| by simp only [hu]

/-- The largest of a row. -/
theorem top_of (g : FVec Ideal S1792x3072 .f32) (r : Fin 1792) :
    multiReduction .maximumf [1] S1792 g 0xFF800000#32 reduces_S1792x3072_S1792 (.inl rfl) rfl (ix1 r)
      = Finset.univ.fold max (Ideal.ofBits .f32 0xFF800000#32) fun C => g (ix2 r C) := by
  pointwise []
theorem abs_of (g : FVec Ideal S1792x3072 .f32) (r : Fin 1792) (q : Fin 3072) : absf g (ix2 r q) = mag (g (ix2 r q)) := by
  pointwise [mag, FloatOps.absf]
/-- A row scale, of the row's largest magnitude. -/
theorem scale_of (t : FVec Ideal S1792 .f32) (r : Fin 1792) :
    select (cmpf .ogt t (broadcast S1792 (Scalar.ofBits (F := Ideal) .f32 0x00000000#32)))
      (divf t (broadcast S1792 (Scalar.ofBits (F := Ideal) .f32 0x42FE0000#32)))
      (broadcast S1792 (Scalar.ofBits (F := Ideal) .f32 0x3F800000#32)) (ix1 r) = qscale (t (ix1 r)) := by
  pointwise [qscale]
/-- Values over a row scale, rounded, clipped and as codes. -/
theorem code_of (g : FVec Ideal S1792x3072 .f32) (s : FVec Ideal S1792 .f32) (r : Fin 1792) (q : Fin 3072) :
    fptosi 8 (minimumf (broadcast S1792x3072 (Scalar.sitofp (F := Ideal) .f32 127#32)) (maximumf (broadcast S1792x3072 (Scalar.sitofp (F := Ideal) .f32 4294967169#32))
      (roundeven (divf g (broadcastTo S1792x3072 (shapeCast S1792x1 s shapeCasts_S1792_S1792x1) broadcasts_S1792x1_S1792x3072))))) (ix2 r q)
      = Ideal.fptosi 8 (rclip (Ideal.div (g (ix2 r q)) (s (ix1 r)))) := by
  have e : fptosi 8 (minimumf (broadcast S1792x3072 (Scalar.sitofp (F := Ideal) .f32 127#32)) (maximumf (broadcast S1792x3072 (Scalar.sitofp (F := Ideal) .f32 4294967169#32))
      (roundeven (divf g (broadcastTo S1792x3072 (shapeCast S1792x1 s shapeCasts_S1792_S1792x1) broadcasts_S1792x1_S1792x3072))))) (ix2 r q)
      = Ideal.fptosi 8 (min (wordE (127#32)) (max (wordE (4294967169#32)) (Ideal.liftRound Ideal.roundHalfEven (Ideal.div (g (ix2 r q)) (s (ix1 r)))))) := by
    pointwise [wordE, FloatOps.fptosi, FloatOps.sitofp]
  rw [e, word_127, word_neg127, rclip]

/-- The normalised rows. -/
theorem bias_of (y : FVec Ideal S1792x3072 .f32) (r : Fin 1792) (q : Fin 3072) : k0_pay1 (F := Ideal) y (k0_pay8 e) (ix2 r q) = y (ix2 r q) + e (ix1 q) := by
  pointwise [k0_pay1, k0_pay8]
theorem pay7_at (r : Fin 1792) (q : Fin 3072) :
    k0_pay7 x a v w s b g (ix2 r q) = cent (fun C => k0_pay6 x a v w s b (ix2 r C)) q
      * Ideal.rsqrt (Ideal.div (∑ k, cent (fun C => k0_pay6 x a v w s b (ix2 r C)) k * cent (fun C => k0_pay6 x a v w s b (ix2 r C)) k) (Ideal.ofBits .f32 0x45400000#32) + Ideal.ofBits .f32 0x3727C5AC#32) * g (ix1 q) :=
  gain_cent _ g _ r q (cent_of (k0_pay6 x a v w s b) r)
theorem norm_at (r : Fin 1792) :
    (fun q => k0_pay1 (F := Ideal) (k0_pay7 x a v w s b g) (k0_pay8 e) (ix2 r q))
      = lnorm (fun C => g (ix1 C)) (fun C => e (ix1 C)) (fun C => k0_pay6 x a v w s b (ix2 r C)) := by
  funext q
  rw [bias_of, pay7_at]
  rfl

variable (y : FVec Ideal S1792x3072 .f32) (f : FVec Ideal S1x3072 .f32)

theorem pay2_at (r : Fin 1792) : k0_pay2 (F := Ideal) y f (ix1 r) = rowScale fun C => k0_pay1 (F := Ideal) y f (ix2 r C) :=
  (scale_of _ r).trans <| congrArg qscale <| (top_of _ r).trans <| by simp only [abs_of]
theorem pay3_at (r : Fin 1792) (q : Fin 3072) : k0_pay3 (F := Ideal) y f (ix2 r q) = Ideal.fptosi 8 (rowCode (fun C => k0_pay1 (F := Ideal) y f (ix2 r C)) q) :=
  (code_of (k0_pay1 (F := Ideal) y f) (k0_pay2 (F := Ideal) y f) r q).trans <| by rw [pay2_at]; rfl
theorem by_seq (t : FVec Ideal S1792 .f32) (i : Fin 2) (j : Fin 896) : shapeCast S2x896 t shapeCasts_S1792_S2x896 (ix2 i j) = t (ix1 ⟨i.val * 896 + j.val, by omega⟩) := by
  pointwise []
theorem spread (t : FVec Ideal S1792 .f32) (r : Fin 1792) (l : Fin 128) :
    broadcastTo S1792x128 (shapeCast S1792x1 (shapeCast S1792x1 t shapeCasts_S1792_S1792x1) shapeCasts_S1792x1_S1792x1) broadcasts_S1792x1_S1792x128 (ix2 r l) = t (ix1 r) := by
  pointwise []
theorem pay4_at (i : Fin 2) (j : Fin 896) (R : Fin 1792) (hR : R.val = 896 * i.val + j.val) : k0_pay4 (F := Ideal) y f (ix2 i j) = rowScale fun C => k0_pay1 (F := Ideal) y f (ix2 R C) := by
  have e : (⟨i.val * 896 + j.val, by omega⟩ : Fin 1792) = R := Fin.ext (by dsimp only; omega)
  exact (by_seq (k0_pay2 (F := Ideal) y f) i j).trans <| (congrArg (fun R => k0_pay2 (F := Ideal) y f (ix1 R)) e).trans (pay2_at y f R)
theorem pay5_at (r : Fin 1792) (l : Fin 128) : k0_pay5 (F := Ideal) y f (ix2 r l) = rowScale fun C => k0_pay1 (F := Ideal) y f (ix2 r C) :=
  (spread (k0_pay2 (F := Ideal) y f) r l).trans (pay2_at y f r)

end Cert.OutProjReferenceIdeal.Hand

end
-- ==== Proof.OutProjRef.lean ====
/-
  What the reference of the output projection call leaves in its result arrays, in the kernel's closed form.
-/
module

public import proofs.«01_k».proof.Proof.OutProjRefPay
public import proofs.«01_k».proof.Proof.OutProjVal
public import proofs.«01_k».proof.Proof.Gen.OutProjReferenceIdeal.Value
public import Idealize.ShloMosaic.Lib.Pipeline.ValueKit
public import Idealize.ShloMosaic.Lib.StableHlo.ReadAt

@[expose] public section

set_option maxRecDepth 16384

noncomputable section

namespace Cert.OutProjReferenceIdeal.Hand

open Cert.OutProjReferenceIdeal Cert.OutProjReferenceIdeal.Gen Cert.Mlp Cert.Ln
open Cert.OutProjIdeal.Hand (Ins)
open Idealize.ShloMosaic Idealize.ShloMosaic.TcCoe Idealize.ShloMosaic.Tactic Idealize.ShloMosaic.Pointwise Idealize.SL.Sem

section
variable (x0 : Vec Ideal S1792x1536 .i8) (x1 : Vec Ideal S1792 .f32) (x2 : Vec Ideal S1792x3072 .bf16) (x3 : Vec Ideal S1536x3072 .i8) (x4 : Vec Ideal S3072 .f32) (x5 : Vec Ideal S3072 .f32) (x6 : Vec Ideal S3072 .f32) (x7 : Vec Ideal S3072 .f32)

/-- The reference's operands, in the shapes of the kernel's. -/
def opsOf : Ins :=
  ⟨x0, fun i => x1 (ix1 (i 0)), x2, x3, fun i => x4 (ix1 (i 1)), fun i => x5 (ix1 (i 1)), fun i => x6 (ix1 (i 1)), fun i => x7 (ix1 (i 1))⟩

local notation "J" => opsOf x0 x1 x2 x3 x4 x5 x6 x7

theorem val_r (r : Fin 1792) (q : Fin 3072) : k0_pay6 x2 x0 x1 x3 x4 x5 (ix2 r q) = (J).r r q := pay6_at x2 x0 x1 x3 x4 x5 r q

theorem val_h (r : Fin 1792) : (fun q => k0_pay1 (F := Ideal) (k0_pay7 x2 x0 x1 x3 x4 x5 x6) (k0_pay8 x7) (ix2 r q)) = (J).h r :=
  (norm_at x2 x0 x1 x3 x4 x5 x6 x7 r).trans <| congrArg _ (funext fun q => val_r x0 x1 x2 x3 x4 x5 x6 x7 r q)

theorem out8_at (r : Fin 1792) (q : Fin 3072) : out0_8 x0 x1 x2 x3 x4 x5 x6 x7 (ix2 r q) = (J).r r q := by
  unfold out0_8
  rw [View.canon_cons_unit_lit _ _ _ (by decide)]
  repeat rw [View.ld_unit_lit _ _ (by decide)]
  exact val_r x0 x1 x2 x3 x4 x5 x6 x7 r q

theorem out9_at (r : Fin 1792) (q : Fin 3072) : out0_9 x0 x1 x2 x3 x4 x5 x6 x7 (ix2 r q) = Ideal.fptosi 8 (rowCode ((J).h r) q) := by
  unfold out0_9 k0_pay9 k0_pay10
  rw [View.canon_cons_unit_lit _ _ _ (by decide)]
  repeat rw [View.ld_unit_lit _ _ (by decide)]
  exact (pay3_at _ _ r q).trans <| congrArg (fun v => Ideal.fptosi 8 (rowCode v q)) (val_h x0 x1 x2 x3 x4 x5 x6 x7 r)

theorem out10_at (a : Fin 2) (b : Fin 896) (R : Fin 1792) (hR : R.val = 896 * a.val + b.val) : out0_10 x0 x1 x2 x3 x4 x5 x6 x7 (ix2 a b) = rowScale ((J).h R) := by
  unfold out0_10 k0_pay9 k0_pay10
  rw [View.canon_cons_unit_lit _ _ _ (by decide)]
  repeat rw [View.ld_unit_lit _ _ (by decide)]
  exact (pay4_at _ _ a b R hR).trans <| congrArg rowScale (val_h x0 x1 x2 x3 x4 x5 x6 x7 R)

theorem out11_at (r : Fin 1792) (l : Fin 128) : out0_11 x0 x1 x2 x3 x4 x5 x6 x7 (ix2 r l) = rowScale ((J).h r) := by
  unfold out0_11 k0_pay9 k0_pay10
  rw [View.canon_cons_unit_lit _ _ _ (by decide)]
  repeat rw [View.ld_unit_lit _ _ (by decide)]
  exact (pay5_at _ _ r l).trans <| congrArg rowScale (val_h x0 x1 x2 x3 x4 x5 x6 x7 r)
end

variable (m : (ℓ : Loc nD τ sig) → Buf (Elt Ideal) ℓ)

theorem at0 : ∀ t : Fin cfg0.N, win0_0.index t = ![0, 0] := by decide +kernel
theorem at1 : ∀ t : Fin cfg0.N, win0_1.index t = ![0] := by decide +kernel
theorem at2 : ∀ t : Fin cfg0.N, win0_2.index t = ![0, 0] := by decide +kernel
theorem at3 : ∀ t : Fin cfg0.N, win0_3.index t = ![0, 0] := by decide +kernel
theorem at4 : ∀ t : Fin cfg0.N, win0_4.index t = ![0] := by decide +kernel
theorem at5 : ∀ t : Fin cfg0.N, win0_5.index t = ![0] := by decide +kernel
theorem at6 : ∀ t : Fin cfg0.N, win0_6.index t = ![0] := by decide +kernel
theorem at7 : ∀ t : Fin cfg0.N, win0_7.index t = ![0] := by decide +kernel
theorem at8 : ∀ t : Fin cfg0.N, win0_8.index t = ![0, 0] := by decide +kernel
theorem at9 : ∀ t : Fin cfg0.N, win0_9.index t = ![0, 0] := by decide +kernel
theorem at10 : ∀ t : Fin cfg0.N, win0_10.index t = ![0, 0] := by decide +kernel
theorem at11 : ∀ t : Fin cfg0.N, win0_11.index t = ![0, 0] := by decide +kernel

theorem whole0 (c : Dev nD) (t : Fin cfg0.N) : iblk m c 0 t = V m c main_arg0 := by
  unfold iblk
  funext y
  refine congrArg (V m c main_arg0) (funext fun a => Fin.ext ?_)
  match a with
  | ⟨0, _⟩ => blk_simp [at0]
  | ⟨1, _⟩ => blk_simp [at0]
theorem whole1 (c : Dev nD) (t : Fin cfg0.N) : iblk m c 1 t = V m c main_v1 := by
  unfold iblk
  funext y
  refine congrArg (V m c main_v1) (funext fun a => Fin.ext ?_)
  match a with
  | ⟨0, _⟩ => blk_simp [at1]
theorem whole2 (c : Dev nD) (t : Fin cfg0.N) : iblk m c 2 t = V m c main_arg2 := by
  unfold iblk
  funext y
  refine congrArg (V m c main_arg2) (funext fun a => Fin.ext ?_)
  match a with
  | ⟨0, _⟩ => blk_simp [at2]
  | ⟨1, _⟩ => blk_simp [at2]
theorem whole3 (c : Dev nD) (t : Fin cfg0.N) : iblk m c 3 t = V m c main_arg3 := by
  unfold iblk
  funext y
  refine congrArg (V m c main_arg3) (funext fun a => Fin.ext ?_)
  match a with
  | ⟨0, _⟩ => blk_simp [at3]
  | ⟨1, _⟩ => blk_simp [at3]
theorem whole4 (c : Dev nD) (t : Fin cfg0.N) : iblk m c 4 t = V m c main_arg4 := by
  unfold iblk
  funext y
  refine congrArg (V m c main_arg4) (funext fun a => Fin.ext ?_)
  match a with
  | ⟨0, _⟩ => blk_simp [at4]
theorem whole5 (c : Dev nD) (t : Fin cfg0.N) : iblk m c 5 t = V m c main_arg5 := by
  unfold iblk
  funext y
  refine congrArg (V m c main_arg5) (funext fun a => Fin.ext ?_)
  match a with
  | ⟨0, _⟩ => blk_simp [at5]
theorem whole6 (c : Dev nD) (t : Fin cfg0.N) : iblk m c 6 t = V m c main_arg6 := by
  unfold iblk
  funext y
  refine congrArg (V m c main_arg6) (funext fun a => Fin.ext ?_)
  match a with
  | ⟨0, _⟩ => blk_simp [at6]
theorem whole7 (c : Dev nD) (t : Fin cfg0.N) : iblk m c 7 t = V m c main_arg7 := by
  unfold iblk
  funext y
  refine congrArg (V m c main_arg7) (funext fun a => Fin.ext ?_)
  match a with
  | ⟨0, _⟩ => blk_simp [at7]

/-- The operands as the reference finds them. -/
def rops (c : Dev nD) : Ins := opsOf (V m c main_arg0) (V m c main_v1) (V m c main_arg2) (V m c main_arg3) (V m c main_arg4) (V m c main_arg5) (V m c main_arg6) (V m c main_arg7)

theorem ix2_self {a b : ℕ} (y : Shape.Idx ⟨2, ![a, b]⟩) : y = ix2 (y 0) (y 1) := by
  funext k; match k with
  | ⟨0, _⟩ => rfl
  | ⟨1, _⟩ => rfl

def res8 (c : Dev nD) : Vec Ideal S1792x3072 .f32 := fun i => ((fun (R : Fin 1792) (C : Fin 3072) => (rops m c).r R C) (i 0) (i 1))
theorem final8 (c : Dev nD) : (dats m 0 c).arrAt 8 cfg0.N = res8 m c := by
  refine Pipeline.Dat.arrAt_eq_of_covers (cfg := cfg0) (dats m 0 c) (8 : Fin 12) _ (by decide +kernel) fun t hf y => ?_
  have e := congrFun (after0_8 m c t) y
  rw [whole0, whole1, whole2, whole3, whole4, whole5, whole6, whole7] at e
  blk_simp
  have ey : (win0_8.blk t).view.emb y = y := funext fun a => Fin.ext (by
    match a with
    | ⟨0, _⟩ => blk_simp [at8]
    | ⟨1, _⟩ => blk_simp [at8])
  refine e.trans ?_
  refine Eq.trans ?_ (congrArg (res8 m c) ey.symm)
  exact (congrArg _ (ix2_self (a := 1792) (b := 3072) y)).trans (out8_at _ _ _ _ _ _ _ _ (y 0) (y 1))

def res9 (c : Dev nD) : Vec Ideal S1792x3072 .i8 := fun i => ((fun (R : Fin 1792) (C : Fin 3072) => Ideal.fptosi 8 (rowCode ((rops m c).h R) C)) (i 0) (i 1))
theorem final9 (c : Dev nD) : (dats m 0 c).arrAt 9 cfg0.N = res9 m c := by
  refine Pipeline.Dat.arrAt_eq_of_covers (cfg := cfg0) (dats m 0 c) (9 : Fin 12) _ (by decide +kernel) fun t hf y => ?_
  have e := congrFun (after0_9 m c t) y
  rw [whole0, whole1, whole2, whole3, whole4, whole5, whole6, whole7] at e
  blk_simp
  have ey : (win0_9.blk t).view.emb y = y := funext fun a => Fin.ext (by
    match a with
    | ⟨0, _⟩ => blk_simp [at9]
    | ⟨1, _⟩ => blk_simp [at9])
  refine e.trans ?_
  refine Eq.trans ?_ (congrArg (res9 m c) ey.symm)
  exact (congrArg _ (ix2_self (a := 1792) (b := 3072) y)).trans (out9_at _ _ _ _ _ _ _ _ (y 0) (y 1))

def res10 (c : Dev nD) : Vec Ideal S2x896 .f32 := fun i => (fun R : Fin 1792 => rowScale ((rops m c).h R)) ⟨896 * (i 0).val + (i 1).val, by have := (i 0).isLt; have := (i 1).isLt; change (i 0).val < 2 at *; change (i 1).val < 896 at *; omega⟩
theorem final10 (c : Dev nD) : (dats m 0 c).arrAt 10 cfg0.N = res10 m c := by
  refine Pipeline.Dat.arrAt_eq_of_covers (cfg := cfg0) (dats m 0 c) (10 : Fin 12) _ (by decide +kernel) fun t hf y => ?_
  have e := congrFun (after0_10 m c t) y
  rw [whole0, whole1, whole2, whole3, whole4, whole5, whole6, whole7] at e
  blk_simp
  have ey : (win0_10.blk t).view.emb y = y := funext fun a => Fin.ext (by
    match a with
    | ⟨0, _⟩ => blk_simp [at10]
    | ⟨1, _⟩ => blk_simp [at10])
  refine e.trans ?_
  refine Eq.trans ?_ (congrArg (res10 m c) ey.symm)
  exact (congrArg _ (ix2_self (a := 2) (b := 896) y)).trans (out10_at _ _ _ _ _ _ _ _ (y 0) (y 1) _ rfl)

def res11 (c : Dev nD) : Vec Ideal S1792x128 .f32 := fun i => ((fun (R : Fin 1792) (C : Fin 128) => rowScale ((rops m c).h R)) (i 0) (i 1))
theorem final11 (c : Dev nD) : (dats m 0 c).arrAt 11 cfg0.N = res11 m c := by
  refine Pipeline.Dat.arrAt_eq_of_covers (cfg := cfg0) (dats m 0 c) (11 : Fin 12) _ (by decide +kernel) fun t hf y => ?_
  have e := congrFun (after0_11 m c t) y
  rw [whole0, whole1, whole2, whole3, whole4, whole5, whole6, whole7] at e
  blk_simp
  have ey : (win0_11.blk t).view.emb y = y := funext fun a => Fin.ext (by
    match a with
    | ⟨0, _⟩ => blk_simp [at11]
    | ⟨1, _⟩ => blk_simp [at11])
  refine e.trans ?_
  refine Eq.trans ?_ (congrArg (res11 m c) ey.symm)
  exact (congrArg _ (ix2_self (a := 1792) (b := 128) y)).trans (out11_at _ _ _ _ _ _ _ _ (y 0) (y 1))

/-- The reference's runs: the results in closed form, the arguments unchanged. -/
theorem run_values (ρ : Dev nD → PrngReg) : θ_run defs (onTc (τ := τ) (main (F := Ideal))) ⟨m, fun _ => 0, ρ⟩ (fun r => ∀ c : Dev nD,
    r.2.mem ((c.tc : Thread nD τ).loc main_v2_0) = res8 m c
    ∧ r.2.mem ((c.tc : Thread nD τ).loc main_v2_1) = res9 m c
    ∧ r.2.mem ((c.tc : Thread nD τ).loc main_v2_2) = res10 m c
    ∧ r.2.mem ((c.tc : Thread nD τ).loc main_v2_3) = res11 m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)) :=
  (θ_run defs _ _).mono (fun _ hh c => ⟨(hh c).1.trans (final8 m c), (hh c).2.1.trans (final9 m c), (hh c).2.2.1.trans (final10 m c), (hh c).2.2.2.1.trans (final11 m c), (hh c).2.2.2.2⟩) (Cert.OutProjReferenceIdeal.Value.run_blocks m ρ)

end Cert.OutProjReferenceIdeal.Hand

end
-- ==== Proof.OutProjEq.lean ====
/-
  The output projection kernel and its reference, over the extended reals: the same results from the same arguments.
-/
module

public import proofs.«01_k».proof.Proof.OutProjOut
public import proofs.«01_k».proof.Proof.OutProjRef

@[expose] public section

set_option maxRecDepth 16384

noncomputable section

open Idealize.ShloMosaic Idealize.ShloMosaic.TcCoe Idealize.ShloMosaic.Tactic Idealize.ShloMosaic.Pointwise Idealize.SL.Sem Cert.Mlp Cert.Ln

namespace Cert.OutProjIdeal.Hand
open Cert.OutProjIdeal Cert.OutProjIdeal.Gen

variable (m : (ℓ : Loc nD τ sig) → Buf (Elt Ideal) ℓ)

theorem V_v0 (c : Dev nD) (C : Fin 3072) : V m c main_v0 (ix2 (0 : Fin 1) C) = m ((c : Thread nD τ).loc main_arg4) (ix1 C) := by
  unfold V
  after_reads_at
theorem V_v1 (c : Dev nD) (C : Fin 3072) : V m c main_v1 (ix2 (0 : Fin 1) C) = m ((c : Thread nD τ).loc main_arg5) (ix1 C) := by
  unfold V
  after_reads_at
theorem V_v2 (c : Dev nD) (C : Fin 3072) : V m c main_v2 (ix2 (0 : Fin 1) C) = m ((c : Thread nD τ).loc main_arg6) (ix1 C) := by
  unfold V
  after_reads_at
theorem V_v3 (c : Dev nD) (C : Fin 3072) : V m c main_v3 (ix2 (0 : Fin 1) C) = m ((c : Thread nD τ).loc main_arg7) (ix1 C) := by
  unfold V
  after_reads_at

/-- Two sets of operands that agree where they are read give the same results. -/
structure Same (I K : Ins) : Prop where
  h0 : ∀ i, I.a0 i = K.a0 i
  h1 : ∀ R : Fin 1792, I.a1 (ix2 R 0) = K.a1 (ix2 R 0)
  h2 : ∀ i, I.a2 i = K.a2 i
  h3 : ∀ i, I.a3 i = K.a3 i
  h4 : ∀ C : Fin 3072, I.a4 (ix2 0 C) = K.a4 (ix2 0 C)
  h5 : ∀ C : Fin 3072, I.a5 (ix2 0 C) = K.a5 (ix2 0 C)
  h6 : ∀ C : Fin 3072, I.a6 (ix2 0 C) = K.a6 (ix2 0 C)
  h7 : ∀ C : Fin 3072, I.a7 (ix2 0 C) = K.a7 (ix2 0 C)

theorem Same.r {I K : Ins} (h : Same I K) (R : Fin 1792) : I.r R = K.r R := by
  funext C
  simp only [Ins.r, h.h0, h.h1, h.h2, h.h3, h.h4, h.h5]
theorem Same.h {I K : Ins} (h : Same I K) (R : Fin 1792) : I.h R = K.h R := by
  unfold Ins.h
  rw [h.r R, funext h.h6, funext h.h7]

end Cert.OutProjIdeal.Hand

namespace Cert.OutProjReferenceIdeal.Hand
open Cert.OutProjReferenceIdeal Cert.OutProjReferenceIdeal.Gen

theorem V_v1 (m : (ℓ : Loc nD τ sig) → Buf (Elt Ideal) ℓ) (c : Dev nD) (R : Fin 1792) :
    V m c main_v1 (ix1 R) = m ((c : Thread nD τ).loc main_arg1) (ix2 R (0 : Fin 128)) := by
  unfold V
  after_reads_at

end Cert.OutProjReferenceIdeal.Hand

namespace Cert.OutProjEq

variable (m : (ℓ : Loc Cert.OutProjIdeal.nD Cert.OutProjIdeal.τ Cert.OutProjIdeal.sig) → Buf (Elt Ideal) ℓ) (m' : (ℓ : Loc Cert.OutProjReferenceIdeal.nD Cert.OutProjReferenceIdeal.τ Cert.OutProjReferenceIdeal.sig) → Buf (Elt Ideal) ℓ)

/-- The two programs' arguments are the same on a device. -/
def Args (c : Dev Cert.OutProjIdeal.nD) : Prop :=
  m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
  ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)
  ∧ m' ((c.tc : Thread Cert.OutProjReferenceIdeal.nD Cert.OutProjReferenceIdeal.τ).loc Cert.OutProjReferenceIdeal.main_arg2) = m ((c.tc : Thread Cert.OutProjIdeal.nD Cert.OutProjIdeal.τ).loc Cert.OutProjIdeal.main_arg2)
  ∧ m' ((c.tc : Thread Cert.OutProjReferenceIdeal.nD Cert.OutProjReferenceIdeal.τ).loc Cert.OutProjReferenceIdeal.main_arg3) = m ((c.tc : Thread Cert.OutProjIdeal.nD Cert.OutProjIdeal.τ).loc Cert.OutProjIdeal.main_arg3)
  ∧ m' ((c.tc : Thread Cert.OutProjReferenceIdeal.nD Cert.OutProjReferenceIdeal.τ).loc Cert.OutProjReferenceIdeal.main_arg4) = m ((c.tc : Thread Cert.OutProjIdeal.nD Cert.OutProjIdeal.τ).loc Cert.OutProjIdeal.main_arg4)
  ∧ m' ((c.tc : Thread Cert.OutProjReferenceIdeal.nD Cert.OutProjReferenceIdeal.τ).loc Cert.OutProjReferenceIdeal.main_arg5) = m ((c.tc : Thread Cert.OutProjIdeal.nD Cert.OutProjIdeal.τ).loc Cert.OutProjIdeal.main_arg5)
  ∧ m' ((c.tc : Thread Cert.OutProjReferenceIdeal.nD Cert.OutProjReferenceIdeal.τ).loc Cert.OutProjReferenceIdeal.main_arg6) = m ((c.tc : Thread Cert.OutProjIdeal.nD Cert.OutProjIdeal.τ).loc Cert.OutProjIdeal.main_arg6)
  ∧ m' ((c.tc : Thread Cert.OutProjReferenceIdeal.nD Cert.OutProjReferenceIdeal.τ).loc Cert.OutProjReferenceIdeal.main_arg7) = m ((c.tc : Thread Cert.OutProjIdeal.nD Cert.OutProjIdeal.τ).loc Cert.OutProjIdeal.main_arg7)

theorem same (c : Dev Cert.OutProjIdeal.nD) (h : Args m m' c) : Cert.OutProjIdeal.Hand.Same (Cert.OutProjReferenceIdeal.Hand.rops m' c) (Cert.OutProjIdeal.Hand.ins m c) := by
  obtain ⟨h0, h1, h2, h3, h4, h5, h6, h7⟩ := h
  refine ⟨fun i => ?_, fun R => ?_, fun i => ?_, fun i => ?_, fun C => ?_, fun C => ?_, fun C => ?_, fun C => ?_⟩
  · exact congrFun (((Cert.OutProjReferenceIdeal.Gen.V_main_arg0 m' c).trans h0).trans (Cert.OutProjIdeal.Gen.V_main_arg0 m c).symm) i
  · exact (Cert.OutProjReferenceIdeal.Hand.V_v1 m' c R).trans (congrFun (h1.trans (Cert.OutProjIdeal.Gen.V_main_arg1 m c).symm) (ix2 R 0))
  · exact congrFun (((Cert.OutProjReferenceIdeal.Gen.V_main_arg2 m' c).trans h2).trans (Cert.OutProjIdeal.Gen.V_main_arg2 m c).symm) i
  · exact congrFun (((Cert.OutProjReferenceIdeal.Gen.V_main_arg3 m' c).trans h3).trans (Cert.OutProjIdeal.Gen.V_main_arg3 m c).symm) i
  · exact (congrFun ((Cert.OutProjReferenceIdeal.Gen.V_main_arg4 m' c).trans h4) (ix1 C)).trans (Cert.OutProjIdeal.Hand.V_v0 m c C).symm
  · exact (congrFun ((Cert.OutProjReferenceIdeal.Gen.V_main_arg5 m' c).trans h5) (ix1 C)).trans (Cert.OutProjIdeal.Hand.V_v1 m c C).symm
  · exact (congrFun ((Cert.OutProjReferenceIdeal.Gen.V_main_arg6 m' c).trans h6) (ix1 C)).trans (Cert.OutProjIdeal.Hand.V_v2 m c C).symm
  · exact (congrFun ((Cert.OutProjReferenceIdeal.Gen.V_main_arg7 m' c).trans h7) (ix1 C)).trans (Cert.OutProjIdeal.Hand.V_v3 m c C).symm

theorem res8 (c : Dev Cert.OutProjIdeal.nD) (h : Args m m' c) : Cert.OutProjReferenceIdeal.Hand.res8 m' c = Cert.OutProjIdeal.Hand.arr8 m c :=
  funext fun _ => congrFun ((same m m' c h).r _) _
theorem res9 (c : Dev Cert.OutProjIdeal.nD) (h : Args m m' c) : Cert.OutProjReferenceIdeal.Hand.res9 m' c = Cert.OutProjIdeal.Hand.arr9 m c :=
  funext fun _ => congrArg (fun v => Ideal.fptosi 8 (rowCode v _)) ((same m m' c h).h _)
theorem res10 (c : Dev Cert.OutProjIdeal.nD) (h : Args m m' c) : Cert.OutProjReferenceIdeal.Hand.res10 m' c = Cert.OutProjIdeal.Hand.arr10 m c :=
  funext fun _ => congrArg rowScale ((same m m' c h).h _)
theorem res11 (c : Dev Cert.OutProjIdeal.nD) (h : Args m m' c) : Cert.OutProjReferenceIdeal.Hand.res11 m' c = Cert.OutProjIdeal.Hand.arr11 m c :=
  funext fun _ => congrArg rowScale ((same m m' c h).h _)

end Cert.OutProjEq

end
-- ==== Proof.QkvFrameRuns.lean ====
/-
  The projection of the queries, keys and values kernel as printed for the machine: which conditional each grid point takes, and the body run on each
  row block with the contents of its outputs left unsaid (what the frame claim needs).
-/
module

public import proofs.«01_k».proof.Proof.Gen.Qkv.Frame
public import proofs.«01_k».proof.Proof.Gen.Qkv.Skeleton
public import proofs.«01_k».proof.Proof.Gen.Qkv.Points
public import Idealize.ShloMosaic.Lib.Pipeline.FrameBody
public import Idealize.ShloMosaic.Lib.Tactic
public import Idealize.ShloMosaic.Lib.WordCmp
public import Idealize.ShloMosaic.Lib.Claim

@[expose] public section

set_option maxRecDepth 16384

noncomputable section

namespace Cert.Qkv.Hand

open Cert.Qkv Cert.Qkv.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Conditional 1 of the body is taken on row block 0. -/
abbrev cond0_1 (i : grid0.Coords) : Prop := k0_cond1 i = 1#1
theorem hcond0_1 : ∀ t : Fin cfg0.N, cond0_1 (grid0.coords t) ↔ t.val = 0 :=
  (fun t => by
    have ht : t.val < 4 := Nat.lt_of_lt_of_eq t.isLt N_0
    have e0 : (grid0.coords t 0).val = t.val / 1 % 4 := Pipeline.Grid.coords_val t 0 (by decide) rfl
    simp only [cond0_1, k0_cond1, e0]
    word_cmp
   : ∀ t : Fin grid0.N, cond0_1 (grid0.coords t) ↔ t.val = 0)
/-- Conditional 2 of the body is taken on row block 1. -/
abbrev cond0_2 (i : grid0.Coords) : Prop := k0_cond2 i = 1#1
theorem hcond0_2 : ∀ t : Fin cfg0.N, cond0_2 (grid0.coords t) ↔ t.val = 1 :=
  (fun t => by
    have ht : t.val < 4 := Nat.lt_of_lt_of_eq t.isLt N_0
    have e0 : (grid0.coords t 0).val = t.val / 1 % 4 := Pipeline.Grid.coords_val t 0 (by decide) rfl
    simp only [cond0_2, k0_cond2, e0]
    word_cmp
   : ∀ t : Fin grid0.N, cond0_2 (grid0.coords t) ↔ t.val = 1)
/-- Conditional 3 of the body is taken on row block 2. -/
abbrev cond0_3 (i : grid0.Coords) : Prop := k0_cond3 i = 1#1
theorem hcond0_3 : ∀ t : Fin cfg0.N, cond0_3 (grid0.coords t) ↔ t.val = 2 :=
  (fun t => by
    have ht : t.val < 4 := Nat.lt_of_lt_of_eq t.isLt N_0
    have e0 : (grid0.coords t 0).val = t.val / 1 % 4 := Pipeline.Grid.coords_val t 0 (by decide) rfl
    simp only [cond0_3, k0_cond3, e0]
    word_cmp
   : ∀ t : Fin grid0.N, cond0_3 (grid0.coords t) ↔ t.val = 2)
/-- Conditional 4 of the body is taken on row block 3. -/
abbrev cond0_4 (i : grid0.Coords) : Prop := k0_cond4 i = 1#1
theorem hcond0_4 : ∀ t : Fin cfg0.N, cond0_4 (grid0.coords t) ↔ t.val = 3 :=
  (fun t => by
    have ht : t.val < 4 := Nat.lt_of_lt_of_eq t.isLt N_0
    have e0 : (grid0.coords t 0).val = t.val / 1 % 4 := Pipeline.Grid.coords_val t 0 (by decide) rfl
    simp only [cond0_4, k0_cond4, e0]
    word_cmp
   : ∀ t : Fin grid0.N, cond0_4 (grid0.coords t) ↔ t.val = 3)
/-- Conditional 5 of the body is taken on row block 0. -/
abbrev cond0_5 (i : grid0.Coords) : Prop := k0_cond5 i = 1#1
theorem hcond0_5 : ∀ t : Fin cfg0.N, cond0_5 (grid0.coords t) ↔ t.val = 0 :=
  (fun t => by
    have ht : t.val < 4 := Nat.lt_of_lt_of_eq t.isLt N_0
    have e0 : (grid0.coords t 0).val = t.val / 1 % 4 := Pipeline.Grid.coords_val t 0 (by decide) rfl
    simp only [cond0_5, k0_cond5, e0]
    word_cmp
   : ∀ t : Fin grid0.N, cond0_5 (grid0.coords t) ↔ t.val = 0)
/-- Conditional 6 of the body is taken on row block 1. -/
abbrev cond0_6 (i : grid0.Coords) : Prop := k0_cond6 i = 1#1
theorem hcond0_6 : ∀ t : Fin cfg0.N, cond0_6 (grid0.coords t) ↔ t.val = 1 :=
  (fun t => by
    have ht : t.val < 4 := Nat.lt_of_lt_of_eq t.isLt N_0
    have e0 : (grid0.coords t 0).val = t.val / 1 % 4 := Pipeline.Grid.coords_val t 0 (by decide) rfl
    simp only [cond0_6, k0_cond6, e0]
    word_cmp
   : ∀ t : Fin grid0.N, cond0_6 (grid0.coords t) ↔ t.val = 1)
/-- Conditional 7 of the body is taken on row block 2. -/
abbrev cond0_7 (i : grid0.Coords) : Prop := k0_cond7 i = 1#1
theorem hcond0_7 : ∀ t : Fin cfg0.N, cond0_7 (grid0.coords t) ↔ t.val = 2 :=
  (fun t => by
    have ht : t.val < 4 := Nat.lt_of_lt_of_eq t.isLt N_0
    have e0 : (grid0.coords t 0).val = t.val / 1 % 4 := Pipeline.Grid.coords_val t 0 (by decide) rfl
    simp only [cond0_7, k0_cond7, e0]
    word_cmp
   : ∀ t : Fin grid0.N, cond0_7 (grid0.coords t) ↔ t.val = 2)
/-- Conditional 8 of the body is taken on row block 3. -/
abbrev cond0_8 (i : grid0.Coords) : Prop := k0_cond8 i = 1#1
theorem hcond0_8 : ∀ t : Fin cfg0.N, cond0_8 (grid0.coords t) ↔ t.val = 3 :=
  (fun t => by
    have ht : t.val < 4 := Nat.lt_of_lt_of_eq t.isLt N_0
    have e0 : (grid0.coords t 0).val = t.val / 1 % 4 := Pipeline.Grid.coords_val t 0 (by decide) rfl
    simp only [cond0_8, k0_cond8, e0]
    word_cmp
   : ∀ t : Fin grid0.N, cond0_8 (grid0.coords t) ↔ t.val = 3)
/-- Conditional 9 of the body is taken on row block 0. -/
abbrev cond0_9 (i : grid0.Coords) : Prop := k0_cond9 i = 1#1
theorem hcond0_9 : ∀ t : Fin cfg0.N, cond0_9 (grid0.coords t) ↔ t.val = 0 :=
  (fun t => by
    have ht : t.val < 4 := Nat.lt_of_lt_of_eq t.isLt N_0
    have e0 : (grid0.coords t 0).val = t.val / 1 % 4 := Pipeline.Grid.coords_val t 0 (by decide) rfl
    simp only [cond0_9, k0_cond9, e0]
    word_cmp
   : ∀ t : Fin grid0.N, cond0_9 (grid0.coords t) ↔ t.val = 0)
/-- Conditional 10 of the body is taken on row block 1. -/
abbrev cond0_10 (i : grid0.Coords) : Prop := k0_cond10 i = 1#1
theorem hcond0_10 : ∀ t : Fin cfg0.N, cond0_10 (grid0.coords t) ↔ t.val = 1 :=
  (fun t => by
    have ht : t.val < 4 := Nat.lt_of_lt_of_eq t.isLt N_0
    have e0 : (grid0.coords t 0).val = t.val / 1 % 4 := Pipeline.Grid.coords_val t 0 (by decide) rfl
    simp only [cond0_10, k0_cond10, e0]
    word_cmp
   : ∀ t : Fin grid0.N, cond0_10 (grid0.coords t) ↔ t.val = 1)
/-- Conditional 11 of the body is taken on row block 2. -/
abbrev cond0_11 (i : grid0.Coords) : Prop := k0_cond11 i = 1#1
theorem hcond0_11 : ∀ t : Fin cfg0.N, cond0_11 (grid0.coords t) ↔ t.val = 2 :=
  (fun t => by
    have ht : t.val < 4 := Nat.lt_of_lt_of_eq t.isLt N_0
    have e0 : (grid0.coords t 0).val = t.val / 1 % 4 := Pipeline.Grid.coords_val t 0 (by decide) rfl
    simp only [cond0_11, k0_cond11, e0]
    word_cmp
   : ∀ t : Fin grid0.N, cond0_11 (grid0.coords t) ↔ t.val = 2)
/-- Conditional 12 of the body is taken on row block 3. -/
abbrev cond0_12 (i : grid0.Coords) : Prop := k0_cond12 i = 1#1
theorem hcond0_12 : ∀ t : Fin cfg0.N, cond0_12 (grid0.coords t) ↔ t.val = 3 :=
  (fun t => by
    have ht : t.val < 4 := Nat.lt_of_lt_of_eq t.isLt N_0
    have e0 : (grid0.coords t 0).val = t.val / 1 % 4 := Pipeline.Grid.coords_val t 0 (by decide) rfl
    simp only [cond0_12, k0_cond12, e0]
    word_cmp
   : ∀ t : Fin grid0.N, cond0_12 (grid0.coords t) ↔ t.val = 3)
/-- What the body's frame takes of one grid point: on whole staging memrefs, the inputs at their contents and every
    output and scratch buffer at anything, the body runs and hands the inputs back as they were and the others at
    some contents. -/
def RunSpec (c : Dev nD) (i : grid0.Coords) : Prop :=
  ∀ (arg1 : Memref sig .tc .vmem S448x3072 .bf16) (harg1 : arg1.IsWhole) (arg2 : Memref sig .tc .vmem S448x64 .f32) (harg2 : arg2.IsWhole) (arg3 : Memref sig .tc .vmem S448x64 .f32) (harg3 : arg3.IsWhole) (arg4 : Memref sig .tc .vmem S1x3072 .f32) (harg4 : arg4.IsWhole) (arg5 : Memref sig .tc .vmem S1x3072 .f32) (harg5 : arg5.IsWhole) (arg6 : Memref sig .tc .vmem S3072x1792 .i8) (harg6 : arg6.IsWhole) (arg7 : Memref sig .tc .vmem S1x1792 .f32) (harg7 : arg7.IsWhole) (arg8 : Memref sig .tc .vmem S1x1792 .f32) (harg8 : arg8.IsWhole) (arg9 : Memref sig .tc .vmem S448x3072 .i8) (harg9 : arg9.IsWhole) (arg10 : Memref sig .tc .vmem S2x896 .f32) (harg10 : arg10.IsWhole) (arg11 : Memref sig .tc .vmem S448x1536 .bf16) (harg11 : arg11.IsWhole) (arg12 : Memref sig .tc .vmem S448x128 .i8) (harg12 : arg12.IsWhole) (arg13 : Memref sig .tc .vmem S2x896 .f32) (harg13 : arg13.IsWhole) (arg14 : Memref sig .tc .vmem S448x128 .i8) (harg14 : arg14.IsWhole) (arg15 : Memref sig .tc .vmem S2x896 .f32) (harg15 : arg15.IsWhole) (arg16 : Memref sig .tc .vmem S448x3072 .bf16) (harg16 : arg16.IsWhole)
    (x0 : Vec F S448x3072 .bf16) (x1 : Vec F S448x64 .f32) (x2 : Vec F S448x64 .f32) (x3 : Vec F S1x3072 .f32) (x4 : Vec F S1x3072 .f32) (x5 : Vec F S3072x1792 .i8) (x6 : Vec F S1x1792 .f32) (x7 : Vec F S1x1792 .f32) (E : Set ℕ) (K : PUnit → sProp 𝕄),
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
      ⊢ wp frame (wpE (defs₀ (F := F)) Variants.none c none) E (cc0_qkv i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K

set_option maxHeartbeats 16000000 in
/-- The body on row block `q`. -/
theorem run_at (c : Dev nD) (i : grid0.Coords) (q : ℕ) (hq : q < 4) (hc1 : cond0_1 i ↔ q = 0) (hc2 : cond0_2 i ↔ q = 1) (hc3 : cond0_3 i ↔ q = 2) (hc4 : cond0_4 i ↔ q = 3) (hc5 : cond0_5 i ↔ q = 0) (hc6 : cond0_6 i ↔ q = 1) (hc7 : cond0_7 i ↔ q = 2) (hc8 : cond0_8 i ↔ q = 3) (hc9 : cond0_9 i ↔ q = 0) (hc10 : cond0_10 i ↔ q = 1) (hc11 : cond0_11 i ↔ q = 2) (hc12 : cond0_12 i ↔ q = 3) : RunSpec (F := F) c i := by
  obtain rfl | rfl | rfl | rfl : q = 0 ∨ q = 1 ∨ q = 2 ∨ q = 3 := by omega
  all_goals
    simp only [Nat.reduceEqDiff, iff_true, iff_false] at hc1 hc2 hc3 hc4 hc5 hc6 hc7 hc8 hc9 hc10 hc11 hc12
    unfold RunSpec
    intro arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 E K
    simp only [cc0_qkv_eq_skeleton]; unfold cc0_qkv_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | sl_exact hc1 | sl_exact hc2 | sl_exact hc3 | sl_exact hc4 | sl_exact hc5 | sl_exact hc6 | sl_exact hc7 | sl_exact hc8 | sl_exact hc9 | sl_exact hc10 | sl_exact hc11 | sl_exact hc12)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    iexists _, _; isplitr; swap; · iexact H15
    ipureintro; rfl

end Cert.Qkv.Hand

end
-- ==== Proof.QkvFrame.lean ====
/-
  The frame of the projection of the queries, keys and values kernel as printed for the machine: every run ends with the argument arrays unchanged
  and the semaphore counters at zero. The contents of the outputs are left unsaid.
-/
module

public import proofs.«01_k».proof.Proof.QkvFrameRuns

@[expose] public section

set_option maxRecDepth 16384

noncomputable section

namespace Cert.Qkv.Hand

open Cert.Qkv Cert.Qkv.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body runs at every grid point. -/
theorem run_all (c : Dev nD) (t : Fin cfg0.N) : RunSpec (F := F) c (grid0.coords t) := by
  have hN : t.val < 4 := lt_of_lt_of_eq t.isLt (show cfg0.N = 4 from N_0)
  exact run_at c _ t.val hN (hcond0_1 t) (hcond0_2 t) (hcond0_3 t) (hcond0_4 t) (hcond0_5 t) (hcond0_6 t) (hcond0_7 t) (hcond0_8 t) (hcond0_9 t) (hcond0_10 t) (hcond0_11 t) (hcond0_12 t)

/-! ## The pipeline's proof data -/

/-- The output windows, whose contents the frame does not state. -/
def forgets0 : Fin 15 → Bool := fun w => w.val == 8 || w.val == 9 || w.val == 10 || w.val == 11 || w.val == 12 || w.val == 13 || w.val == 14

/-- The proof data: the arrays as the region finds them; each input's buffer at its block; the outputs unnamed; between
    points the scratch buffers at some contents. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem leaves0_0 (c : Dev nD) (t : Fin cfg0.N) : (dats m 0 c).leavesExact 0 t = owns (c : Thread nD τ) (st0_0 t) fullShare (iblk m c 0 t) := by
  unfold Dat.leavesExact; rw [show cfg0.idle 0 (grid0.coords t) = false from rfl, after0_0]
theorem leaves0_1 (c : Dev nD) (t : Fin cfg0.N) : (dats m 0 c).leavesExact 1 t = owns (c : Thread nD τ) (st0_1 t) fullShare (iblk m c 1 t) := by
  unfold Dat.leavesExact; rw [show cfg0.idle 1 (grid0.coords t) = false from rfl, after0_1]
theorem leaves0_2 (c : Dev nD) (t : Fin cfg0.N) : (dats m 0 c).leavesExact 2 t = owns (c : Thread nD τ) (st0_2 t) fullShare (iblk m c 2 t) := by
  unfold Dat.leavesExact; rw [show cfg0.idle 2 (grid0.coords t) = false from rfl, after0_2]
theorem leaves0_3 (c : Dev nD) (t : Fin cfg0.N) : (dats m 0 c).leavesExact 3 t = owns (c : Thread nD τ) (st0_3 t) fullShare (iblk m c 3 t) := by
  unfold Dat.leavesExact; rw [show cfg0.idle 3 (grid0.coords t) = false from rfl, after0_3]
theorem leaves0_4 (c : Dev nD) (t : Fin cfg0.N) : (dats m 0 c).leavesExact 4 t = owns (c : Thread nD τ) (st0_4 t) fullShare (iblk m c 4 t) := by
  unfold Dat.leavesExact; rw [show cfg0.idle 4 (grid0.coords t) = false from rfl, after0_4]
theorem leaves0_5 (c : Dev nD) (t : Fin cfg0.N) : (dats m 0 c).leavesExact 5 t = owns (c : Thread nD τ) (st0_5 t) fullShare (iblk m c 5 t) := by
  unfold Dat.leavesExact; rw [show cfg0.idle 5 (grid0.coords t) = false from rfl, after0_5]
theorem leaves0_6 (c : Dev nD) (t : Fin cfg0.N) : (dats m 0 c).leavesExact 6 t = owns (c : Thread nD τ) (st0_6 t) fullShare (iblk m c 6 t) := by
  unfold Dat.leavesExact; rw [show cfg0.idle 6 (grid0.coords t) = false from rfl, after0_6]
theorem leaves0_7 (c : Dev nD) (t : Fin cfg0.N) : (dats m 0 c).leavesExact 7 t = owns (c : Thread nD τ) (st0_7 t) fullShare (iblk m c 7 t) := by
  unfold Dat.leavesExact; rw [show cfg0.idle 7 (grid0.coords t) = false from rfl, after0_7]

/-- The scratch buffer between points, as a memref at some contents. -/
theorem PhiA0_eq (c : Dev nD) :
    (Pipeline.ΦA spec0 c : sProp 𝕄)
      = iprop((∃ d, owns (c : Thread nD τ) (Memref.whole cc0_scratch0) fullShare d) ∗ (∃ r, prngReg c r)) := by
  unfold Pipeline.ΦA; rw [scopedRest0_eq]; simp only [owns_whole]; try rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare d)
    ∗ (∃ d, owns (c : Thread nD τ) (st0_9 t) fullShare d)
    ∗ (∃ d, owns (c : Thread nD τ) (st0_10 t) fullShare d)
    ∗ (∃ d, owns (c : Thread nD τ) (st0_11 t) fullShare d)
    ∗ (∃ d, owns (c : Thread nD τ) (st0_12 t) fullShare d)
    ∗ (∃ d, owns (c : Thread nD τ) (st0_13 t) fullShare d)
    ∗ (∃ d, owns (c : Thread nD τ) (st0_14 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (∃ d, owns (c : Thread nD τ) (st0_8 t) fullShare d)
    ∗ (∃ d, owns (c : Thread nD τ) (st0_9 t) fullShare d)
    ∗ (∃ d, owns (c : Thread nD τ) (st0_10 t) fullShare d)
    ∗ (∃ d, owns (c : Thread nD τ) (st0_11 t) fullShare d)
    ∗ (∃ d, owns (c : Thread nD τ) (st0_12 t) fullShare d)
    ∗ (∃ d, owns (c : Thread nD τ) (st0_13 t) fullShare d)
    ∗ (∃ d, owns (c : Thread nD τ) (st0_14 t) fullShare d))

set_option maxHeartbeats 4800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, leaves0_0, leaves0_1, leaves0_2, leaves0_3, leaves0_4, leaves0_5, leaves0_6, leaves0_7]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9, H10, H11, H12, H13, H14⟩
  iapply (run_all (F := F) c t _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [HS0]; · iexact HS0
  iintro ⟨H0, H1, H2, H3, H4, H5, H6, H7, H8, H9, H10, H11, H12, H13, H14, HS0⟩
  isplitl [HS0 Hg]
  · isplitl [HS0]; · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The argument arrays end unchanged and the semaphore counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ hh => ⟨fun c => have h := hh.1; ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      (Pipeline.RDat.FramePost.arr_in (cfg₁ := cfg0) h c (5 : Fin 15) rfl).trans ((A_eq m c 5).trans (V_main_arg5 m c)),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩, hh.2⟩) (run_main_quiescent m ρ)

end Cert.Qkv.Hand

end
-- ==== Proof.RotMath.lean ====
/-
  The rotary turn of a head, and the scale and code of an entry of a head, over the extended reals.
-/
module

public import proofs.«01_k».proof.Proof.MlpMath

@[expose] public section

set_option maxRecDepth 16384

noncomputable section

namespace Cert.Rot

open Idealize.ShloMosaic Cert.Mlp

/-- The lane of a half head. -/
def lo (j : Fin 128) : Fin 64 := ⟨j.val % 64, Nat.mod_lt _ (by norm_num)⟩
/-- The same lane of the other half. -/
def sw (j : Fin 128) : Fin 128 := ⟨(j.val + 64) % 128, Nat.mod_lt _ (by norm_num)⟩

/-- A head turned by the angles of its position. -/
def rot (c s : Fin 64 → EReal) (y : Fin 128 → EReal) (j : Fin 128) : EReal :=
  if j.val < 64 then y j * c (lo j) - y (sw j) * s (lo j) else y j * c (lo j) + y (sw j) * s (lo j)

/-- The same as one sum, the sine's sign turned in the first half. -/
theorem rot_eq (c s : Fin 64 → EReal) (y : Fin 128 → EReal) (j : Fin 128) :
    y j * c (lo j) + y (sw j) * (if j.val < 64 then 0 - s (lo j) else s (lo j)) = rot c s y j := by
  unfold rot
  split
  · rw [zero_sub, mul_neg, ← sub_eq_add_neg]
  · rfl

/-- The scale of a head, and its entries' codes before the conversion. -/
def headScale (v : Fin 128 → EReal) : EReal := qscale (Finset.univ.fold max (Ideal.ofBits .f32 0xFF800000#32) fun C => mag (v C))
def headCode (v : Fin 128 → EReal) (C : Fin 128) : EReal := rclip (Ideal.div (v C) (headScale v))

end Cert.Rot

end
-- ==== Proof.QkvPay.lean ====
/-
  What the stored values of the kernel of the queries, keys and values are at an index, over the extended reals.
-/
module

public import proofs.«01_k».proof.Proof.LnMath
public import proofs.«01_k».proof.Proof.RotMath
public import proofs.«01_k».proof.Proof.Gen.QkvIdeal.Skeleton

@[expose] public section

set_option maxRecDepth 16384

noncomputable section

namespace Cert.QkvIdeal.Hand

open Cert.QkvIdeal Cert.QkvIdeal.Gen Cert.Mlp Cert.Ln Cert.Rot
open Idealize.ShloMosaic Idealize.ShloMosaic.Pointwise

/-! The layer norm of the block, its scales and codes. -/

theorem norm_at (x : Vec Ideal S448x3072 .bf16) (g b : Vec Ideal S1x3072 .f32) (r : Fin 448) (C : Fin 3072) :
    k0_pay1 x g b (ix2 r C) = lnorm (fun C => g (ix2 0 C)) (fun C => b (ix2 0 C)) (fun C => x (ix2 r C)) C := by
  pointwise [k0_pay1, lnorm, cent]

theorem top_of (g : FVec Ideal S448x3072 .f32) (r : Fin 448) :
    multiReduction .maximumf [1] S448 g 0xFF800000#32 reduces_S448x3072_S448 (.inl rfl) rfl (ix1 r)
      = Finset.univ.fold max (Ideal.ofBits .f32 0xFF800000#32) fun C => g (ix2 r C) := by
  pointwise []

theorem abs_of (g : FVec Ideal S448x3072 .f32) (r : Fin 448) (q : Fin 3072) : absf g (ix2 r q) = mag (g (ix2 r q)) := by
  pointwise [mag, FloatOps.absf]

theorem scale_of (t : FVec Ideal S448 .f32) (r : Fin 448) :
    select (cmpf .ogt (shapeCast S448x1 t shapeCasts_S448_S448x1) (broadcast S448x1 (Scalar.ofBits (F := Ideal) .f32 0x00000000#32)))
      (divf (shapeCast S448x1 t shapeCasts_S448_S448x1) (broadcast S448x1 (Scalar.ofBits (F := Ideal) .f32 0x42FE0000#32)))
      (broadcast S448x1 (Scalar.ofBits (F := Ideal) .f32 0x3F800000#32)) (ix2 r 0) = qscale (t (ix1 r)) := by
  pointwise [qscale]

theorem clip_of (y : FVec Ideal S448x3072 .f32) (s : FVec Ideal S448x1 .f32) (r : Fin 448) (q : Fin 3072) :
    minimumf (broadcast S448x3072 (Scalar.ofBits (F := Ideal) .f32 0x42FE0000#32)) (maximumf (broadcast S448x3072 (Scalar.ofBits (F := Ideal) .f32 0xC2FE0000#32))
      (roundeven (mulf y (broadcastTo S448x3072 (divf (broadcast S448x1 (Scalar.ofBits (F := Ideal) .f32 0x3F800000#32)) s) broadcasts_S448x1_S448x3072)))) (ix2 r q)
      = rclip (y (ix2 r q) * Ideal.div (Ideal.ofBits .f32 0x3F800000#32) (s (ix2 r 0))) := by
  pointwise [rclip]

variable (x : Vec Ideal S448x3072 .bf16) (g b : Vec Ideal S1x3072 .f32)

/-- The normalised row. -/
def hRow (r : Fin 448) : Fin 3072 → EReal := lnorm (fun C => g (ix2 0 C)) (fun C => b (ix2 0 C)) (fun C => x (ix2 r C))

theorem pay2_at (r : Fin 448) : k0_pay2 (F := Ideal) x g b (ix2 r 0) = rowScale (hRow x g b r) :=
  (scale_of _ r).trans <| congrArg qscale <| (top_of _ r).trans <| by simp only [abs_of, norm_at]; rfl

theorem pay4_at (r : Fin 448) (q : Fin 3072) :
    k0_pay4 (F := Ideal) (k0_pay3 x g b) (FloatOps.ofBits .f32 0xC2FE0000#32) (FloatOps.ofBits .f32 0x42FE0000#32) (ix2 r q) = rowCode (hRow x g b r) q :=
  (clip_of (k0_pay1 (F := Ideal) x g b) (k0_pay2 (F := Ideal) x g b) r q).trans <| by
    rw [pay2_at, norm_at]
    exact congrArg rclip (mul_recip _ _ (qscale_ne_zero _))

theorem as_is (y : FVec Ideal S448x3072 .f32) (c d : Ideal .f32) (r : Fin 448) (q : Fin 3072) : k0_pay5 (F := Ideal) y c d (ix2 r q) = k0_pay4 (F := Ideal) y c d (ix2 r q) := by
  pointwise [k0_pay5]
theorem as_code (y : FVec Ideal S448x3072 .f32) (c d : Ideal .f32) (r : Fin 448) (q : Fin 3072) :
    k0_pay6 (F := Ideal) y c d (ix2 r q) = Ideal.fptosi 8 (k0_pay4 (F := Ideal) y c d (ix2 r q)) := by
  pointwise [k0_pay6, FloatOps.fptosi]

theorem pay5_at (r : Fin 448) (q : Fin 3072) :
    k0_pay5 (F := Ideal) (k0_pay3 x g b) (FloatOps.ofBits .f32 0xC2FE0000#32) (FloatOps.ofBits .f32 0x42FE0000#32) (ix2 r q) = rowCode (hRow x g b r) q :=
  (as_is _ _ _ r q).trans (pay4_at x g b r q)
theorem pay6_at (r : Fin 448) (q : Fin 3072) :
    k0_pay6 (F := Ideal) (k0_pay3 x g b) (FloatOps.ofBits .f32 0xC2FE0000#32) (FloatOps.ofBits .f32 0x42FE0000#32) (ix2 r q) = Ideal.fptosi 8 (rowCode (hRow x g b r) q) :=
  (as_code _ _ _ r q).trans (congrArg (Ideal.fptosi 8) (pay4_at x g b r q))

/-- A column of scales as a row. -/
theorem row_of (s : FVec Ideal S448x1 .f32) (r : Fin 448) : k0_pay7 (F := Ideal) s (ix2 0 r) = s (ix2 r 0) := by
  pointwise [k0_pay7]

/-! The turned heads. -/

theorem cos_at (c : Vec Ideal S448x64 .f32) (r : Fin 448) (j : Fin 128) : k0_pay8 (F := Ideal) c (ix2 r j) = c (ix2 r (lo j)) := by
  by_cases h : j.val < 64
  · have e : lo j = ⟨j.val, h⟩ := Fin.ext (by unfold lo; dsimp only; omega)
    rw [e]; pointwise [k0_pay8]; simp [h]
  · have e : lo j = ⟨j.val - 64, by omega⟩ := Fin.ext (by unfold lo; dsimp only; omega)
    rw [e]; pointwise [k0_pay8]; simp [h]
theorem sin_at (c : Vec Ideal S448x64 .f32) (r : Fin 448) (j : Fin 128) :
    k0_pay9 (F := Ideal) c (ix2 r j) = if j.val < 64 then 0 - c (ix2 r (lo j)) else c (ix2 r (lo j)) := by
  by_cases h : j.val < 64
  · have e : lo j = ⟨j.val, h⟩ := Fin.ext (by unfold lo; dsimp only; omega)
    rw [e]; pointwise [k0_pay9]; simp [h]
  · have e : lo j = ⟨j.val - 64, by omega⟩ := Fin.ext (by unfold lo; dsimp only; omega)
    rw [e]; pointwise [k0_pay9]; simp [h]
theorem swap_at (y : FVec Ideal S448x128 .f32) (r : Fin 448) (j : Fin 128) : dynamicRotate 1 64#32 none y rotates_S448x128_d1 (ix2 r j) = y (ix2 r (sw j)) := by
  have e : sw j = ⟨(j.val + 128 - 64) % 128, Nat.mod_lt _ (by norm_num)⟩ := Fin.ext (by unfold sw; dsimp only; omega)
  rw [e]; pointwise []

theorem rot_of (y : FVec Ideal S448x128 .f32) (c s : Vec Ideal S448x64 .f32) (r : Fin 448) (j : Fin 128) :
    addf (mulf y (k0_pay8 (F := Ideal) c)) (mulf (dynamicRotate 1 64#32 none y rotates_S448x128_d1) (k0_pay9 (F := Ideal) s)) (ix2 r j)
      = rot (fun k => c (ix2 r k)) (fun k => s (ix2 r k)) (fun k => y (ix2 r k)) j := by
  have e : addf (mulf y (k0_pay8 (F := Ideal) c)) (mulf (dynamicRotate 1 64#32 none y rotates_S448x128_d1) (k0_pay9 (F := Ideal) s)) (ix2 r j)
      = y (ix2 r j) * k0_pay8 (F := Ideal) c (ix2 r j) + dynamicRotate 1 64#32 none y rotates_S448x128_d1 (ix2 r j) * k0_pay9 (F := Ideal) s (ix2 r j) := rfl
  rw [e, cos_at, sin_at, swap_at]
  exact rot_eq (fun k => c (ix2 r k)) (fun k => s (ix2 r k)) (fun k => y (ix2 r k)) j

theorem as_half (y : FVec Ideal S448x128 .f32) (h : FTy.bf16.bits < FTy.f32.bits) (r : Fin 448) (j : Fin 128) : truncf .bf16 y h (ix2 r j) = y (ix2 r j) := rfl

/-- A 256-column tile of the projection. -/
theorem tile_at (v : Vec Ideal S448x1 .f32) (a : Vec Ideal S448x3072 .bf16) (w : Vec Ideal S3072x256 .i8) (s b : Vec Ideal S1x256 .f32) (r : Fin 448) (q : Fin 256) :
    k0_pay10 (F := Ideal) v a w s b (ix2 r q) = lin (fun k => a (ix2 r k)) (fun k => toE (w (ix2 k q))) (v (ix2 r 0)) (s (ix2 0 q)) (b (ix2 0 q)) := by
  pointwise [k0_pay10, lin, toE, FloatOps.sitofp]
theorem lo_at (y : FVec Ideal S448x256 .f32) (r : Fin 448) (q : Fin 128) :
    extractStridedSlice S448x128 ![0, 0] y slices_S448x256_o0_0_S448x128 (ix2 r q) = y (ix2 r ⟨q.val, by omega⟩) := by
  pointwise []
theorem hi_at (y : FVec Ideal S448x256 .f32) (r : Fin 448) (q : Fin 128) :
    extractStridedSlice S448x128 ![0, 128] y slices_S448x256_o0_128_S448x128 (ix2 r q) = y (ix2 r ⟨128 + q.val, by omega⟩) := by
  pointwise []

variable (v : FVec Ideal S448x1 .f32) (a : Vec Ideal S448x3072 .bf16) (w : Vec Ideal S3072x256 .i8) (s e : Vec Ideal S1x256 .f32) (c d : Vec Ideal S448x64 .f32)

/-- The two heads of a tile, turned. -/
theorem pay11_at (r : Fin 448) (q : Fin 128) :
    k0_pay11 (F := Ideal) v (k0_pay8 (F := Ideal) c) (k0_pay9 (F := Ideal) d) a w s e (ix2 r q)
      = rot (fun k => c (ix2 r k)) (fun k => d (ix2 r k)) (fun k => k0_pay10 (F := Ideal) v a w s e (ix2 r ⟨k.val, by omega⟩)) q := by
  simp only [k0_pay11, as_half]
  have h := rot_of (extractStridedSlice S448x128 ![0, 0] (k0_pay10 (F := Ideal) v a w s e) slices_S448x256_o0_0_S448x128) c d r q
  convert h using 4
  exact (lo_at _ r _).symm
theorem pay12_at (r : Fin 448) (q : Fin 128) :
    k0_pay12 (F := Ideal) v (k0_pay8 (F := Ideal) c) (k0_pay9 (F := Ideal) d) a w s e (ix2 r q)
      = rot (fun k => c (ix2 r k)) (fun k => d (ix2 r k)) (fun k => k0_pay10 (F := Ideal) v a w s e (ix2 r ⟨128 + k.val, by omega⟩)) q := by
  simp only [k0_pay12, as_half]
  have h := rot_of (extractStridedSlice S448x128 ![0, 128] (k0_pay10 (F := Ideal) v a w s e) slices_S448x256_o0_128_S448x128) c d r q
  convert h using 4
  exact (hi_at _ r _).symm
theorem pay30_eq : k0_pay30 (F := Ideal) v a w s e = k0_pay10 (F := Ideal) v a w s e := rfl
theorem pay31_at (r : Fin 448) (q : Fin 128) :
    k0_pay31 (F := Ideal) v (k0_pay8 (F := Ideal) c) (k0_pay9 (F := Ideal) d) a w s e (ix2 r q)
      = rot (fun k => c (ix2 r k)) (fun k => d (ix2 r k)) (fun k => k0_pay10 (F := Ideal) v a w s e (ix2 r ⟨k.val, by omega⟩)) q := by
  simp only [k0_pay31, pay30_eq, as_half]
  have h := rot_of (extractStridedSlice S448x128 ![0, 0] (k0_pay10 (F := Ideal) v a w s e) slices_S448x256_o0_0_S448x128) c d r q
  convert h using 4
  exact (lo_at _ r _).symm
theorem pay32_at (r : Fin 448) (q : Fin 128) :
    k0_pay32 (F := Ideal) v a w s e (ix2 r q) = k0_pay10 (F := Ideal) v a w s e (ix2 r ⟨128 + q.val, by omega⟩) := by
  simp only [k0_pay32, pay30_eq, hi_at]

/-! The other tiles are computed alike. -/

variable (v71 v74 : FVec Ideal S448x128 .f32)
theorem pay15_eq : k0_pay15 (F := Ideal) v71 v74 (k0_pay13 (F := Ideal) v a w s) e = k0_pay11 (F := Ideal) v v71 v74 a w s e := rfl
theorem pay16_eq : k0_pay16 (F := Ideal) v71 v74 (k0_pay13 (F := Ideal) v a w s) e = k0_pay12 (F := Ideal) v v71 v74 a w s e := rfl
theorem pay18_eq : k0_pay18 (F := Ideal) v v71 v74 a w s e = k0_pay11 (F := Ideal) v v71 v74 a w s e := rfl
theorem pay19_eq : k0_pay19 (F := Ideal) v71 v74 (k0_pay17 (F := Ideal) v a w s e) = k0_pay12 (F := Ideal) v v71 v74 a w s e := rfl
theorem pay21_eq : k0_pay21 (F := Ideal) v v71 v74 a w s e = k0_pay11 (F := Ideal) v v71 v74 a w s e := rfl
theorem pay22_eq : k0_pay22 (F := Ideal) v v71 v74 a w s e = k0_pay12 (F := Ideal) v v71 v74 a w s e := rfl
theorem pay24_eq : k0_pay24 (F := Ideal) v v71 v74 a w s e = k0_pay11 (F := Ideal) v v71 v74 a w s e := rfl
theorem pay25_eq : k0_pay25 (F := Ideal) v v71 v74 a w s e = k0_pay12 (F := Ideal) v v71 v74 a w s e := rfl
theorem pay28_eq : k0_pay28 (F := Ideal) v71 v74 (k0_pay26 (F := Ideal) v a w s) e = k0_pay11 (F := Ideal) v v71 v74 a w s e := rfl
theorem pay29_eq : k0_pay29 (F := Ideal) v71 v74 (k0_pay26 (F := Ideal) v a w s) e = k0_pay12 (F := Ideal) v v71 v74 a w s e := rfl

/-! A head's scale and codes. -/

theorem htop_of (g : FVec Ideal S448x128 .f32) (r : Fin 448) :
    multiReduction .maximumf [1] S448 g 0xFF800000#32 reduces_S448x128_S448 (.inl rfl) rfl (ix1 r)
      = Finset.univ.fold max (Ideal.ofBits .f32 0xFF800000#32) fun C => g (ix2 r C) := by
  pointwise []
theorem habs_of (g : FVec Ideal S448x128 .f32) (r : Fin 448) (q : Fin 128) : absf g (ix2 r q) = mag (g (ix2 r q)) := by
  pointwise [mag, FloatOps.absf]
theorem hclip_of (y : FVec Ideal S448x128 .f32) (s : FVec Ideal S448x1 .f32) (r : Fin 448) (q : Fin 128) :
    fptosi 8 (minimumf (broadcast S448x128 (Scalar.ofBits (F := Ideal) .f32 0x42FE0000#32)) (maximumf (broadcast S448x128 (Scalar.ofBits (F := Ideal) .f32 0xC2FE0000#32))
      (roundeven (mulf y (broadcastTo S448x128 (divf (broadcast S448x1 (Scalar.ofBits (F := Ideal) .f32 0x3F800000#32)) s) broadcasts_S448x1_S448x128))))) (ix2 r q)
      = Ideal.fptosi 8 (rclip (y (ix2 r q) * Ideal.div (Ideal.ofBits .f32 0x3F800000#32) (s (ix2 r 0)))) := by
  pointwise [rclip, FloatOps.fptosi]

/-- A head's largest magnitude. -/
def topOf (y : FVec Ideal S448x128 .f32) : FVec Ideal S448 .f32 := multiReduction .maximumf [1] S448 (absf y) 0xFF800000#32 reduces_S448x128_S448 (.inl rfl) rfl

variable (y : FVec Ideal S448x128 .f32)

theorem pay33_eq : k0_pay33 (F := Ideal) v v71 v74 a w s e = topOf (k0_pay31 (F := Ideal) v v71 v74 a w s e) := rfl

theorem pay34_at (r : Fin 448) : k0_pay34 (F := Ideal) (topOf y) (ix2 r 0) = headScale fun q => y (ix2 r q) :=
  (scale_of (topOf y) r).trans <| congrArg qscale <| (htop_of _ r).trans <| by simp only [habs_of]
theorem pay35_at (r : Fin 448) (q : Fin 128) : k0_pay35 (F := Ideal) y (topOf y) (ix2 r q) = Ideal.fptosi 8 (headCode (fun q => y (ix2 r q)) q) :=
  (hclip_of y (k0_pay34 (F := Ideal) (topOf y)) r q).trans <| by
    rw [pay34_at]
    exact congrArg (fun x => Ideal.fptosi 8 (rclip x)) (mul_recip _ _ (qscale_ne_zero _))
theorem pay36_at (r : Fin 448) : k0_pay36 (F := Ideal) (topOf y) (ix2 0 r) = headScale fun q => y (ix2 r q) :=
  (row_of (k0_pay34 (F := Ideal) (topOf y)) r).trans (pay34_at y r)
theorem pay39_at (r : Fin 448) (q : Fin 128) :
    k0_pay39 (F := Ideal) y (k0_pay37 (F := Ideal) y) (FloatOps.ofBits .f32 0x00000000#32) (ix2 r q) = Ideal.fptosi 8 (headCode (fun q => y (ix2 r q)) q) :=
  pay35_at y r q
theorem pay40_at (r : Fin 448) : k0_pay40 (F := Ideal) (k0_pay37 (F := Ideal) y) (FloatOps.ofBits .f32 0x00000000#32) (ix2 0 r) = headScale fun q => y (ix2 r q) :=
  pay36_at y r

end Cert.QkvIdeal.Hand

end
-- ==== Proof.QkvStep.lean ====
/-
  What the body of the kernel of the queries, keys and values leaves in its outputs, from the loads and stores of one grid point.
-/
module

public import proofs.«01_k».proof.Proof.QkvPay
public import proofs.«01_k».proof.Proof.Boxes
public import proofs.«01_k».proof.Proof.Gen.QkvIdeal.Skeleton

@[expose] public section

set_option maxRecDepth 16384

noncomputable section

namespace Cert.QkvIdeal.Hand

open Cert.QkvIdeal Cert.QkvIdeal.Gen Cert.Mlp Cert.Ln Cert.Rot Cert.Boxes
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pointwise

variable (x0 : Vec Ideal S448x3072 .bf16) (x1 : Vec Ideal S448x64 .f32) (x2 : Vec Ideal S448x64 .f32) (x3 : Vec Ideal S1x3072 .f32) (x4 : Vec Ideal S1x3072 .f32) (x5 : Vec Ideal S3072x1792 .i8) (x6 : Vec Ideal S1x1792 .f32) (x7 : Vec Ideal S1x1792 .f32)

/-- An entry of the projection of the row's codes. -/
def tT (r : Fin 448) (C : Fin 1792) : EReal :=
  lin (rowCode (hRow x0 x3 x4 r)) (fun k => toE (x5 (ix2 k C))) (rowScale (hRow x0 x3 x4 r)) (x6 (ix2 0 C)) (x7 (ix2 0 C))
/-- An entry of the queries, heads turned. -/
def qT (r : Fin 448) (C : Fin 1536) : EReal :=
  rot (fun k => x1 (ix2 r k)) (fun k => x2 (ix2 r k)) (fun k => tT x0 x3 x4 x5 x6 x7 r ⟨128 * (C.val / 128) + k.val, by omega⟩) ⟨C.val % 128, by omega⟩
/-- The key, turned, and the value of a row. -/
def kT (r : Fin 448) : Fin 128 → EReal :=
  rot (fun k => x1 (ix2 r k)) (fun k => x2 (ix2 r k)) (fun k => tT x0 x3 x4 x5 x6 x7 r ⟨1536 + k.val, by omega⟩)
def vT (r : Fin 448) (j : Fin 128) : EReal := tT x0 x3 x4 x5 x6 x7 r ⟨1664 + j.val, by omega⟩

/-- What the body leaves in its outputs of rows. -/
def COut (d : Vec Ideal S448x3072 .i8) : Prop := ∀ r C, d (ix2 r C) = Ideal.fptosi 8 (rowCode (hRow x0 x3 x4 r) C)
def QOut (d : Vec Ideal S448x1536 .bf16) : Prop := ∀ r C, d (ix2 r C) = qT x0 x1 x2 x3 x4 x5 x6 x7 r C
def KOut (d : Vec Ideal S448x128 .i8) : Prop := ∀ r j, d (ix2 r j) = Ideal.fptosi 8 (headCode (kT x0 x1 x2 x3 x4 x5 x6 x7 r) j)
def VOut (d : Vec Ideal S448x128 .i8) : Prop := ∀ r j, d (ix2 r j) = Ideal.fptosi 8 (headCode (vT x0 x3 x4 x5 x6 x7 r) j)

/-- One more head stored. -/
theorem tstep {T : Fin 448 → Fin 1536 → EReal} (m : Memref sig .tc .vmem S448x1536 .bf16) (f : m.view.ty.Contents (Elt Ideal)) (o : ℕ)
    (L : List (View.Piece (Elt Ideal) S448x1536 .bf16)) (inb) (w : Vec Ideal S448x128 .bf16)
    (hw : ∀ r (q : Fin 128) (c : Fin 1536), c.val = o + q.val → w (ix2 r q) = T r c)
    (hL : ∀ (r : Fin 448) (c : Fin 1536), c.val < o → View.read (Elt Ideal) m.view (m.view.writes (Elt Ideal) f L) (ix2 r c) = T r c)
    (r : Fin 448) (c : Fin 1536) (hc : c.val < o + 128) :
    View.read (Elt Ideal) m.view (m.view.writes (Elt Ideal) f (⟨Rect.unit (s := S448x1536) ![0, o] S448x128.size inb, w⟩ :: L)) (ix2 r c) = T r c := by
  by_cases h : c.val < o
  · rw [miss m f ![0, o] rfl inb w L r c (Or.inl h)]; exact hL r c h
  · rw [hit m f ![0, o] rfl inb w L r ⟨c.val - o, by omega⟩ r c (by omega) (by simp only []; omega)]
    exact hw _ _ _ (by simp only []; omega)

/-- The normalised rows, from the loads. -/
theorem row_ok (arg1 : Memref sig .tc .vmem S448x3072 .bf16) (harg1 : arg1.IsWhole) (arg4 : Memref sig .tc .vmem S1x3072 .f32) (harg4 : arg4.IsWhole) (arg5 : Memref sig .tc .vmem S1x3072 .f32) (harg5 : arg5.IsWhole) (i1 i4 i5) : hRow (View.readAt (Elt Ideal) arg1.view (Rect.unit (s := S448x3072) ![0, 0] S448x3072.size i1).toLoadRect (harg1.unread x0)) (View.readAt (Elt Ideal) arg4.view (Rect.unit (s := S1x3072) ![0, 0] S1x3072.size i4).toLoadRect (harg4.unread x3)) (View.readAt (Elt Ideal) arg5.view (Rect.unit (s := S1x3072) ![0, 0] S1x3072.size i5).toLoadRect (harg5.unread x4)) = hRow x0 x3 x4 := by
  funext r
  unfold hRow
  rw [funext fun C => rd arg4 harg4 x3 i4 0 C 0 C rfl (by omega), funext fun C => rd arg5 harg5 x4 i5 0 C 0 C rfl (by omega),
    funext fun C => rd arg1 harg1 x0 i1 r C r C (by omega) (by omega)]

theorem scale_ok (arg1 : Memref sig .tc .vmem S448x3072 .bf16) (harg1 : arg1.IsWhole) (arg4 : Memref sig .tc .vmem S1x3072 .f32) (harg4 : arg4.IsWhole) (arg5 : Memref sig .tc .vmem S1x3072 .f32) (harg5 : arg5.IsWhole) (i1 i4 i5) (r : Fin 448) : (k0_pay2 (F := Ideal) (View.readAt (Elt Ideal) arg1.view (Rect.unit (s := S448x3072) ![0, 0] S448x3072.size i1).toLoadRect (harg1.unread x0)) (View.readAt (Elt Ideal) arg4.view (Rect.unit (s := S1x3072) ![0, 0] S1x3072.size i4).toLoadRect (harg4.unread x3)) (View.readAt (Elt Ideal) arg5.view (Rect.unit (s := S1x3072) ![0, 0] S1x3072.size i5).toLoadRect (harg5.unread x4))) (ix2 r 0) = rowScale (hRow x0 x3 x4 r) := by
  rw [pay2_at, row_ok x0 x3 x4 arg1 harg1 arg4 harg4 arg5 harg5 i1 i4 i5]

theorem code_ok (arg1 : Memref sig .tc .vmem S448x3072 .bf16) (harg1 : arg1.IsWhole) (arg4 : Memref sig .tc .vmem S1x3072 .f32) (harg4 : arg4.IsWhole) (arg5 : Memref sig .tc .vmem S1x3072 .f32) (harg5 : arg5.IsWhole) (i1 i4 i5) :
    COut x0 x3 x4 (k0_pay6 (F := Ideal) (k0_pay3 (F := Ideal) (View.readAt (Elt Ideal) arg1.view (Rect.unit (s := S448x3072) ![0, 0] S448x3072.size i1).toLoadRect (harg1.unread x0)) (View.readAt (Elt Ideal) arg4.view (Rect.unit (s := S1x3072) ![0, 0] S1x3072.size i4).toLoadRect (harg4.unread x3)) (View.readAt (Elt Ideal) arg5.view (Rect.unit (s := S1x3072) ![0, 0] S1x3072.size i5).toLoadRect (harg5.unread x4))) (FloatOps.ofBits .f32 0xC2FE0000#32) (FloatOps.ofBits .f32 0x42FE0000#32)) := by
  intro r C
  rw [pay6_at, row_ok x0 x3 x4 arg1 harg1 arg4 harg4 arg5 harg5 i1 i4 i5]

/-- The codes read back from the scratch buffer. -/
theorem scr_ok (arg1 : Memref sig .tc .vmem S448x3072 .bf16) (harg1 : arg1.IsWhole) (arg4 : Memref sig .tc .vmem S1x3072 .f32) (harg4 : arg4.IsWhole) (arg5 : Memref sig .tc .vmem S1x3072 .f32) (harg5 : arg5.IsWhole) (arg16 : Memref sig .tc .vmem S448x3072 .bf16) (i1 i4 i5 j0 j1) (r : Fin 448) (k : Fin 3072) : (arg16.view.readCov [⟨Rect.unit (s := S448x3072) ![0, 0] S448x3072.size j0,
            k0_pay5 (F := Ideal) (k0_pay3 (F := Ideal) (View.readAt (Elt Ideal) arg1.view (Rect.unit (s := S448x3072) ![0, 0] S448x3072.size i1).toLoadRect (harg1.unread x0)) (View.readAt (Elt Ideal) arg4.view (Rect.unit (s := S1x3072) ![0, 0] S1x3072.size i4).toLoadRect (harg4.unread x3)) (View.readAt (Elt Ideal) arg5.view (Rect.unit (s := S1x3072) ![0, 0] S1x3072.size i5).toLoadRect (harg5.unread x4))) (FloatOps.ofBits .f32 0xC2FE0000#32) (FloatOps.ofBits .f32 0x42FE0000#32)⟩]
              (Rect.unit (s := S448x3072) ![0, 0] S448x3072.size j1).toLoadRect : Vec Ideal S448x3072 .bf16) (ix2 r k) = rowCode (hRow x0 x3 x4 r) k := by
  refine (rdCov arg16 _ _ r k r k (by omega) (by omega)).trans ((congrFun (read_whole arg16 _ _ _ _) (ix2 r k)).trans ?_)
  rw [pay5_at, row_ok x0 x3 x4 arg1 harg1 arg4 harg4 arg5 harg5 i1 i4 i5]

/-- A tile's entries. -/
theorem tile_ok (o : ℕ) (arg1 : Memref sig .tc .vmem S448x3072 .bf16) (harg1 : arg1.IsWhole) (arg4 : Memref sig .tc .vmem S1x3072 .f32) (harg4 : arg4.IsWhole) (arg5 : Memref sig .tc .vmem S1x3072 .f32) (harg5 : arg5.IsWhole) (arg16 : Memref sig .tc .vmem S448x3072 .bf16) (arg6 : Memref sig .tc .vmem S3072x1792 .i8) (harg6 : arg6.IsWhole) (arg7 : Memref sig .tc .vmem S1x1792 .f32) (harg7 : arg7.IsWhole) (arg8 : Memref sig .tc .vmem S1x1792 .f32) (harg8 : arg8.IsWhole) (i1 i4 i5 j0 j1 i6 i7 i8) (r : Fin 448) (q : Fin 256) (C : Fin 1792) (hC : C.val = o + q.val) :
    k0_pay10 (F := Ideal) (k0_pay2 (F := Ideal) (View.readAt (Elt Ideal) arg1.view (Rect.unit (s := S448x3072) ![0, 0] S448x3072.size i1).toLoadRect (harg1.unread x0)) (View.readAt (Elt Ideal) arg4.view (Rect.unit (s := S1x3072) ![0, 0] S1x3072.size i4).toLoadRect (harg4.unread x3)) (View.readAt (Elt Ideal) arg5.view (Rect.unit (s := S1x3072) ![0, 0] S1x3072.size i5).toLoadRect (harg5.unread x4))) (arg16.view.readCov [⟨Rect.unit (s := S448x3072) ![0, 0] S448x3072.size j0,
            k0_pay5 (F := Ideal) (k0_pay3 (F := Ideal) (View.readAt (Elt Ideal) arg1.view (Rect.unit (s := S448x3072) ![0, 0] S448x3072.size i1).toLoadRect (harg1.unread x0)) (View.readAt (Elt Ideal) arg4.view (Rect.unit (s := S1x3072) ![0, 0] S1x3072.size i4).toLoadRect (harg4.unread x3)) (View.readAt (Elt Ideal) arg5.view (Rect.unit (s := S1x3072) ![0, 0] S1x3072.size i5).toLoadRect (harg5.unread x4))) (FloatOps.ofBits .f32 0xC2FE0000#32) (FloatOps.ofBits .f32 0x42FE0000#32)⟩]
              (Rect.unit (s := S448x3072) ![0, 0] S448x3072.size j1).toLoadRect : Vec Ideal S448x3072 .bf16) (View.readAt (Elt Ideal) arg6.view (Rect.unit (s := S3072x1792) ![0, o] S3072x256.size i6).toLoadRect (harg6.unread x5)) (View.readAt (Elt Ideal) arg7.view (Rect.unit (s := S1x1792) ![0, o] S1x256.size i7).toLoadRect (harg7.unread x6)) (View.readAt (Elt Ideal) arg8.view (Rect.unit (s := S1x1792) ![0, o] S1x256.size i8).toLoadRect (harg8.unread x7)) (ix2 r q) = tT x0 x3 x4 x5 x6 x7 r C := by
  rw [tile_at]
  unfold tT
  rw [scale_ok x0 x3 x4 arg1 harg1 arg4 harg4 arg5 harg5 i1 i4 i5 r, funext fun k => scr_ok x0 x3 x4 arg1 harg1 arg4 harg4 arg5 harg5 arg16 i1 i4 i5 j0 j1 r k, rd arg7 harg7 x6 i7 0 q 0 C rfl hC, rd arg8 harg8 x7 i8 0 q 0 C rfl hC,
    funext fun k => congrArg toE (rd arg6 harg6 x5 i6 k q k C (by omega) hC)]

/-- A tile's first head, turned, -/
theorem lo_ok (o : ℕ) (ho : o % 256 = 0) (arg1 : Memref sig .tc .vmem S448x3072 .bf16) (harg1 : arg1.IsWhole) (arg4 : Memref sig .tc .vmem S1x3072 .f32) (harg4 : arg4.IsWhole) (arg5 : Memref sig .tc .vmem S1x3072 .f32) (harg5 : arg5.IsWhole) (arg16 : Memref sig .tc .vmem S448x3072 .bf16) (arg6 : Memref sig .tc .vmem S3072x1792 .i8) (harg6 : arg6.IsWhole) (arg7 : Memref sig .tc .vmem S1x1792 .f32) (harg7 : arg7.IsWhole) (arg8 : Memref sig .tc .vmem S1x1792 .f32) (harg8 : arg8.IsWhole) (arg2 : Memref sig .tc .vmem S448x64 .f32) (harg2 : arg2.IsWhole) (arg3 : Memref sig .tc .vmem S448x64 .f32) (harg3 : arg3.IsWhole) (i1 i4 i5 j0 j1 i6 i7 i8 i2 i3) (r : Fin 448) (q : Fin 128) (C : Fin 1536) (hC : C.val = o + q.val) :
    k0_pay11 (F := Ideal) (k0_pay2 (F := Ideal) (View.readAt (Elt Ideal) arg1.view (Rect.unit (s := S448x3072) ![0, 0] S448x3072.size i1).toLoadRect (harg1.unread x0)) (View.readAt (Elt Ideal) arg4.view (Rect.unit (s := S1x3072) ![0, 0] S1x3072.size i4).toLoadRect (harg4.unread x3)) (View.readAt (Elt Ideal) arg5.view (Rect.unit (s := S1x3072) ![0, 0] S1x3072.size i5).toLoadRect (harg5.unread x4))) (k0_pay8 (F := Ideal) (View.readAt (Elt Ideal) arg2.view (Rect.unit (s := S448x64) ![0, 0] S448x64.size i2).toLoadRect (harg2.unread x1))) (k0_pay9 (F := Ideal) (View.readAt (Elt Ideal) arg3.view (Rect.unit (s := S448x64) ![0, 0] S448x64.size i3).toLoadRect (harg3.unread x2))) (arg16.view.readCov [⟨Rect.unit (s := S448x3072) ![0, 0] S448x3072.size j0,
            k0_pay5 (F := Ideal) (k0_pay3 (F := Ideal) (View.readAt (Elt Ideal) arg1.view (Rect.unit (s := S448x3072) ![0, 0] S448x3072.size i1).toLoadRect (harg1.unread x0)) (View.readAt (Elt Ideal) arg4.view (Rect.unit (s := S1x3072) ![0, 0] S1x3072.size i4).toLoadRect (harg4.unread x3)) (View.readAt (Elt Ideal) arg5.view (Rect.unit (s := S1x3072) ![0, 0] S1x3072.size i5).toLoadRect (harg5.unread x4))) (FloatOps.ofBits .f32 0xC2FE0000#32) (FloatOps.ofBits .f32 0x42FE0000#32)⟩]
              (Rect.unit (s := S448x3072) ![0, 0] S448x3072.size j1).toLoadRect : Vec Ideal S448x3072 .bf16) (View.readAt (Elt Ideal) arg6.view (Rect.unit (s := S3072x1792) ![0, o] S3072x256.size i6).toLoadRect (harg6.unread x5)) (View.readAt (Elt Ideal) arg7.view (Rect.unit (s := S1x1792) ![0, o] S1x256.size i7).toLoadRect (harg7.unread x6)) (View.readAt (Elt Ideal) arg8.view (Rect.unit (s := S1x1792) ![0, o] S1x256.size i8).toLoadRect (harg8.unread x7)) (ix2 r q) = qT x0 x1 x2 x3 x4 x5 x6 x7 r C := by
  rw [pay11_at]
  unfold qT
  rw [funext fun k => rd arg2 harg2 x1 i2 r k r k (by omega) (by omega), funext fun k => rd arg3 harg3 x2 i3 r k r k (by omega) (by omega)]
  have hq : q = ⟨C.val % 128, by omega⟩ := Fin.ext (by dsimp only; omega)
  exact congrArg₂ (rot _ _) (funext fun k => tile_ok x0 x3 x4 x5 x6 x7 o arg1 harg1 arg4 harg4 arg5 harg5 arg16 arg6 harg6 arg7 harg7 arg8 harg8 i1 i4 i5 j0 j1 i6 i7 i8 r _ _ (by dsimp only; omega)) hq
/-- and its second. -/
theorem hi_ok (o : ℕ) (ho : o % 256 = 0) (arg1 : Memref sig .tc .vmem S448x3072 .bf16) (harg1 : arg1.IsWhole) (arg4 : Memref sig .tc .vmem S1x3072 .f32) (harg4 : arg4.IsWhole) (arg5 : Memref sig .tc .vmem S1x3072 .f32) (harg5 : arg5.IsWhole) (arg16 : Memref sig .tc .vmem S448x3072 .bf16) (arg6 : Memref sig .tc .vmem S3072x1792 .i8) (harg6 : arg6.IsWhole) (arg7 : Memref sig .tc .vmem S1x1792 .f32) (harg7 : arg7.IsWhole) (arg8 : Memref sig .tc .vmem S1x1792 .f32) (harg8 : arg8.IsWhole) (arg2 : Memref sig .tc .vmem S448x64 .f32) (harg2 : arg2.IsWhole) (arg3 : Memref sig .tc .vmem S448x64 .f32) (harg3 : arg3.IsWhole) (i1 i4 i5 j0 j1 i6 i7 i8 i2 i3) (r : Fin 448) (q : Fin 128) (C : Fin 1536) (hC : C.val = o + 128 + q.val) :
    k0_pay12 (F := Ideal) (k0_pay2 (F := Ideal) (View.readAt (Elt Ideal) arg1.view (Rect.unit (s := S448x3072) ![0, 0] S448x3072.size i1).toLoadRect (harg1.unread x0)) (View.readAt (Elt Ideal) arg4.view (Rect.unit (s := S1x3072) ![0, 0] S1x3072.size i4).toLoadRect (harg4.unread x3)) (View.readAt (Elt Ideal) arg5.view (Rect.unit (s := S1x3072) ![0, 0] S1x3072.size i5).toLoadRect (harg5.unread x4))) (k0_pay8 (F := Ideal) (View.readAt (Elt Ideal) arg2.view (Rect.unit (s := S448x64) ![0, 0] S448x64.size i2).toLoadRect (harg2.unread x1))) (k0_pay9 (F := Ideal) (View.readAt (Elt Ideal) arg3.view (Rect.unit (s := S448x64) ![0, 0] S448x64.size i3).toLoadRect (harg3.unread x2))) (arg16.view.readCov [⟨Rect.unit (s := S448x3072) ![0, 0] S448x3072.size j0,
            k0_pay5 (F := Ideal) (k0_pay3 (F := Ideal) (View.readAt (Elt Ideal) arg1.view (Rect.unit (s := S448x3072) ![0, 0] S448x3072.size i1).toLoadRect (harg1.unread x0)) (View.readAt (Elt Ideal) arg4.view (Rect.unit (s := S1x3072) ![0, 0] S1x3072.size i4).toLoadRect (harg4.unread x3)) (View.readAt (Elt Ideal) arg5.view (Rect.unit (s := S1x3072) ![0, 0] S1x3072.size i5).toLoadRect (harg5.unread x4))) (FloatOps.ofBits .f32 0xC2FE0000#32) (FloatOps.ofBits .f32 0x42FE0000#32)⟩]
              (Rect.unit (s := S448x3072) ![0, 0] S448x3072.size j1).toLoadRect : Vec Ideal S448x3072 .bf16) (View.readAt (Elt Ideal) arg6.view (Rect.unit (s := S3072x1792) ![0, o] S3072x256.size i6).toLoadRect (harg6.unread x5)) (View.readAt (Elt Ideal) arg7.view (Rect.unit (s := S1x1792) ![0, o] S1x256.size i7).toLoadRect (harg7.unread x6)) (View.readAt (Elt Ideal) arg8.view (Rect.unit (s := S1x1792) ![0, o] S1x256.size i8).toLoadRect (harg8.unread x7)) (ix2 r q) = qT x0 x1 x2 x3 x4 x5 x6 x7 r C := by
  rw [pay12_at]
  unfold qT
  rw [funext fun k => rd arg2 harg2 x1 i2 r k r k (by omega) (by omega), funext fun k => rd arg3 harg3 x2 i3 r k r k (by omega) (by omega)]
  have hq : q = ⟨C.val % 128, by omega⟩ := Fin.ext (by dsimp only; omega)
  exact congrArg₂ (rot _ _) (funext fun k => tile_ok x0 x3 x4 x5 x6 x7 o arg1 harg1 arg4 harg4 arg5 harg5 arg16 arg6 harg6 arg7 harg7 arg8 harg8 i1 i4 i5 j0 j1 i6 i7 i8 r _ _ (by dsimp only; omega)) hq

/-- The key and the value of a row. -/
theorem k_ok (o : ℕ) (ho : o = 1536) (arg1 : Memref sig .tc .vmem S448x3072 .bf16) (harg1 : arg1.IsWhole) (arg4 : Memref sig .tc .vmem S1x3072 .f32) (harg4 : arg4.IsWhole) (arg5 : Memref sig .tc .vmem S1x3072 .f32) (harg5 : arg5.IsWhole) (arg16 : Memref sig .tc .vmem S448x3072 .bf16) (arg6 : Memref sig .tc .vmem S3072x1792 .i8) (harg6 : arg6.IsWhole) (arg7 : Memref sig .tc .vmem S1x1792 .f32) (harg7 : arg7.IsWhole) (arg8 : Memref sig .tc .vmem S1x1792 .f32) (harg8 : arg8.IsWhole) (arg2 : Memref sig .tc .vmem S448x64 .f32) (harg2 : arg2.IsWhole) (arg3 : Memref sig .tc .vmem S448x64 .f32) (harg3 : arg3.IsWhole) (i1 i4 i5 j0 j1 i6 i7 i8 i2 i3) (r : Fin 448) :
    (fun q => k0_pay31 (F := Ideal) (k0_pay2 (F := Ideal) (View.readAt (Elt Ideal) arg1.view (Rect.unit (s := S448x3072) ![0, 0] S448x3072.size i1).toLoadRect (harg1.unread x0)) (View.readAt (Elt Ideal) arg4.view (Rect.unit (s := S1x3072) ![0, 0] S1x3072.size i4).toLoadRect (harg4.unread x3)) (View.readAt (Elt Ideal) arg5.view (Rect.unit (s := S1x3072) ![0, 0] S1x3072.size i5).toLoadRect (harg5.unread x4))) (k0_pay8 (F := Ideal) (View.readAt (Elt Ideal) arg2.view (Rect.unit (s := S448x64) ![0, 0] S448x64.size i2).toLoadRect (harg2.unread x1))) (k0_pay9 (F := Ideal) (View.readAt (Elt Ideal) arg3.view (Rect.unit (s := S448x64) ![0, 0] S448x64.size i3).toLoadRect (harg3.unread x2))) (arg16.view.readCov [⟨Rect.unit (s := S448x3072) ![0, 0] S448x3072.size j0,
            k0_pay5 (F := Ideal) (k0_pay3 (F := Ideal) (View.readAt (Elt Ideal) arg1.view (Rect.unit (s := S448x3072) ![0, 0] S448x3072.size i1).toLoadRect (harg1.unread x0)) (View.readAt (Elt Ideal) arg4.view (Rect.unit (s := S1x3072) ![0, 0] S1x3072.size i4).toLoadRect (harg4.unread x3)) (View.readAt (Elt Ideal) arg5.view (Rect.unit (s := S1x3072) ![0, 0] S1x3072.size i5).toLoadRect (harg5.unread x4))) (FloatOps.ofBits .f32 0xC2FE0000#32) (FloatOps.ofBits .f32 0x42FE0000#32)⟩]
              (Rect.unit (s := S448x3072) ![0, 0] S448x3072.size j1).toLoadRect : Vec Ideal S448x3072 .bf16) (View.readAt (Elt Ideal) arg6.view (Rect.unit (s := S3072x1792) ![0, o] S3072x256.size i6).toLoadRect (harg6.unread x5)) (View.readAt (Elt Ideal) arg7.view (Rect.unit (s := S1x1792) ![0, o] S1x256.size i7).toLoadRect (harg7.unread x6)) (View.readAt (Elt Ideal) arg8.view (Rect.unit (s := S1x1792) ![0, o] S1x256.size i8).toLoadRect (harg8.unread x7)) (ix2 r q)) = kT x0 x1 x2 x3 x4 x5 x6 x7 r := by
  funext q
  rw [pay31_at]
  unfold kT
  rw [funext fun k => rd arg2 harg2 x1 i2 r k r k (by omega) (by omega), funext fun k => rd arg3 harg3 x2 i3 r k r k (by omega) (by omega)]
  exact congrArg (fun y => rot _ _ y q) (funext fun k => tile_ok x0 x3 x4 x5 x6 x7 o arg1 harg1 arg4 harg4 arg5 harg5 arg16 arg6 harg6 arg7 harg7 arg8 harg8 i1 i4 i5 j0 j1 i6 i7 i8 r _ _ (by dsimp only; omega))
theorem v_ok (o : ℕ) (ho : o = 1536) (arg1 : Memref sig .tc .vmem S448x3072 .bf16) (harg1 : arg1.IsWhole) (arg4 : Memref sig .tc .vmem S1x3072 .f32) (harg4 : arg4.IsWhole) (arg5 : Memref sig .tc .vmem S1x3072 .f32) (harg5 : arg5.IsWhole) (arg16 : Memref sig .tc .vmem S448x3072 .bf16) (arg6 : Memref sig .tc .vmem S3072x1792 .i8) (harg6 : arg6.IsWhole) (arg7 : Memref sig .tc .vmem S1x1792 .f32) (harg7 : arg7.IsWhole) (arg8 : Memref sig .tc .vmem S1x1792 .f32) (harg8 : arg8.IsWhole) (i1 i4 i5 j0 j1 i6 i7 i8) (r : Fin 448) :
    (fun q => k0_pay32 (F := Ideal) (k0_pay2 (F := Ideal) (View.readAt (Elt Ideal) arg1.view (Rect.unit (s := S448x3072) ![0, 0] S448x3072.size i1).toLoadRect (harg1.unread x0)) (View.readAt (Elt Ideal) arg4.view (Rect.unit (s := S1x3072) ![0, 0] S1x3072.size i4).toLoadRect (harg4.unread x3)) (View.readAt (Elt Ideal) arg5.view (Rect.unit (s := S1x3072) ![0, 0] S1x3072.size i5).toLoadRect (harg5.unread x4))) (arg16.view.readCov [⟨Rect.unit (s := S448x3072) ![0, 0] S448x3072.size j0,
            k0_pay5 (F := Ideal) (k0_pay3 (F := Ideal) (View.readAt (Elt Ideal) arg1.view (Rect.unit (s := S448x3072) ![0, 0] S448x3072.size i1).toLoadRect (harg1.unread x0)) (View.readAt (Elt Ideal) arg4.view (Rect.unit (s := S1x3072) ![0, 0] S1x3072.size i4).toLoadRect (harg4.unread x3)) (View.readAt (Elt Ideal) arg5.view (Rect.unit (s := S1x3072) ![0, 0] S1x3072.size i5).toLoadRect (harg5.unread x4))) (FloatOps.ofBits .f32 0xC2FE0000#32) (FloatOps.ofBits .f32 0x42FE0000#32)⟩]
              (Rect.unit (s := S448x3072) ![0, 0] S448x3072.size j1).toLoadRect : Vec Ideal S448x3072 .bf16) (View.readAt (Elt Ideal) arg6.view (Rect.unit (s := S3072x1792) ![0, o] S3072x256.size i6).toLoadRect (harg6.unread x5)) (View.readAt (Elt Ideal) arg7.view (Rect.unit (s := S1x1792) ![0, o] S1x256.size i7).toLoadRect (harg7.unread x6)) (View.readAt (Elt Ideal) arg8.view (Rect.unit (s := S1x1792) ![0, o] S1x256.size i8).toLoadRect (harg8.unread x7)) (ix2 r q)) = vT x0 x3 x4 x5 x6 x7 r := by
  funext q
  rw [pay32_at]
  exact tile_ok x0 x3 x4 x5 x6 x7 o arg1 harg1 arg4 harg4 arg5 harg5 arg16 arg6 harg6 arg7 harg7 arg8 harg8 i1 i4 i5 j0 j1 i6 i7 i8 r _ _ (by dsimp only; omega)

theorem kcode_ok (o : ℕ) (ho : o = 1536) (arg1 : Memref sig .tc .vmem S448x3072 .bf16) (harg1 : arg1.IsWhole) (arg4 : Memref sig .tc .vmem S1x3072 .f32) (harg4 : arg4.IsWhole) (arg5 : Memref sig .tc .vmem S1x3072 .f32) (harg5 : arg5.IsWhole) (arg16 : Memref sig .tc .vmem S448x3072 .bf16) (arg6 : Memref sig .tc .vmem S3072x1792 .i8) (harg6 : arg6.IsWhole) (arg7 : Memref sig .tc .vmem S1x1792 .f32) (harg7 : arg7.IsWhole) (arg8 : Memref sig .tc .vmem S1x1792 .f32) (harg8 : arg8.IsWhole) (arg2 : Memref sig .tc .vmem S448x64 .f32) (harg2 : arg2.IsWhole) (arg3 : Memref sig .tc .vmem S448x64 .f32) (harg3 : arg3.IsWhole) (i1 i4 i5 j0 j1 i6 i7 i8 i2 i3) :
    KOut x0 x1 x2 x3 x4 x5 x6 x7 (k0_pay35 (F := Ideal) (k0_pay31 (F := Ideal) (k0_pay2 (F := Ideal) (View.readAt (Elt Ideal) arg1.view (Rect.unit (s := S448x3072) ![0, 0] S448x3072.size i1).toLoadRect (harg1.unread x0)) (View.readAt (Elt Ideal) arg4.view (Rect.unit (s := S1x3072) ![0, 0] S1x3072.size i4).toLoadRect (harg4.unread x3)) (View.readAt (Elt Ideal) arg5.view (Rect.unit (s := S1x3072) ![0, 0] S1x3072.size i5).toLoadRect (harg5.unread x4))) (k0_pay8 (F := Ideal) (View.readAt (Elt Ideal) arg2.view (Rect.unit (s := S448x64) ![0, 0] S448x64.size i2).toLoadRect (harg2.unread x1))) (k0_pay9 (F := Ideal) (View.readAt (Elt Ideal) arg3.view (Rect.unit (s := S448x64) ![0, 0] S448x64.size i3).toLoadRect (harg3.unread x2))) (arg16.view.readCov [⟨Rect.unit (s := S448x3072) ![0, 0] S448x3072.size j0,
            k0_pay5 (F := Ideal) (k0_pay3 (F := Ideal) (View.readAt (Elt Ideal) arg1.view (Rect.unit (s := S448x3072) ![0, 0] S448x3072.size i1).toLoadRect (harg1.unread x0)) (View.readAt (Elt Ideal) arg4.view (Rect.unit (s := S1x3072) ![0, 0] S1x3072.size i4).toLoadRect (harg4.unread x3)) (View.readAt (Elt Ideal) arg5.view (Rect.unit (s := S1x3072) ![0, 0] S1x3072.size i5).toLoadRect (harg5.unread x4))) (FloatOps.ofBits .f32 0xC2FE0000#32) (FloatOps.ofBits .f32 0x42FE0000#32)⟩]
              (Rect.unit (s := S448x3072) ![0, 0] S448x3072.size j1).toLoadRect : Vec Ideal S448x3072 .bf16) (View.readAt (Elt Ideal) arg6.view (Rect.unit (s := S3072x1792) ![0, o] S3072x256.size i6).toLoadRect (harg6.unread x5)) (View.readAt (Elt Ideal) arg7.view (Rect.unit (s := S1x1792) ![0, o] S1x256.size i7).toLoadRect (harg7.unread x6)) (View.readAt (Elt Ideal) arg8.view (Rect.unit (s := S1x1792) ![0, o] S1x256.size i8).toLoadRect (harg8.unread x7))) (k0_pay33 (F := Ideal) (k0_pay2 (F := Ideal) (View.readAt (Elt Ideal) arg1.view (Rect.unit (s := S448x3072) ![0, 0] S448x3072.size i1).toLoadRect (harg1.unread x0)) (View.readAt (Elt Ideal) arg4.view (Rect.unit (s := S1x3072) ![0, 0] S1x3072.size i4).toLoadRect (harg4.unread x3)) (View.readAt (Elt Ideal) arg5.view (Rect.unit (s := S1x3072) ![0, 0] S1x3072.size i5).toLoadRect (harg5.unread x4))) (k0_pay8 (F := Ideal) (View.readAt (Elt Ideal) arg2.view (Rect.unit (s := S448x64) ![0, 0] S448x64.size i2).toLoadRect (harg2.unread x1))) (k0_pay9 (F := Ideal) (View.readAt (Elt Ideal) arg3.view (Rect.unit (s := S448x64) ![0, 0] S448x64.size i3).toLoadRect (harg3.unread x2))) (arg16.view.readCov [⟨Rect.unit (s := S448x3072) ![0, 0] S448x3072.size j0,
            k0_pay5 (F := Ideal) (k0_pay3 (F := Ideal) (View.readAt (Elt Ideal) arg1.view (Rect.unit (s := S448x3072) ![0, 0] S448x3072.size i1).toLoadRect (harg1.unread x0)) (View.readAt (Elt Ideal) arg4.view (Rect.unit (s := S1x3072) ![0, 0] S1x3072.size i4).toLoadRect (harg4.unread x3)) (View.readAt (Elt Ideal) arg5.view (Rect.unit (s := S1x3072) ![0, 0] S1x3072.size i5).toLoadRect (harg5.unread x4))) (FloatOps.ofBits .f32 0xC2FE0000#32) (FloatOps.ofBits .f32 0x42FE0000#32)⟩]
              (Rect.unit (s := S448x3072) ![0, 0] S448x3072.size j1).toLoadRect : Vec Ideal S448x3072 .bf16) (View.readAt (Elt Ideal) arg6.view (Rect.unit (s := S3072x1792) ![0, o] S3072x256.size i6).toLoadRect (harg6.unread x5)) (View.readAt (Elt Ideal) arg7.view (Rect.unit (s := S1x1792) ![0, o] S1x256.size i7).toLoadRect (harg7.unread x6)) (View.readAt (Elt Ideal) arg8.view (Rect.unit (s := S1x1792) ![0, o] S1x256.size i8).toLoadRect (harg8.unread x7)))) := by
  intro r j
  rw [pay33_eq]
  rw [pay35_at, k_ok x0 x1 x2 x3 x4 x5 x6 x7 o ho arg1 harg1 arg4 harg4 arg5 harg5 arg16 arg6 harg6 arg7 harg7 arg8 harg8 arg2 harg2 arg3 harg3 i1 i4 i5 j0 j1 i6 i7 i8 i2 i3 r]
theorem kscale_ok (o : ℕ) (ho : o = 1536) (arg1 : Memref sig .tc .vmem S448x3072 .bf16) (harg1 : arg1.IsWhole) (arg4 : Memref sig .tc .vmem S1x3072 .f32) (harg4 : arg4.IsWhole) (arg5 : Memref sig .tc .vmem S1x3072 .f32) (harg5 : arg5.IsWhole) (arg16 : Memref sig .tc .vmem S448x3072 .bf16) (arg6 : Memref sig .tc .vmem S3072x1792 .i8) (harg6 : arg6.IsWhole) (arg7 : Memref sig .tc .vmem S1x1792 .f32) (harg7 : arg7.IsWhole) (arg8 : Memref sig .tc .vmem S1x1792 .f32) (harg8 : arg8.IsWhole) (arg2 : Memref sig .tc .vmem S448x64 .f32) (harg2 : arg2.IsWhole) (arg3 : Memref sig .tc .vmem S448x64 .f32) (harg3 : arg3.IsWhole) (i1 i4 i5 j0 j1 i6 i7 i8 i2 i3) (r : Fin 448) :
    k0_pay36 (F := Ideal) (k0_pay33 (F := Ideal) (k0_pay2 (F := Ideal) (View.readAt (Elt Ideal) arg1.view (Rect.unit (s := S448x3072) ![0, 0] S448x3072.size i1).toLoadRect (harg1.unread x0)) (View.readAt (Elt Ideal) arg4.view (Rect.unit (s := S1x3072) ![0, 0] S1x3072.size i4).toLoadRect (harg4.unread x3)) (View.readAt (Elt Ideal) arg5.view (Rect.unit (s := S1x3072) ![0, 0] S1x3072.size i5).toLoadRect (harg5.unread x4))) (k0_pay8 (F := Ideal) (View.readAt (Elt Ideal) arg2.view (Rect.unit (s := S448x64) ![0, 0] S448x64.size i2).toLoadRect (harg2.unread x1))) (k0_pay9 (F := Ideal) (View.readAt (Elt Ideal) arg3.view (Rect.unit (s := S448x64) ![0, 0] S448x64.size i3).toLoadRect (harg3.unread x2))) (arg16.view.readCov [⟨Rect.unit (s := S448x3072) ![0, 0] S448x3072.size j0,
            k0_pay5 (F := Ideal) (k0_pay3 (F := Ideal) (View.readAt (Elt Ideal) arg1.view (Rect.unit (s := S448x3072) ![0, 0] S448x3072.size i1).toLoadRect (harg1.unread x0)) (View.readAt (Elt Ideal) arg4.view (Rect.unit (s := S1x3072) ![0, 0] S1x3072.size i4).toLoadRect (harg4.unread x3)) (View.readAt (Elt Ideal) arg5.view (Rect.unit (s := S1x3072) ![0, 0] S1x3072.size i5).toLoadRect (harg5.unread x4))) (FloatOps.ofBits .f32 0xC2FE0000#32) (FloatOps.ofBits .f32 0x42FE0000#32)⟩]
              (Rect.unit (s := S448x3072) ![0, 0] S448x3072.size j1).toLoadRect : Vec Ideal S448x3072 .bf16) (View.readAt (Elt Ideal) arg6.view (Rect.unit (s := S3072x1792) ![0, o] S3072x256.size i6).toLoadRect (harg6.unread x5)) (View.readAt (Elt Ideal) arg7.view (Rect.unit (s := S1x1792) ![0, o] S1x256.size i7).toLoadRect (harg7.unread x6)) (View.readAt (Elt Ideal) arg8.view (Rect.unit (s := S1x1792) ![0, o] S1x256.size i8).toLoadRect (harg8.unread x7))) (ix2 0 r) = headScale (kT x0 x1 x2 x3 x4 x5 x6 x7 r) := by
  rw [pay33_eq]
  rw [pay36_at, k_ok x0 x1 x2 x3 x4 x5 x6 x7 o ho arg1 harg1 arg4 harg4 arg5 harg5 arg16 arg6 harg6 arg7 harg7 arg8 harg8 arg2 harg2 arg3 harg3 i1 i4 i5 j0 j1 i6 i7 i8 i2 i3 r]
theorem vcode_ok (o : ℕ) (ho : o = 1536) (arg1 : Memref sig .tc .vmem S448x3072 .bf16) (harg1 : arg1.IsWhole) (arg4 : Memref sig .tc .vmem S1x3072 .f32) (harg4 : arg4.IsWhole) (arg5 : Memref sig .tc .vmem S1x3072 .f32) (harg5 : arg5.IsWhole) (arg16 : Memref sig .tc .vmem S448x3072 .bf16) (arg6 : Memref sig .tc .vmem S3072x1792 .i8) (harg6 : arg6.IsWhole) (arg7 : Memref sig .tc .vmem S1x1792 .f32) (harg7 : arg7.IsWhole) (arg8 : Memref sig .tc .vmem S1x1792 .f32) (harg8 : arg8.IsWhole) (i1 i4 i5 j0 j1 i6 i7 i8) :
    VOut x0 x3 x4 x5 x6 x7 (k0_pay39 (F := Ideal) (k0_pay32 (F := Ideal) (k0_pay2 (F := Ideal) (View.readAt (Elt Ideal) arg1.view (Rect.unit (s := S448x3072) ![0, 0] S448x3072.size i1).toLoadRect (harg1.unread x0)) (View.readAt (Elt Ideal) arg4.view (Rect.unit (s := S1x3072) ![0, 0] S1x3072.size i4).toLoadRect (harg4.unread x3)) (View.readAt (Elt Ideal) arg5.view (Rect.unit (s := S1x3072) ![0, 0] S1x3072.size i5).toLoadRect (harg5.unread x4))) (arg16.view.readCov [⟨Rect.unit (s := S448x3072) ![0, 0] S448x3072.size j0,
            k0_pay5 (F := Ideal) (k0_pay3 (F := Ideal) (View.readAt (Elt Ideal) arg1.view (Rect.unit (s := S448x3072) ![0, 0] S448x3072.size i1).toLoadRect (harg1.unread x0)) (View.readAt (Elt Ideal) arg4.view (Rect.unit (s := S1x3072) ![0, 0] S1x3072.size i4).toLoadRect (harg4.unread x3)) (View.readAt (Elt Ideal) arg5.view (Rect.unit (s := S1x3072) ![0, 0] S1x3072.size i5).toLoadRect (harg5.unread x4))) (FloatOps.ofBits .f32 0xC2FE0000#32) (FloatOps.ofBits .f32 0x42FE0000#32)⟩]
              (Rect.unit (s := S448x3072) ![0, 0] S448x3072.size j1).toLoadRect : Vec Ideal S448x3072 .bf16) (View.readAt (Elt Ideal) arg6.view (Rect.unit (s := S3072x1792) ![0, o] S3072x256.size i6).toLoadRect (harg6.unread x5)) (View.readAt (Elt Ideal) arg7.view (Rect.unit (s := S1x1792) ![0, o] S1x256.size i7).toLoadRect (harg7.unread x6)) (View.readAt (Elt Ideal) arg8.view (Rect.unit (s := S1x1792) ![0, o] S1x256.size i8).toLoadRect (harg8.unread x7))) (k0_pay37 (F := Ideal) (k0_pay32 (F := Ideal) (k0_pay2 (F := Ideal) (View.readAt (Elt Ideal) arg1.view (Rect.unit (s := S448x3072) ![0, 0] S448x3072.size i1).toLoadRect (harg1.unread x0)) (View.readAt (Elt Ideal) arg4.view (Rect.unit (s := S1x3072) ![0, 0] S1x3072.size i4).toLoadRect (harg4.unread x3)) (View.readAt (Elt Ideal) arg5.view (Rect.unit (s := S1x3072) ![0, 0] S1x3072.size i5).toLoadRect (harg5.unread x4))) (arg16.view.readCov [⟨Rect.unit (s := S448x3072) ![0, 0] S448x3072.size j0,
            k0_pay5 (F := Ideal) (k0_pay3 (F := Ideal) (View.readAt (Elt Ideal) arg1.view (Rect.unit (s := S448x3072) ![0, 0] S448x3072.size i1).toLoadRect (harg1.unread x0)) (View.readAt (Elt Ideal) arg4.view (Rect.unit (s := S1x3072) ![0, 0] S1x3072.size i4).toLoadRect (harg4.unread x3)) (View.readAt (Elt Ideal) arg5.view (Rect.unit (s := S1x3072) ![0, 0] S1x3072.size i5).toLoadRect (harg5.unread x4))) (FloatOps.ofBits .f32 0xC2FE0000#32) (FloatOps.ofBits .f32 0x42FE0000#32)⟩]
              (Rect.unit (s := S448x3072) ![0, 0] S448x3072.size j1).toLoadRect : Vec Ideal S448x3072 .bf16) (View.readAt (Elt Ideal) arg6.view (Rect.unit (s := S3072x1792) ![0, o] S3072x256.size i6).toLoadRect (harg6.unread x5)) (View.readAt (Elt Ideal) arg7.view (Rect.unit (s := S1x1792) ![0, o] S1x256.size i7).toLoadRect (harg7.unread x6)) (View.readAt (Elt Ideal) arg8.view (Rect.unit (s := S1x1792) ![0, o] S1x256.size i8).toLoadRect (harg8.unread x7)))) (FloatOps.ofBits .f32 0x00000000#32)) := by
  intro r j
  rw [pay39_at, v_ok x0 x3 x4 x5 x6 x7 o ho arg1 harg1 arg4 harg4 arg5 harg5 arg16 arg6 harg6 arg7 harg7 arg8 harg8 i1 i4 i5 j0 j1 i6 i7 i8 r]
theorem vscale_ok (o : ℕ) (ho : o = 1536) (arg1 : Memref sig .tc .vmem S448x3072 .bf16) (harg1 : arg1.IsWhole) (arg4 : Memref sig .tc .vmem S1x3072 .f32) (harg4 : arg4.IsWhole) (arg5 : Memref sig .tc .vmem S1x3072 .f32) (harg5 : arg5.IsWhole) (arg16 : Memref sig .tc .vmem S448x3072 .bf16) (arg6 : Memref sig .tc .vmem S3072x1792 .i8) (harg6 : arg6.IsWhole) (arg7 : Memref sig .tc .vmem S1x1792 .f32) (harg7 : arg7.IsWhole) (arg8 : Memref sig .tc .vmem S1x1792 .f32) (harg8 : arg8.IsWhole) (i1 i4 i5 j0 j1 i6 i7 i8) (r : Fin 448) :
    k0_pay40 (F := Ideal) (k0_pay37 (F := Ideal) (k0_pay32 (F := Ideal) (k0_pay2 (F := Ideal) (View.readAt (Elt Ideal) arg1.view (Rect.unit (s := S448x3072) ![0, 0] S448x3072.size i1).toLoadRect (harg1.unread x0)) (View.readAt (Elt Ideal) arg4.view (Rect.unit (s := S1x3072) ![0, 0] S1x3072.size i4).toLoadRect (harg4.unread x3)) (View.readAt (Elt Ideal) arg5.view (Rect.unit (s := S1x3072) ![0, 0] S1x3072.size i5).toLoadRect (harg5.unread x4))) (arg16.view.readCov [⟨Rect.unit (s := S448x3072) ![0, 0] S448x3072.size j0,
            k0_pay5 (F := Ideal) (k0_pay3 (F := Ideal) (View.readAt (Elt Ideal) arg1.view (Rect.unit (s := S448x3072) ![0, 0] S448x3072.size i1).toLoadRect (harg1.unread x0)) (View.readAt (Elt Ideal) arg4.view (Rect.unit (s := S1x3072) ![0, 0] S1x3072.size i4).toLoadRect (harg4.unread x3)) (View.readAt (Elt Ideal) arg5.view (Rect.unit (s := S1x3072) ![0, 0] S1x3072.size i5).toLoadRect (harg5.unread x4))) (FloatOps.ofBits .f32 0xC2FE0000#32) (FloatOps.ofBits .f32 0x42FE0000#32)⟩]
              (Rect.unit (s := S448x3072) ![0, 0] S448x3072.size j1).toLoadRect : Vec Ideal S448x3072 .bf16) (View.readAt (Elt Ideal) arg6.view (Rect.unit (s := S3072x1792) ![0, o] S3072x256.size i6).toLoadRect (harg6.unread x5)) (View.readAt (Elt Ideal) arg7.view (Rect.unit (s := S1x1792) ![0, o] S1x256.size i7).toLoadRect (harg7.unread x6)) (View.readAt (Elt Ideal) arg8.view (Rect.unit (s := S1x1792) ![0, o] S1x256.size i8).toLoadRect (harg8.unread x7)))) (FloatOps.ofBits .f32 0x00000000#32) (ix2 0 r) = headScale (vT x0 x3 x4 x5 x6 x7 r) := by
  rw [pay40_at, v_ok x0 x3 x4 x5 x6 x7 o ho arg1 harg1 arg4 harg4 arg5 harg5 arg16 arg6 harg6 arg7 harg7 arg8 harg8 i1 i4 i5 j0 j1 i6 i7 i8 r]

end Cert.QkvIdeal.Hand

end
-- ==== Proof.QkvArr.lean ====
/-
  The blocks the projection of the queries, keys and values kernel reads at a grid point, as parts of the whole arrays.
-/
module

public import proofs.«01_k».proof.Proof.QkvStep
public import proofs.«01_k».proof.Proof.Gen.QkvIdeal.Frame
public import Idealize.ShloMosaic.Lib.Pipeline.ValueKit

@[expose] public section

set_option maxRecDepth 16384

noncomputable section

namespace Cert.QkvIdeal.Hand

open Cert.QkvIdeal Cert.QkvIdeal.Gen Cert.Mlp Cert.Ln Cert.Rot Cert.Boxes
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pointwise
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ)

/-! ## Where each window stands at a grid point -/

theorem at0 : ∀ t : Fin cfg0.N, win0_0.index t = ![t.val, 0] := by decide +kernel
theorem at1 : ∀ t : Fin cfg0.N, win0_1.index t = ![t.val, 0] := by decide +kernel
theorem at2 : ∀ t : Fin cfg0.N, win0_2.index t = ![t.val, 0] := by decide +kernel
theorem at3 : ∀ t : Fin cfg0.N, win0_3.index t = ![0, 0] := by decide +kernel
theorem at4 : ∀ t : Fin cfg0.N, win0_4.index t = ![0, 0] := by decide +kernel
theorem at5 : ∀ t : Fin cfg0.N, win0_5.index t = ![0, 0] := by decide +kernel
theorem at6 : ∀ t : Fin cfg0.N, win0_6.index t = ![0, 0] := by decide +kernel
theorem at7 : ∀ t : Fin cfg0.N, win0_7.index t = ![0, 0] := by decide +kernel
theorem at8 : ∀ t : Fin cfg0.N, win0_8.index t = ![t.val, 0] := by decide +kernel
theorem at9 : ∀ t : Fin cfg0.N, win0_9.index t = ![0, 0] := by decide +kernel
theorem at10 : ∀ t : Fin cfg0.N, win0_10.index t = ![t.val, 0] := by decide +kernel
theorem at11 : ∀ t : Fin cfg0.N, win0_11.index t = ![t.val, 0] := by decide +kernel
theorem at12 : ∀ t : Fin cfg0.N, win0_12.index t = ![0, 0] := by decide +kernel
theorem at13 : ∀ t : Fin cfg0.N, win0_13.index t = ![t.val, 0] := by decide +kernel
theorem at14 : ∀ t : Fin cfg0.N, win0_14.index t = ![0, 0] := by decide +kernel

/-! ## The blocks, read off the arrays -/

theorem blk0 (c : Dev nD) (t : Fin cfg0.N) (x : Fin 448) (y : Fin 3072) (X : Fin 1792) (Y : Fin 3072) (hX : X.val = 448 * t.val + x.val) (hY : Y.val = y.val) :
    iblk m c 0 t (ix2 x y) = V m c main_v0 (ix2 X Y) := by
  unfold iblk
  refine congrArg (V m c main_v0) (funext fun a => Fin.ext ?_)
  match a with
  | ⟨0, _⟩ => blk_simp [at0]; try omega
  | ⟨1, _⟩ => blk_simp [at0]; try omega
theorem blk1 (c : Dev nD) (t : Fin cfg0.N) (x : Fin 448) (y : Fin 64) (X : Fin 1792) (Y : Fin 64) (hX : X.val = 448 * t.val + x.val) (hY : Y.val = y.val) :
    iblk m c 1 t (ix2 x y) = V m c main_v1 (ix2 X Y) := by
  unfold iblk
  refine congrArg (V m c main_v1) (funext fun a => Fin.ext ?_)
  match a with
  | ⟨0, _⟩ => blk_simp [at1]; try omega
  | ⟨1, _⟩ => blk_simp [at1]; try omega
theorem blk2 (c : Dev nD) (t : Fin cfg0.N) (x : Fin 448) (y : Fin 64) (X : Fin 1792) (Y : Fin 64) (hX : X.val = 448 * t.val + x.val) (hY : Y.val = y.val) :
    iblk m c 2 t (ix2 x y) = V m c main_v2 (ix2 X Y) := by
  unfold iblk
  refine congrArg (V m c main_v2) (funext fun a => Fin.ext ?_)
  match a with
  | ⟨0, _⟩ => blk_simp [at2]; try omega
  | ⟨1, _⟩ => blk_simp [at2]; try omega
theorem blk3 (c : Dev nD) (t : Fin cfg0.N) (x : Fin 1) (y : Fin 3072) (X : Fin 1) (Y : Fin 3072) (hX : X.val = x.val) (hY : Y.val = y.val) :
    iblk m c 3 t (ix2 x y) = V m c main_v3 (ix2 X Y) := by
  unfold iblk
  refine congrArg (V m c main_v3) (funext fun a => Fin.ext ?_)
  match a with
  | ⟨0, _⟩ => blk_simp [at3]; try omega
  | ⟨1, _⟩ => blk_simp [at3]; try omega
theorem blk4 (c : Dev nD) (t : Fin cfg0.N) (x : Fin 1) (y : Fin 3072) (X : Fin 1) (Y : Fin 3072) (hX : X.val = x.val) (hY : Y.val = y.val) :
    iblk m c 4 t (ix2 x y) = V m c main_v4 (ix2 X Y) := by
  unfold iblk
  refine congrArg (V m c main_v4) (funext fun a => Fin.ext ?_)
  match a with
  | ⟨0, _⟩ => blk_simp [at4]; try omega
  | ⟨1, _⟩ => blk_simp [at4]; try omega
theorem blk5 (c : Dev nD) (t : Fin cfg0.N) (x : Fin 3072) (y : Fin 1792) (X : Fin 3072) (Y : Fin 1792) (hX : X.val = x.val) (hY : Y.val = y.val) :
    iblk m c 5 t (ix2 x y) = V m c main_arg5 (ix2 X Y) := by
  unfold iblk
  refine congrArg (V m c main_arg5) (funext fun a => Fin.ext ?_)
  match a with
  | ⟨0, _⟩ => blk_simp [at5]; try omega
  | ⟨1, _⟩ => blk_simp [at5]; try omega
theorem blk6 (c : Dev nD) (t : Fin cfg0.N) (x : Fin 1) (y : Fin 1792) (X : Fin 1) (Y : Fin 1792) (hX : X.val = x.val) (hY : Y.val = y.val) :
    iblk m c 6 t (ix2 x y) = V m c main_v5 (ix2 X Y) := by
  unfold iblk
  refine congrArg (V m c main_v5) (funext fun a => Fin.ext ?_)
  match a with
  | ⟨0, _⟩ => blk_simp [at6]; try omega
  | ⟨1, _⟩ => blk_simp [at6]; try omega
theorem blk7 (c : Dev nD) (t : Fin cfg0.N) (x : Fin 1) (y : Fin 1792) (X : Fin 1) (Y : Fin 1792) (hX : X.val = x.val) (hY : Y.val = y.val) :
    iblk m c 7 t (ix2 x y) = V m c main_v6 (ix2 X Y) := by
  unfold iblk
  refine congrArg (V m c main_v6) (funext fun a => Fin.ext ?_)
  match a with
  | ⟨0, _⟩ => blk_simp [at7]; try omega
  | ⟨1, _⟩ => blk_simp [at7]; try omega
end Cert.QkvIdeal.Hand

end
-- ==== Proof.QkvVal.lean ====
/-
  The values of the projection of the queries, keys and values kernel in closed form, and what each of its outputs holds after a grid point.
-/
module

public import proofs.«01_k».proof.Proof.QkvStep
public import proofs.«01_k».proof.Proof.Gen.QkvIdeal.Frame

@[expose] public section

set_option maxRecDepth 16384

noncomputable section

namespace Cert.QkvIdeal.Hand

open Cert.QkvIdeal Cert.QkvIdeal.Gen Cert.Mlp Cert.Ln Cert.Rot Cert.Boxes
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pointwise
open Idealize.ShloMosaic.Pipeline (Dat Cfg Window BodyObligation cellOf)

local notation "𝕄" => MT nD τ sig Unit (Elt Ideal) ℕ (UR sig nD τ) ℕ

/-- The operands of the call, whole arrays. -/
structure Ins where
  a0 : Vec Ideal S1792x3072 .bf16
  a1 : Vec Ideal S1792x64 .f32
  a2 : Vec Ideal S1792x64 .f32
  a3 : Vec Ideal S1x3072 .f32
  a4 : Vec Ideal S1x3072 .f32
  a5 : Vec Ideal S3072x1792 .i8
  a6 : Vec Ideal S1x1792 .f32
  a7 : Vec Ideal S1x1792 .f32

variable (I : Ins)

/-- A row of the layer norm. -/
def Ins.h (R : Fin 1792) : Fin 3072 → EReal := lnorm (fun C => I.a3 (ix2 0 C)) (fun C => I.a4 (ix2 0 C)) (fun C => I.a0 (ix2 R C))
/-- The projection of its codes. -/
def Ins.y (R C : Fin 1792) : EReal := lin (rowCode (I.h R)) (fun k => toE (I.a5 (ix2 k C))) (rowScale (I.h R)) (I.a6 (ix2 0 C)) (I.a7 (ix2 0 C))
/-- The queries and the key, heads turned, and the value. -/
def Ins.q (R : Fin 1792) (C : Fin 1536) : EReal :=
  rot (fun k => I.a1 (ix2 R k)) (fun k => I.a2 (ix2 R k)) (fun k => I.y R ⟨128 * (C.val / 128) + k.val, by omega⟩) ⟨C.val % 128, by omega⟩
def Ins.k (R : Fin 1792) : Fin 128 → EReal := rot (fun k => I.a1 (ix2 R k)) (fun k => I.a2 (ix2 R k)) (fun k => I.y R ⟨1536 + k.val, by omega⟩)
def Ins.v (R : Fin 1792) (j : Fin 128) : EReal := I.y R ⟨1664 + j.val, by omega⟩

/-- The blocks of the operands at point `n`. -/
structure Blk (n : ℕ) (x0 : Vec Ideal S448x3072 .bf16) (x1 : Vec Ideal S448x64 .f32) (x2 : Vec Ideal S448x64 .f32) (x3 : Vec Ideal S1x3072 .f32) (x4 : Vec Ideal S1x3072 .f32) (x5 : Vec Ideal S3072x1792 .i8) (x6 : Vec Ideal S1x1792 .f32) (x7 : Vec Ideal S1x1792 .f32) : Prop where
  b0 : ∀ (r : Fin 448) (R : Fin 1792), R.val = 448 * n + r.val → ∀ k, x0 (ix2 r k) = I.a0 (ix2 R k)
  b1 : ∀ (r : Fin 448) (R : Fin 1792), R.val = 448 * n + r.val → ∀ k, x1 (ix2 r k) = I.a1 (ix2 R k)
  b2 : ∀ (r : Fin 448) (R : Fin 1792), R.val = 448 * n + r.val → ∀ k, x2 (ix2 r k) = I.a2 (ix2 R k)
  b3 : ∀ i j, x3 (ix2 i j) = I.a3 (ix2 i j)
  b4 : ∀ i j, x4 (ix2 i j) = I.a4 (ix2 i j)
  b5 : ∀ i j, x5 (ix2 i j) = I.a5 (ix2 i j)
  b6 : ∀ i j, x6 (ix2 i j) = I.a6 (ix2 i j)
  b7 : ∀ i j, x7 (ix2 i j) = I.a7 (ix2 i j)

def CodP (n : ℕ) (d : Vec Ideal S448x3072 .i8) : Prop := ∀ (r : Fin 448) (R : Fin 1792), R.val = 448 * n + r.val → ∀ C, d (ix2 r C) = Ideal.fptosi 8 (rowCode (I.h R) C)
def ScaP (n : ℕ) (d : Vec Ideal S2x896 .f32) : Prop := ∀ (a : Fin 2) (b : Fin 896) (R : Fin 1792), R.val = 896 * a.val + b.val → R.val < 448 * (n + 1) → d (ix2 a b) = rowScale (I.h R)
def QueP (n : ℕ) (d : Vec Ideal S448x1536 .bf16) : Prop := ∀ (r : Fin 448) (R : Fin 1792), R.val = 448 * n + r.val → ∀ C, d (ix2 r C) = I.q R C
def KeyP (n : ℕ) (d : Vec Ideal S448x128 .i8) : Prop := ∀ (r : Fin 448) (R : Fin 1792), R.val = 448 * n + r.val → ∀ C, d (ix2 r C) = Ideal.fptosi 8 (headCode (I.k R) C)
def KscP (n : ℕ) (d : Vec Ideal S2x896 .f32) : Prop := ∀ (a : Fin 2) (b : Fin 896) (R : Fin 1792), R.val = 896 * a.val + b.val → R.val < 448 * (n + 1) → d (ix2 a b) = headScale (I.k R)
def ValP (n : ℕ) (d : Vec Ideal S448x128 .i8) : Prop := ∀ (r : Fin 448) (R : Fin 1792), R.val = 448 * n + r.val → ∀ C, d (ix2 r C) = Ideal.fptosi 8 (headCode (I.v R) C)
def VscP (n : ℕ) (d : Vec Ideal S2x896 .f32) : Prop := ∀ (a : Fin 2) (b : Fin 896) (R : Fin 1792), R.val = 896 * a.val + b.val → R.val < 448 * (n + 1) → d (ix2 a b) = headScale (I.v R)

/-- A row block's scales stored over the earlier ones. -/
theorem sca_step {n : ℕ} {S : Fin 448 → EReal} {V : Fin 1792 → EReal} {x d : Vec Ideal S2x896 .f32} (h : RowOut n S x d)
    (hS : ∀ (r : Fin 448) (R : Fin 1792), R.val = 448 * n + r.val → S r = V R)
    (hx : 0 < n → ∀ (a : Fin 2) (b : Fin 896) (R : Fin 1792), R.val = 896 * a.val + b.val → R.val < 448 * (n - 1 + 1) → x (ix2 a b) = V R)
    (a : Fin 2) (b : Fin 896) (R : Fin 1792) (hR : R.val = 896 * a.val + b.val) (hlt : R.val < 448 * (n + 1)) : d (ix2 a b) = V R := by
  by_cases h1 : R.val < 448 * n
  · exact ((h a b).2 (Or.inl (by omega))).trans (hx (by omega) a b R hR (by omega))
  · have e : 896 * a.val + b.val = 448 * n + (⟨R.val - 448 * n, by omega⟩ : Fin 448).val := by simp only []; omega
    exact ((h a b).1 _ e).trans (hS _ R (by simp only []; omega))

variable {I}
variable {n : ℕ} {x0 : Vec Ideal S448x3072 .bf16} {x1 : Vec Ideal S448x64 .f32} {x2 : Vec Ideal S448x64 .f32} {x3 : Vec Ideal S1x3072 .f32} {x4 : Vec Ideal S1x3072 .f32} {x5 : Vec Ideal S3072x1792 .i8} {x6 : Vec Ideal S1x1792 .f32} {x7 : Vec Ideal S1x1792 .f32}

theorem Blk.h (B : Blk I n x0 x1 x2 x3 x4 x5 x6 x7) (r : Fin 448) (R : Fin 1792) (hR : R.val = 448 * n + r.val) : hRow x0 x3 x4 r = I.h R := by
  unfold hRow Ins.h
  rw [funext (B.b3 0), funext (B.b4 0), funext (B.b0 r R hR)]
theorem Blk.y (B : Blk I n x0 x1 x2 x3 x4 x5 x6 x7) (r : Fin 448) (R : Fin 1792) (hR : R.val = 448 * n + r.val) (C : Fin 1792) : tT x0 x3 x4 x5 x6 x7 r C = I.y R C := by
  unfold tT Ins.y
  rw [B.h r R hR, B.b6, B.b7, funext fun k => congrArg toE (B.b5 k C)]
theorem Blk.q (B : Blk I n x0 x1 x2 x3 x4 x5 x6 x7) (r : Fin 448) (R : Fin 1792) (hR : R.val = 448 * n + r.val) (C : Fin 1536) : qT x0 x1 x2 x3 x4 x5 x6 x7 r C = I.q R C := by
  unfold qT Ins.q
  rw [funext (B.b1 r R hR), funext (B.b2 r R hR)]
  exact congrArg (fun y => rot _ _ y _) (funext fun k => B.y r R hR _)
theorem Blk.k (B : Blk I n x0 x1 x2 x3 x4 x5 x6 x7) (r : Fin 448) (R : Fin 1792) (hR : R.val = 448 * n + r.val) : kT x0 x1 x2 x3 x4 x5 x6 x7 r = I.k R := by
  unfold kT Ins.k
  rw [funext (B.b1 r R hR), funext (B.b2 r R hR)]
  exact congrArg (fun y => rot _ _ y) (funext fun k => B.y r R hR _)
theorem Blk.v (B : Blk I n x0 x1 x2 x3 x4 x5 x6 x7) (r : Fin 448) (R : Fin 1792) (hR : R.val = 448 * n + r.val) : vT x0 x3 x4 x5 x6 x7 r = I.v R :=
  funext fun j => B.y r R hR _

end Cert.QkvIdeal.Hand

end
-- ==== Proof.QkvPoints.lean ====
/-
  Which conditionals of the kernel of the queries, keys and values each grid point takes.
-/
module

public import proofs.«01_k».proof.Proof.Gen.QkvIdeal.Frame
public import proofs.«01_k».proof.Proof.Gen.QkvIdeal.Skeleton
public import proofs.«01_k».proof.Proof.Gen.QkvIdeal.Points
public import Idealize.ShloMosaic.Lib.Pipeline.FrameBody
public import Idealize.ShloMosaic.Lib.Tactic
public import Idealize.ShloMosaic.Lib.WordCmp
public import Idealize.ShloMosaic.Lib.Claim
public import proofs.«01_k».proof.Proof.LnMath

@[expose] public section

set_option maxRecDepth 16384

noncomputable section

namespace Cert.QkvIdeal.Hand

open Cert.QkvIdeal Cert.QkvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pointwise
open Idealize.ShloMosaic.Pipeline (Dat Cfg Window BodyObligation cellOf)

local notation "𝕄" => MT nD τ sig Unit (Elt Ideal) ℕ (UR sig nD τ) ℕ

/-- Conditional 1 of the body is taken on row block 0. -/
abbrev cond0_1 (i : grid0.Coords) : Prop := k0_cond1 i = 1#1
theorem hcond0_1 : ∀ t : Fin cfg0.N, cond0_1 (grid0.coords t) ↔ t.val = 0 :=
  (fun t => by
    have ht : t.val < 4 := Nat.lt_of_lt_of_eq t.isLt N_0
    have e0 : (grid0.coords t 0).val = t.val / 1 % 4 := Pipeline.Grid.coords_val t 0 (by decide) rfl
    simp only [cond0_1, k0_cond1, e0]
    word_cmp
   : ∀ t : Fin grid0.N, cond0_1 (grid0.coords t) ↔ t.val = 0)
/-- Conditional 2 of the body is taken on row block 1. -/
abbrev cond0_2 (i : grid0.Coords) : Prop := k0_cond2 i = 1#1
theorem hcond0_2 : ∀ t : Fin cfg0.N, cond0_2 (grid0.coords t) ↔ t.val = 1 :=
  (fun t => by
    have ht : t.val < 4 := Nat.lt_of_lt_of_eq t.isLt N_0
    have e0 : (grid0.coords t 0).val = t.val / 1 % 4 := Pipeline.Grid.coords_val t 0 (by decide) rfl
    simp only [cond0_2, k0_cond2, e0]
    word_cmp
   : ∀ t : Fin grid0.N, cond0_2 (grid0.coords t) ↔ t.val = 1)
/-- Conditional 3 of the body is taken on row block 2. -/
abbrev cond0_3 (i : grid0.Coords) : Prop := k0_cond3 i = 1#1
theorem hcond0_3 : ∀ t : Fin cfg0.N, cond0_3 (grid0.coords t) ↔ t.val = 2 :=
  (fun t => by
    have ht : t.val < 4 := Nat.lt_of_lt_of_eq t.isLt N_0
    have e0 : (grid0.coords t 0).val = t.val / 1 % 4 := Pipeline.Grid.coords_val t 0 (by decide) rfl
    simp only [cond0_3, k0_cond3, e0]
    word_cmp
   : ∀ t : Fin grid0.N, cond0_3 (grid0.coords t) ↔ t.val = 2)
/-- Conditional 4 of the body is taken on row block 3. -/
abbrev cond0_4 (i : grid0.Coords) : Prop := k0_cond4 i = 1#1
theorem hcond0_4 : ∀ t : Fin cfg0.N, cond0_4 (grid0.coords t) ↔ t.val = 3 :=
  (fun t => by
    have ht : t.val < 4 := Nat.lt_of_lt_of_eq t.isLt N_0
    have e0 : (grid0.coords t 0).val = t.val / 1 % 4 := Pipeline.Grid.coords_val t 0 (by decide) rfl
    simp only [cond0_4, k0_cond4, e0]
    word_cmp
   : ∀ t : Fin grid0.N, cond0_4 (grid0.coords t) ↔ t.val = 3)
/-- Conditional 5 of the body is taken on row block 0. -/
abbrev cond0_5 (i : grid0.Coords) : Prop := k0_cond5 i = 1#1
theorem hcond0_5 : ∀ t : Fin cfg0.N, cond0_5 (grid0.coords t) ↔ t.val = 0 :=
  (fun t => by
    have ht : t.val < 4 := Nat.lt_of_lt_of_eq t.isLt N_0
    have e0 : (grid0.coords t 0).val = t.val / 1 % 4 := Pipeline.Grid.coords_val t 0 (by decide) rfl
    simp only [cond0_5, k0_cond5, e0]
    word_cmp
   : ∀ t : Fin grid0.N, cond0_5 (grid0.coords t) ↔ t.val = 0)
/-- Conditional 6 of the body is taken on row block 1. -/
abbrev cond0_6 (i : grid0.Coords) : Prop := k0_cond6 i = 1#1
theorem hcond0_6 : ∀ t : Fin cfg0.N, cond0_6 (grid0.coords t) ↔ t.val = 1 :=
  (fun t => by
    have ht : t.val < 4 := Nat.lt_of_lt_of_eq t.isLt N_0
    have e0 : (grid0.coords t 0).val = t.val / 1 % 4 := Pipeline.Grid.coords_val t 0 (by decide) rfl
    simp only [cond0_6, k0_cond6, e0]
    word_cmp
   : ∀ t : Fin grid0.N, cond0_6 (grid0.coords t) ↔ t.val = 1)
/-- Conditional 7 of the body is taken on row block 2. -/
abbrev cond0_7 (i : grid0.Coords) : Prop := k0_cond7 i = 1#1
theorem hcond0_7 : ∀ t : Fin cfg0.N, cond0_7 (grid0.coords t) ↔ t.val = 2 :=
  (fun t => by
    have ht : t.val < 4 := Nat.lt_of_lt_of_eq t.isLt N_0
    have e0 : (grid0.coords t 0).val = t.val / 1 % 4 := Pipeline.Grid.coords_val t 0 (by decide) rfl
    simp only [cond0_7, k0_cond7, e0]
    word_cmp
   : ∀ t : Fin grid0.N, cond0_7 (grid0.coords t) ↔ t.val = 2)
/-- Conditional 8 of the body is taken on row block 3. -/
abbrev cond0_8 (i : grid0.Coords) : Prop := k0_cond8 i = 1#1
theorem hcond0_8 : ∀ t : Fin cfg0.N, cond0_8 (grid0.coords t) ↔ t.val = 3 :=
  (fun t => by
    have ht : t.val < 4 := Nat.lt_of_lt_of_eq t.isLt N_0
    have e0 : (grid0.coords t 0).val = t.val / 1 % 4 := Pipeline.Grid.coords_val t 0 (by decide) rfl
    simp only [cond0_8, k0_cond8, e0]
    word_cmp
   : ∀ t : Fin grid0.N, cond0_8 (grid0.coords t) ↔ t.val = 3)
/-- Conditional 9 of the body is taken on row block 0. -/
abbrev cond0_9 (i : grid0.Coords) : Prop := k0_cond9 i = 1#1
theorem hcond0_9 : ∀ t : Fin cfg0.N, cond0_9 (grid0.coords t) ↔ t.val = 0 :=
  (fun t => by
    have ht : t.val < 4 := Nat.lt_of_lt_of_eq t.isLt N_0
    have e0 : (grid0.coords t 0).val = t.val / 1 % 4 := Pipeline.Grid.coords_val t 0 (by decide) rfl
    simp only [cond0_9, k0_cond9, e0]
    word_cmp
   : ∀ t : Fin grid0.N, cond0_9 (grid0.coords t) ↔ t.val = 0)
/-- Conditional 10 of the body is taken on row block 1. -/
abbrev cond0_10 (i : grid0.Coords) : Prop := k0_cond10 i = 1#1
theorem hcond0_10 : ∀ t : Fin cfg0.N, cond0_10 (grid0.coords t) ↔ t.val = 1 :=
  (fun t => by
    have ht : t.val < 4 := Nat.lt_of_lt_of_eq t.isLt N_0
    have e0 : (grid0.coords t 0).val = t.val / 1 % 4 := Pipeline.Grid.coords_val t 0 (by decide) rfl
    simp only [cond0_10, k0_cond10, e0]
    word_cmp
   : ∀ t : Fin grid0.N, cond0_10 (grid0.coords t) ↔ t.val = 1)
/-- Conditional 11 of the body is taken on row block 2. -/
abbrev cond0_11 (i : grid0.Coords) : Prop := k0_cond11 i = 1#1
theorem hcond0_11 : ∀ t : Fin cfg0.N, cond0_11 (grid0.coords t) ↔ t.val = 2 :=
  (fun t => by
    have ht : t.val < 4 := Nat.lt_of_lt_of_eq t.isLt N_0
    have e0 : (grid0.coords t 0).val = t.val / 1 % 4 := Pipeline.Grid.coords_val t 0 (by decide) rfl
    simp only [cond0_11, k0_cond11, e0]
    word_cmp
   : ∀ t : Fin grid0.N, cond0_11 (grid0.coords t) ↔ t.val = 2)
/-- Conditional 12 of the body is taken on row block 3. -/
abbrev cond0_12 (i : grid0.Coords) : Prop := k0_cond12 i = 1#1
theorem hcond0_12 : ∀ t : Fin cfg0.N, cond0_12 (grid0.coords t) ↔ t.val = 3 :=
  (fun t => by
    have ht : t.val < 4 := Nat.lt_of_lt_of_eq t.isLt N_0
    have e0 : (grid0.coords t 0).val = t.val / 1 % 4 := Pipeline.Grid.coords_val t 0 (by decide) rfl
    simp only [cond0_12, k0_cond12, e0]
    word_cmp
   : ∀ t : Fin grid0.N, cond0_12 (grid0.coords t) ↔ t.val = 3)
end Cert.QkvIdeal.Hand

end
-- ==== Proof.QkvRun.lean ====
/-
  The body of the kernel of the queries, keys and values on every row block, with the contents of its outputs.
-/
module

public import proofs.«01_k».proof.Proof.Gen.QkvIdeal.Frame
public import proofs.«01_k».proof.Proof.Gen.QkvIdeal.Skeleton
public import proofs.«01_k».proof.Proof.Gen.QkvIdeal.Points
public import Idealize.ShloMosaic.Lib.Pipeline.FrameBody
public import Idealize.ShloMosaic.Lib.Tactic
public import Idealize.ShloMosaic.Lib.WordCmp
public import Idealize.ShloMosaic.Lib.Claim
public import proofs.«01_k».proof.Proof.QkvPoints
public import proofs.«01_k».proof.Proof.QkvStep

@[expose] public section

set_option maxRecDepth 16384

noncomputable section

namespace Cert.QkvIdeal.Hand

open Cert.QkvIdeal Cert.QkvIdeal.Gen Cert.Mlp Cert.Ln Cert.Rot Cert.Boxes
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pointwise
open Idealize.ShloMosaic.Pipeline (Dat Cfg Window BodyObligation cellOf)

local notation "𝕄" => MT nD τ sig Unit (Elt Ideal) ℕ (UR sig nD τ) ℕ

set_option maxHeartbeats 16000000 in
/-- The body on row block `q`. -/
theorem vrun_at (c : Dev nD) (i : grid0.Coords) (q : ℕ) (hq : q < 4) (hc1 : cond0_1 i ↔ q = 0) (hc2 : cond0_2 i ↔ q = 1) (hc3 : cond0_3 i ↔ q = 2) (hc4 : cond0_4 i ↔ q = 3) (hc5 : cond0_5 i ↔ q = 0) (hc6 : cond0_6 i ↔ q = 1) (hc7 : cond0_7 i ↔ q = 2) (hc8 : cond0_8 i ↔ q = 3) (hc9 : cond0_9 i ↔ q = 0) (hc10 : cond0_10 i ↔ q = 1) (hc11 : cond0_11 i ↔ q = 2) (hc12 : cond0_12 i ↔ q = 3)
    (arg1 : Memref sig .tc .vmem S448x3072 .bf16) (harg1 : arg1.IsWhole) (arg2 : Memref sig .tc .vmem S448x64 .f32) (harg2 : arg2.IsWhole) (arg3 : Memref sig .tc .vmem S448x64 .f32) (harg3 : arg3.IsWhole) (arg4 : Memref sig .tc .vmem S1x3072 .f32) (harg4 : arg4.IsWhole) (arg5 : Memref sig .tc .vmem S1x3072 .f32) (harg5 : arg5.IsWhole) (arg6 : Memref sig .tc .vmem S3072x1792 .i8) (harg6 : arg6.IsWhole) (arg7 : Memref sig .tc .vmem S1x1792 .f32) (harg7 : arg7.IsWhole) (arg8 : Memref sig .tc .vmem S1x1792 .f32) (harg8 : arg8.IsWhole) (arg9 : Memref sig .tc .vmem S448x3072 .i8) (harg9 : arg9.IsWhole) (arg10 : Memref sig .tc .vmem S2x896 .f32) (harg10 : arg10.IsWhole) (arg11 : Memref sig .tc .vmem S448x1536 .bf16) (harg11 : arg11.IsWhole) (arg12 : Memref sig .tc .vmem S448x128 .i8) (harg12 : arg12.IsWhole) (arg13 : Memref sig .tc .vmem S2x896 .f32) (harg13 : arg13.IsWhole) (arg14 : Memref sig .tc .vmem S448x128 .i8) (harg14 : arg14.IsWhole) (arg15 : Memref sig .tc .vmem S2x896 .f32) (harg15 : arg15.IsWhole) (arg16 : Memref sig .tc .vmem S448x3072 .bf16) (harg16 : arg16.IsWhole)
    (x0 : Vec Ideal S448x3072 .bf16) (x1 : Vec Ideal S448x64 .f32) (x2 : Vec Ideal S448x64 .f32) (x3 : Vec Ideal S1x3072 .f32) (x4 : Vec Ideal S1x3072 .f32) (x5 : Vec Ideal S3072x1792 .i8) (x6 : Vec Ideal S1x1792 .f32) (x7 : Vec Ideal S1x1792 .f32) (x8 : Vec Ideal S448x3072 .i8) (x9 : Vec Ideal S2x896 .f32) (x10 : Vec Ideal S448x1536 .bf16) (x11 : Vec Ideal S448x128 .i8) (x12 : Vec Ideal S2x896 .f32) (x13 : Vec Ideal S448x128 .i8) (x14 : Vec Ideal S2x896 .f32) (x15 : Vec Ideal S448x3072 .bf16) (E : Set ℕ) (K : PUnit.{1} → sProp 𝕄) :
    iprop(iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, ⌜COut x0 x3 x4 d⌝ ∗ owns (c : Thread nD τ) arg9 fullShare d) ∗ (∃ d, ⌜RowOut q (fun r => rowScale (hRow x0 x3 x4 r)) x9 d⌝ ∗ owns (c : Thread nD τ) arg10 fullShare d) ∗ (∃ d, ⌜QOut x0 x1 x2 x3 x4 x5 x6 x7 d⌝ ∗ owns (c : Thread nD τ) arg11 fullShare d) ∗ (∃ d, ⌜KOut x0 x1 x2 x3 x4 x5 x6 x7 d⌝ ∗ owns (c : Thread nD τ) arg12 fullShare d) ∗ (∃ d, ⌜RowOut q (fun r => headScale (kT x0 x1 x2 x3 x4 x5 x6 x7 r)) x12 d⌝ ∗ owns (c : Thread nD τ) arg13 fullShare d) ∗ (∃ d, ⌜VOut x0 x3 x4 x5 x6 x7 d⌝ ∗ owns (c : Thread nD τ) arg14 fullShare d) ∗ (∃ d, ⌜RowOut q (fun r => headScale (vT x0 x3 x4 x5 x6 x7 r)) x14 d⌝ ∗ owns (c : Thread nD τ) arg15 fullShare d) ∗ (∃ d, ⌜True⌝ ∗ owns (c : Thread nD τ) arg16 fullShare d)) -∗ K ⟨⟩))
      ⊢ wp frame (wpE (defs₀ (F := Ideal)) Variants.none c none) E (cc0_qkv i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  obtain rfl | rfl | rfl | rfl : q = 0 ∨ q = 1 ∨ q = 2 ∨ q = 3 := by omega
  all_goals
    simp only [Nat.reduceEqDiff, iff_true, iff_false] at hc1 hc2 hc3 hc4 hc5 hc6 hc7 hc8 hc9 hc10 hc11 hc12
    simp only [cc0_qkv_eq_skeleton]; unfold cc0_qkv_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15
    sl_exec (disch := first | sl_exact hc1 | sl_exact hc2 | sl_exact hc3 | sl_exact hc4 | sl_exact hc5 | sl_exact hc6 | sl_exact hc7 | sl_exact hc8 | sl_exact hc9 | sl_exact hc10 | sl_exact hc11 | sl_exact hc12)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; swap
      · iexists _; isplitr; swap; · iexact H8
        ipureintro; rfl
      · ipureintro
        sl_unfold_run_names
        refine (congrArg (COut x0 x3 x4) (read_whole arg9 _ _ _ [])).mpr ?_
        exact code_ok x0 x3 x4 arg1 harg1 arg4 harg4 arg5 harg5 _ _ _
    isplitl [H9]
    · iexists _; isplitr; swap
      · iexists _; isplitr; swap; · iexact H9
        ipureintro; rfl
      · ipureintro
        sl_unfold_run_names
        exact rowout arg10 _ x9 (harg10.read_unread x9) _ _ _ (by omega) (by omega) (by omega) _ _ _ (fun r => (row_of _ r).trans (scale_ok x0 x3 x4 arg1 harg1 arg4 harg4 arg5 harg5 _ _ _ r))
    isplitl [H10]
    · iexists _; isplitr; swap
      · iexists _; isplitr; swap; · iexact H10
        ipureintro; rfl
      · ipureintro
        sl_unfold_run_names
        exact fun r C => tstep arg11 _ 1408 _ _ _ (fun r q C h => (congrFun (pay29_eq _ _ _ _ _ _ _) _).trans (hi_ok x0 x1 x2 x3 x4 x5 x6 x7 1280 rfl arg1 harg1 arg4 harg4 arg5 harg5 arg16 arg6 harg6 arg7 harg7 arg8 harg8 arg2 harg2 arg3 harg3 _ _ _ _ _ _ _ _ _ _ r q C h))
            (tstep arg11 _ 1280 _ _ _ (fun r q C h => (congrFun (pay28_eq _ _ _ _ _ _ _) _).trans (lo_ok x0 x1 x2 x3 x4 x5 x6 x7 1280 rfl arg1 harg1 arg4 harg4 arg5 harg5 arg16 arg6 harg6 arg7 harg7 arg8 harg8 arg2 harg2 arg3 harg3 _ _ _ _ _ _ _ _ _ _ r q C h))
            (tstep arg11 _ 1152 _ _ _ (fun r q C h => (congrFun (pay25_eq _ _ _ _ _ _ _) _).trans (hi_ok x0 x1 x2 x3 x4 x5 x6 x7 1024 rfl arg1 harg1 arg4 harg4 arg5 harg5 arg16 arg6 harg6 arg7 harg7 arg8 harg8 arg2 harg2 arg3 harg3 _ _ _ _ _ _ _ _ _ _ r q C h))
            (tstep arg11 _ 1024 _ _ _ (fun r q C h => (congrFun (pay24_eq _ _ _ _ _ _ _) _).trans (lo_ok x0 x1 x2 x3 x4 x5 x6 x7 1024 rfl arg1 harg1 arg4 harg4 arg5 harg5 arg16 arg6 harg6 arg7 harg7 arg8 harg8 arg2 harg2 arg3 harg3 _ _ _ _ _ _ _ _ _ _ r q C h))
            (tstep arg11 _ 896 _ _ _ (fun r q C h => (congrFun (pay22_eq _ _ _ _ _ _ _) _).trans (hi_ok x0 x1 x2 x3 x4 x5 x6 x7 768 rfl arg1 harg1 arg4 harg4 arg5 harg5 arg16 arg6 harg6 arg7 harg7 arg8 harg8 arg2 harg2 arg3 harg3 _ _ _ _ _ _ _ _ _ _ r q C h))
            (tstep arg11 _ 768 _ _ _ (fun r q C h => (congrFun (pay21_eq _ _ _ _ _ _ _) _).trans (lo_ok x0 x1 x2 x3 x4 x5 x6 x7 768 rfl arg1 harg1 arg4 harg4 arg5 harg5 arg16 arg6 harg6 arg7 harg7 arg8 harg8 arg2 harg2 arg3 harg3 _ _ _ _ _ _ _ _ _ _ r q C h))
            (tstep arg11 _ 640 _ _ _ (fun r q C h => (congrFun (pay19_eq _ _ _ _ _ _ _) _).trans (hi_ok x0 x1 x2 x3 x4 x5 x6 x7 512 rfl arg1 harg1 arg4 harg4 arg5 harg5 arg16 arg6 harg6 arg7 harg7 arg8 harg8 arg2 harg2 arg3 harg3 _ _ _ _ _ _ _ _ _ _ r q C h))
            (tstep arg11 _ 512 _ _ _ (fun r q C h => (congrFun (pay18_eq _ _ _ _ _ _ _) _).trans (lo_ok x0 x1 x2 x3 x4 x5 x6 x7 512 rfl arg1 harg1 arg4 harg4 arg5 harg5 arg16 arg6 harg6 arg7 harg7 arg8 harg8 arg2 harg2 arg3 harg3 _ _ _ _ _ _ _ _ _ _ r q C h))
            (tstep arg11 _ 384 _ _ _ (fun r q C h => (congrFun (pay16_eq _ _ _ _ _ _ _) _).trans (hi_ok x0 x1 x2 x3 x4 x5 x6 x7 256 rfl arg1 harg1 arg4 harg4 arg5 harg5 arg16 arg6 harg6 arg7 harg7 arg8 harg8 arg2 harg2 arg3 harg3 _ _ _ _ _ _ _ _ _ _ r q C h))
            (tstep arg11 _ 256 _ _ _ (fun r q C h => (congrFun (pay15_eq _ _ _ _ _ _ _) _).trans (lo_ok x0 x1 x2 x3 x4 x5 x6 x7 256 rfl arg1 harg1 arg4 harg4 arg5 harg5 arg16 arg6 harg6 arg7 harg7 arg8 harg8 arg2 harg2 arg3 harg3 _ _ _ _ _ _ _ _ _ _ r q C h))
            (tstep arg11 _ 128 _ _ _ (fun r q C h => hi_ok x0 x1 x2 x3 x4 x5 x6 x7 0 rfl arg1 harg1 arg4 harg4 arg5 harg5 arg16 arg6 harg6 arg7 harg7 arg8 harg8 arg2 harg2 arg3 harg3 _ _ _ _ _ _ _ _ _ _ r q C h)
            (tstep arg11 _ 0 _ _ _ (fun r q C h => lo_ok x0 x1 x2 x3 x4 x5 x6 x7 0 rfl arg1 harg1 arg4 harg4 arg5 harg5 arg16 arg6 harg6 arg7 harg7 arg8 harg8 arg2 harg2 arg3 harg3 _ _ _ _ _ _ _ _ _ _ r q C h)
            ((fun _ _ h => absurd h (Nat.not_lt_zero _)))))))))))))) r C C.isLt
    isplitl [H11]
    · iexists _; isplitr; swap
      · iexists _; isplitr; swap; · iexact H11
        ipureintro; rfl
      · ipureintro
        sl_unfold_run_names
        refine (congrArg (KOut x0 x1 x2 x3 x4 x5 x6 x7) (read_whole arg12 _ _ _ [])).mpr ?_
        exact kcode_ok x0 x1 x2 x3 x4 x5 x6 x7 1536 rfl arg1 harg1 arg4 harg4 arg5 harg5 arg16 arg6 harg6 arg7 harg7 arg8 harg8 arg2 harg2 arg3 harg3 _ _ _ _ _ _ _ _ _ _
    isplitl [H12]
    · iexists _; isplitr; swap
      · iexists _; isplitr; swap; · iexact H12
        ipureintro; rfl
      · ipureintro
        sl_unfold_run_names
        exact rowout arg13 _ x12 (harg13.read_unread x12) _ _ _ (by omega) (by omega) (by omega) _ _ _ (fun r => kscale_ok x0 x1 x2 x3 x4 x5 x6 x7 1536 rfl arg1 harg1 arg4 harg4 arg5 harg5 arg16 arg6 harg6 arg7 harg7 arg8 harg8 arg2 harg2 arg3 harg3 _ _ _ _ _ _ _ _ _ _ r)
    isplitl [H13]
    · iexists _; isplitr; swap
      · iexists _; isplitr; swap; · iexact H13
        ipureintro; rfl
      · ipureintro
        sl_unfold_run_names
        refine (congrArg (VOut x0 x3 x4 x5 x6 x7) (read_whole arg14 _ _ _ [])).mpr ?_
        exact vcode_ok x0 x3 x4 x5 x6 x7 1536 rfl arg1 harg1 arg4 harg4 arg5 harg5 arg16 arg6 harg6 arg7 harg7 arg8 harg8 _ _ _ _ _ _ _ _
    isplitl [H14]
    · iexists _; isplitr; swap
      · iexists _; isplitr; swap; · iexact H14
        ipureintro; rfl
      · ipureintro
        sl_unfold_run_names
        exact rowout arg15 _ x14 (harg15.read_unread x14) _ _ _ (by omega) (by omega) (by omega) _ _ _ (fun r => vscale_ok x0 x3 x4 x5 x6 x7 1536 rfl arg1 harg1 arg4 harg4 arg5 harg5 arg16 arg6 harg6 arg7 harg7 arg8 harg8 _ _ _ _ _ _ _ _ r)
    iexists _; isplitr; swap
    · iexists _; isplitr; swap; · iexact H15
      ipureintro; rfl
    · ipureintro
      trivial

end Cert.QkvIdeal.Hand

end
-- ==== Proof.QkvOut.lean ====
/-
  The run of the projection of the queries, keys and values kernel over the extended reals: the frame, and what the result arrays end as.
-/
module

public import proofs.«01_k».proof.Proof.QkvArr
public import proofs.«01_k».proof.Proof.QkvVal
public import proofs.«01_k».proof.Proof.QkvRun
public import Idealize.ShloMosaic.Lib.Pipeline.DatRel
public import Idealize.ShloMosaic.Lib.Pipeline.ArrRel

@[expose] public section

set_option maxRecDepth 16384

noncomputable section

namespace Cert.QkvIdeal.Hand

open Cert.QkvIdeal Cert.QkvIdeal.Gen Cert.Mlp Cert.Ln Cert.Rot Cert.Boxes
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pointwise
open Idealize.ShloMosaic.Pipeline (Dat Cfg Window BodyObligation cellOf)

local notation "𝕄" => MT nD τ sig Unit (Elt Ideal) ℕ (UR sig nD τ) ℕ

/-- The body at any grid point, with what it leaves in its outputs. -/
theorem vrun (c : Dev nD) (t : Fin cfg0.N)
    (arg1 : Memref sig .tc .vmem S448x3072 .bf16) (harg1 : arg1.IsWhole) (arg2 : Memref sig .tc .vmem S448x64 .f32) (harg2 : arg2.IsWhole) (arg3 : Memref sig .tc .vmem S448x64 .f32) (harg3 : arg3.IsWhole) (arg4 : Memref sig .tc .vmem S1x3072 .f32) (harg4 : arg4.IsWhole) (arg5 : Memref sig .tc .vmem S1x3072 .f32) (harg5 : arg5.IsWhole) (arg6 : Memref sig .tc .vmem S3072x1792 .i8) (harg6 : arg6.IsWhole) (arg7 : Memref sig .tc .vmem S1x1792 .f32) (harg7 : arg7.IsWhole) (arg8 : Memref sig .tc .vmem S1x1792 .f32) (harg8 : arg8.IsWhole) (arg9 : Memref sig .tc .vmem S448x3072 .i8) (harg9 : arg9.IsWhole) (arg10 : Memref sig .tc .vmem S2x896 .f32) (harg10 : arg10.IsWhole) (arg11 : Memref sig .tc .vmem S448x1536 .bf16) (harg11 : arg11.IsWhole) (arg12 : Memref sig .tc .vmem S448x128 .i8) (harg12 : arg12.IsWhole) (arg13 : Memref sig .tc .vmem S2x896 .f32) (harg13 : arg13.IsWhole) (arg14 : Memref sig .tc .vmem S448x128 .i8) (harg14 : arg14.IsWhole) (arg15 : Memref sig .tc .vmem S2x896 .f32) (harg15 : arg15.IsWhole) (arg16 : Memref sig .tc .vmem S448x3072 .bf16) (harg16 : arg16.IsWhole)
    (x0 : Vec Ideal S448x3072 .bf16) (x1 : Vec Ideal S448x64 .f32) (x2 : Vec Ideal S448x64 .f32) (x3 : Vec Ideal S1x3072 .f32) (x4 : Vec Ideal S1x3072 .f32) (x5 : Vec Ideal S3072x1792 .i8) (x6 : Vec Ideal S1x1792 .f32) (x7 : Vec Ideal S1x1792 .f32) (x8 : Vec Ideal S448x3072 .i8) (x9 : Vec Ideal S2x896 .f32) (x10 : Vec Ideal S448x1536 .bf16) (x11 : Vec Ideal S448x128 .i8) (x12 : Vec Ideal S2x896 .f32) (x13 : Vec Ideal S448x128 .i8) (x14 : Vec Ideal S2x896 .f32) (x15 : Vec Ideal S448x3072 .bf16) (E : Set ℕ) (K : PUnit.{1} → sProp 𝕄) :
    iprop(iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, ⌜COut x0 x3 x4 d⌝ ∗ owns (c : Thread nD τ) arg9 fullShare d) ∗ (∃ d, ⌜RowOut t.val (fun r => rowScale (hRow x0 x3 x4 r)) x9 d⌝ ∗ owns (c : Thread nD τ) arg10 fullShare d) ∗ (∃ d, ⌜QOut x0 x1 x2 x3 x4 x5 x6 x7 d⌝ ∗ owns (c : Thread nD τ) arg11 fullShare d) ∗ (∃ d, ⌜KOut x0 x1 x2 x3 x4 x5 x6 x7 d⌝ ∗ owns (c : Thread nD τ) arg12 fullShare d) ∗ (∃ d, ⌜RowOut t.val (fun r => headScale (kT x0 x1 x2 x3 x4 x5 x6 x7 r)) x12 d⌝ ∗ owns (c : Thread nD τ) arg13 fullShare d) ∗ (∃ d, ⌜VOut x0 x3 x4 x5 x6 x7 d⌝ ∗ owns (c : Thread nD τ) arg14 fullShare d) ∗ (∃ d, ⌜RowOut t.val (fun r => headScale (vT x0 x3 x4 x5 x6 x7 r)) x14 d⌝ ∗ owns (c : Thread nD τ) arg15 fullShare d) ∗ (∃ d, ⌜True⌝ ∗ owns (c : Thread nD τ) arg16 fullShare d)) -∗ K ⟨⟩))
      ⊢ wp frame (wpE (defs₀ (F := Ideal)) Variants.none c none) E (cc0_qkv (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  have hN : t.val < 4 := lt_of_lt_of_eq t.isLt (show cfg0.N = 4 from N_0)
  exact vrun_at c (grid0.coords t) t.val hN (hcond0_1 t) (hcond0_2 t) (hcond0_3 t) (hcond0_4 t) (hcond0_5 t) (hcond0_6 t) (hcond0_7 t) (hcond0_8 t) (hcond0_9 t) (hcond0_10 t) (hcond0_11 t) (hcond0_12 t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 x15 E K

variable (m : (ℓ : Loc nD τ sig) → Buf (Elt Ideal) ℓ) (ρ : Dev nD → PrngReg)

/-- The operands as the kernel finds them. -/
def ins (c : Dev nD) : Ins := ⟨V m c main_v0, V m c main_v1, V m c main_v2, V m c main_v3, V m c main_v4, V m c main_arg5, V m c main_v5, V m c main_v6⟩

/-- At every grid point the input blocks are the operands' blocks. -/
theorem blk_all (c : Dev nD) (t : Fin cfg0.N) :
    Blk (ins m c) t.val (iblk m c 0 t) (iblk m c 1 t) (iblk m c 2 t) (iblk m c 3 t) (iblk m c 4 t) (iblk m c 5 t) (iblk m c 6 t) (iblk m c 7 t) :=
  ⟨fun r R hR k => blk0 m c t r k R k hR rfl, fun r R hR k => blk1 m c t r k R k hR rfl, fun r R hR k => blk2 m c t r k R k hR rfl, fun i j => blk3 m c t i j i j rfl rfl, fun i j => blk4 m c t i j i j rfl rfl, fun i j => blk5 m c t i j i j rfl rfl, fun i j => blk6 m c t i j i j rfl rfl, fun i j => blk7 m c t i j i j rfl rfl⟩

/-! ## The pipeline's proof data -/

/-- The output windows, which are held to a predicate instead of being named. -/
def outs0 : Fin 15 → Bool := fun w => w.val == 8 || w.val == 9 || w.val == 10 || w.val == 11 || w.val == 12 || w.val == 13 || w.val == 14

/-- What the body leaves in each of them. -/
def Rl (c : Dev nD) (w : Fin cfg0.W) (t : Fin cfg0.N) : ((cfg0.win w).block.Idx → Elt Ideal (cfg0.win w).elt) → Prop := match w with
  | ⟨8, _⟩ => CodP (ins m c) t.val
  | ⟨9, _⟩ => ScaP (ins m c) t.val
  | ⟨10, _⟩ => QueP (ins m c) t.val
  | ⟨11, _⟩ => KeyP (ins m c) t.val
  | ⟨12, _⟩ => KscP (ins m c) t.val
  | ⟨13, _⟩ => ValP (ins m c) t.val
  | ⟨14, _⟩ => VscP (ins m c) t.val
  | _ => fun _ => True

/-- The proof data: the arrays as the region finds them; each input's buffer at its block; the outputs unnamed; between
    points the scratch buffers at some contents. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem leaves0_0 (c : Dev nD) (t : Fin cfg0.N) : (dats m 0 c).leavesExact 0 t = owns (c : Thread nD τ) (st0_0 t) fullShare (iblk m c 0 t) := by
  unfold Dat.leavesExact; rw [show cfg0.idle 0 (grid0.coords t) = false from rfl, after0_0]
theorem leaves0_1 (c : Dev nD) (t : Fin cfg0.N) : (dats m 0 c).leavesExact 1 t = owns (c : Thread nD τ) (st0_1 t) fullShare (iblk m c 1 t) := by
  unfold Dat.leavesExact; rw [show cfg0.idle 1 (grid0.coords t) = false from rfl, after0_1]
theorem leaves0_2 (c : Dev nD) (t : Fin cfg0.N) : (dats m 0 c).leavesExact 2 t = owns (c : Thread nD τ) (st0_2 t) fullShare (iblk m c 2 t) := by
  unfold Dat.leavesExact; rw [show cfg0.idle 2 (grid0.coords t) = false from rfl, after0_2]
theorem leaves0_3 (c : Dev nD) (t : Fin cfg0.N) : (dats m 0 c).leavesExact 3 t = owns (c : Thread nD τ) (st0_3 t) fullShare (iblk m c 3 t) := by
  unfold Dat.leavesExact; rw [show cfg0.idle 3 (grid0.coords t) = false from rfl, after0_3]
theorem leaves0_4 (c : Dev nD) (t : Fin cfg0.N) : (dats m 0 c).leavesExact 4 t = owns (c : Thread nD τ) (st0_4 t) fullShare (iblk m c 4 t) := by
  unfold Dat.leavesExact; rw [show cfg0.idle 4 (grid0.coords t) = false from rfl, after0_4]
theorem leaves0_5 (c : Dev nD) (t : Fin cfg0.N) : (dats m 0 c).leavesExact 5 t = owns (c : Thread nD τ) (st0_5 t) fullShare (iblk m c 5 t) := by
  unfold Dat.leavesExact; rw [show cfg0.idle 5 (grid0.coords t) = false from rfl, after0_5]
theorem leaves0_6 (c : Dev nD) (t : Fin cfg0.N) : (dats m 0 c).leavesExact 6 t = owns (c : Thread nD τ) (st0_6 t) fullShare (iblk m c 6 t) := by
  unfold Dat.leavesExact; rw [show cfg0.idle 6 (grid0.coords t) = false from rfl, after0_6]
theorem leaves0_7 (c : Dev nD) (t : Fin cfg0.N) : (dats m 0 c).leavesExact 7 t = owns (c : Thread nD τ) (st0_7 t) fullShare (iblk m c 7 t) := by
  unfold Dat.leavesExact; rw [show cfg0.idle 7 (grid0.coords t) = false from rfl, after0_7]

/-- The scratch buffer between points, as a memref at some contents. -/
theorem PhiA0_eq (c : Dev nD) :
    (Pipeline.ΦA spec0 c : sProp 𝕄)
      = iprop((∃ d, owns (c : Thread nD τ) (Memref.whole cc0_scratch0) fullShare d) ∗ (∃ r, prngReg c r)) := by
  unfold Pipeline.ΦA; rw [scopedRest0_eq]; simp only [owns_whole]; try rfl

/-- The same data read relationally. -/
abbrev rdats (c : Dev nD) := (dats m 0 c).toRRel outs0 (Rl m c)

/-- A scales' buffer holds the scales so far. -/
theorem found9 (c : Dev nD) (t : Fin cfg0.N) (h : 0 < t.val) (X) (hX : (rdats m c).Finds (9 : Fin 15) t X) : ScaP (ins m c) (t.val - 1) X := by
  have hf : (cfg0.win (9 : Fin 15)).fetch t = false := rfl
  have hN : t.val < 4 := lt_of_lt_of_eq t.isLt (show cfg0.N = 4 from N_0)
  rw [Pipeline.RDat.finds_of_pos _ hf (by omega)] at hX
  rcases hX with hX | hX
  · exact absurd ((flush0_9 _).mp hX) (by dsimp only; omega)
  · exact (dats m 0 c).toRRel_leaves (fgt := outs0) (Rl := Rl m c) (w := (9 : Fin 15)) rfl hX

/-- A scales' buffer holds the scales so far. -/
theorem found12 (c : Dev nD) (t : Fin cfg0.N) (h : 0 < t.val) (X) (hX : (rdats m c).Finds (12 : Fin 15) t X) : KscP (ins m c) (t.val - 1) X := by
  have hf : (cfg0.win (12 : Fin 15)).fetch t = false := rfl
  have hN : t.val < 4 := lt_of_lt_of_eq t.isLt (show cfg0.N = 4 from N_0)
  rw [Pipeline.RDat.finds_of_pos _ hf (by omega)] at hX
  rcases hX with hX | hX
  · exact absurd ((flush0_12 _).mp hX) (by dsimp only; omega)
  · exact (dats m 0 c).toRRel_leaves (fgt := outs0) (Rl := Rl m c) (w := (12 : Fin 15)) rfl hX

/-- A scales' buffer holds the scales so far. -/
theorem found14 (c : Dev nD) (t : Fin cfg0.N) (h : 0 < t.val) (X) (hX : (rdats m c).Finds (14 : Fin 15) t X) : VscP (ins m c) (t.val - 1) X := by
  have hf : (cfg0.win (14 : Fin 15)).fetch t = false := rfl
  have hN : t.val < 4 := lt_of_lt_of_eq t.isLt (show cfg0.N = 4 from N_0)
  rw [Pipeline.RDat.finds_of_pos _ hf (by omega)] at hX
  rcases hX with hX | hX
  · exact absurd ((flush0_14 _).mp hX) (by dsimp only; omega)
  · exact (dats m 0 c).toRRel_leaves (fgt := outs0) (Rl := Rl m c) (w := (14 : Fin 15)) rfl hX

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ Y, ⌜(rdats m c).Finds (8 : Fin 15) t Y⌝ ∗ owns (c : Thread nD τ) (st0_8 t) fullShare Y)
    ∗ (∃ Y, ⌜(rdats m c).Finds (9 : Fin 15) t Y⌝ ∗ owns (c : Thread nD τ) (st0_9 t) fullShare Y)
    ∗ (∃ Y, ⌜(rdats m c).Finds (10 : Fin 15) t Y⌝ ∗ owns (c : Thread nD τ) (st0_10 t) fullShare Y)
    ∗ (∃ Y, ⌜(rdats m c).Finds (11 : Fin 15) t Y⌝ ∗ owns (c : Thread nD τ) (st0_11 t) fullShare Y)
    ∗ (∃ Y, ⌜(rdats m c).Finds (12 : Fin 15) t Y⌝ ∗ owns (c : Thread nD τ) (st0_12 t) fullShare Y)
    ∗ (∃ Y, ⌜(rdats m c).Finds (13 : Fin 15) t Y⌝ ∗ owns (c : Thread nD τ) (st0_13 t) fullShare Y)
    ∗ (∃ Y, ⌜(rdats m c).Finds (14 : Fin 15) t Y⌝ ∗ owns (c : Thread nD τ) (st0_14 t) fullShare Y))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (∃ X, ⌜CodP (ins m c) t.val X⌝ ∗ owns (c : Thread nD τ) (st0_8 t) fullShare X)
    ∗ (∃ X, ⌜ScaP (ins m c) t.val X⌝ ∗ owns (c : Thread nD τ) (st0_9 t) fullShare X)
    ∗ (∃ X, ⌜QueP (ins m c) t.val X⌝ ∗ owns (c : Thread nD τ) (st0_10 t) fullShare X)
    ∗ (∃ X, ⌜KeyP (ins m c) t.val X⌝ ∗ owns (c : Thread nD τ) (st0_11 t) fullShare X)
    ∗ (∃ X, ⌜KscP (ins m c) t.val X⌝ ∗ owns (c : Thread nD τ) (st0_12 t) fullShare X)
    ∗ (∃ X, ⌜ValP (ins m c) t.val X⌝ ∗ owns (c : Thread nD τ) (st0_13 t) fullShare X)
    ∗ (∃ X, ⌜VscP (ins m c) t.val X⌝ ∗ owns (c : Thread nD τ) (st0_14 t) fullShare X))

set_option maxHeartbeats 4800000 in
/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7, leaves0_0, leaves0_1, leaves0_2, leaves0_3, leaves0_4, leaves0_5, leaves0_6, leaves0_7]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  iintro ⟨⟨⟨%x15, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%x8, %f8, H8⟩, ⟨%x9, %f9, H9⟩, ⟨%x10, %f10, H10⟩, ⟨%x11, %f11, H11⟩, ⟨%x12, %f12, H12⟩, ⟨%x13, %f13, H13⟩, ⟨%x14, %f14, H14⟩⟩
  iapply (vrun c t _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) x8 x9 x10 x11 x12 x13 x14 x15 Set.univ _)
  isplitl [H0 H1 H2 H3 H4 H5 H6 H7 H8 H9 H10 H11 H12 H13 H14 HS0]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact HS0
  iintro ⟨H0, H1, H2, H3, H4, H5, H6, H7, ⟨%d8, %h8, H8⟩, ⟨%d9, %h9, H9⟩, ⟨%d10, %h10, H10⟩, ⟨%d11, %h11, H11⟩, ⟨%d12, %h12, H12⟩, ⟨%d13, %h13, H13⟩, ⟨%d14, %h14, H14⟩, ⟨%d15, -, HS0⟩⟩
  isplitl [HS0 Hg]
  · isplitl [HS0]; · iexists d15; iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iexists d8
    isplitr
    · ipureintro; exact fun r R hR C => (h8 r C).trans (congrArg (fun v => Ideal.fptosi 8 (rowCode v C)) ((blk_all m c t).h r R hR))
    iexact H8
  isplitl [H9]
  · iexists d9
    isplitr
    · ipureintro; exact sca_step h9 (fun r R hR => congrArg rowScale ((blk_all m c t).h r R hR)) (fun h => found9 m c t h x9 f9)
    iexact H9
  isplitl [H10]
  · iexists d10
    isplitr
    · ipureintro; exact fun r R hR C => (h10 r C).trans ((blk_all m c t).q r R hR C)
    iexact H10
  isplitl [H11]
  · iexists d11
    isplitr
    · ipureintro; exact fun r R hR C => (h11 r C).trans (congrArg (fun v => Ideal.fptosi 8 (headCode v C)) ((blk_all m c t).k r R hR))
    iexact H11
  isplitl [H12]
  · iexists d12
    isplitr
    · ipureintro; exact sca_step h12 (fun r R hR => congrArg headScale ((blk_all m c t).k r R hR)) (fun h => found12 m c t h x12 f12)
    iexact H12
  isplitl [H13]
  · iexists d13
    isplitr
    · ipureintro; exact fun r R hR C => (h13 r C).trans (congrArg (fun v => Ideal.fptosi 8 (headCode v C)) ((blk_all m c t).v r R hR))
    iexact H13
  iexists d14
  isplitr
  · ipureintro; exact sca_step h14 (fun r R hR => congrArg headScale ((blk_all m c t).v r R hR)) (fun h => found14 m c t h x14 f14)
  iexact H14

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : Pipeline.BodyObligationRel (dats m 0 c) (defs₀ (F := Ideal)) Variants.none () Set.univ outs0 (Rl m c) := fun t => by
  rw [bigSep_W0, bigSep_W0, defs₀_row]
  exact triple_restated (sound_body m c t) rfl .rfl fun _ => .rfl

/-! ## The run, the frame and the results -/

set_option backward.isDefEq.respectTransparency.types false in
theorem run_main_quiescent : θ_run defs (onTc (τ := τ) (main (F := Ideal))) (s₀ m ρ) (fun r => (Pipeline.RDat.FramePost (cfgs 0) (fun c => rdats m c) (V m)) r ∧ r.2.sem = fun _ => 0) :=
  Pipeline.RDat.θ_run_frame_track (Q' := _) cfgs (0 : Fin 1) launch0 defs₀ Variants.none (fun c => rdats m c) m ρ main
    (hbody := fun c => (body_obligation m c).toRRel) (hshare := fun c => (dats m 0 c).share_full fun _ => rfl)
    (howed := fun _ _ => rfl) (V := V m) (hmain := hmain m Variants.none) (hA := A_eq m) (hin := fun _ => .rfl) (hout := fun _ => .rfl)

/-- The argument arrays end unchanged and the semaphore counters at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ hh => ⟨fun c => have h := hh.1; ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      (Pipeline.RDat.FramePost.arr_in (cfg₁ := cfg0) h c (5 : Fin 15) rfl).trans ((A_eq m c 5).trans (V_main_arg5 m c)),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩, hh.2⟩) (run_main_quiescent m ρ)

/-- The result arrays, in closed form. -/
def arr8 (c : Dev nD) : Vec Ideal S1792x3072 .i8 := fun i => ((fun (R : Fin 1792) (C : Fin 3072) => Ideal.fptosi 8 (rowCode ((ins m c).h R) C)) (i 0) (i 1))
def arr9 (c : Dev nD) : Vec Ideal S2x896 .f32 := fun i => (fun R : Fin 1792 => rowScale ((ins m c).h R)) ⟨896 * (i 0).val + (i 1).val, by have := (i 0).isLt; have := (i 1).isLt; change (i 0).val < 2 at *; change (i 1).val < 896 at *; omega⟩
def arr10 (c : Dev nD) : Vec Ideal S1792x1536 .bf16 := fun i => ((fun (R : Fin 1792) (C : Fin 1536) => (ins m c).q R C) (i 0) (i 1))
def arr11 (c : Dev nD) : Vec Ideal S1792x128 .i8 := fun i => ((fun (R : Fin 1792) (C : Fin 128) => Ideal.fptosi 8 (headCode ((ins m c).k R) C)) (i 0) (i 1))
def arr12 (c : Dev nD) : Vec Ideal S2x896 .f32 := fun i => (fun R : Fin 1792 => headScale ((ins m c).k R)) ⟨896 * (i 0).val + (i 1).val, by have := (i 0).isLt; have := (i 1).isLt; change (i 0).val < 2 at *; change (i 1).val < 896 at *; omega⟩
def arr13 (c : Dev nD) : Vec Ideal S1792x128 .i8 := fun i => ((fun (R : Fin 1792) (C : Fin 128) => Ideal.fptosi 8 (headCode ((ins m c).v R) C)) (i 0) (i 1))
def arr14 (c : Dev nD) : Vec Ideal S2x896 .f32 := fun i => (fun R : Fin 1792 => headScale ((ins m c).v R)) ⟨896 * (i 0).val + (i 1).val, by have := (i 0).isLt; have := (i 1).isLt; change (i 0).val < 2 at *; change (i 1).val < 896 at *; omega⟩

theorem ix2_self {a b : ℕ} (y : Shape.Idx ⟨2, ![a, b]⟩) : y = ix2 (y 0) (y 1) := by
  funext k; match k with
  | ⟨0, _⟩ => rfl
  | ⟨1, _⟩ => rfl

section
variable {m}
variable {after : (w : Fin cfg0.W) → Fin cfg0.N → (cfg0.win w).block.Idx → Elt Ideal (cfg0.win w).elt}

theorem lt4 (t : Fin cfg0.N) : t.val < 4 := lt_of_lt_of_eq t.isLt (show cfg0.N = 4 from N_0)

theorem final8 (c : Dev nD) (hL : ∀ u, (cfg0.win (8 : Fin 15)).flush u = true → CodP (ins m c) u.val (after (8 : Fin 15) u)) :
    ((rdats m c).withAfter after).arrAt (8 : Fin 15) cfg0.N = arr8 m c := by
  refine Pipeline.Dat.arrAt_eq_of_covers (cfg := cfg0) ((rdats m c).withAfter after) (8 : Fin 15) _ (by decide +kernel) fun t hf y => ?_
  have hN := lt4 t
  have e := hL t hf
  blk_simp
  unfold arr8
  have e0 : (((win0_8.blk t).view.emb y 0 : Fin 1792)).val = 448 * t.val + (y 0 : Fin 448).val := by blk_simp [at8]; try omega
  have e1 : ((win0_8.blk t).view.emb y 1 : Fin 3072) = (y 1 : Fin 3072) := Fin.ext (by blk_simp [at8]; try omega)
  refine (congrArg (after (8 : Fin 15) t) (ix2_self (a := 448) (b := 3072) y)).trans ((e (y 0) _ e0 (y 1)).trans ?_)
  exact congrArg (fun C : Fin 3072 => (fun (R : Fin 1792) (C : Fin 3072) => Ideal.fptosi 8 (rowCode ((ins m c).h R) C)) _ C) e1.symm

theorem final9 (c : Dev nD) (hL : ∀ u, (cfg0.win (9 : Fin 15)).flush u = true → ScaP (ins m c) u.val (after (9 : Fin 15) u)) :
    ((rdats m c).withAfter after).arrAt (9 : Fin 15) cfg0.N = arr9 m c := by
  refine Pipeline.Dat.arrAt_eq_of_covers (cfg := cfg0) ((rdats m c).withAfter after) (9 : Fin 15) _ (by decide +kernel) fun t hf y => ?_
  have hN := lt4 t
  have ht := (flush0_9 t).mp hf
  have e := hL t hf
  blk_simp
  unfold arr9
  have e0 : (((win0_9.blk t).view.emb y 0 : Fin 2)).val = (y 0 : Fin 2).val := by blk_simp [at9]; try omega
  have e1 : (((win0_9.blk t).view.emb y 1 : Fin 896)).val = (y 1 : Fin 896).val := by blk_simp [at9]; try omega
  have l0 : (y 0 : Fin 2).val < 2 := (y 0 : Fin 2).isLt
  have l1 : (y 1 : Fin 896).val < 896 := (y 1 : Fin 896).isLt
  refine (congrArg (after (9 : Fin 15) t) (ix2_self (a := 2) (b := 896) y)).trans (e (y 0) (y 1) _ ?_ ?_)
  · dsimp only; rw [e0, e1]
  · dsimp only; rw [e0, e1]; omega

theorem final10 (c : Dev nD) (hL : ∀ u, (cfg0.win (10 : Fin 15)).flush u = true → QueP (ins m c) u.val (after (10 : Fin 15) u)) :
    ((rdats m c).withAfter after).arrAt (10 : Fin 15) cfg0.N = arr10 m c := by
  refine Pipeline.Dat.arrAt_eq_of_covers (cfg := cfg0) ((rdats m c).withAfter after) (10 : Fin 15) _ (by decide +kernel) fun t hf y => ?_
  have hN := lt4 t
  have e := hL t hf
  blk_simp
  unfold arr10
  have e0 : (((win0_10.blk t).view.emb y 0 : Fin 1792)).val = 448 * t.val + (y 0 : Fin 448).val := by blk_simp [at10]; try omega
  have e1 : ((win0_10.blk t).view.emb y 1 : Fin 1536) = (y 1 : Fin 1536) := Fin.ext (by blk_simp [at10]; try omega)
  refine (congrArg (after (10 : Fin 15) t) (ix2_self (a := 448) (b := 1536) y)).trans ((e (y 0) _ e0 (y 1)).trans ?_)
  exact congrArg (fun C : Fin 1536 => (fun (R : Fin 1792) (C : Fin 1536) => (ins m c).q R C) _ C) e1.symm

theorem final11 (c : Dev nD) (hL : ∀ u, (cfg0.win (11 : Fin 15)).flush u = true → KeyP (ins m c) u.val (after (11 : Fin 15) u)) :
    ((rdats m c).withAfter after).arrAt (11 : Fin 15) cfg0.N = arr11 m c := by
  refine Pipeline.Dat.arrAt_eq_of_covers (cfg := cfg0) ((rdats m c).withAfter after) (11 : Fin 15) _ (by decide +kernel) fun t hf y => ?_
  have hN := lt4 t
  have e := hL t hf
  blk_simp
  unfold arr11
  have e0 : (((win0_11.blk t).view.emb y 0 : Fin 1792)).val = 448 * t.val + (y 0 : Fin 448).val := by blk_simp [at11]; try omega
  have e1 : ((win0_11.blk t).view.emb y 1 : Fin 128) = (y 1 : Fin 128) := Fin.ext (by blk_simp [at11]; try omega)
  refine (congrArg (after (11 : Fin 15) t) (ix2_self (a := 448) (b := 128) y)).trans ((e (y 0) _ e0 (y 1)).trans ?_)
  exact congrArg (fun C : Fin 128 => (fun (R : Fin 1792) (C : Fin 128) => Ideal.fptosi 8 (headCode ((ins m c).k R) C)) _ C) e1.symm

theorem final12 (c : Dev nD) (hL : ∀ u, (cfg0.win (12 : Fin 15)).flush u = true → KscP (ins m c) u.val (after (12 : Fin 15) u)) :
    ((rdats m c).withAfter after).arrAt (12 : Fin 15) cfg0.N = arr12 m c := by
  refine Pipeline.Dat.arrAt_eq_of_covers (cfg := cfg0) ((rdats m c).withAfter after) (12 : Fin 15) _ (by decide +kernel) fun t hf y => ?_
  have hN := lt4 t
  have ht := (flush0_12 t).mp hf
  have e := hL t hf
  blk_simp
  unfold arr12
  have e0 : (((win0_12.blk t).view.emb y 0 : Fin 2)).val = (y 0 : Fin 2).val := by blk_simp [at12]; try omega
  have e1 : (((win0_12.blk t).view.emb y 1 : Fin 896)).val = (y 1 : Fin 896).val := by blk_simp [at12]; try omega
  have l0 : (y 0 : Fin 2).val < 2 := (y 0 : Fin 2).isLt
  have l1 : (y 1 : Fin 896).val < 896 := (y 1 : Fin 896).isLt
  refine (congrArg (after (12 : Fin 15) t) (ix2_self (a := 2) (b := 896) y)).trans (e (y 0) (y 1) _ ?_ ?_)
  · dsimp only; rw [e0, e1]
  · dsimp only; rw [e0, e1]; omega

theorem final13 (c : Dev nD) (hL : ∀ u, (cfg0.win (13 : Fin 15)).flush u = true → ValP (ins m c) u.val (after (13 : Fin 15) u)) :
    ((rdats m c).withAfter after).arrAt (13 : Fin 15) cfg0.N = arr13 m c := by
  refine Pipeline.Dat.arrAt_eq_of_covers (cfg := cfg0) ((rdats m c).withAfter after) (13 : Fin 15) _ (by decide +kernel) fun t hf y => ?_
  have hN := lt4 t
  have e := hL t hf
  blk_simp
  unfold arr13
  have e0 : (((win0_13.blk t).view.emb y 0 : Fin 1792)).val = 448 * t.val + (y 0 : Fin 448).val := by blk_simp [at13]; try omega
  have e1 : ((win0_13.blk t).view.emb y 1 : Fin 128) = (y 1 : Fin 128) := Fin.ext (by blk_simp [at13]; try omega)
  refine (congrArg (after (13 : Fin 15) t) (ix2_self (a := 448) (b := 128) y)).trans ((e (y 0) _ e0 (y 1)).trans ?_)
  exact congrArg (fun C : Fin 128 => (fun (R : Fin 1792) (C : Fin 128) => Ideal.fptosi 8 (headCode ((ins m c).v R) C)) _ C) e1.symm

theorem final14 (c : Dev nD) (hL : ∀ u, (cfg0.win (14 : Fin 15)).flush u = true → VscP (ins m c) u.val (after (14 : Fin 15) u)) :
    ((rdats m c).withAfter after).arrAt (14 : Fin 15) cfg0.N = arr14 m c := by
  refine Pipeline.Dat.arrAt_eq_of_covers (cfg := cfg0) ((rdats m c).withAfter after) (14 : Fin 15) _ (by decide +kernel) fun t hf y => ?_
  have hN := lt4 t
  have ht := (flush0_14 t).mp hf
  have e := hL t hf
  blk_simp
  unfold arr14
  have e0 : (((win0_14.blk t).view.emb y 0 : Fin 2)).val = (y 0 : Fin 2).val := by blk_simp [at14]; try omega
  have e1 : (((win0_14.blk t).view.emb y 1 : Fin 896)).val = (y 1 : Fin 896).val := by blk_simp [at14]; try omega
  have l0 : (y 0 : Fin 2).val < 2 := (y 0 : Fin 2).isLt
  have l1 : (y 1 : Fin 896).val < 896 := (y 1 : Fin 896).isLt
  refine (congrArg (after (14 : Fin 15) t) (ix2_self (a := 2) (b := 896) y)).trans (e (y 0) (y 1) _ ?_ ?_)
  · dsimp only; rw [e0, e1]
  · dsimp only; rw [e0, e1]; omega

end

/-- Every run ends with the result arrays at their closed forms. -/
theorem post_eq {r : PUnit × MemSt nD τ sig (Elt Ideal)} (h : Pipeline.RDat.FramePost (cfgs 0) (fun c => rdats m c) (V m) r) (c : Dev nD) :
    r.2.mem ((cfg0.spec (8 : Fin 15)).arr.view.loc (c.tc : Thread nD τ)) = arr8 m c
    ∧ r.2.mem ((cfg0.spec (9 : Fin 15)).arr.view.loc (c.tc : Thread nD τ)) = arr9 m c
    ∧ r.2.mem ((cfg0.spec (10 : Fin 15)).arr.view.loc (c.tc : Thread nD τ)) = arr10 m c
    ∧ r.2.mem ((cfg0.spec (11 : Fin 15)).arr.view.loc (c.tc : Thread nD τ)) = arr11 m c
    ∧ r.2.mem ((cfg0.spec (12 : Fin 15)).arr.view.loc (c.tc : Thread nD τ)) = arr12 m c
    ∧ r.2.mem ((cfg0.spec (13 : Fin 15)).arr.view.loc (c.tc : Thread nD τ)) = arr13 m c
    ∧ r.2.mem ((cfg0.spec (14 : Fin 15)).arr.view.loc (c.tc : Thread nD τ)) = arr14 m c := by
  obtain ⟨after, hL, hA⟩ := Pipeline.RDat.FramePost.exists_exact (cfg₁ := cfg0) h c
  exact ⟨(hA (8 : Fin 15)).trans (final8 c fun u hf => (dats m 0 c).toRRel_leaves (fgt := outs0) (Rl := Rl m c) (w := (8 : Fin 15)) rfl (hL _ u hf)),
    (hA (9 : Fin 15)).trans (final9 c fun u hf => (dats m 0 c).toRRel_leaves (fgt := outs0) (Rl := Rl m c) (w := (9 : Fin 15)) rfl (hL _ u hf)),
    (hA (10 : Fin 15)).trans (final10 c fun u hf => (dats m 0 c).toRRel_leaves (fgt := outs0) (Rl := Rl m c) (w := (10 : Fin 15)) rfl (hL _ u hf)),
    (hA (11 : Fin 15)).trans (final11 c fun u hf => (dats m 0 c).toRRel_leaves (fgt := outs0) (Rl := Rl m c) (w := (11 : Fin 15)) rfl (hL _ u hf)),
    (hA (12 : Fin 15)).trans (final12 c fun u hf => (dats m 0 c).toRRel_leaves (fgt := outs0) (Rl := Rl m c) (w := (12 : Fin 15)) rfl (hL _ u hf)),
    (hA (13 : Fin 15)).trans (final13 c fun u hf => (dats m 0 c).toRRel_leaves (fgt := outs0) (Rl := Rl m c) (w := (13 : Fin 15)) rfl (hL _ u hf)),
    (hA (14 : Fin 15)).trans (final14 c fun u hf => (dats m 0 c).toRRel_leaves (fgt := outs0) (Rl := Rl m c) (w := (14 : Fin 15)) rfl (hL _ u hf))⟩

/-- The kernel's runs: the results in closed form, the arguments unchanged. -/
theorem run_values : θ_run defs (onTc (τ := τ) (main (F := Ideal))) ⟨m, fun _ => 0, ρ⟩ (fun r => ∀ c : Dev nD,
    r.2.mem ((c.tc : Thread nD τ).loc main_v7_0) = arr8 m c
    ∧ r.2.mem ((c.tc : Thread nD τ).loc main_v7_1) = arr9 m c
    ∧ r.2.mem ((c.tc : Thread nD τ).loc main_v7_2) = arr10 m c
    ∧ r.2.mem ((c.tc : Thread nD τ).loc main_v7_3) = arr11 m c
    ∧ r.2.mem ((c.tc : Thread nD τ).loc main_v7_4) = arr12 m c
    ∧ r.2.mem ((c.tc : Thread nD τ).loc main_v7_5) = arr13 m c
    ∧ r.2.mem ((c.tc : Thread nD τ).loc main_v7_6) = arr14 m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)) :=
  (θ_run defs _ _).mono (fun _ hh c => have h := hh.1; ⟨(post_eq m h c).1, (post_eq m h c).2.1, (post_eq m h c).2.2.1, (post_eq m h c).2.2.2.1, (post_eq m h c).2.2.2.2.1, (post_eq m h c).2.2.2.2.2.1, (post_eq m h c).2.2.2.2.2.2, ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      (Pipeline.RDat.FramePost.arr_in (cfg₁ := cfg0) h c (5 : Fin 15) rfl).trans ((A_eq m c 5).trans (V_main_arg5 m c)),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩) (run_main_quiescent m ρ)

end Cert.QkvIdeal.Hand

end
-- ==== Proof.QkvRefPay.lean ====
/-
  What the reference of the call of the queries, keys and values computes at an index, over the extended reals.
-/
module

public import proofs.«01_k».proof.Proof.QkvPay
public import proofs.«01_k».proof.Proof.MlpRefPay
public import Idealize.ShloMosaic.Lib.Pipeline.Value
public import proofs.«01_k».proof.Proof.Gen.QkvReferenceIdeal.Skeleton

@[expose] public section

set_option maxRecDepth 16384

noncomputable section

namespace Cert.QkvReferenceIdeal.Hand

open Cert.QkvReferenceIdeal Cert.QkvReferenceIdeal.Gen Cert.Mlp Cert.Ln Cert.Rot
open Cert.ReferenceIdeal.Hand (wordE word_127 word_neg127)
open Idealize.ShloMosaic Idealize.ShloMosaic.Pointwise

/-! The layer norm of the rows, their scales and codes. -/

theorem cent_of (x : FVec Ideal S1792x3072 .f32) (r : Fin 1792) (C : Fin 3072) :
    subf x (broadcastTo S1792x3072 (divf (shapeCast S1792x1 (multiReduction .add [1] S1792 x 0x00000000#32 reduces_S1792x3072_S1792 (.inl rfl) rfl) shapeCasts_S1792_S1792x1)
      (broadcast S1792x1 (Scalar.ofBits (F := Ideal) .f32 0x45400000#32))) broadcasts_S1792x1_S1792x3072) (ix2 r C) = cent (fun C => x (ix2 r C)) C := by
  pointwise [cent]
theorem gain_of (u : FVec Ideal S1792x3072 .f32) (g : FVec Ideal S3072 .f32) (r : Fin 1792) (C : Fin 3072) :
    mulf (mulf u (broadcastTo S1792x3072 (rsqrt (addf (divf (shapeCast S1792x1 (multiReduction .add [1] S1792 (mulf u u) 0x00000000#32 reduces_S1792x3072_S1792 (.inl rfl) rfl) shapeCasts_S1792_S1792x1)
      (broadcast S1792x1 (Scalar.ofBits (F := Ideal) .f32 0x45400000#32))) (broadcast S1792x1 (Scalar.ofBits (F := Ideal) .f32 0x3727C5AC#32)))) broadcasts_S1792x1_S1792x3072))
      (broadcastTo S1792x3072 (shapeCast S1x3072 g shapeCasts_S3072_S1x3072) broadcasts_S1x3072_S1792x3072) (ix2 r C)
      = u (ix2 r C) * Ideal.rsqrt (Ideal.div (∑ k, u (ix2 r k) * u (ix2 r k)) (Ideal.ofBits .f32 0x45400000#32) + Ideal.ofBits .f32 0x3727C5AC#32) * g (ix1 C) := by
  pointwise []

theorem gain_cent (u : FVec Ideal S1792x3072 .f32) (g : FVec Ideal S3072 .f32) (V : Fin 3072 → EReal) (r : Fin 1792) (C : Fin 3072) (hu : ∀ k, u (ix2 r k) = cent V k) :
    mulf (mulf u (broadcastTo S1792x3072 (rsqrt (addf (divf (shapeCast S1792x1 (multiReduction .add [1] S1792 (mulf u u) 0x00000000#32 reduces_S1792x3072_S1792 (.inl rfl) rfl) shapeCasts_S1792_S1792x1)
      (broadcast S1792x1 (Scalar.ofBits (F := Ideal) .f32 0x45400000#32))) (broadcast S1792x1 (Scalar.ofBits (F := Ideal) .f32 0x3727C5AC#32)))) broadcasts_S1792x1_S1792x3072))
      (broadcastTo S1792x3072 (shapeCast S1x3072 g shapeCasts_S3072_S1x3072) broadcasts_S1x3072_S1792x3072) (ix2 r C)
      = cent V C * Ideal.rsqrt (Ideal.div (∑ k, cent V k * cent V k) (Ideal.ofBits .f32 0x45400000#32) + Ideal.ofBits .f32 0x3727C5AC#32) * g (ix1 C) :=
  (gain_of u g r C).trans <| by simp only [hu]

/-- The largest of a row. -/
theorem top_of (g : FVec Ideal S1792x3072 .f32) (r : Fin 1792) :
    multiReduction .maximumf [1] S1792 g 0xFF800000#32 reduces_S1792x3072_S1792 (.inl rfl) rfl (ix1 r)
      = Finset.univ.fold max (Ideal.ofBits .f32 0xFF800000#32) fun C => g (ix2 r C) := by
  pointwise []
theorem abs_of (g : FVec Ideal S1792x3072 .f32) (r : Fin 1792) (q : Fin 3072) : absf g (ix2 r q) = mag (g (ix2 r q)) := by
  pointwise [mag, FloatOps.absf]
/-- A row scale, of the row's largest magnitude. -/
theorem scale_of (t : FVec Ideal S1792 .f32) (r : Fin 1792) :
    select (cmpf .ogt t (broadcast S1792 (Scalar.ofBits (F := Ideal) .f32 0x00000000#32)))
      (divf t (broadcast S1792 (Scalar.ofBits (F := Ideal) .f32 0x42FE0000#32)))
      (broadcast S1792 (Scalar.ofBits (F := Ideal) .f32 0x3F800000#32)) (ix1 r) = qscale (t (ix1 r)) := by
  pointwise [qscale]
/-- Values over a row scale, rounded and clipped. -/
theorem code_of (g : FVec Ideal S1792x3072 .f32) (s : FVec Ideal S1792 .f32) (r : Fin 1792) (q : Fin 3072) :
    minimumf (broadcast S1792x3072 (Scalar.sitofp (F := Ideal) .f32 127#32)) (maximumf (broadcast S1792x3072 (Scalar.sitofp (F := Ideal) .f32 4294967169#32))
      (roundeven (divf g (broadcastTo S1792x3072 (shapeCast S1792x1 s shapeCasts_S1792_S1792x1) broadcasts_S1792x1_S1792x3072)))) (ix2 r q)
      = rclip (Ideal.div (g (ix2 r q)) (s (ix1 r))) := by
  have e : minimumf (broadcast S1792x3072 (Scalar.sitofp (F := Ideal) .f32 127#32)) (maximumf (broadcast S1792x3072 (Scalar.sitofp (F := Ideal) .f32 4294967169#32))
      (roundeven (divf g (broadcastTo S1792x3072 (shapeCast S1792x1 s shapeCasts_S1792_S1792x1) broadcasts_S1792x1_S1792x3072)))) (ix2 r q)
      = min (wordE (127#32)) (max (wordE (4294967169#32)) (Ideal.liftRound Ideal.roundHalfEven (Ideal.div (g (ix2 r q)) (s (ix1 r))))) := by
    pointwise [wordE, FloatOps.sitofp]
  rw [e, word_127, word_neg127, rclip]

theorem bias_of (y : FVec Ideal S1792x3072 .f32) (e : FVec Ideal S3072 .f32) (r : Fin 1792) (q : Fin 3072) :
    addf y (broadcastTo S1792x3072 (shapeCast S1x3072 e shapeCasts_S3072_S1x3072) broadcasts_S1x3072_S1792x3072) (ix2 r q) = y (ix2 r q) + e (ix1 q) := by
  pointwise []
theorem wide_of (x : Vec Ideal S1792x3072 .bf16) (r : Fin 1792) (q : Fin 3072) :
    extf (F := Ideal) .f32 (shapeCast S1792x3072 x shapeCasts_S1792x3072_S1792x3072) bitsLt_bf16_f32 (ix2 r q) = x (ix2 r q) := by
  pointwise []

section
variable (x : Vec Ideal S1792x3072 .bf16) (g e : Vec Ideal S3072 .f32)

/-- The normalised row. -/
def rRow (r : Fin 1792) : Fin 3072 → EReal := lnorm (fun C => g (ix1 C)) (fun C => e (ix1 C)) (fun C => x (ix2 r C))

theorem pay1_at (r : Fin 1792) (q : Fin 3072) : k0_pay1 (F := Ideal) x g e (ix2 r q) = rRow x g e r q := by
  refine (bias_of _ e r q).trans ?_
  unfold rRow lnorm
  refine congrArg (· + e (ix1 q)) ?_
  refine (gain_cent _ g (fun C => x (ix2 r C)) r q fun k => (cent_of _ r k).trans ?_).trans rfl
  exact congrArg (fun V => cent V k) (funext fun C => wide_of x r C)

theorem pay2_at (r : Fin 1792) : k0_pay2 (F := Ideal) x g e (ix1 r) = rowScale (rRow x g e r) :=
  (scale_of _ r).trans <| congrArg qscale <| (top_of _ r).trans <| by simp only [abs_of, pay1_at]
theorem pay3_at (r : Fin 1792) (q : Fin 3072) : k0_pay3 (F := Ideal) x g e (ix2 r q) = rowCode (rRow x g e r) q :=
  (code_of (k0_pay1 (F := Ideal) x g e) (k0_pay2 (F := Ideal) x g e) r q).trans <| by rw [pay2_at, pay1_at]; rfl
end

theorem pay4_at (y : FVec Ideal S1792x3072 .f32) (r : Fin 1792) (q : Fin 3072) : k0_pay4 (F := Ideal) y (ix2 r q) = Ideal.fptosi 8 (y (ix2 r q)) := by
  pointwise [k0_pay4, FloatOps.fptosi]
theorem pay5_at (v : FVec Ideal S1792 .f32) (y : FVec Ideal S1792x3072 .f32) (w : Vec Ideal S3072x1792 .i8) (s b : Vec Ideal S1792 .f32) (r q : Fin 1792) :
    k0_pay5 (F := Ideal) v y w s b (ix2 r q)
      = lin (fun k => toE (k0_pay4 (F := Ideal) y (ix2 r k))) (fun k => toE (w (ix2 k q))) (v (ix1 r)) (s (ix1 q)) (b (ix1 q)) := by
  pointwise [k0_pay5, lin, toE, FloatOps.sitofp]
theorem by_seq (t : FVec Ideal S1792 .f32) (i : Fin 2) (j : Fin 896) : shapeCast S2x896 t shapeCasts_S1792_S2x896 (ix2 i j) = t (ix1 ⟨i.val * 896 + j.val, by omega⟩) := by
  pointwise []
theorem seq_at (t : FVec Ideal S1792 .f32) (i : Fin 2) (j : Fin 896) (R : Fin 1792) (hR : R.val = 896 * i.val + j.val) :
    shapeCast S2x896 t shapeCasts_S1792_S2x896 (ix2 i j) = t (ix1 R) := by
  have e : (⟨i.val * 896 + j.val, by omega⟩ : Fin 1792) = R := Fin.ext (by dsimp only; omega)
  rw [by_seq, e]

/-! The turned heads. -/

theorem pay6_at (c : Vec Ideal S1792x64 .f32) (r : Fin 1792) (j : Fin 64) : k0_pay6 (F := Ideal) c (ix2 r j) = c (ix2 r j) := by
  pointwise [k0_pay6]
theorem pay7_at (c : Vec Ideal S1792x64 .f32) (r : Fin 1792) (j : Fin 64) : k0_pay7 (F := Ideal) c (ix2 r j) = c (ix2 r j) := by
  pointwise [k0_pay7]
theorem first_at (y : FVec Ideal S1792x128 .f32) (r : Fin 1792) (j : Fin 64) :
    extractStridedSlice S1792x64 ![0, 0] y slices_S1792x128_o0_0_S1792x64 (ix2 r j) = y (ix2 r ⟨j.val, by omega⟩) := by
  pointwise []
theorem second_at (y : FVec Ideal S1792x128 .f32) (r : Fin 1792) (j : Fin 64) :
    extractStridedSlice S1792x64 ![0, 64] y slices_S1792x128_o0_64_S1792x64 (ix2 r j) = y (ix2 r ⟨64 + j.val, by omega⟩) := by
  pointwise []

/-- A head turned, half by half. -/
def turn (c s : FVec Ideal S1792x64 .f32) (y : FVec Ideal S1792x128 .f32) : FVec Ideal S1792x128 .f32 :=
  concatenate S1792x128 1
    [⟨S1792x64, subf (mulf (extractStridedSlice S1792x64 ![0, 0] y slices_S1792x128_o0_0_S1792x64) c) (mulf (extractStridedSlice S1792x64 ![0, 64] y slices_S1792x128_o0_64_S1792x64) s)⟩,
     ⟨S1792x64, addf (mulf (extractStridedSlice S1792x64 ![0, 64] y slices_S1792x128_o0_64_S1792x64) c) (mulf (extractStridedSlice S1792x64 ![0, 0] y slices_S1792x128_o0_0_S1792x64) s)⟩]
    concatenates_S1792x64_S1792x64_S1792x128_d1

theorem off_axis {p q B : ℕ} (r : Fin p) (j : Fin q) (C : Fin B) (b : Fin 2) (hb : b ≠ 1) : (ix2 r j b).val = (ix2 r C b).val := by
  match b with
  | ⟨0, _⟩ => rfl
  | ⟨1, _⟩ => exact absurd rfl hb

theorem halves_at (p q : FVec Ideal S1792x64 .f32) (r : Fin 1792) (j : Fin 128) :
    concatenate S1792x128 1 [⟨S1792x64, p⟩, ⟨S1792x64, q⟩] concatenates_S1792x64_S1792x64_S1792x128_d1 (ix2 r j)
      = if j.val < 64 then p (ix2 r (lo j)) else q (ix2 r (lo j)) := by
  by_cases h : j.val < 64
  · rw [if_pos h]
    exact concatenate_apply_piece (α := Ideal .f32) (t := S1792x128) (1 : Fin 2) [⟨S1792x64, p⟩, ⟨S1792x64, q⟩] concatenates_S1792x64_S1792x64_S1792x128_d1 (ix2 r j) 0 (by simp) S1792x64 p rfl rfl 0 rfl
      (ix2 r (lo j)) (off_axis r _ j) (by show 0 + j.val % 64 = j.val; omega)
  · rw [if_neg h]
    exact concatenate_apply_piece (α := Ideal .f32) (t := S1792x128) (1 : Fin 2) [⟨S1792x64, p⟩, ⟨S1792x64, q⟩] concatenates_S1792x64_S1792x64_S1792x128_d1 (ix2 r j) 1 (by simp) S1792x64 q rfl rfl 64 rfl
      (ix2 r (lo j)) (off_axis r _ j) (by show 64 + j.val % 64 = j.val; omega)

theorem sub_mul_at (a b c d : FVec Ideal S1792x64 .f32) (i) : subf (mulf a b) (mulf c d) i = a i * b i - c i * d i := rfl
theorem add_mul_at (a b c d : FVec Ideal S1792x64 .f32) (i) : addf (mulf a b) (mulf c d) i = a i * b i + c i * d i := rfl

theorem turn_at (c s : FVec Ideal S1792x64 .f32) (y : FVec Ideal S1792x128 .f32) (r : Fin 1792) (j : Fin 128) :
    turn c s y (ix2 r j) = rot (fun k => c (ix2 r k)) (fun k => s (ix2 r k)) (fun k => y (ix2 r k)) j := by
  unfold turn rot
  rw [halves_at]
  by_cases h : j.val < 64
  · rw [if_pos h, if_pos h, sub_mul_at, first_at, second_at]
    have e1 : (⟨(lo j).val, by omega⟩ : Fin 128) = j := Fin.ext (by show j.val % 64 = j.val; omega)
    have e2 : (⟨64 + (lo j).val, by omega⟩ : Fin 128) = sw j := Fin.ext (by show 64 + j.val % 64 = (j.val + 64) % 128; omega)
    rw [e1, e2]
  · rw [if_neg h, if_neg h, add_mul_at, first_at, second_at]
    have e1 : (⟨(lo j).val, by omega⟩ : Fin 128) = sw j := Fin.ext (by show j.val % 64 = (j.val + 64) % 128; omega)
    have e2 : (⟨64 + (lo j).val, by omega⟩ : Fin 128) = j := Fin.ext (by show 64 + j.val % 64 = j.val; omega)
    rw [e1, e2]

theorem sl0_at (y : FVec Ideal S1792x1792 .f32) (r : Fin 1792) (q : Fin 128) :
    extractStridedSlice S1792x128 ![0, 0] y slices_S1792x1792_o0_0_S1792x128 (ix2 r q) = y (ix2 r ⟨0 + q.val, by omega⟩) := by
  pointwise []
theorem sl128_at (y : FVec Ideal S1792x1792 .f32) (r : Fin 1792) (q : Fin 128) :
    extractStridedSlice S1792x128 ![0, 128] y slices_S1792x1792_o0_128_S1792x128 (ix2 r q) = y (ix2 r ⟨128 + q.val, by omega⟩) := by
  pointwise []
theorem sl256_at (y : FVec Ideal S1792x1792 .f32) (r : Fin 1792) (q : Fin 128) :
    extractStridedSlice S1792x128 ![0, 256] y slices_S1792x1792_o0_256_S1792x128 (ix2 r q) = y (ix2 r ⟨256 + q.val, by omega⟩) := by
  pointwise []
theorem sl384_at (y : FVec Ideal S1792x1792 .f32) (r : Fin 1792) (q : Fin 128) :
    extractStridedSlice S1792x128 ![0, 384] y slices_S1792x1792_o0_384_S1792x128 (ix2 r q) = y (ix2 r ⟨384 + q.val, by omega⟩) := by
  pointwise []
theorem sl512_at (y : FVec Ideal S1792x1792 .f32) (r : Fin 1792) (q : Fin 128) :
    extractStridedSlice S1792x128 ![0, 512] y slices_S1792x1792_o0_512_S1792x128 (ix2 r q) = y (ix2 r ⟨512 + q.val, by omega⟩) := by
  pointwise []
theorem sl640_at (y : FVec Ideal S1792x1792 .f32) (r : Fin 1792) (q : Fin 128) :
    extractStridedSlice S1792x128 ![0, 640] y slices_S1792x1792_o0_640_S1792x128 (ix2 r q) = y (ix2 r ⟨640 + q.val, by omega⟩) := by
  pointwise []
theorem sl768_at (y : FVec Ideal S1792x1792 .f32) (r : Fin 1792) (q : Fin 128) :
    extractStridedSlice S1792x128 ![0, 768] y slices_S1792x1792_o0_768_S1792x128 (ix2 r q) = y (ix2 r ⟨768 + q.val, by omega⟩) := by
  pointwise []
theorem sl896_at (y : FVec Ideal S1792x1792 .f32) (r : Fin 1792) (q : Fin 128) :
    extractStridedSlice S1792x128 ![0, 896] y slices_S1792x1792_o0_896_S1792x128 (ix2 r q) = y (ix2 r ⟨896 + q.val, by omega⟩) := by
  pointwise []
theorem sl1024_at (y : FVec Ideal S1792x1792 .f32) (r : Fin 1792) (q : Fin 128) :
    extractStridedSlice S1792x128 ![0, 1024] y slices_S1792x1792_o0_1024_S1792x128 (ix2 r q) = y (ix2 r ⟨1024 + q.val, by omega⟩) := by
  pointwise []
theorem sl1152_at (y : FVec Ideal S1792x1792 .f32) (r : Fin 1792) (q : Fin 128) :
    extractStridedSlice S1792x128 ![0, 1152] y slices_S1792x1792_o0_1152_S1792x128 (ix2 r q) = y (ix2 r ⟨1152 + q.val, by omega⟩) := by
  pointwise []
theorem sl1280_at (y : FVec Ideal S1792x1792 .f32) (r : Fin 1792) (q : Fin 128) :
    extractStridedSlice S1792x128 ![0, 1280] y slices_S1792x1792_o0_1280_S1792x128 (ix2 r q) = y (ix2 r ⟨1280 + q.val, by omega⟩) := by
  pointwise []
theorem sl1408_at (y : FVec Ideal S1792x1792 .f32) (r : Fin 1792) (q : Fin 128) :
    extractStridedSlice S1792x128 ![0, 1408] y slices_S1792x1792_o0_1408_S1792x128 (ix2 r q) = y (ix2 r ⟨1408 + q.val, by omega⟩) := by
  pointwise []
theorem sl1536_at (y : FVec Ideal S1792x1792 .f32) (r : Fin 1792) (q : Fin 128) :
    extractStridedSlice S1792x128 ![0, 1536] y slices_S1792x1792_o0_1536_S1792x128 (ix2 r q) = y (ix2 r ⟨1536 + q.val, by omega⟩) := by
  pointwise []
theorem sl1664_at (y : FVec Ideal S1792x1792 .f32) (r : Fin 1792) (q : Fin 128) :
    extractStridedSlice S1792x128 ![0, 1664] y slices_S1792x1792_o0_1664_S1792x128 (ix2 r q) = y (ix2 r ⟨1664 + q.val, by omega⟩) := by
  pointwise []
set_option maxHeartbeats 2000000 in
/-- Twelve heads side by side. -/
theorem cat_at (p0 p1 p2 p3 p4 p5 p6 p7 p8 p9 p10 p11 : FVec Ideal S1792x128 .f32) (r : Fin 1792) (G : Fin 1536 → EReal)
    (h0 : ∀ (j : Fin 128) (C : Fin 1536), C.val = 0 + j.val → p0 (ix2 r j) = G C) (h1 : ∀ (j : Fin 128) (C : Fin 1536), C.val = 128 + j.val → p1 (ix2 r j) = G C) (h2 : ∀ (j : Fin 128) (C : Fin 1536), C.val = 256 + j.val → p2 (ix2 r j) = G C) (h3 : ∀ (j : Fin 128) (C : Fin 1536), C.val = 384 + j.val → p3 (ix2 r j) = G C) (h4 : ∀ (j : Fin 128) (C : Fin 1536), C.val = 512 + j.val → p4 (ix2 r j) = G C) (h5 : ∀ (j : Fin 128) (C : Fin 1536), C.val = 640 + j.val → p5 (ix2 r j) = G C) (h6 : ∀ (j : Fin 128) (C : Fin 1536), C.val = 768 + j.val → p6 (ix2 r j) = G C) (h7 : ∀ (j : Fin 128) (C : Fin 1536), C.val = 896 + j.val → p7 (ix2 r j) = G C) (h8 : ∀ (j : Fin 128) (C : Fin 1536), C.val = 1024 + j.val → p8 (ix2 r j) = G C) (h9 : ∀ (j : Fin 128) (C : Fin 1536), C.val = 1152 + j.val → p9 (ix2 r j) = G C) (h10 : ∀ (j : Fin 128) (C : Fin 1536), C.val = 1280 + j.val → p10 (ix2 r j) = G C) (h11 : ∀ (j : Fin 128) (C : Fin 1536), C.val = 1408 + j.val → p11 (ix2 r j) = G C) (C : Fin 1536) :
    concatenate S1792x1536 1 [⟨S1792x128, p0⟩, ⟨S1792x128, p1⟩, ⟨S1792x128, p2⟩, ⟨S1792x128, p3⟩, ⟨S1792x128, p4⟩, ⟨S1792x128, p5⟩, ⟨S1792x128, p6⟩, ⟨S1792x128, p7⟩, ⟨S1792x128, p8⟩, ⟨S1792x128, p9⟩, ⟨S1792x128, p10⟩, ⟨S1792x128, p11⟩] concatenates_S1792x128_S1792x128_S1792x128_S1792x128_S1792x128_S1792x128_S1792x128_S1792x128_S1792x128_S1792x128_S1792x128_S1792x128_S1792x1536_d1 (ix2 r C) = G C := by
  have hC := C.isLt
  obtain e | e | e | e | e | e | e | e | e | e | e | e : C.val / 128 = 0 ∨ C.val / 128 = 1 ∨ C.val / 128 = 2 ∨ C.val / 128 = 3 ∨ C.val / 128 = 4 ∨ C.val / 128 = 5 ∨ C.val / 128 = 6 ∨ C.val / 128 = 7 ∨ C.val / 128 = 8 ∨ C.val / 128 = 9 ∨ C.val / 128 = 10 ∨ C.val / 128 = 11 := by omega
  · exact (concatenate_apply_piece (α := Ideal .f32) (t := S1792x1536) (1 : Fin 2) [⟨S1792x128, p0⟩, ⟨S1792x128, p1⟩, ⟨S1792x128, p2⟩, ⟨S1792x128, p3⟩, ⟨S1792x128, p4⟩, ⟨S1792x128, p5⟩, ⟨S1792x128, p6⟩, ⟨S1792x128, p7⟩, ⟨S1792x128, p8⟩, ⟨S1792x128, p9⟩, ⟨S1792x128, p10⟩, ⟨S1792x128, p11⟩] concatenates_S1792x128_S1792x128_S1792x128_S1792x128_S1792x128_S1792x128_S1792x128_S1792x128_S1792x128_S1792x128_S1792x128_S1792x128_S1792x1536_d1 (ix2 r C) 0 (by simp) S1792x128 p0 rfl rfl 0 rfl
      (ix2 r ⟨C.val - 0, by omega⟩) (off_axis r _ C) (by show 0 + (C.val - 0) = C.val; omega)).trans (h0 _ C (by dsimp only; omega))
  · exact (concatenate_apply_piece (α := Ideal .f32) (t := S1792x1536) (1 : Fin 2) [⟨S1792x128, p0⟩, ⟨S1792x128, p1⟩, ⟨S1792x128, p2⟩, ⟨S1792x128, p3⟩, ⟨S1792x128, p4⟩, ⟨S1792x128, p5⟩, ⟨S1792x128, p6⟩, ⟨S1792x128, p7⟩, ⟨S1792x128, p8⟩, ⟨S1792x128, p9⟩, ⟨S1792x128, p10⟩, ⟨S1792x128, p11⟩] concatenates_S1792x128_S1792x128_S1792x128_S1792x128_S1792x128_S1792x128_S1792x128_S1792x128_S1792x128_S1792x128_S1792x128_S1792x128_S1792x1536_d1 (ix2 r C) 1 (by simp) S1792x128 p1 rfl rfl 128 rfl
      (ix2 r ⟨C.val - 128, by omega⟩) (off_axis r _ C) (by show 128 + (C.val - 128) = C.val; omega)).trans (h1 _ C (by dsimp only; omega))
  · exact (concatenate_apply_piece (α := Ideal .f32) (t := S1792x1536) (1 : Fin 2) [⟨S1792x128, p0⟩, ⟨S1792x128, p1⟩, ⟨S1792x128, p2⟩, ⟨S1792x128, p3⟩, ⟨S1792x128, p4⟩, ⟨S1792x128, p5⟩, ⟨S1792x128, p6⟩, ⟨S1792x128, p7⟩, ⟨S1792x128, p8⟩, ⟨S1792x128, p9⟩, ⟨S1792x128, p10⟩, ⟨S1792x128, p11⟩] concatenates_S1792x128_S1792x128_S1792x128_S1792x128_S1792x128_S1792x128_S1792x128_S1792x128_S1792x128_S1792x128_S1792x128_S1792x128_S1792x1536_d1 (ix2 r C) 2 (by simp) S1792x128 p2 rfl rfl 256 rfl
      (ix2 r ⟨C.val - 256, by omega⟩) (off_axis r _ C) (by show 256 + (C.val - 256) = C.val; omega)).trans (h2 _ C (by dsimp only; omega))
  · exact (concatenate_apply_piece (α := Ideal .f32) (t := S1792x1536) (1 : Fin 2) [⟨S1792x128, p0⟩, ⟨S1792x128, p1⟩, ⟨S1792x128, p2⟩, ⟨S1792x128, p3⟩, ⟨S1792x128, p4⟩, ⟨S1792x128, p5⟩, ⟨S1792x128, p6⟩, ⟨S1792x128, p7⟩, ⟨S1792x128, p8⟩, ⟨S1792x128, p9⟩, ⟨S1792x128, p10⟩, ⟨S1792x128, p11⟩] concatenates_S1792x128_S1792x128_S1792x128_S1792x128_S1792x128_S1792x128_S1792x128_S1792x128_S1792x128_S1792x128_S1792x128_S1792x128_S1792x1536_d1 (ix2 r C) 3 (by simp) S1792x128 p3 rfl rfl 384 rfl
      (ix2 r ⟨C.val - 384, by omega⟩) (off_axis r _ C) (by show 384 + (C.val - 384) = C.val; omega)).trans (h3 _ C (by dsimp only; omega))
  · exact (concatenate_apply_piece (α := Ideal .f32) (t := S1792x1536) (1 : Fin 2) [⟨S1792x128, p0⟩, ⟨S1792x128, p1⟩, ⟨S1792x128, p2⟩, ⟨S1792x128, p3⟩, ⟨S1792x128, p4⟩, ⟨S1792x128, p5⟩, ⟨S1792x128, p6⟩, ⟨S1792x128, p7⟩, ⟨S1792x128, p8⟩, ⟨S1792x128, p9⟩, ⟨S1792x128, p10⟩, ⟨S1792x128, p11⟩] concatenates_S1792x128_S1792x128_S1792x128_S1792x128_S1792x128_S1792x128_S1792x128_S1792x128_S1792x128_S1792x128_S1792x128_S1792x128_S1792x1536_d1 (ix2 r C) 4 (by simp) S1792x128 p4 rfl rfl 512 rfl
      (ix2 r ⟨C.val - 512, by omega⟩) (off_axis r _ C) (by show 512 + (C.val - 512) = C.val; omega)).trans (h4 _ C (by dsimp only; omega))
  · exact (concatenate_apply_piece (α := Ideal .f32) (t := S1792x1536) (1 : Fin 2) [⟨S1792x128, p0⟩, ⟨S1792x128, p1⟩, ⟨S1792x128, p2⟩, ⟨S1792x128, p3⟩, ⟨S1792x128, p4⟩, ⟨S1792x128, p5⟩, ⟨S1792x128, p6⟩, ⟨S1792x128, p7⟩, ⟨S1792x128, p8⟩, ⟨S1792x128, p9⟩, ⟨S1792x128, p10⟩, ⟨S1792x128, p11⟩] concatenates_S1792x128_S1792x128_S1792x128_S1792x128_S1792x128_S1792x128_S1792x128_S1792x128_S1792x128_S1792x128_S1792x128_S1792x128_S1792x1536_d1 (ix2 r C) 5 (by simp) S1792x128 p5 rfl rfl 640 rfl
      (ix2 r ⟨C.val - 640, by omega⟩) (off_axis r _ C) (by show 640 + (C.val - 640) = C.val; omega)).trans (h5 _ C (by dsimp only; omega))
  · exact (concatenate_apply_piece (α := Ideal .f32) (t := S1792x1536) (1 : Fin 2) [⟨S1792x128, p0⟩, ⟨S1792x128, p1⟩, ⟨S1792x128, p2⟩, ⟨S1792x128, p3⟩, ⟨S1792x128, p4⟩, ⟨S1792x128, p5⟩, ⟨S1792x128, p6⟩, ⟨S1792x128, p7⟩, ⟨S1792x128, p8⟩, ⟨S1792x128, p9⟩, ⟨S1792x128, p10⟩, ⟨S1792x128, p11⟩] concatenates_S1792x128_S1792x128_S1792x128_S1792x128_S1792x128_S1792x128_S1792x128_S1792x128_S1792x128_S1792x128_S1792x128_S1792x128_S1792x1536_d1 (ix2 r C) 6 (by simp) S1792x128 p6 rfl rfl 768 rfl
      (ix2 r ⟨C.val - 768, by omega⟩) (off_axis r _ C) (by show 768 + (C.val - 768) = C.val; omega)).trans (h6 _ C (by dsimp only; omega))
  · exact (concatenate_apply_piece (α := Ideal .f32) (t := S1792x1536) (1 : Fin 2) [⟨S1792x128, p0⟩, ⟨S1792x128, p1⟩, ⟨S1792x128, p2⟩, ⟨S1792x128, p3⟩, ⟨S1792x128, p4⟩, ⟨S1792x128, p5⟩, ⟨S1792x128, p6⟩, ⟨S1792x128, p7⟩, ⟨S1792x128, p8⟩, ⟨S1792x128, p9⟩, ⟨S1792x128, p10⟩, ⟨S1792x128, p11⟩] concatenates_S1792x128_S1792x128_S1792x128_S1792x128_S1792x128_S1792x128_S1792x128_S1792x128_S1792x128_S1792x128_S1792x128_S1792x128_S1792x1536_d1 (ix2 r C) 7 (by simp) S1792x128 p7 rfl rfl 896 rfl
      (ix2 r ⟨C.val - 896, by omega⟩) (off_axis r _ C) (by show 896 + (C.val - 896) = C.val; omega)).trans (h7 _ C (by dsimp only; omega))
  · exact (concatenate_apply_piece (α := Ideal .f32) (t := S1792x1536) (1 : Fin 2) [⟨S1792x128, p0⟩, ⟨S1792x128, p1⟩, ⟨S1792x128, p2⟩, ⟨S1792x128, p3⟩, ⟨S1792x128, p4⟩, ⟨S1792x128, p5⟩, ⟨S1792x128, p6⟩, ⟨S1792x128, p7⟩, ⟨S1792x128, p8⟩, ⟨S1792x128, p9⟩, ⟨S1792x128, p10⟩, ⟨S1792x128, p11⟩] concatenates_S1792x128_S1792x128_S1792x128_S1792x128_S1792x128_S1792x128_S1792x128_S1792x128_S1792x128_S1792x128_S1792x128_S1792x128_S1792x1536_d1 (ix2 r C) 8 (by simp) S1792x128 p8 rfl rfl 1024 rfl
      (ix2 r ⟨C.val - 1024, by omega⟩) (off_axis r _ C) (by show 1024 + (C.val - 1024) = C.val; omega)).trans (h8 _ C (by dsimp only; omega))
  · exact (concatenate_apply_piece (α := Ideal .f32) (t := S1792x1536) (1 : Fin 2) [⟨S1792x128, p0⟩, ⟨S1792x128, p1⟩, ⟨S1792x128, p2⟩, ⟨S1792x128, p3⟩, ⟨S1792x128, p4⟩, ⟨S1792x128, p5⟩, ⟨S1792x128, p6⟩, ⟨S1792x128, p7⟩, ⟨S1792x128, p8⟩, ⟨S1792x128, p9⟩, ⟨S1792x128, p10⟩, ⟨S1792x128, p11⟩] concatenates_S1792x128_S1792x128_S1792x128_S1792x128_S1792x128_S1792x128_S1792x128_S1792x128_S1792x128_S1792x128_S1792x128_S1792x128_S1792x1536_d1 (ix2 r C) 9 (by simp) S1792x128 p9 rfl rfl 1152 rfl
      (ix2 r ⟨C.val - 1152, by omega⟩) (off_axis r _ C) (by show 1152 + (C.val - 1152) = C.val; omega)).trans (h9 _ C (by dsimp only; omega))
  · exact (concatenate_apply_piece (α := Ideal .f32) (t := S1792x1536) (1 : Fin 2) [⟨S1792x128, p0⟩, ⟨S1792x128, p1⟩, ⟨S1792x128, p2⟩, ⟨S1792x128, p3⟩, ⟨S1792x128, p4⟩, ⟨S1792x128, p5⟩, ⟨S1792x128, p6⟩, ⟨S1792x128, p7⟩, ⟨S1792x128, p8⟩, ⟨S1792x128, p9⟩, ⟨S1792x128, p10⟩, ⟨S1792x128, p11⟩] concatenates_S1792x128_S1792x128_S1792x128_S1792x128_S1792x128_S1792x128_S1792x128_S1792x128_S1792x128_S1792x128_S1792x128_S1792x128_S1792x1536_d1 (ix2 r C) 10 (by simp) S1792x128 p10 rfl rfl 1280 rfl
      (ix2 r ⟨C.val - 1280, by omega⟩) (off_axis r _ C) (by show 1280 + (C.val - 1280) = C.val; omega)).trans (h10 _ C (by dsimp only; omega))
  · exact (concatenate_apply_piece (α := Ideal .f32) (t := S1792x1536) (1 : Fin 2) [⟨S1792x128, p0⟩, ⟨S1792x128, p1⟩, ⟨S1792x128, p2⟩, ⟨S1792x128, p3⟩, ⟨S1792x128, p4⟩, ⟨S1792x128, p5⟩, ⟨S1792x128, p6⟩, ⟨S1792x128, p7⟩, ⟨S1792x128, p8⟩, ⟨S1792x128, p9⟩, ⟨S1792x128, p10⟩, ⟨S1792x128, p11⟩] concatenates_S1792x128_S1792x128_S1792x128_S1792x128_S1792x128_S1792x128_S1792x128_S1792x128_S1792x128_S1792x128_S1792x128_S1792x128_S1792x1536_d1 (ix2 r C) 11 (by simp) S1792x128 p11 rfl rfl 1408 rfl
      (ix2 r ⟨C.val - 1408, by omega⟩) (off_axis r _ C) (by show 1408 + (C.val - 1408) = C.val; omega)).trans (h11 _ C (by dsimp only; omega))

section
variable (v : FVec Ideal S1792 .f32) (x : FVec Ideal S1792x3072 .f32) (w : Vec Ideal S3072x1792 .i8) (s b : Vec Ideal S1792 .f32) (c d : Vec Ideal S1792x64 .f32) (y : FVec Ideal S1792x1792 .f32) (p q : FVec Ideal S1792x64 .f32)
theorem pay8_eq : k0_pay8 (F := Ideal) v x w s b c d = turn (k0_pay6 (F := Ideal) c) (k0_pay7 (F := Ideal) d) (extractStridedSlice S1792x128 ![0, 0] (k0_pay5 (F := Ideal) v x w s b) slices_S1792x1792_o0_0_S1792x128) := rfl
theorem pay9_eq : k0_pay9 (F := Ideal) v x w s b c d = turn (k0_pay6 (F := Ideal) c) (k0_pay7 (F := Ideal) d) (extractStridedSlice S1792x128 ![0, 128] (k0_pay5 (F := Ideal) v x w s b) slices_S1792x1792_o0_128_S1792x128) := rfl
theorem pay10_eq : k0_pay10 (F := Ideal) v x w s b c d = turn (k0_pay6 (F := Ideal) c) (k0_pay7 (F := Ideal) d) (extractStridedSlice S1792x128 ![0, 256] (k0_pay5 (F := Ideal) v x w s b) slices_S1792x1792_o0_256_S1792x128) := rfl
theorem pay12_eq (z : FVec Ideal S1792x128 .f32) : k0_pay12 (F := Ideal) p q z = turn p q z := rfl
theorem pay13_eq : k0_pay13 (F := Ideal) y p q = turn p q (extractStridedSlice S1792x128 ![0, 512] y slices_S1792x1792_o0_512_S1792x128) := rfl
theorem pay14_eq : k0_pay14 (F := Ideal) y p q = turn p q (extractStridedSlice S1792x128 ![0, 640] y slices_S1792x1792_o0_640_S1792x128) := rfl
theorem pay15_eq : k0_pay15 (F := Ideal) y p q = turn p q (extractStridedSlice S1792x128 ![0, 768] y slices_S1792x1792_o0_768_S1792x128) := rfl
theorem pay16_eq : k0_pay16 (F := Ideal) y p q = turn p q (extractStridedSlice S1792x128 ![0, 896] y slices_S1792x1792_o0_896_S1792x128) := rfl
theorem pay17_eq : k0_pay17 (F := Ideal) y p q = turn p q (extractStridedSlice S1792x128 ![0, 1024] y slices_S1792x1792_o0_1024_S1792x128) := rfl
theorem pay20_eq : k0_pay20 (F := Ideal) y p q = turn p q (extractStridedSlice S1792x128 ![0, 1536] y slices_S1792x1792_o0_1536_S1792x128) := rfl

theorem as_half (y : FVec Ideal S1792x1536 .f32) (h : FTy.bf16.bits < FTy.f32.bits) (r : Fin 1792) (j : Fin 1536) : truncf .bf16 y h (ix2 r j) = y (ix2 r j) := rfl
/-- The queries, of turned heads. -/
theorem pay19_at (p0 p1 p2 p3 p4 p5 p6 p7 p8 z : FVec Ideal S1792x128 .f32) (r : Fin 1792) (G : Fin 1536 → EReal)
    (h0 : ∀ (j : Fin 128) (C : Fin 1536), C.val = 0 + j.val → p0 (ix2 r j) = G C) (h1 : ∀ (j : Fin 128) (C : Fin 1536), C.val = 128 + j.val → p1 (ix2 r j) = G C) (h2 : ∀ (j : Fin 128) (C : Fin 1536), C.val = 256 + j.val → p2 (ix2 r j) = G C) (h3 : ∀ (j : Fin 128) (C : Fin 1536), C.val = 384 + j.val → p3 (ix2 r j) = G C) (h4 : ∀ (j : Fin 128) (C : Fin 1536), C.val = 512 + j.val → p4 (ix2 r j) = G C) (h5 : ∀ (j : Fin 128) (C : Fin 1536), C.val = 640 + j.val → p5 (ix2 r j) = G C) (h6 : ∀ (j : Fin 128) (C : Fin 1536), C.val = 768 + j.val → p6 (ix2 r j) = G C) (h7 : ∀ (j : Fin 128) (C : Fin 1536), C.val = 896 + j.val → p7 (ix2 r j) = G C) (h8 : ∀ (j : Fin 128) (C : Fin 1536), C.val = 1024 + j.val → p8 (ix2 r j) = G C)
    (h9 : ∀ (j : Fin 128) (C : Fin 1536), C.val = 1152 + j.val → turn p q z (ix2 r j) = G C)
    (h10 : ∀ (j : Fin 128) (C : Fin 1536), C.val = 1280 + j.val → turn p q (extractStridedSlice S1792x128 ![0, 1280] y slices_S1792x1792_o0_1280_S1792x128) (ix2 r j) = G C)
    (h11 : ∀ (j : Fin 128) (C : Fin 1536), C.val = 1408 + j.val → turn p q (extractStridedSlice S1792x128 ![0, 1408] y slices_S1792x1792_o0_1408_S1792x128) (ix2 r j) = G C)
    (C : Fin 1536) : k0_pay19 (F := Ideal) y p q p0 p1 p2 p3 p4 p5 p6 p7 p8 z (ix2 r C) = G C := by
  simp only [k0_pay19]
  refine (as_half _ _ r C).trans ?_
  unfold turn at h9 h10 h11
  exact cat_at _ _ _ _ _ _ _ _ _ _ _ _ r G h0 h1 h2 h3 h4 h5 h6 h7 h8 h9 h10 h11 C
end

/-! A head's scale and codes. -/

theorem htop_of (g : FVec Ideal S1792x128 .f32) (r : Fin 1792) :
    multiReduction .maximumf [1] S1792 g 0xFF800000#32 reduces_S1792x128_S1792 (.inl rfl) rfl (ix1 r)
      = Finset.univ.fold max (Ideal.ofBits .f32 0xFF800000#32) fun C => g (ix2 r C) := by
  pointwise []
theorem habs_of (g : FVec Ideal S1792x128 .f32) (r : Fin 1792) (q : Fin 128) : absf g (ix2 r q) = mag (g (ix2 r q)) := by
  pointwise [mag, FloatOps.absf]
theorem hcode_of (g t : FVec Ideal S1792x128 .f32) (r : Fin 1792) (q : Fin 128) :
    k0_pay24 (F := Ideal) g t (ix2 r q) = Ideal.fptosi 8 (rclip (Ideal.div (g (ix2 r q)) (t (ix2 r q)))) := by
  have e : k0_pay24 (F := Ideal) g t (ix2 r q)
      = Ideal.fptosi 8 (min (wordE (127#32)) (max (wordE (4294967169#32)) (Ideal.liftRound Ideal.roundHalfEven (Ideal.div (g (ix2 r q)) (t (ix2 r q)))))) := by
    pointwise [k0_pay24, wordE, FloatOps.fptosi, FloatOps.sitofp]
  rw [e, word_127, word_neg127, rclip]
theorem spread_at (t : FVec Ideal S1792 .f32) (r : Fin 1792) (q : Fin 128) :
    broadcastTo S1792x128 (shapeCast S1792x1 t shapeCasts_S1792_S1792x1) broadcasts_S1792x1_S1792x128 (ix2 r q) = t (ix1 r) := by
  pointwise []

section
variable (y : FVec Ideal S1792x1792 .f32) (p q : FVec Ideal S1792x64 .f32) (z : FVec Ideal S1792x128 .f32)
theorem pay22_at (r : Fin 1792) : k0_pay22 (F := Ideal) y p q (ix1 r) = headScale fun j => k0_pay20 (F := Ideal) y p q (ix2 r j) :=
  (scale_of _ r).trans <| congrArg qscale <| (htop_of _ r).trans <| by simp only [habs_of]
theorem pay24_at (r : Fin 1792) (j : Fin 128) :
    k0_pay24 (F := Ideal) (k0_pay20 (F := Ideal) y p q) (k0_pay23 (F := Ideal) y p q) (ix2 r j) = Ideal.fptosi 8 (headCode (fun j => k0_pay20 (F := Ideal) y p q (ix2 r j)) j) := by
  have e : k0_pay23 (F := Ideal) y p q (ix2 r j) = k0_pay22 (F := Ideal) y p q (ix1 r) := spread_at (k0_pay22 (F := Ideal) y p q) r j
  rw [hcode_of, e, pay22_at]
  rfl
theorem pay25_at (r : Fin 1792) : k0_pay25 (F := Ideal) z (ix1 r) = headScale fun j => z (ix2 r j) :=
  (scale_of _ r).trans <| congrArg qscale <| (htop_of _ r).trans <| by simp only [habs_of]
theorem pay26_at (r : Fin 1792) (j : Fin 128) : k0_pay26 (F := Ideal) z (ix2 r j) = Ideal.fptosi 8 (headCode (fun j => z (ix2 r j)) j) :=
  (hcode_of z (broadcastTo S1792x128 (shapeCast S1792x1 (k0_pay25 (F := Ideal) z) shapeCasts_S1792_S1792x1) broadcasts_S1792x1_S1792x128) r j).trans <| by
    rw [spread_at, pay25_at]
    rfl
end

end Cert.QkvReferenceIdeal.Hand

end
-- ==== Proof.QkvRef.lean ====
/-
  What the reference of the projection of the queries, keys and values call leaves in its result arrays, in the kernel's closed form.
-/
module

public import proofs.«01_k».proof.Proof.QkvRefPay
public import proofs.«01_k».proof.Proof.QkvVal
public import proofs.«01_k».proof.Proof.Gen.QkvReferenceIdeal.Value
public import Idealize.ShloMosaic.Lib.Pipeline.ValueKit
public import Idealize.ShloMosaic.Lib.StableHlo.ReadAt

@[expose] public section

set_option maxRecDepth 16384

noncomputable section

namespace Cert.QkvReferenceIdeal.Hand

open Cert.QkvReferenceIdeal Cert.QkvReferenceIdeal.Gen Cert.Mlp Cert.Ln Cert.Rot
open Cert.QkvIdeal.Hand (Ins)
open Idealize.ShloMosaic Idealize.ShloMosaic.TcCoe Idealize.ShloMosaic.Tactic Idealize.ShloMosaic.Pointwise Idealize.SL.Sem

section
variable (x0 : Vec Ideal S1792x3072 .bf16) (x1 : Vec Ideal S1792x64 .f32) (x2 : Vec Ideal S1792x64 .f32) (x3 : Vec Ideal S3072 .f32) (x4 : Vec Ideal S3072 .f32) (x5 : Vec Ideal S3072x1792 .i8) (x6 : Vec Ideal S1792 .f32) (x7 : Vec Ideal S1792 .f32)

/-- The reference's operands, in the shapes of the kernel's. -/
def opsOf : Ins :=
  ⟨x0, x1, x2, fun i => x3 (ix1 (i 1)), fun i => x4 (ix1 (i 1)), x5, fun i => x6 (ix1 (i 1)), fun i => x7 (ix1 (i 1))⟩

local notation "J" => opsOf x0 x1 x2 x3 x4 x5 x6 x7

theorem val_h (r : Fin 1792) : rRow x0 x3 x4 r = (J).h r := rfl
theorem val_y (r q : Fin 1792) : (k0_pay5 (F := Ideal) (k0_pay2 (F := Ideal) x0 x3 x4) (k0_pay3 (F := Ideal) x0 x3 x4) x5 x6 x7) (ix2 r q) = (J).y r q := by
  rw [pay5_at]
  unfold Ins.y
  rw [pay2_at, funext fun k => (congrArg toE ((pay4_at _ r k).trans (congrArg (Ideal.fptosi 8) (pay3_at x0 x3 x4 r k)))).trans (toE_fptosi_rclip _)]
  rfl

/-- A head of the projection. -/
theorem sl0_ok (r : Fin 1792) (k : Fin 128) (C : Fin 1792) (h : C.val = 0 + k.val) : (extractStridedSlice S1792x128 ![0, 0] (k0_pay5 (F := Ideal) (k0_pay2 (F := Ideal) x0 x3 x4) (k0_pay3 (F := Ideal) x0 x3 x4) x5 x6 x7) slices_S1792x1792_o0_0_S1792x128) (ix2 r k) = (J).y r C :=
  (sl0_at _ r k).trans <| (val_y x0 x1 x2 x3 x4 x5 x6 x7 r _).trans (congrArg ((J).y r) (Fin.ext h.symm))
theorem sl128_ok (r : Fin 1792) (k : Fin 128) (C : Fin 1792) (h : C.val = 128 + k.val) : (extractStridedSlice S1792x128 ![0, 128] (k0_pay5 (F := Ideal) (k0_pay2 (F := Ideal) x0 x3 x4) (k0_pay3 (F := Ideal) x0 x3 x4) x5 x6 x7) slices_S1792x1792_o0_128_S1792x128) (ix2 r k) = (J).y r C :=
  (sl128_at _ r k).trans <| (val_y x0 x1 x2 x3 x4 x5 x6 x7 r _).trans (congrArg ((J).y r) (Fin.ext h.symm))
theorem sl256_ok (r : Fin 1792) (k : Fin 128) (C : Fin 1792) (h : C.val = 256 + k.val) : (extractStridedSlice S1792x128 ![0, 256] (k0_pay5 (F := Ideal) (k0_pay2 (F := Ideal) x0 x3 x4) (k0_pay3 (F := Ideal) x0 x3 x4) x5 x6 x7) slices_S1792x1792_o0_256_S1792x128) (ix2 r k) = (J).y r C :=
  (sl256_at _ r k).trans <| (val_y x0 x1 x2 x3 x4 x5 x6 x7 r _).trans (congrArg ((J).y r) (Fin.ext h.symm))
theorem sl384_ok (r : Fin 1792) (k : Fin 128) (C : Fin 1792) (h : C.val = 384 + k.val) : (extractStridedSlice S1792x128 ![0, 384] (k0_pay5 (F := Ideal) (k0_pay2 (F := Ideal) x0 x3 x4) (k0_pay3 (F := Ideal) x0 x3 x4) x5 x6 x7) slices_S1792x1792_o0_384_S1792x128) (ix2 r k) = (J).y r C :=
  (sl384_at _ r k).trans <| (val_y x0 x1 x2 x3 x4 x5 x6 x7 r _).trans (congrArg ((J).y r) (Fin.ext h.symm))
theorem sl512_ok (r : Fin 1792) (k : Fin 128) (C : Fin 1792) (h : C.val = 512 + k.val) : (extractStridedSlice S1792x128 ![0, 512] (k0_pay5 (F := Ideal) (k0_pay2 (F := Ideal) x0 x3 x4) (k0_pay3 (F := Ideal) x0 x3 x4) x5 x6 x7) slices_S1792x1792_o0_512_S1792x128) (ix2 r k) = (J).y r C :=
  (sl512_at _ r k).trans <| (val_y x0 x1 x2 x3 x4 x5 x6 x7 r _).trans (congrArg ((J).y r) (Fin.ext h.symm))
theorem sl640_ok (r : Fin 1792) (k : Fin 128) (C : Fin 1792) (h : C.val = 640 + k.val) : (extractStridedSlice S1792x128 ![0, 640] (k0_pay5 (F := Ideal) (k0_pay2 (F := Ideal) x0 x3 x4) (k0_pay3 (F := Ideal) x0 x3 x4) x5 x6 x7) slices_S1792x1792_o0_640_S1792x128) (ix2 r k) = (J).y r C :=
  (sl640_at _ r k).trans <| (val_y x0 x1 x2 x3 x4 x5 x6 x7 r _).trans (congrArg ((J).y r) (Fin.ext h.symm))
theorem sl768_ok (r : Fin 1792) (k : Fin 128) (C : Fin 1792) (h : C.val = 768 + k.val) : (extractStridedSlice S1792x128 ![0, 768] (k0_pay5 (F := Ideal) (k0_pay2 (F := Ideal) x0 x3 x4) (k0_pay3 (F := Ideal) x0 x3 x4) x5 x6 x7) slices_S1792x1792_o0_768_S1792x128) (ix2 r k) = (J).y r C :=
  (sl768_at _ r k).trans <| (val_y x0 x1 x2 x3 x4 x5 x6 x7 r _).trans (congrArg ((J).y r) (Fin.ext h.symm))
theorem sl896_ok (r : Fin 1792) (k : Fin 128) (C : Fin 1792) (h : C.val = 896 + k.val) : (extractStridedSlice S1792x128 ![0, 896] (k0_pay5 (F := Ideal) (k0_pay2 (F := Ideal) x0 x3 x4) (k0_pay3 (F := Ideal) x0 x3 x4) x5 x6 x7) slices_S1792x1792_o0_896_S1792x128) (ix2 r k) = (J).y r C :=
  (sl896_at _ r k).trans <| (val_y x0 x1 x2 x3 x4 x5 x6 x7 r _).trans (congrArg ((J).y r) (Fin.ext h.symm))
theorem sl1024_ok (r : Fin 1792) (k : Fin 128) (C : Fin 1792) (h : C.val = 1024 + k.val) : (extractStridedSlice S1792x128 ![0, 1024] (k0_pay5 (F := Ideal) (k0_pay2 (F := Ideal) x0 x3 x4) (k0_pay3 (F := Ideal) x0 x3 x4) x5 x6 x7) slices_S1792x1792_o0_1024_S1792x128) (ix2 r k) = (J).y r C :=
  (sl1024_at _ r k).trans <| (val_y x0 x1 x2 x3 x4 x5 x6 x7 r _).trans (congrArg ((J).y r) (Fin.ext h.symm))
theorem sl1152_ok (r : Fin 1792) (k : Fin 128) (C : Fin 1792) (h : C.val = 1152 + k.val) : (extractStridedSlice S1792x128 ![0, 1152] (k0_pay5 (F := Ideal) (k0_pay2 (F := Ideal) x0 x3 x4) (k0_pay3 (F := Ideal) x0 x3 x4) x5 x6 x7) slices_S1792x1792_o0_1152_S1792x128) (ix2 r k) = (J).y r C :=
  (sl1152_at _ r k).trans <| (val_y x0 x1 x2 x3 x4 x5 x6 x7 r _).trans (congrArg ((J).y r) (Fin.ext h.symm))
theorem sl1280_ok (r : Fin 1792) (k : Fin 128) (C : Fin 1792) (h : C.val = 1280 + k.val) : (extractStridedSlice S1792x128 ![0, 1280] (k0_pay5 (F := Ideal) (k0_pay2 (F := Ideal) x0 x3 x4) (k0_pay3 (F := Ideal) x0 x3 x4) x5 x6 x7) slices_S1792x1792_o0_1280_S1792x128) (ix2 r k) = (J).y r C :=
  (sl1280_at _ r k).trans <| (val_y x0 x1 x2 x3 x4 x5 x6 x7 r _).trans (congrArg ((J).y r) (Fin.ext h.symm))
theorem sl1408_ok (r : Fin 1792) (k : Fin 128) (C : Fin 1792) (h : C.val = 1408 + k.val) : (extractStridedSlice S1792x128 ![0, 1408] (k0_pay5 (F := Ideal) (k0_pay2 (F := Ideal) x0 x3 x4) (k0_pay3 (F := Ideal) x0 x3 x4) x5 x6 x7) slices_S1792x1792_o0_1408_S1792x128) (ix2 r k) = (J).y r C :=
  (sl1408_at _ r k).trans <| (val_y x0 x1 x2 x3 x4 x5 x6 x7 r _).trans (congrArg ((J).y r) (Fin.ext h.symm))
theorem sl1536_ok (r : Fin 1792) (k : Fin 128) (C : Fin 1792) (h : C.val = 1536 + k.val) : (extractStridedSlice S1792x128 ![0, 1536] (k0_pay5 (F := Ideal) (k0_pay2 (F := Ideal) x0 x3 x4) (k0_pay3 (F := Ideal) x0 x3 x4) x5 x6 x7) slices_S1792x1792_o0_1536_S1792x128) (ix2 r k) = (J).y r C :=
  (sl1536_at _ r k).trans <| (val_y x0 x1 x2 x3 x4 x5 x6 x7 r _).trans (congrArg ((J).y r) (Fin.ext h.symm))
theorem sl1664_ok (r : Fin 1792) (k : Fin 128) (C : Fin 1792) (h : C.val = 1664 + k.val) : (extractStridedSlice S1792x128 ![0, 1664] (k0_pay5 (F := Ideal) (k0_pay2 (F := Ideal) x0 x3 x4) (k0_pay3 (F := Ideal) x0 x3 x4) x5 x6 x7) slices_S1792x1792_o0_1664_S1792x128) (ix2 r k) = (J).y r C :=
  (sl1664_at _ r k).trans <| (val_y x0 x1 x2 x3 x4 x5 x6 x7 r _).trans (congrArg ((J).y r) (Fin.ext h.symm))

theorem head_ok (o : ℕ) (ho : o % 128 = 0) (r : Fin 1792) (z : FVec Ideal S1792x128 .f32) (hz : ∀ (k : Fin 128) (C : Fin 1792), C.val = o + k.val → z (ix2 r k) = (J).y r C)
    (j : Fin 128) (C : Fin 1536) (hC : C.val = o + j.val) : turn (k0_pay6 (F := Ideal) x1) (k0_pay7 (F := Ideal) x2) z (ix2 r j) = (J).q r C := by
  rw [turn_at, funext fun k => pay6_at x1 r k, funext fun k => pay7_at x2 r k]
  unfold Ins.q
  have hj : j = ⟨C.val % 128, by omega⟩ := Fin.ext (by dsimp only; omega)
  exact congrArg₂ (rot _ _) (funext fun k => hz k _ (by dsimp only; omega)) hj

theorem key_ok (r : Fin 1792) : (fun j => k0_pay20 (F := Ideal) (k0_pay5 (F := Ideal) (k0_pay2 (F := Ideal) x0 x3 x4) (k0_pay3 (F := Ideal) x0 x3 x4) x5 x6 x7) (k0_pay6 (F := Ideal) x1) (k0_pay7 (F := Ideal) x2) (ix2 r j)) = (J).k r := by
  funext j
  rw [pay20_eq, turn_at, funext fun k => pay6_at x1 r k, funext fun k => pay7_at x2 r k]
  exact congrArg (fun y => rot _ _ y j) (funext fun k => sl1536_ok x0 x1 x2 x3 x4 x5 x6 x7 r k _ rfl)
theorem value_ok (r : Fin 1792) : (fun j => k0_pay21 (F := Ideal) (k0_pay5 (F := Ideal) (k0_pay2 (F := Ideal) x0 x3 x4) (k0_pay3 (F := Ideal) x0 x3 x4) x5 x6 x7) (ix2 r j)) = (J).v r :=
  funext fun j => sl1664_ok x0 x1 x2 x3 x4 x5 x6 x7 r j _ rfl

theorem out8_at (r : Fin 1792) (q : Fin 3072) : out0_8 x0 x1 x2 x3 x4 x5 x6 x7 (ix2 r q) = Ideal.fptosi 8 (rowCode ((J).h r) q) := by
  unfold out0_8 k0_pay31
  rw [View.canon_cons_unit_lit _ _ _ (by decide)]
  repeat rw [View.ld_unit_lit _ _ (by decide)]
  exact (pay4_at _ r q).trans (congrArg (Ideal.fptosi 8) (pay3_at x0 x3 x4 r q))

theorem out9_at (a : Fin 2) (b : Fin 896) (R : Fin 1792) (hR : R.val = 896 * a.val + b.val) : out0_9 x0 x1 x2 x3 x4 x5 x6 x7 (ix2 a b) = rowScale ((J).h R) := by
  unfold out0_9 k0_pay30
  rw [View.canon_cons_unit_lit _ _ _ (by decide)]
  repeat rw [View.ld_unit_lit _ _ (by decide)]
  exact (seq_at (k0_pay2 (F := Ideal) x0 x3 x4) a b R hR).trans (pay2_at x0 x3 x4 R)

theorem out10_at (r : Fin 1792) (q : Fin 1536) : out0_10 x0 x1 x2 x3 x4 x5 x6 x7 (ix2 r q) = (J).q r q := by
  unfold out0_10 k0_pay34 k0_pay33 k0_pay32 k0_pay31 k0_pay30
  rw [View.canon_cons_unit_lit _ _ _ (by decide)]
  repeat rw [View.ld_unit_lit _ _ (by decide)]
  exact pay19_at _ _ _ _ _ _ _ _ _ _ _ _ _ r ((J).q r)
    (fun j C h => (congrFun (pay8_eq _ _ _ _ _ _ _) (ix2 r j)).trans (head_ok x0 x1 x2 x3 x4 x5 x6 x7 0 rfl r _ (sl0_ok x0 x1 x2 x3 x4 x5 x6 x7 r) j C h))
    (fun j C h => (congrFun (pay9_eq _ _ _ _ _ _ _) (ix2 r j)).trans (head_ok x0 x1 x2 x3 x4 x5 x6 x7 128 rfl r _ (sl128_ok x0 x1 x2 x3 x4 x5 x6 x7 r) j C h))
    (fun j C h => (congrFun (pay10_eq _ _ _ _ _ _ _) (ix2 r j)).trans (head_ok x0 x1 x2 x3 x4 x5 x6 x7 256 rfl r _ (sl256_ok x0 x1 x2 x3 x4 x5 x6 x7 r) j C h))
    (fun j C h => (congrFun (pay12_eq _ _ _) (ix2 r j)).trans (head_ok x0 x1 x2 x3 x4 x5 x6 x7 384 rfl r _ (sl384_ok x0 x1 x2 x3 x4 x5 x6 x7 r) j C h))
    (fun j C h => (congrFun (pay13_eq _ _ _) (ix2 r j)).trans (head_ok x0 x1 x2 x3 x4 x5 x6 x7 512 rfl r _ (sl512_ok x0 x1 x2 x3 x4 x5 x6 x7 r) j C h))
    (fun j C h => (congrFun (pay14_eq _ _ _) (ix2 r j)).trans (head_ok x0 x1 x2 x3 x4 x5 x6 x7 640 rfl r _ (sl640_ok x0 x1 x2 x3 x4 x5 x6 x7 r) j C h))
    (fun j C h => (congrFun (pay15_eq _ _ _) (ix2 r j)).trans (head_ok x0 x1 x2 x3 x4 x5 x6 x7 768 rfl r _ (sl768_ok x0 x1 x2 x3 x4 x5 x6 x7 r) j C h))
    (fun j C h => (congrFun (pay16_eq _ _ _) (ix2 r j)).trans (head_ok x0 x1 x2 x3 x4 x5 x6 x7 896 rfl r _ (sl896_ok x0 x1 x2 x3 x4 x5 x6 x7 r) j C h))
    (fun j C h => (congrFun (pay17_eq _ _ _) (ix2 r j)).trans (head_ok x0 x1 x2 x3 x4 x5 x6 x7 1024 rfl r _ (sl1024_ok x0 x1 x2 x3 x4 x5 x6 x7 r) j C h))
    (fun j C h => head_ok x0 x1 x2 x3 x4 x5 x6 x7 1152 rfl r _ (sl1152_ok x0 x1 x2 x3 x4 x5 x6 x7 r) j C h)
    (fun j C h => head_ok x0 x1 x2 x3 x4 x5 x6 x7 1280 rfl r _ (sl1280_ok x0 x1 x2 x3 x4 x5 x6 x7 r) j C h)
    (fun j C h => head_ok x0 x1 x2 x3 x4 x5 x6 x7 1408 rfl r _ (sl1408_ok x0 x1 x2 x3 x4 x5 x6 x7 r) j C h) q

theorem out11_at (r : Fin 1792) (j : Fin 128) : out0_11 x0 x1 x2 x3 x4 x5 x6 x7 (ix2 r j) = Ideal.fptosi 8 (headCode ((J).k r) j) := by
  unfold out0_11 k0_pay34 k0_pay33 k0_pay32 k0_pay31 k0_pay30
  rw [View.canon_cons_unit_lit _ _ _ (by decide)]
  repeat rw [View.ld_unit_lit _ _ (by decide)]
  exact (pay24_at _ _ _ r j).trans (congrArg (fun v => Ideal.fptosi 8 (headCode v j)) (key_ok x0 x1 x2 x3 x4 x5 x6 x7 r))

theorem out12_at (a : Fin 2) (b : Fin 896) (R : Fin 1792) (hR : R.val = 896 * a.val + b.val) : out0_12 x0 x1 x2 x3 x4 x5 x6 x7 (ix2 a b) = headScale ((J).k R) := by
  unfold out0_12 k0_pay34 k0_pay33 k0_pay32 k0_pay31 k0_pay30
  rw [View.canon_cons_unit_lit _ _ _ (by decide)]
  repeat rw [View.ld_unit_lit _ _ (by decide)]
  exact (seq_at (k0_pay22 (F := Ideal) (k0_pay5 (F := Ideal) (k0_pay2 (F := Ideal) x0 x3 x4) (k0_pay3 (F := Ideal) x0 x3 x4) x5 x6 x7) (k0_pay6 (F := Ideal) x1) (k0_pay7 (F := Ideal) x2)) a b R hR).trans ((pay22_at _ _ _ R).trans (congrArg headScale (key_ok x0 x1 x2 x3 x4 x5 x6 x7 R)))

theorem out13_at (r : Fin 1792) (j : Fin 128) : out0_13 x0 x1 x2 x3 x4 x5 x6 x7 (ix2 r j) = Ideal.fptosi 8 (headCode ((J).v r) j) := by
  unfold out0_13 k0_pay35 k0_pay32 k0_pay31 k0_pay30
  rw [View.canon_cons_unit_lit _ _ _ (by decide)]
  repeat rw [View.ld_unit_lit _ _ (by decide)]
  exact (pay26_at _ r j).trans (congrArg (fun v => Ideal.fptosi 8 (headCode v j)) (value_ok x0 x1 x2 x3 x4 x5 x6 x7 r))

theorem out14_at (a : Fin 2) (b : Fin 896) (R : Fin 1792) (hR : R.val = 896 * a.val + b.val) : out0_14 x0 x1 x2 x3 x4 x5 x6 x7 (ix2 a b) = headScale ((J).v R) := by
  unfold out0_14 k0_pay35 k0_pay32 k0_pay31 k0_pay30
  rw [View.canon_cons_unit_lit _ _ _ (by decide)]
  repeat rw [View.ld_unit_lit _ _ (by decide)]
  exact (seq_at (k0_pay25 (F := Ideal) (k0_pay21 (F := Ideal) (k0_pay5 (F := Ideal) (k0_pay2 (F := Ideal) x0 x3 x4) (k0_pay3 (F := Ideal) x0 x3 x4) x5 x6 x7))) a b R hR).trans ((pay25_at _ R).trans (congrArg headScale (value_ok x0 x1 x2 x3 x4 x5 x6 x7 R)))
end

variable (m : (ℓ : Loc nD τ sig) → Buf (Elt Ideal) ℓ)

theorem at0 : ∀ t : Fin cfg0.N, win0_0.index t = ![0, 0] := by decide +kernel
theorem at1 : ∀ t : Fin cfg0.N, win0_1.index t = ![0, 0] := by decide +kernel
theorem at2 : ∀ t : Fin cfg0.N, win0_2.index t = ![0, 0] := by decide +kernel
theorem at3 : ∀ t : Fin cfg0.N, win0_3.index t = ![0] := by decide +kernel
theorem at4 : ∀ t : Fin cfg0.N, win0_4.index t = ![0] := by decide +kernel
theorem at5 : ∀ t : Fin cfg0.N, win0_5.index t = ![0, 0] := by decide +kernel
theorem at6 : ∀ t : Fin cfg0.N, win0_6.index t = ![0] := by decide +kernel
theorem at7 : ∀ t : Fin cfg0.N, win0_7.index t = ![0] := by decide +kernel
theorem at8 : ∀ t : Fin cfg0.N, win0_8.index t = ![0, 0] := by decide +kernel
theorem at9 : ∀ t : Fin cfg0.N, win0_9.index t = ![0, 0] := by decide +kernel
theorem at10 : ∀ t : Fin cfg0.N, win0_10.index t = ![0, 0] := by decide +kernel
theorem at11 : ∀ t : Fin cfg0.N, win0_11.index t = ![0, 0] := by decide +kernel
theorem at12 : ∀ t : Fin cfg0.N, win0_12.index t = ![0, 0] := by decide +kernel
theorem at13 : ∀ t : Fin cfg0.N, win0_13.index t = ![0, 0] := by decide +kernel
theorem at14 : ∀ t : Fin cfg0.N, win0_14.index t = ![0, 0] := by decide +kernel

theorem whole0 (c : Dev nD) (t : Fin cfg0.N) : iblk m c 0 t = V m c main_v0 := by
  unfold iblk
  funext y
  refine congrArg (V m c main_v0) (funext fun a => Fin.ext ?_)
  match a with
  | ⟨0, _⟩ => blk_simp [at0]
  | ⟨1, _⟩ => blk_simp [at0]
theorem whole1 (c : Dev nD) (t : Fin cfg0.N) : iblk m c 1 t = V m c main_v1 := by
  unfold iblk
  funext y
  refine congrArg (V m c main_v1) (funext fun a => Fin.ext ?_)
  match a with
  | ⟨0, _⟩ => blk_simp [at1]
  | ⟨1, _⟩ => blk_simp [at1]
theorem whole2 (c : Dev nD) (t : Fin cfg0.N) : iblk m c 2 t = V m c main_v2 := by
  unfold iblk
  funext y
  refine congrArg (V m c main_v2) (funext fun a => Fin.ext ?_)
  match a with
  | ⟨0, _⟩ => blk_simp [at2]
  | ⟨1, _⟩ => blk_simp [at2]
theorem whole3 (c : Dev nD) (t : Fin cfg0.N) : iblk m c 3 t = V m c main_arg3 := by
  unfold iblk
  funext y
  refine congrArg (V m c main_arg3) (funext fun a => Fin.ext ?_)
  match a with
  | ⟨0, _⟩ => blk_simp [at3]
theorem whole4 (c : Dev nD) (t : Fin cfg0.N) : iblk m c 4 t = V m c main_arg4 := by
  unfold iblk
  funext y
  refine congrArg (V m c main_arg4) (funext fun a => Fin.ext ?_)
  match a with
  | ⟨0, _⟩ => blk_simp [at4]
theorem whole5 (c : Dev nD) (t : Fin cfg0.N) : iblk m c 5 t = V m c main_arg5 := by
  unfold iblk
  funext y
  refine congrArg (V m c main_arg5) (funext fun a => Fin.ext ?_)
  match a with
  | ⟨0, _⟩ => blk_simp [at5]
  | ⟨1, _⟩ => blk_simp [at5]
theorem whole6 (c : Dev nD) (t : Fin cfg0.N) : iblk m c 6 t = V m c main_arg6 := by
  unfold iblk
  funext y
  refine congrArg (V m c main_arg6) (funext fun a => Fin.ext ?_)
  match a with
  | ⟨0, _⟩ => blk_simp [at6]
theorem whole7 (c : Dev nD) (t : Fin cfg0.N) : iblk m c 7 t = V m c main_arg7 := by
  unfold iblk
  funext y
  refine congrArg (V m c main_arg7) (funext fun a => Fin.ext ?_)
  match a with
  | ⟨0, _⟩ => blk_simp [at7]

/-- The operands as the reference finds them. -/
def rops (c : Dev nD) : Ins := opsOf (V m c main_v0) (V m c main_v1) (V m c main_v2) (V m c main_arg3) (V m c main_arg4) (V m c main_arg5) (V m c main_arg6) (V m c main_arg7)

theorem ix2_self {a b : ℕ} (y : Shape.Idx ⟨2, ![a, b]⟩) : y = ix2 (y 0) (y 1) := by
  funext k; match k with
  | ⟨0, _⟩ => rfl
  | ⟨1, _⟩ => rfl

def res8 (c : Dev nD) : Vec Ideal S1792x3072 .i8 := fun i => ((fun (R : Fin 1792) (C : Fin 3072) => Ideal.fptosi 8 (rowCode ((rops m c).h R) C)) (i 0) (i 1))
theorem final8 (c : Dev nD) : (dats m 0 c).arrAt 8 cfg0.N = res8 m c := by
  refine Pipeline.Dat.arrAt_eq_of_covers (cfg := cfg0) (dats m 0 c) (8 : Fin 15) _ (by decide +kernel) fun t hf y => ?_
  have e := congrFun (after0_8 m c t) y
  rw [whole0, whole1, whole2, whole3, whole4, whole5, whole6, whole7] at e
  blk_simp
  have ey : (win0_8.blk t).view.emb y = y := funext fun a => Fin.ext (by
    match a with
    | ⟨0, _⟩ => blk_simp [at8]
    | ⟨1, _⟩ => blk_simp [at8])
  refine e.trans ?_
  refine Eq.trans ?_ (congrArg (res8 m c) ey.symm)
  exact (congrArg _ (ix2_self (a := 1792) (b := 3072) y)).trans (out8_at _ _ _ _ _ _ _ _ (y 0) (y 1))

def res9 (c : Dev nD) : Vec Ideal S2x896 .f32 := fun i => (fun R : Fin 1792 => rowScale ((rops m c).h R)) ⟨896 * (i 0).val + (i 1).val, by have := (i 0).isLt; have := (i 1).isLt; change (i 0).val < 2 at *; change (i 1).val < 896 at *; omega⟩
theorem final9 (c : Dev nD) : (dats m 0 c).arrAt 9 cfg0.N = res9 m c := by
  refine Pipeline.Dat.arrAt_eq_of_covers (cfg := cfg0) (dats m 0 c) (9 : Fin 15) _ (by decide +kernel) fun t hf y => ?_
  have e := congrFun (after0_9 m c t) y
  rw [whole0, whole1, whole2, whole3, whole4, whole5, whole6, whole7] at e
  blk_simp
  have ey : (win0_9.blk t).view.emb y = y := funext fun a => Fin.ext (by
    match a with
    | ⟨0, _⟩ => blk_simp [at9]
    | ⟨1, _⟩ => blk_simp [at9])
  refine e.trans ?_
  refine Eq.trans ?_ (congrArg (res9 m c) ey.symm)
  exact (congrArg _ (ix2_self (a := 2) (b := 896) y)).trans (out9_at _ _ _ _ _ _ _ _ (y 0) (y 1) _ rfl)

def res10 (c : Dev nD) : Vec Ideal S1792x1536 .bf16 := fun i => ((fun (R : Fin 1792) (C : Fin 1536) => (rops m c).q R C) (i 0) (i 1))
theorem final10 (c : Dev nD) : (dats m 0 c).arrAt 10 cfg0.N = res10 m c := by
  refine Pipeline.Dat.arrAt_eq_of_covers (cfg := cfg0) (dats m 0 c) (10 : Fin 15) _ (by decide +kernel) fun t hf y => ?_
  have e := congrFun (after0_10 m c t) y
  rw [whole0, whole1, whole2, whole3, whole4, whole5, whole6, whole7] at e
  blk_simp
  have ey : (win0_10.blk t).view.emb y = y := funext fun a => Fin.ext (by
    match a with
    | ⟨0, _⟩ => blk_simp [at10]
    | ⟨1, _⟩ => blk_simp [at10])
  refine e.trans ?_
  refine Eq.trans ?_ (congrArg (res10 m c) ey.symm)
  exact (congrArg _ (ix2_self (a := 1792) (b := 1536) y)).trans (out10_at _ _ _ _ _ _ _ _ (y 0) (y 1))

def res11 (c : Dev nD) : Vec Ideal S1792x128 .i8 := fun i => ((fun (R : Fin 1792) (C : Fin 128) => Ideal.fptosi 8 (headCode ((rops m c).k R) C)) (i 0) (i 1))
theorem final11 (c : Dev nD) : (dats m 0 c).arrAt 11 cfg0.N = res11 m c := by
  refine Pipeline.Dat.arrAt_eq_of_covers (cfg := cfg0) (dats m 0 c) (11 : Fin 15) _ (by decide +kernel) fun t hf y => ?_
  have e := congrFun (after0_11 m c t) y
  rw [whole0, whole1, whole2, whole3, whole4, whole5, whole6, whole7] at e
  blk_simp
  have ey : (win0_11.blk t).view.emb y = y := funext fun a => Fin.ext (by
    match a with
    | ⟨0, _⟩ => blk_simp [at11]
    | ⟨1, _⟩ => blk_simp [at11])
  refine e.trans ?_
  refine Eq.trans ?_ (congrArg (res11 m c) ey.symm)
  exact (congrArg _ (ix2_self (a := 1792) (b := 128) y)).trans (out11_at _ _ _ _ _ _ _ _ (y 0) (y 1))

def res12 (c : Dev nD) : Vec Ideal S2x896 .f32 := fun i => (fun R : Fin 1792 => headScale ((rops m c).k R)) ⟨896 * (i 0).val + (i 1).val, by have := (i 0).isLt; have := (i 1).isLt; change (i 0).val < 2 at *; change (i 1).val < 896 at *; omega⟩
theorem final12 (c : Dev nD) : (dats m 0 c).arrAt 12 cfg0.N = res12 m c := by
  refine Pipeline.Dat.arrAt_eq_of_covers (cfg := cfg0) (dats m 0 c) (12 : Fin 15) _ (by decide +kernel) fun t hf y => ?_
  have e := congrFun (after0_12 m c t) y
  rw [whole0, whole1, whole2, whole3, whole4, whole5, whole6, whole7] at e
  blk_simp
  have ey : (win0_12.blk t).view.emb y = y := funext fun a => Fin.ext (by
    match a with
    | ⟨0, _⟩ => blk_simp [at12]
    | ⟨1, _⟩ => blk_simp [at12])
  refine e.trans ?_
  refine Eq.trans ?_ (congrArg (res12 m c) ey.symm)
  exact (congrArg _ (ix2_self (a := 2) (b := 896) y)).trans (out12_at _ _ _ _ _ _ _ _ (y 0) (y 1) _ rfl)

def res13 (c : Dev nD) : Vec Ideal S1792x128 .i8 := fun i => ((fun (R : Fin 1792) (C : Fin 128) => Ideal.fptosi 8 (headCode ((rops m c).v R) C)) (i 0) (i 1))
theorem final13 (c : Dev nD) : (dats m 0 c).arrAt 13 cfg0.N = res13 m c := by
  refine Pipeline.Dat.arrAt_eq_of_covers (cfg := cfg0) (dats m 0 c) (13 : Fin 15) _ (by decide +kernel) fun t hf y => ?_
  have e := congrFun (after0_13 m c t) y
  rw [whole0, whole1, whole2, whole3, whole4, whole5, whole6, whole7] at e
  blk_simp
  have ey : (win0_13.blk t).view.emb y = y := funext fun a => Fin.ext (by
    match a with
    | ⟨0, _⟩ => blk_simp [at13]
    | ⟨1, _⟩ => blk_simp [at13])
  refine e.trans ?_
  refine Eq.trans ?_ (congrArg (res13 m c) ey.symm)
  exact (congrArg _ (ix2_self (a := 1792) (b := 128) y)).trans (out13_at _ _ _ _ _ _ _ _ (y 0) (y 1))

def res14 (c : Dev nD) : Vec Ideal S2x896 .f32 := fun i => (fun R : Fin 1792 => headScale ((rops m c).v R)) ⟨896 * (i 0).val + (i 1).val, by have := (i 0).isLt; have := (i 1).isLt; change (i 0).val < 2 at *; change (i 1).val < 896 at *; omega⟩
theorem final14 (c : Dev nD) : (dats m 0 c).arrAt 14 cfg0.N = res14 m c := by
  refine Pipeline.Dat.arrAt_eq_of_covers (cfg := cfg0) (dats m 0 c) (14 : Fin 15) _ (by decide +kernel) fun t hf y => ?_
  have e := congrFun (after0_14 m c t) y
  rw [whole0, whole1, whole2, whole3, whole4, whole5, whole6, whole7] at e
  blk_simp
  have ey : (win0_14.blk t).view.emb y = y := funext fun a => Fin.ext (by
    match a with
    | ⟨0, _⟩ => blk_simp [at14]
    | ⟨1, _⟩ => blk_simp [at14])
  refine e.trans ?_
  refine Eq.trans ?_ (congrArg (res14 m c) ey.symm)
  exact (congrArg _ (ix2_self (a := 2) (b := 896) y)).trans (out14_at _ _ _ _ _ _ _ _ (y 0) (y 1) _ rfl)

/-- The reference's runs: the results in closed form, the arguments unchanged. -/
theorem run_values (ρ : Dev nD → PrngReg) : θ_run defs (onTc (τ := τ) (main (F := Ideal))) ⟨m, fun _ => 0, ρ⟩ (fun r => ∀ c : Dev nD,
    r.2.mem ((c.tc : Thread nD τ).loc main_v3_0) = res8 m c
    ∧ r.2.mem ((c.tc : Thread nD τ).loc main_v3_1) = res9 m c
    ∧ r.2.mem ((c.tc : Thread nD τ).loc main_v3_2) = res10 m c
    ∧ r.2.mem ((c.tc : Thread nD τ).loc main_v3_3) = res11 m c
    ∧ r.2.mem ((c.tc : Thread nD τ).loc main_v3_4) = res12 m c
    ∧ r.2.mem ((c.tc : Thread nD τ).loc main_v3_5) = res13 m c
    ∧ r.2.mem ((c.tc : Thread nD τ).loc main_v3_6) = res14 m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)) :=
  (θ_run defs _ _).mono (fun _ hh c => ⟨(hh c).1.trans (final8 m c), (hh c).2.1.trans (final9 m c), (hh c).2.2.1.trans (final10 m c), (hh c).2.2.2.1.trans (final11 m c), (hh c).2.2.2.2.1.trans (final12 m c), (hh c).2.2.2.2.2.1.trans (final13 m c), (hh c).2.2.2.2.2.2.1.trans (final14 m c), (hh c).2.2.2.2.2.2.2⟩) (Cert.QkvReferenceIdeal.Value.run_blocks m ρ)

end Cert.QkvReferenceIdeal.Hand

end
-- ==== Proof.QkvEq.lean ====
/-
  The projection of the queries, keys and values kernel and its reference, over the extended reals: the same results from the same arguments.
-/
module

public import proofs.«01_k».proof.Proof.QkvOut
public import proofs.«01_k».proof.Proof.QkvRef

@[expose] public section

set_option maxRecDepth 16384

noncomputable section

open Idealize.ShloMosaic Idealize.ShloMosaic.TcCoe Idealize.ShloMosaic.Tactic Idealize.ShloMosaic.Pointwise Idealize.SL.Sem Cert.Mlp Cert.Ln Cert.Rot

namespace Cert.QkvIdeal.Hand
open Cert.QkvIdeal Cert.QkvIdeal.Gen

variable (m : (ℓ : Loc nD τ sig) → Buf (Elt Ideal) ℓ)

theorem V_v0 (c : Dev nD) (R : Fin 1792) (C : Fin 3072) :
    V m c main_v0 (ix2 R C) = m ((c : Thread nD τ).loc main_arg0) (ix3 (⟨R.val / 896, by omega⟩ : Fin 2) (⟨R.val % 896, by omega⟩ : Fin 896) C) := by
  unfold V
  after_reads_at
theorem V_v1 (c : Dev nD) (R : Fin 1792) (C : Fin 64) :
    V m c main_v1 (ix2 R C) = m ((c : Thread nD τ).loc main_arg1) (ix3 (⟨R.val / 896, by omega⟩ : Fin 2) (⟨R.val % 896, by omega⟩ : Fin 896) C) := by
  unfold V
  after_reads_at
theorem V_v2 (c : Dev nD) (R : Fin 1792) (C : Fin 64) :
    V m c main_v2 (ix2 R C) = m ((c : Thread nD τ).loc main_arg2) (ix3 (⟨R.val / 896, by omega⟩ : Fin 2) (⟨R.val % 896, by omega⟩ : Fin 896) C) := by
  unfold V
  after_reads_at
theorem V_v3 (c : Dev nD) (C : Fin 3072) : V m c main_v3 (ix2 (0 : Fin 1) C) = m ((c : Thread nD τ).loc main_arg3) (ix1 C) := by
  unfold V
  after_reads_at
theorem V_v4 (c : Dev nD) (C : Fin 3072) : V m c main_v4 (ix2 (0 : Fin 1) C) = m ((c : Thread nD τ).loc main_arg4) (ix1 C) := by
  unfold V
  after_reads_at
theorem V_v5 (c : Dev nD) (C : Fin 1792) : V m c main_v5 (ix2 (0 : Fin 1) C) = m ((c : Thread nD τ).loc main_arg6) (ix1 C) := by
  unfold V
  after_reads_at
theorem V_v6 (c : Dev nD) (C : Fin 1792) : V m c main_v6 (ix2 (0 : Fin 1) C) = m ((c : Thread nD τ).loc main_arg7) (ix1 C) := by
  unfold V
  after_reads_at

/-- Two sets of operands that agree where they are read give the same results. -/
structure Same (I K : Ins) : Prop where
  h0 : ∀ (R : Fin 1792) (C : Fin 3072), I.a0 (ix2 R C) = K.a0 (ix2 R C)
  h1 : ∀ (R : Fin 1792) (C : Fin 64), I.a1 (ix2 R C) = K.a1 (ix2 R C)
  h2 : ∀ (R : Fin 1792) (C : Fin 64), I.a2 (ix2 R C) = K.a2 (ix2 R C)
  h3 : ∀ C : Fin 3072, I.a3 (ix2 0 C) = K.a3 (ix2 0 C)
  h4 : ∀ C : Fin 3072, I.a4 (ix2 0 C) = K.a4 (ix2 0 C)
  h5 : ∀ i, I.a5 i = K.a5 i
  h6 : ∀ C : Fin 1792, I.a6 (ix2 0 C) = K.a6 (ix2 0 C)
  h7 : ∀ C : Fin 1792, I.a7 (ix2 0 C) = K.a7 (ix2 0 C)

theorem Same.h {I K : Ins} (h : Same I K) (R : Fin 1792) : I.h R = K.h R := by
  unfold Ins.h
  rw [funext h.h3, funext h.h4, funext (h.h0 R)]
theorem Same.y {I K : Ins} (h : Same I K) (R C : Fin 1792) : I.y R C = K.y R C := by
  unfold Ins.y
  rw [h.h R, h.h6, h.h7, funext fun k => congrArg toE (h.h5 (ix2 k C))]
theorem Same.q {I K : Ins} (h : Same I K) (R : Fin 1792) (C : Fin 1536) : I.q R C = K.q R C := by
  unfold Ins.q
  rw [funext (h.h1 R), funext (h.h2 R), funext fun k => h.y R _]
theorem Same.k {I K : Ins} (h : Same I K) (R : Fin 1792) : I.k R = K.k R := by
  unfold Ins.k
  rw [funext (h.h1 R), funext (h.h2 R), funext fun k => h.y R _]
theorem Same.v {I K : Ins} (h : Same I K) (R : Fin 1792) : I.v R = K.v R :=
  funext fun j => h.y R _

end Cert.QkvIdeal.Hand

namespace Cert.QkvReferenceIdeal.Hand
open Cert.QkvReferenceIdeal Cert.QkvReferenceIdeal.Gen

variable (m : (ℓ : Loc nD τ sig) → Buf (Elt Ideal) ℓ)
theorem V_v0 (c : Dev nD) (R : Fin 1792) (C : Fin 3072) :
    V m c main_v0 (ix2 R C) = m ((c : Thread nD τ).loc main_arg0) (ix3 (⟨R.val / 896, by omega⟩ : Fin 2) (⟨R.val % 896, by omega⟩ : Fin 896) C) := by
  unfold V
  after_reads_at
theorem V_v1 (c : Dev nD) (R : Fin 1792) (C : Fin 64) :
    V m c main_v1 (ix2 R C) = m ((c : Thread nD τ).loc main_arg1) (ix3 (⟨R.val / 896, by omega⟩ : Fin 2) (⟨R.val % 896, by omega⟩ : Fin 896) C) := by
  unfold V
  after_reads_at
theorem V_v2 (c : Dev nD) (R : Fin 1792) (C : Fin 64) :
    V m c main_v2 (ix2 R C) = m ((c : Thread nD τ).loc main_arg2) (ix3 (⟨R.val / 896, by omega⟩ : Fin 2) (⟨R.val % 896, by omega⟩ : Fin 896) C) := by
  unfold V
  after_reads_at

end Cert.QkvReferenceIdeal.Hand

namespace Cert.QkvEq

variable (m : (ℓ : Loc Cert.QkvIdeal.nD Cert.QkvIdeal.τ Cert.QkvIdeal.sig) → Buf (Elt Ideal) ℓ) (m' : (ℓ : Loc Cert.QkvReferenceIdeal.nD Cert.QkvReferenceIdeal.τ Cert.QkvReferenceIdeal.sig) → Buf (Elt Ideal) ℓ)

/-- The two programs' arguments are the same on a device. -/
def Args (c : Dev Cert.QkvIdeal.nD) : Prop :=
  m' ((c.tc : Thread Cert.QkvReferenceIdeal.nD Cert.QkvReferenceIdeal.τ).loc Cert.QkvReferenceIdeal.main_arg0) = m ((c.tc : Thread Cert.QkvIdeal.nD Cert.QkvIdeal.τ).loc Cert.QkvIdeal.main_arg0)
  ∧ m' ((c.tc : Thread Cert.QkvReferenceIdeal.nD Cert.QkvReferenceIdeal.τ).loc Cert.QkvReferenceIdeal.main_arg1) = m ((c.tc : Thread Cert.QkvIdeal.nD Cert.QkvIdeal.τ).loc Cert.QkvIdeal.main_arg1)
  ∧ m' ((c.tc : Thread Cert.QkvReferenceIdeal.nD Cert.QkvReferenceIdeal.τ).loc Cert.QkvReferenceIdeal.main_arg2) = m ((c.tc : Thread Cert.QkvIdeal.nD Cert.QkvIdeal.τ).loc Cert.QkvIdeal.main_arg2)
  ∧ m' ((c.tc : Thread Cert.QkvReferenceIdeal.nD Cert.QkvReferenceIdeal.τ).loc Cert.QkvReferenceIdeal.main_arg3) = m ((c.tc : Thread Cert.QkvIdeal.nD Cert.QkvIdeal.τ).loc Cert.QkvIdeal.main_arg3)
  ∧ m' ((c.tc : Thread Cert.QkvReferenceIdeal.nD Cert.QkvReferenceIdeal.τ).loc Cert.QkvReferenceIdeal.main_arg4) = m ((c.tc : Thread Cert.QkvIdeal.nD Cert.QkvIdeal.τ).loc Cert.QkvIdeal.main_arg4)
  ∧ m' ((c.tc : Thread Cert.QkvReferenceIdeal.nD Cert.QkvReferenceIdeal.τ).loc Cert.QkvReferenceIdeal.main_arg5) = m ((c.tc : Thread Cert.QkvIdeal.nD Cert.QkvIdeal.τ).loc Cert.QkvIdeal.main_arg5)
  ∧ m' ((c.tc : Thread Cert.QkvReferenceIdeal.nD Cert.QkvReferenceIdeal.τ).loc Cert.QkvReferenceIdeal.main_arg6) = m ((c.tc : Thread Cert.QkvIdeal.nD Cert.QkvIdeal.τ).loc Cert.QkvIdeal.main_arg6)
  ∧ m' ((c.tc : Thread Cert.QkvReferenceIdeal.nD Cert.QkvReferenceIdeal.τ).loc Cert.QkvReferenceIdeal.main_arg7) = m ((c.tc : Thread Cert.QkvIdeal.nD Cert.QkvIdeal.τ).loc Cert.QkvIdeal.main_arg7)

theorem same (c : Dev Cert.QkvIdeal.nD) (h : Args m m' c) : Cert.QkvIdeal.Hand.Same (Cert.QkvReferenceIdeal.Hand.rops m' c) (Cert.QkvIdeal.Hand.ins m c) := by
  obtain ⟨h0, h1, h2, h3, h4, h5, h6, h7⟩ := h
  refine ⟨fun R C => ?_, fun R C => ?_, fun R C => ?_, fun C => ?_, fun C => ?_, fun i => ?_, fun C => ?_, fun C => ?_⟩
  · exact (Cert.QkvReferenceIdeal.Hand.V_v0 m' c R C).trans ((congrFun h0 _).trans (Cert.QkvIdeal.Hand.V_v0 m c R C).symm)
  · exact (Cert.QkvReferenceIdeal.Hand.V_v1 m' c R C).trans ((congrFun h1 _).trans (Cert.QkvIdeal.Hand.V_v1 m c R C).symm)
  · exact (Cert.QkvReferenceIdeal.Hand.V_v2 m' c R C).trans ((congrFun h2 _).trans (Cert.QkvIdeal.Hand.V_v2 m c R C).symm)
  · exact (congrFun ((Cert.QkvReferenceIdeal.Gen.V_main_arg3 m' c).trans h3) (ix1 C)).trans (Cert.QkvIdeal.Hand.V_v3 m c C).symm
  · exact (congrFun ((Cert.QkvReferenceIdeal.Gen.V_main_arg4 m' c).trans h4) (ix1 C)).trans (Cert.QkvIdeal.Hand.V_v4 m c C).symm
  · exact congrFun (((Cert.QkvReferenceIdeal.Gen.V_main_arg5 m' c).trans h5).trans (Cert.QkvIdeal.Gen.V_main_arg5 m c).symm) i
  · exact (congrFun ((Cert.QkvReferenceIdeal.Gen.V_main_arg6 m' c).trans h6) (ix1 C)).trans (Cert.QkvIdeal.Hand.V_v5 m c C).symm
  · exact (congrFun ((Cert.QkvReferenceIdeal.Gen.V_main_arg7 m' c).trans h7) (ix1 C)).trans (Cert.QkvIdeal.Hand.V_v6 m c C).symm

theorem res8 (c : Dev Cert.QkvIdeal.nD) (h : Args m m' c) : Cert.QkvReferenceIdeal.Hand.res8 m' c = Cert.QkvIdeal.Hand.arr8 m c :=
  funext fun _ => congrArg (fun v => Ideal.fptosi 8 (rowCode v _)) ((same m m' c h).h _)
theorem res9 (c : Dev Cert.QkvIdeal.nD) (h : Args m m' c) : Cert.QkvReferenceIdeal.Hand.res9 m' c = Cert.QkvIdeal.Hand.arr9 m c :=
  funext fun _ => congrArg rowScale ((same m m' c h).h _)
theorem res10 (c : Dev Cert.QkvIdeal.nD) (h : Args m m' c) : Cert.QkvReferenceIdeal.Hand.res10 m' c = Cert.QkvIdeal.Hand.arr10 m c :=
  funext fun _ => (same m m' c h).q _ _
theorem res11 (c : Dev Cert.QkvIdeal.nD) (h : Args m m' c) : Cert.QkvReferenceIdeal.Hand.res11 m' c = Cert.QkvIdeal.Hand.arr11 m c :=
  funext fun _ => congrArg (fun v => Ideal.fptosi 8 (headCode v _)) ((same m m' c h).k _)
theorem res12 (c : Dev Cert.QkvIdeal.nD) (h : Args m m' c) : Cert.QkvReferenceIdeal.Hand.res12 m' c = Cert.QkvIdeal.Hand.arr12 m c :=
  funext fun _ => congrArg headScale ((same m m' c h).k _)
theorem res13 (c : Dev Cert.QkvIdeal.nD) (h : Args m m' c) : Cert.QkvReferenceIdeal.Hand.res13 m' c = Cert.QkvIdeal.Hand.arr13 m c :=
  funext fun _ => congrArg (fun v => Ideal.fptosi 8 (headCode v _)) ((same m m' c h).v _)
theorem res14 (c : Dev Cert.QkvIdeal.nD) (h : Args m m' c) : Cert.QkvReferenceIdeal.Hand.res14 m' c = Cert.QkvIdeal.Hand.arr14 m c :=
  funext fun _ => congrArg headScale ((same m m' c h).v _)

end Cert.QkvEq

end
-- ==== Proof.lean ====
/-
  The proof of `Cert.Claim`.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Value
public import proofs.«01_k».proof.Proof.MlpFrame
public import proofs.«01_k».proof.Proof.MlpOut
public import proofs.«01_k».proof.Proof.MlpEq
public import proofs.«01_k».proof.Proof.Gen.OutProj
public import proofs.«01_k».proof.Proof.Gen.OutProjIdeal
public import proofs.«01_k».proof.Proof.Gen.OutProjReferenceIdeal
public import proofs.«01_k».proof.Proof.Gen.OutProjReferenceIdeal.Frame
public import proofs.«01_k».proof.Proof.Gen.OutProjReferenceIdeal.Value
public import proofs.«01_k».proof.Proof.OutProjFrame
public import proofs.«01_k».proof.Proof.OutProjOut
public import proofs.«01_k».proof.Proof.OutProjEq
public import proofs.«01_k».proof.Proof.Gen.Qkv
public import proofs.«01_k».proof.Proof.Gen.QkvIdeal
public import proofs.«01_k».proof.Proof.Gen.QkvReferenceIdeal
public import proofs.«01_k».proof.Proof.Gen.QkvReferenceIdeal.Frame
public import proofs.«01_k».proof.Proof.Gen.QkvReferenceIdeal.Value
public import proofs.«01_k».proof.Proof.QkvFrame
public import proofs.«01_k».proof.Proof.QkvOut
public import proofs.«01_k».proof.Proof.QkvEq
public import Idealize.ShloMosaic.Adequacy
public import Idealize.ShloMosaic.Init

@[expose] public section

noncomputable section

namespace Cert.Proof

open Idealize.ShloMosaic Idealize.SL.Sem Cert.Kernel

/-- The feed-forward call computes its reference's results. -/
theorem mlp_algebraic : Cert.algebraic_KernelIdeal_ReferenceIdeal := fun m g m' g' _ h =>
  ⟨Cert.KernelIdeal.Hand.outArr m, Cert.KernelIdeal.Hand.codArr m, Cert.KernelIdeal.Hand.scaArr m,
    Cert.KernelIdeal.Hand.run_values m g,
    (θ_run _ _ _).mono (fun _ hh c => ⟨(hh c).1.trans (Cert.MlpEq.res9 m m' c (h c)), (hh c).2.1.trans (Cert.MlpEq.res10 m m' c (h c)),
      (hh c).2.2.1.trans (Cert.MlpEq.res11 m m' c (h c)), (hh c).2.2.2⟩) (Cert.ReferenceIdeal.Hand.run_values m' g')⟩

/-- The output projection's call computes its reference's results. -/
theorem out_proj_algebraic : Cert.algebraic_OutProjIdeal_OutProjReferenceIdeal := fun m g m' g' _ h =>
  ⟨Cert.OutProjIdeal.Hand.arr8 m, Cert.OutProjIdeal.Hand.arr9 m, Cert.OutProjIdeal.Hand.arr10 m, Cert.OutProjIdeal.Hand.arr11 m,
    Cert.OutProjIdeal.Hand.run_values m g,
    (θ_run _ _ _).mono (fun _ hh c => ⟨(hh c).1.trans (Cert.OutProjEq.res8 m m' c (h c)), (hh c).2.1.trans (Cert.OutProjEq.res9 m m' c (h c)),
      (hh c).2.2.1.trans (Cert.OutProjEq.res10 m m' c (h c)), (hh c).2.2.2.1.trans (Cert.OutProjEq.res11 m m' c (h c)), (hh c).2.2.2.2⟩)
      (Cert.OutProjReferenceIdeal.Hand.run_values m' g')⟩

/-- The projection of the queries, keys and values: the call computes its reference's results. -/
theorem qkv_algebraic : Cert.algebraic_QkvIdeal_QkvReferenceIdeal := fun m g m' g' _ h =>
  ⟨Cert.QkvIdeal.Hand.arr8 m, Cert.QkvIdeal.Hand.arr9 m, Cert.QkvIdeal.Hand.arr10 m, Cert.QkvIdeal.Hand.arr11 m, Cert.QkvIdeal.Hand.arr12 m, Cert.QkvIdeal.Hand.arr13 m, Cert.QkvIdeal.Hand.arr14 m,
    Cert.QkvIdeal.Hand.run_values m g,
    (θ_run _ _ _).mono (fun _ hh c => ⟨(hh c).1.trans (Cert.QkvEq.res8 m m' c (h c)), (hh c).2.1.trans (Cert.QkvEq.res9 m m' c (h c)), (hh c).2.2.1.trans (Cert.QkvEq.res10 m m' c (h c)), (hh c).2.2.2.1.trans (Cert.QkvEq.res11 m m' c (h c)), (hh c).2.2.2.2.1.trans (Cert.QkvEq.res12 m m' c (h c)), (hh c).2.2.2.2.2.1.trans (Cert.QkvEq.res13 m m' c (h c)), (hh c).2.2.2.2.2.2.1.trans (Cert.QkvEq.res14 m m' c (h c)), (hh c).2.2.2.2.2.2.2⟩)
      (Cert.QkvReferenceIdeal.Hand.run_values m' g')⟩

theorem claim : Cert.Claim :=
  ⟨Cert.Kernel.Gen.facts, Cert.KernelIdeal.Gen.facts, Cert.ReferenceIdeal.Gen.facts,
    Cert.OutProj.Gen.facts, Cert.OutProjIdeal.Gen.facts, Cert.OutProjReferenceIdeal.Gen.facts,
    Cert.Qkv.Gen.facts, Cert.QkvIdeal.Gen.facts, Cert.QkvReferenceIdeal.Gen.facts,
    fun m g _ => Cert.Kernel.Hand.frame m g, fun m g _ => Cert.KernelIdeal.Hand.frame m g, fun m g _ => Cert.ReferenceIdeal.Gen.frame m g,
    fun m g _ => Cert.OutProj.Hand.frame m g, fun m g _ => Cert.OutProjIdeal.Hand.frame m g, fun m g _ => Cert.OutProjReferenceIdeal.Gen.frame m g,
    fun m g _ => Cert.Qkv.Hand.frame m g, fun m g _ => Cert.QkvIdeal.Hand.frame m g, fun m g _ => Cert.QkvReferenceIdeal.Gen.frame m g,
    trivial, mlp_algebraic, trivial, out_proj_algebraic, trivial, qkv_algebraic⟩

end Cert.Proof

end
